-- ==== Defs.lean ====
def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "mask" .f32 0xF149F2CA#32 ⊥

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_nonneg : Cert.Pre_gates_nonneg.Facts) (hPre_finite_scores : Cert.Pre_finite_scores.Facts),
    quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ algebraic_KernelIdeal_ReferenceIdeal_pre_gates_nonneg (hKernelIdeal := hKernelIdeal) (hReferenceIdeal := hReferenceIdeal) (hPre_gates_nonneg := hPre_gates_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
-- ==== Pre_finite_scores.lean ====
abbrev S8x256x1024 : Shape := ⟨3, ![8, 256, 1024]⟩
abbrev S8x256x256 : Shape := ⟨3, ![8, 256, 256]⟩
abbrev S8x4096x1024 : Shape := ⟨3, ![8, 4096, 1024]⟩
abbrev S8x4096x256 : Shape := ⟨3, ![8, 4096, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096x256 : S_.BroadcastsInDim S8x4096x256 (![] : Fin 0 → Fin S8x4096x256.rank)
  reducesTo_S8x4096x256_S_d0_1_2 : S8x4096x256.ReducesTo [0, 1, 2] S_

variable [Facts]

def fn_part1 {F : FTy → Type} [FloatOps F] (main_arg4 : FVec F S8x4096x256 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x4096x256 .f32 := Host.absf main_arg4
  let main_cst_6 : FVec F S_ .f32 := constant S_ .f32 0x7F800000#32
  let main_v20 : FVec F S8x4096x256 .f32 := broadcastInDim S8x4096x256 ![] bcast_S_S8x4096x256 main_cst_6
  let main_v21 : IVec S8x4096x256 1 := cmpf .olt main_v19 main_v20
  let main_c_7 : IVec S_ 1 := constantI S_ 1 1#1
  let main_v22 : IVec S_ 1 := (fun x v => Host.reduce IntOp.andi x v reducesTo_S8x4096x256_S_d0_1_2 h_S_) main_v21 main_c_7
  let main_v23 : IVec S_ 1 := andi main_v18 main_v22
  main_v23

def fn {F : FTy → Type} [FloatOps F] (main_arg0 : FVec F S8x256x1024 .f32) (main_arg1 : FVec F S8x256x256 .f32) (main_arg2 : FVec F S8x256x256 .f32) (main_arg3 : FVec F S8x4096x1024 .f32) (main_arg4 : FVec F S8x4096x256 .f32) (main_arg5 : FVec F S8x4096x256 .f32) (main_arg6 : FVec F S16 .f32) : IVec S_ 1 :=
  let main_v0 : FVec F S16 .f32 := Host.absf main_arg6
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S8x256x1024 .f32 := Host.absf main_arg0
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S8x256x256 .f32 := Host.absf main_arg1
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Pre_gates_nonneg.lean ====
abbrev S8x256x1024 : Shape := ⟨3, ![8, 256, 1024]⟩
abbrev S8x4096x1024 : Shape := ⟨3, ![8, 4096, 1024]⟩
abbrev S8x256x8 : Shape := ⟨3, ![8, 256, 8]⟩
abbrev S8x4096x8 : Shape := ⟨3, ![8, 4096, 8]⟩
abbrev S6x1024 : Shape := ⟨2, ![6, 1024]⟩
abbrev S8x6x1024 : Shape := ⟨3, ![8, 6, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S8x256x8 : S_.BroadcastsInDim S8x256x8 (![] : Fin 0 → Fin S8x256x8.rank)
  reducesTo_S8x256x8_S_d0_1_2 : S8x256x8.ReducesTo [0, 1, 2] S_
  h_S_ : 0 < S_.numel
  bcast_S_S8x4096x8 : S_.BroadcastsInDim S8x4096x8 (![] : Fin 0 → Fin S8x4096x8.rank)
  reducesTo_S8x4096x8_S_d0_1_2 : S8x4096x8.ReducesTo [0, 1, 2] S_

variable [Facts]

def fn {F : FTy → Type} [FloatOps F] (main_arg0 : FVec F S8x256x1024 .f32) (main_arg1 : FVec F S8x4096x1024 .f32) (main_arg2 : FVec F S8x256x8 .f32) (main_arg3 : FVec F S8x4096x8 .f32) (main_arg4 : FVec F S8x256x1024 .f32) (main_arg5 : FVec F S8x4096x1024 .f32) (main_arg6 : FVec F S6x1024 .f32) (main_arg7 : FVec F S8x6x1024 .f32) (main_arg8 : FVec F S8x1024x3584 .f32) (main_arg9 : FVec F S8x1024x3584 .f32) (main_arg10 : FVec F S8x3584x1024 .f32) : IVec S_ 1 :=
  let main_cst : FVec F S_ .f32 := constant S_ .f32 0x00000000#32
  let main_v0 : FVec F S8x256x8 .f32 := broadcastInDim S8x256x8 ![] bcast_S_S8x256x8 main_cst
  let main_v1 : IVec S8x256x8 1 := cmpf .oge main_arg2 main_v0
  let main_c : IVec S_ 1 := constantI S_ 1 1#1
  let main_v2 : IVec S_ 1 := (fun x v => Host.reduce IntOp.andi x v reducesTo_S8x256x8_S_d0_1_2 h_S_) main_v1 main_c
  let main_cst_0 : FVec F S_ .f32 := constant S_ .f32 0x00000000#32
  let main_v3 : FVec F S8x4096x8 .f32 := broadcastInDim S8x4096x8 ![] bcast_S_S8x4096x8 main_cst_0
  let main_v4 : IVec S8x4096x8 1 := cmpf .oge main_arg3 main_v3
  let main_c_1 : IVec S_ 1 := constantI S_ 1 1#1
  let main_v5 : IVec S_ 1 := (fun x v => Host.reduce IntOp.andi x v reducesTo_S8x4096x8_S_d0_1_2 h_S_) main_v4 main_c_1
  let main_v6 : IVec S_ 1 := andi main_v2 main_v5
  main_v6
-- ==== KernelIdeal.lean ====
abbrev S8x256x1024 : Shape := ⟨3, ![8, 256, 1024]⟩
abbrev S8x4096x1024 : Shape := ⟨3, ![8, 4096, 1024]⟩
abbrev S8x256x8 : Shape := ⟨3, ![8, 256, 8]⟩
abbrev S8x4096x8 : Shape := ⟨3, ![8, 4096, 8]⟩
abbrev S6x1024 : Shape := ⟨2, ![6, 1024]⟩
abbrev S8x6x1024 : Shape := ⟨3, ![8, 6, 1024]⟩
abbrev S8x1024x3584 : Shape := ⟨3, ![8, 1024, 3584]⟩
abbrev S8x3584x1024 : Shape := ⟨3, ![8, 3584, 1024]⟩
abbrev S8x4352x1024 : Shape := ⟨3, ![8, 4352, 1024]⟩
abbrev S8x4352x8 : Shape := ⟨3, ![8, 4352, 8]⟩
abbrev S_ : Shape := ⟨0, ![]⟩
abbrev S8x4352x128 : Shape := ⟨3, ![8, 4352, 128]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S8x2x8x1024 : Shape := ⟨4, ![8, 2, 8, 1024]⟩
abbrev S1x1088x1024 : Shape := ⟨3, ![1, 1088, 1024]⟩
abbrev S1x2x8x1024 : Shape := ⟨4, ![1, 2, 8, 1024]⟩
abbrev S1x1088x128 : Shape := ⟨3, ![1, 1088, 128]⟩
abbrev S1x1024x896 : Shape := ⟨3, ![1, 1024, 896]⟩
abbrev S1x896x1024 : Shape := ⟨3, ![1, 896, 1024]⟩
abbrev S1088x128 : Shape := ⟨2, ![1088, 128]⟩
abbrev S8x128 : Shape := ⟨2, ![8, 128]⟩
abbrev S1152x1024 : Shape := ⟨2, ![1152, 1024]⟩
abbrev S136x136 : Shape := ⟨2, ![136, 136]⟩
abbrev S1x128 : Shape := ⟨2, ![1, 128]⟩
abbrev S1x136x128 : Shape := ⟨3, ![1, 136, 128]⟩
abbrev S136x128 : Shape := ⟨2, ![136, 128]⟩
abbrev S128 : Shape := ⟨1, ![128]⟩
abbrev S1088x1024 : Shape := ⟨2, ![1088, 1024]⟩
abbrev S1x1x128 : Shape := ⟨3, ![1, 1, 128]⟩
abbrev S1 : Shape := ⟨1, ![1]⟩
abbrev S1x1x1 : Shape := ⟨3, ![1, 1, 1]⟩
abbrev S544x128 : Shape := ⟨2, ![544, 128]⟩
abbrev S544 : Shape := ⟨1, ![544]⟩
abbrev S544x1 : Shape := ⟨2, ![544, 1]⟩
abbrev S544x512 : Shape := ⟨2, ![544, 512]⟩
abbrev S1x544x1024 : Shape := ⟨3, ![1, 544, 1024]⟩
abbrev S544x1024 : Shape := ⟨2, ![544, 1024]⟩
abbrev S512x1024 : Shape := ⟨2, ![512, 1024]⟩
abbrev S128x1024 : Shape := ⟨2, ![128, 1024]⟩
abbrev S256x1024 : Shape := ⟨2, ![256, 1024]⟩
abbrev S1024x896 : Shape := ⟨2, ![1024, 896]⟩
abbrev S256x896 : Shape := ⟨2, ![256, 896]⟩
abbrev S896x1024 : Shape := ⟨2, ![896, 1024]⟩
abbrev S320x1024 : Shape := ⟨2, ![320, 1024]⟩
abbrev S320x896 : Shape := ⟨2, ![320, 896]⟩
abbrev S384x1024 : Shape := ⟨2, ![384, 1024]⟩
abbrev S384x896 : Shape := ⟨2, ![384, 896]⟩
abbrev S512x896 : Shape := ⟨2, ![512, 896]⟩
abbrev S128x896 : Shape := ⟨2, ![128, 896]⟩
abbrev S1x544x128 : Shape := ⟨3, ![1, 544, 128]⟩
abbrev S1x1x1x1024 : Shape := ⟨4, ![1, 1, 1, 1024]⟩
abbrev S1x1024 : Shape := ⟨2, ![1, 1024]⟩

abbrev nBuf : Space → Nat
  | .hbm => 30
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x8, .f32⟩
  | .hbm, ⟨3, _⟩ => ⟨S8x4096x8, .f32⟩
  | .hbm, ⟨4, _⟩ => ⟨S8x256x1024, .f32⟩
  | .hbm, ⟨5, _⟩ => ⟨S8x4096x1024, .f32⟩
  | .hbm, ⟨6, _⟩ => ⟨S6x1024, .f32⟩
  | .hbm, ⟨7, _⟩ => ⟨S8x6x1024, .f32⟩
  | .hbm, ⟨8, _⟩ => ⟨S8x1024x3584, .f32⟩
  | .hbm, ⟨9, _⟩ => ⟨S8x1024x3584, .f32⟩
  | .hbm, ⟨10, _⟩ => ⟨S8x3584x1024, .f32⟩
  | .hbm, ⟨11, _⟩ => ⟨S8x4352x1024, .f32⟩
  | .hbm, ⟨12, _⟩ => ⟨S8x4352x1024, .f32⟩
  | .hbm, ⟨13, _⟩ => ⟨S8x4352x1024, .bf16⟩
  | .hbm, ⟨14, _⟩ => ⟨S8x4352x8, .f32⟩
  | .hbm, ⟨15, _⟩ => ⟨S_, .i32⟩
  | .hbm, ⟨16, _⟩ => ⟨S_, .f32⟩
  | .hbm, ⟨17, _⟩ => ⟨S8x4352x128, .f32⟩
  | .hbm, ⟨18, _⟩ => ⟨S1x6x1024, .f32⟩
  | .hbm, ⟨19, _⟩ => ⟨S8x6x1024, .f32⟩
  | .hbm, ⟨20, _⟩ => ⟨S8x1x6x1024, .f32⟩
  | .hbm, ⟨21, _⟩ => ⟨S8x1x6x1024, .f32⟩
  | .hbm, ⟨22, _⟩ => ⟨S8x2x6x1024, .f32⟩
  | .hbm, ⟨23, _⟩ => ⟨S_, .i32⟩
  | .hbm, ⟨24, _⟩ => ⟨S_, .f32⟩
  | .hbm, ⟨25, _⟩ => ⟨S8x2x8x1024, .f32⟩
  | .hbm, ⟨26, _⟩ => ⟨S8x1024x3584, .bf16⟩
  | .hbm, ⟨27, _⟩ => ⟨S8x1024x3584, .bf16⟩
  | .hbm, ⟨28, _⟩ => ⟨S8x3584x1024, .bf16⟩
  | .hbm, ⟨29, _⟩ => ⟨S8x4352x1024, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1088x1024, .f32⟩
  | .local _ .vmem, ⟨3, _⟩ => ⟨S1x2x8x1024, .f32⟩
  | .local _ .vmem, ⟨4, _⟩ => ⟨S1x2x8x1024, .f32⟩
  | .local _ .vmem, ⟨5, _⟩ => ⟨S1x1088x128, .f32⟩
  | .local _ .vmem, ⟨6, _⟩ => ⟨S1x1088x128, .f32⟩
  | .local _ .vmem, ⟨7, _⟩ => ⟨S1x1024x896, .bf16⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x896x1024, .bf16⟩
  | .local _ .vmem, ⟨12, _⟩ => ⟨S1x896x1024, .bf16⟩
  | .local _ .vmem, ⟨13, _⟩ => ⟨S1x1088x1024, .f32⟩
  | .local _ .vmem, ⟨14, _⟩ => ⟨S1x1088x1024, .f32⟩
  | .local _ .vmem, ⟨15, _⟩ => ⟨S1088x128, .f32⟩
  | .local _ .vmem, ⟨16, _⟩ => ⟨S8x128, .f32⟩
  | .local _ .vmem, ⟨17, _⟩ => ⟨S1152x1024, .bf16⟩
  | .local _ .vmem, ⟨18, _⟩ => ⟨S1152x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨4, ![8, 4, 8, 4], ![false, false, false, false]⟩

@[reducible] def k0_t1_loop (v17 : BitVec 32) : Scf.Loop 32 :=
  let c0_i32_60 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v138 : BitVec 32 := Scalar.subi v21 c0_i32_60
  let c1_i32 : BitVec 32 := 1#32
  let v140 : BitVec 32 := Scalar.divsi v138 c1_i32
  let v141 : BitVec 32 := Scalar.muli v140 c1_i32
  let v142 : BitVec 32 := Scalar.addi c0_i32_60 v141
  let c1_i32_61 : BitVec 32 := 1#32
  ⟨c0_i32_60, v142, c1_i32_61⟩
def k0_cond2 (i : grid0.Coords) (v17 : BitVec 32) : BitVec 1 :=
  let c0_i32_5 : BitVec 32 := 0#32
  let v19 : BitVec 1 := Scalar.cmpi .sgt v17 c0_i32_5
  let arg3 : BitVec 32 := BitVec.ofNat 32 (i 3).val
  let c0_i32_7 : BitVec 32 := 0#32
  let v22 : BitVec 1 := Scalar.cmpi .eq arg3 c0_i32_7
  let v23 : BitVec 1 := Scalar.andi v19 v22
  let v24 : BitVec 32 := Scalar.extui v23
  let c0_i32_8 : BitVec 32 := 0#32
  let v25 : BitVec 1 := Scalar.cmpi .ne v24 c0_i32_8
  v25

def k0_mult1 (v17 : BitVec 32) (k0_t1 : Fin (k0_t1_loop v17).trips) : BitVec 32 :=
  let c512_i32 : BitVec 32 := 512#32
  let c0_i32_60 : BitVec 32 := 0#32
  let c1_i32_61 : BitVec 32 := 1#32
  let arg16 : BitVec 32 := Scf.iv c0_i32_60 c1_i32_61 k0_t1
  let c128_i32 : BitVec 32 := 128#32
  let v143 : BitVec 32 := Scalar.muli arg16 c128_i32
  let v144 : BitVec 32 := Scalar.addi c512_i32 v143
  v144
def k0_off1 (v17 : BitVec 32) (k0_t1 : Fin (k0_t1_loop v17).trips) : Fin 2 → Nat :=
  let c512_i32 : BitVec 32 := 512#32
  let c0_i32_60 : BitVec 32 := 0#32
  let c1_i32_61 : BitVec 32 := 1#32
  let arg16 : BitVec 32 := Scf.iv c0_i32_60 c1_i32_61 k0_t1
  let c128_i32 : BitVec 32 := 128#32
  let v143 : BitVec 32 := Scalar.muli arg16 c128_i32
  let v144 : BitVec 32 := Scalar.addi c512_i32 v143
  let v145 : BitVec 32 := v144
  let v191 : Index := Scalar.indexCast v145
  let c0_85 : Index := 0#32
  ![v191.toNat, 0]
@[reducible] def k0_t2_loop (v17 : BitVec 32) : Scf.Loop 32 :=
  let c0_i32_60 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v138 : BitVec 32 := Scalar.subi v21 c0_i32_60
  let c1_i32 : BitVec 32 := 1#32
  let v140 : BitVec 32 := Scalar.divsi v138 c1_i32
  let v141 : BitVec 32 := Scalar.muli v140 c1_i32
  let v142 : BitVec 32 := Scalar.addi c0_i32_60 v141
  let v139 : BitVec 32 := Scalar.addi c0_i32_60 v138
  let c1_i32_62 : BitVec 32 := 1#32
  ⟨v142, v139, c1_i32_62⟩
def k0_mult2 (v17 : BitVec 32) (k0_t2 : Fin (k0_t2_loop v17).trips) : BitVec 32 :=
  let c512_i32 : BitVec 32 := 512#32
  let c0_i32_60 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v138 : BitVec 32 := Scalar.subi v21 c0_i32_60
  let c1_i32 : BitVec 32 := 1#32
  let v140 : BitVec 32 := Scalar.divsi v138 c1_i32
  let v141 : BitVec 32 := Scalar.muli v140 c1_i32
  let v142 : BitVec 32 := Scalar.addi c0_i32_60 v141
  let c1_i32_62 : BitVec 32 := 1#32
  let arg16 : BitVec 32 := Scf.iv v142 c1_i32_62 k0_t2
  let c128_i32 : BitVec 32 := 128#32
  let v143 : BitVec 32 := Scalar.muli arg16 c128_i32
  let v144 : BitVec 32 := Scalar.addi c512_i32 v143
  v144
def k0_off2 (v17 : BitVec 32) (k0_t2 : Fin (k0_t2_loop v17).trips) : Fin 2 → Nat :=
  let c512_i32 : BitVec 32 := 512#32
  let c0_i32_60 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v138 : BitVec 32 := Scalar.subi v21 c0_i32_60
  let c1_i32 : BitVec 32 := 1#32
  let v140 : BitVec 32 := Scalar.divsi v138 c1_i32
  let v141 : BitVec 32 := Scalar.muli v140 c1_i32
  let v142 : BitVec 32 := Scalar.addi c0_i32_60 v141
  let c1_i32_62 : BitVec 32 := 1#32
  let arg16 : BitVec 32 := Scf.iv v142 c1_i32_62 k0_t2
  let c128_i32 : BitVec 32 := 128#32
  let v143 : BitVec 32 := Scalar.muli arg16 c128_i32
  let v144 : BitVec 32 := Scalar.addi c512_i32 v143
  let v145 : BitVec 32 := v144
  let v191 : Index := Scalar.indexCast v145
  let c0_85 : Index := 0#32
  ![v191.toNat, 0]
@[reducible] def k0_t3_loop (v17 : BitVec 32) : Scf.Loop 32 :=
  let c0_i32_24 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v53 : BitVec 32 := Scalar.subi v21 c0_i32_24
  let c1_i32 : BitVec 32 := 1#32
  let v55 : BitVec 32 := Scalar.divsi v53 c1_i32
  let v56 : BitVec 32 := Scalar.muli v55 c1_i32
  let v57 : BitVec 32 := Scalar.addi c0_i32_24 v56
  let c1_i32_25 : BitVec 32 := 1#32
  ⟨c0_i32_24, v57, c1_i32_25⟩
def k0_cond3 (v17 : BitVec 32) : BitVec 1 :=
  let c0_i32_5 : BitVec 32 := 0#32
  let v19 : BitVec 1 := Scalar.cmpi .sgt v17 c0_i32_5
  let v26 : BitVec 32 := Scalar.extui v19
  let c0_i32_9 : BitVec 32 := 0#32
  let v27 : BitVec 1 := Scalar.cmpi .ne v26 c0_i32_9
  v27

def k0_mult3 (v17 : BitVec 32) (k0_t3 : Fin (k0_t3_loop v17).trips) : BitVec 32 :=
  let c512_i32 : BitVec 32 := 512#32
  let c0_i32_24 : BitVec 32 := 0#32
  let c1_i32_25 : BitVec 32 := 1#32
  let arg16 : BitVec 32 := Scf.iv c0_i32_24 c1_i32_25 k0_t3
  let c128_i32 : BitVec 32 := 128#32
  let v58 : BitVec 32 := Scalar.muli arg16 c128_i32
  let v59 : BitVec 32 := Scalar.addi c512_i32 v58
  v59
def k0_off3 (v17 : BitVec 32) (k0_t3 : Fin (k0_t3_loop v17).trips) : Fin 2 → Nat :=
  let c512_i32 : BitVec 32 := 512#32
  let c0_i32_24 : BitVec 32 := 0#32
  let c1_i32_25 : BitVec 32 := 1#32
  let arg16 : BitVec 32 := Scf.iv c0_i32_24 c1_i32_25 k0_t3
  let c128_i32 : BitVec 32 := 128#32
  let v58 : BitVec 32 := Scalar.muli arg16 c128_i32
  let v59 : BitVec 32 := Scalar.addi c512_i32 v58
  let v60 : BitVec 32 := v59
  let v62 : Index := Scalar.indexCast v60
  let c0_27 : Index := 0#32
  ![v62.toNat, 0]
@[reducible] def k0_t4_loop (v17 : BitVec 32) : Scf.Loop 32 :=
  let c0_i32_24 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v53 : BitVec 32 := Scalar.subi v21 c0_i32_24
  let c1_i32 : BitVec 32 := 1#32
  let v55 : BitVec 32 := Scalar.divsi v53 c1_i32
  let v56 : BitVec 32 := Scalar.muli v55 c1_i32
  let v57 : BitVec 32 := Scalar.addi c0_i32_24 v56
  let v54 : BitVec 32 := Scalar.addi c0_i32_24 v53
  let c1_i32_26 : BitVec 32 := 1#32
  ⟨v57, v54, c1_i32_26⟩
def k0_mult4 (v17 : BitVec 32) (k0_t4 : Fin (k0_t4_loop v17).trips) : BitVec 32 :=
  let c512_i32 : BitVec 32 := 512#32
  let c0_i32_24 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v53 : BitVec 32 := Scalar.subi v21 c0_i32_24
  let c1_i32 : BitVec 32 := 1#32
  let v55 : BitVec 32 := Scalar.divsi v53 c1_i32
  let v56 : BitVec 32 := Scalar.muli v55 c1_i32
  let v57 : BitVec 32 := Scalar.addi c0_i32_24 v56
  let c1_i32_26 : BitVec 32 := 1#32
  let arg16 : BitVec 32 := Scf.iv v57 c1_i32_26 k0_t4
  let c128_i32 : BitVec 32 := 128#32
  let v58 : BitVec 32 := Scalar.muli arg16 c128_i32
  let v59 : BitVec 32 := Scalar.addi c512_i32 v58
  v59
def k0_off4 (v17 : BitVec 32) (k0_t4 : Fin (k0_t4_loop v17).trips) : Fin 2 → Nat :=
  let c512_i32 : BitVec 32 := 512#32
  let c0_i32_24 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v53 : BitVec 32 := Scalar.subi v21 c0_i32_24
  let c1_i32 : BitVec 32 := 1#32
  let v55 : BitVec 32 := Scalar.divsi v53 c1_i32
  let v56 : BitVec 32 := Scalar.muli v55 c1_i32
  let v57 : BitVec 32 := Scalar.addi c0_i32_24 v56
  let c1_i32_26 : BitVec 32 := 1#32
  let arg16 : BitVec 32 := Scf.iv v57 c1_i32_26 k0_t4
  let c128_i32 : BitVec 32 := 128#32
  let v58 : BitVec 32 := Scalar.muli arg16 c128_i32
  let v59 : BitVec 32 := Scalar.addi c512_i32 v58
  let v60 : BitVec 32 := v59
  let v62 : Index := Scalar.indexCast v60
  let c0_27 : Index := 0#32
  ![v62.toNat, 0]
@[reducible] def k0_t5_loop (v17 : BitVec 32) : Scf.Loop 32 :=
  let c0_i32_73 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v159 : BitVec 32 := Scalar.subi v21 c0_i32_73
  let c1_i32 : BitVec 32 := 1#32
  let v161 : BitVec 32 := Scalar.divsi v159 c1_i32
  let v162 : BitVec 32 := Scalar.muli v161 c1_i32
  let v163 : BitVec 32 := Scalar.addi c0_i32_73 v162
  let c1_i32_74 : BitVec 32 := 1#32
  ⟨c0_i32_73, v163, c1_i32_74⟩
def k0_cond8 (i : grid0.Coords) (v17 : BitVec 32) : BitVec 1 :=
  let c0_i32_5 : BitVec 32 := 0#32
  let v19 : BitVec 1 := Scalar.cmpi .sgt v17 c0_i32_5
  let arg3 : BitVec 32 := BitVec.ofNat 32 (i 3).val
  let c3_i32 : BitVec 32 := 3#32
  let v28 : BitVec 1 := Scalar.cmpi .eq arg3 c3_i32
  let v29 : BitVec 1 := Scalar.andi v19 v28
  let v30 : BitVec 32 := Scalar.extui v29
  let c0_i32_10 : BitVec 32 := 0#32
  let v31 : BitVec 1 := Scalar.cmpi .ne v30 c0_i32_10
  v31

def k0_mult5 (v17 : BitVec 32) (k0_t5 : Fin (k0_t5_loop v17).trips) : BitVec 32 :=
  let c512_i32 : BitVec 32 := 512#32
  let c0_i32_73 : BitVec 32 := 0#32
  let c1_i32_74 : BitVec 32 := 1#32
  let arg16 : BitVec 32 := Scf.iv c0_i32_73 c1_i32_74 k0_t5
  let c128_i32 : BitVec 32 := 128#32
  let v164 : BitVec 32 := Scalar.muli arg16 c128_i32
  let v165 : BitVec 32 := Scalar.addi c512_i32 v164
  v165
def k0_off5 (v17 : BitVec 32) (k0_t5 : Fin (k0_t5_loop v17).trips) : Fin 2 → Nat :=
  let c512_i32 : BitVec 32 := 512#32
  let c0_i32_73 : BitVec 32 := 0#32
  let c1_i32_74 : BitVec 32 := 1#32
  let arg16 : BitVec 32 := Scf.iv c0_i32_73 c1_i32_74 k0_t5
  let c128_i32 : BitVec 32 := 128#32
  let v164 : BitVec 32 := Scalar.muli arg16 c128_i32
  let v165 : BitVec 32 := Scalar.addi c512_i32 v164
  let v166 : BitVec 32 := v165
  let v168 : Index := Scalar.indexCast v166
  let c0_76 : Index := 0#32
  ![v168.toNat, 0]
@[reducible] def k0_t6_loop (v17 : BitVec 32) : Scf.Loop 32 :=
  let c0_i32_73 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v159 : BitVec 32 := Scalar.subi v21 c0_i32_73
  let c1_i32 : BitVec 32 := 1#32
  let v161 : BitVec 32 := Scalar.divsi v159 c1_i32
  let v162 : BitVec 32 := Scalar.muli v161 c1_i32
  let v163 : BitVec 32 := Scalar.addi c0_i32_73 v162
  let v160 : BitVec 32 := Scalar.addi c0_i32_73 v159
  let c1_i32_75 : BitVec 32 := 1#32
  ⟨v163, v160, c1_i32_75⟩
def k0_mult6 (v17 : BitVec 32) (k0_t6 : Fin (k0_t6_loop v17).trips) : BitVec 32 :=
  let c512_i32 : BitVec 32 := 512#32
  let c0_i32_73 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v159 : BitVec 32 := Scalar.subi v21 c0_i32_73
  let c1_i32 : BitVec 32 := 1#32
  let v161 : BitVec 32 := Scalar.divsi v159 c1_i32
  let v162 : BitVec 32 := Scalar.muli v161 c1_i32
  let v163 : BitVec 32 := Scalar.addi c0_i32_73 v162
  let c1_i32_75 : BitVec 32 := 1#32
  let arg16 : BitVec 32 := Scf.iv v163 c1_i32_75 k0_t6
  let c128_i32 : BitVec 32 := 128#32
  let v164 : BitVec 32 := Scalar.muli arg16 c128_i32
  let v165 : BitVec 32 := Scalar.addi c512_i32 v164
  v165
def k0_off6 (v17 : BitVec 32) (k0_t6 : Fin (k0_t6_loop v17).trips) : Fin 2 → Nat :=
  let c512_i32 : BitVec 32 := 512#32
  let c0_i32_73 : BitVec 32 := 0#32
  let c4_i32 : BitVec 32 := 4#32
  let v20 : BitVec 32 := Scalar.subi v17 c4_i32
  let c0_i32_6 : BitVec 32 := 0#32
  let v21 : BitVec 32 := Scalar.maxsi v20 c0_i32_6
  let v159 : BitVec 32 := Scalar.subi v21 c0_i32_73
  let c1_i32 : BitVec 32 := 1#32
  let v161 : BitVec 32 := Scalar.divsi v159 c1_i32
  let v162 : BitVec 32 := Scalar.muli v161 c1_i32
  let v163 : BitVec 32 := Scalar.addi c0_i32_73 v162
  let c1_i32_75 : BitVec 32 := 1#32
  let arg16 : BitVec 32 := Scf.iv v163 c1_i32_75 k0_t6
  let c128_i32 : BitVec 32 := 128#32
  let v164 : BitVec 32 := Scalar.muli arg16 c128_i32
  let v165 : BitVec 32 := Scalar.addi c512_i32 v164
  let v166 : BitVec 32 := v165
  let v168 : Index := Scalar.indexCast v166
  let c0_76 : Index := 0#32
  ![v168.toNat, 0]

def k0_chk1 (i : grid0.Coords) (v17 : BitVec 32) : Prop :=
  (∀ (k0_h2 : k0_cond2 i v17 = 1#1), (k0_t1_loop v17).OK) ∧
  (∀ k0_t1 : Fin (k0_t1_loop v17).trips, ∀ (k0_h2 : k0_cond2 i v17 = 1#1), 128 ∣ (k0_mult1 v17 k0_t1).toNat) ∧
  (∀ k0_t1 : Fin (k0_t1_loop v17).trips, ∀ (k0_h2 : k0_cond2 i v17 = 1#1), ∀ a, (k0_off1 v17 k0_t1) a + S128x1024.size a ≤ S1152x1024.size a) ∧
  (∀ k0_t1 : Fin (k0_t1_loop v17).trips, ∀ (k0_h2 : k0_cond2 i v17 = 1#1), ∀ (hinb : ∀ a, (k0_off1 v17 k0_t1) a + S128x1024.size a ≤ S1152x1024.size a), (Rect.unit (s := S1152x1024) (k0_off1 v17 k0_t1) S128x1024.size hinb).PackedRows (EltTy.packing .bf16)) ∧
  (∀ (k0_h2 : k0_cond2 i v17 = 1#1), (k0_t2_loop v17).OK) ∧
  (∀ k0_t2 : Fin (k0_t2_loop v17).trips, ∀ (k0_h2 : k0_cond2 i v17 = 1#1), 128 ∣ (k0_mult2 v17 k0_t2).toNat) ∧
  (∀ k0_t2 : Fin (k0_t2_loop v17).trips, ∀ (k0_h2 : k0_cond2 i v17 = 1#1), ∀ a, (k0_off2 v17 k0_t2) a + S128x1024.size a ≤ S1152x1024.size a) ∧
  (∀ k0_t2 : Fin (k0_t2_loop v17).trips, ∀ (k0_h2 : k0_cond2 i v17 = 1#1), ∀ (hinb : ∀ a, (k0_off2 v17 k0_t2) a + S128x1024.size a ≤ S1152x1024.size a), (Rect.unit (s := S1152x1024) (k0_off2 v17 k0_t2) S128x1024.size hinb).PackedRows (EltTy.packing .bf16)) ∧
  (∀ (k0_h3 : k0_cond3 v17 = 1#1), (k0_t3_loop v17).OK) ∧
  (∀ k0_t3 : Fin (k0_t3_loop v17).trips, ∀ (k0_h3 : k0_cond3 v17 = 1#1), 128 ∣ (k0_mult3 v17 k0_t3).toNat) ∧
  (∀ k0_t3 : Fin (k0_t3_loop v17).trips, ∀ (k0_h3 : k0_cond3 v17 = 1#1), ∀ a, (k0_off3 v17 k0_t3) a + S128x1024.size a ≤ S1152x1024.size a) ∧
  (∀ (k0_h3 : k0_cond3 v17 = 1#1), (k0_t4_loop v17).OK) ∧
  (∀ k0_t4 : Fin (k0_t4_loop v17).trips, ∀ (k0_h3 : k0_cond3 v17 = 1#1), 128 ∣ (k0_mult4 v17 k0_t4).toNat) ∧
  (∀ k0_t4 : Fin (k0_t4_loop v17).trips, ∀ (k0_h3 : k0_cond3 v17 = 1#1), ∀ a, (k0_off4 v17 k0_t4) a + S128x1024.size a ≤ S1152x1024.size a) ∧
  (∀ (k0_h8 : k0_cond8 i v17 = 1#1), (k0_t5_loop v17).OK) ∧
  (∀ k0_t5 : Fin (k0_t5_loop v17).trips, ∀ (k0_h8 : k0_cond8 i v17 = 1#1), 128 ∣ (k0_mult5 v17 k0_t5).toNat) ∧
  (∀ k0_t5 : Fin (k0_t5_loop v17).trips, ∀ (k0_h8 : k0_cond8 i v17 = 1#1), ∀ a, (k0_off5 v17 k0_t5) a + S128x1024.size a ≤ S1152x1024.size a) ∧
  (∀ (k0_h8 : k0_cond8 i v17 = 1#1), (k0_t6_loop v17).OK) ∧
  (∀ k0_t6 : Fin (k0_t6_loop v17).trips, ∀ (k0_h8 : k0_cond8 i v17 = 1#1), 128 ∣ (k0_mult6 v17 k0_t6).toNat) ∧
  (∀ k0_t6 : Fin (k0_t6_loop v17).trips, ∀ (k0_h8 : k0_cond8 i v17 = 1#1), ∀ a, (k0_off6 v17 k0_t6) a + S128x1024.size a ≤ S1152x1024.size a)
theorem k0_t1_ok : ∀ (i : grid0.Coords) (v17 : BitVec 32) (k0_hw1 : k0_chk1 i v17), ∀ (k0_h2 : k0_cond2 i v17 = 1#1), (k0_t1_loop v17).OK := fun i v17 k0_hw1 k0_h2 => k0_hw1.1 k0_h2
theorem k0_mult1_dvd : ∀ (i : grid0.Coords) (v17 : BitVec 32) (k0_hw1 : k0_chk1 i v17) (k0_t1 : Fin (k0_t1_loop v17).trips), ∀ (k0_h2 : k0_cond2 i v17 = 1#1), 128 ∣ (k0_mult1 v17 k0_t1).toNat := fun i v17 k0_hw1 k0_t1 k0_h2 => k0_hw1.2.1 k0_t1 k0_h2
theorem k0_off1_inb : ∀ (i : grid0.Coords) (v17 : BitVec 32) (k0_hw1 : k0_chk1 i v17) (k0_t1 : Fin (k0_t1_loop v17).trips), ∀ (k0_h2 : k0_cond2 i v17 = 1#1), ∀ a, (k0_off1 v17 k0_t1) a + S128x1024.size a ≤ S1152x1024.size a := fun i v17 k0_hw1 k0_t1 k0_h2 => k0_hw1.2.2.1 k0_t1 k0_h2
theorem k0_off1_packedbf16 : ∀ (i : grid0.Coords) (v17 : BitVec 32) (k0_hw1 : k0_chk1 i v17) (k0_t1 : Fin (k0_t1_loop v17).trips), ∀ (k0_h2 : k0_cond2 i v17 = 1#1), (Rect.unit (s := S1152x1024) (k0_off1 v17 k0_t1) S128x1024.size (k0_off1_inb i v17 k0_hw1 k0_t1 k0_h2)).PackedRows (EltTy.packing .bf16) := fun i v17 k0_hw1 k0_t1 k0_h2 => k0_hw1.2.2.2.1 k0_t1 k0_h2 (k0_off1_inb i v17 k0_hw1 k0_t1 k0_h2)
theorem k0_t2_ok : ∀ (i : grid0.Coords) (v17 : BitVec 32) (k0_hw1 : k0_chk1 i v17), ∀ (k0_h2 : k0_cond2 i v17 = 1#1), (k0_t2_loop v17).OK := fun i v17 k0_hw1 k0_h2 => k0_hw1.2.2.2.2.1 k0_h2
theorem k0_mult2_dvd : ∀ (i : grid0.Coords) (v17 : BitVec 32) (k0_hw1 : k0_chk1 i v17) (k0_t2 : Fin (k0_t2_loop v17).trips), ∀ (k0_h2 : k0_cond2 i v17 = 1#1), 128 ∣ (k0_mult2 v17 k0_t2).toNat := fun i v17 k0_hw1 k0_t2 k0_h2 => k0_hw1.2.2.2.2.2.1 k0_t2 k0_h2
theorem k0_off2_inb : ∀ (i : grid0.Coords) (v17 : BitVec 32) (k0_hw1 : k0_chk1 i v17) (k0_t2 : Fin (k0_t2_loop v17).trips), ∀ (k0_h2 : k0_cond2 i v17 = 1#1), ∀ a, (k0_off2 v17 k0_t2) a + S128x1024.size a ≤ S1152x1024.size a := fun i v17 k0_hw1 k0_t2 k0_h2 => k0_hw1.2.2.2.2.2.2.1 k0_t2 k0_h2
theorem k0_off2_packedbf16 : ∀ (i : grid0.Coords) (v17 : BitVec 32) (k0_hw1 : k0_chk1 i v17) (k0_t2 : Fin (k0_t2_loop v17).trips), ∀ (k0_h2 : k0_cond2 i v17 = 1#1), (Rect.unit (s := S1152x1024) (k0_off2 v17 k0_t2) S128x1024.size (k0_off2_inb i v17 k0_hw1 k0_t2 k0_h2)).PackedRows (EltTy.packing .bf16) := fun i v17 k0_hw1 k0_t2 k0_h2 => k0_hw1.2.2.2.2.2.2.2.1 k0_t2 k0_h2 (k0_off2_inb i v17 k0_hw1 k0_t2 k0_h2)
theorem k0_t3_ok : ∀ (i : grid0.Coords) (v17 : BitVec 32) (k0_hw1 : k0_chk1 i v17), ∀ (k0_h3 : k0_cond3 v17 = 1#1), (k0_t3_loop v17).OK := fun i v17 k0_hw1 k0_h3 => k0_hw1.2.2.2.2.2.2.2.2.1 k0_h3
theorem k0_mult3_dvd : ∀ (i : grid0.Coords) (v17 : BitVec 32) (k0_hw1 : k0_chk1 i v17) (k0_t3 : Fin (k0_t3_loop v17).trips), ∀ (k0_h3 : k0_cond3 v17 = 1#1), 128 ∣ (k0_mult3 v17 k0_t3).toNat := fun i v17 k0_hw1 k0_t3 k0_h3 => k0_hw1.2.2.2.2.2.2.2.2.2.1 k0_t3 k0_h3
theorem k0_off3_inb : ∀ (i : grid0.Coords) (v17 : BitVec 32) (k0_hw1 : k0_chk1 i v17) (k0_t3 : Fin (k0_t3_loop v17).trips), ∀ (k0_h3 : k0_cond3 v17 = 1#1), ∀ a, (k0_off3 v17 k0_t3) a + S128x1024.size a ≤ S1152x1024.size a := fun i v17 k0_hw1 k0_t3 k0_h3 => k0_hw1.2.2.2.2.2.2.2.2.2.2.1 k0_t3 k0_h3
theorem k0_t4_ok : ∀ (i : grid0.Coords) (v17 : BitVec 32) (k0_hw1 : k0_chk1 i v17), ∀ (k0_h3 : k0_cond3 v17 = 1#1), (k0_t4_loop v17).OK := fun i v17 k0_hw1 k0_h3 => k0_hw1.2.2.2.2.2.2.2.2.2.2.2.1 k0_h3
theorem k0_mult4_dvd : ∀ (i : grid0.Coords) (v17 : BitVec 32) (k0_hw1 : k0_chk1 i v17) (k0_t4 : Fin (k0_t4_loop v17).trips), ∀ (k0_h3 : k0_cond3 v17 = 1#1), 128 ∣ (k0_mult4 v17 k0_t4).toNat := fun i v17 k0_hw1 k0_t4 k0_h3 => k0_hw1.2.2.2.2.2.2.2.2.2.2.2.2.1 k0_t4 k0_h3
theorem k0_off4_inb : ∀ (i : grid0.Coords) (v17 : BitVec 32) (k0_hw1 : k0_chk1 i v17) (k0_t4 : Fin (k0_t4_loop v17).trips), ∀ (k0_h3 : k0_cond3 v17 = 1#1), ∀ a, (k0_off4 v17 k0_t4) a + S128x1024.size a ≤ S1152x1024.size a := fun i v17 k0_hw1 k0_t4 k0_h3 => k0_hw1.2.2.2.2.2.2.2.2.2.2.2.2.2.1 k0_t4 k0_h3
theorem k0_t5_ok : ∀ (i : grid0.Coords) (v17 : BitVec 32) (k0_hw1 : k0_chk1 i v17), ∀ (k0_h8 : k0_cond8 i v17 = 1#1), (k0_t5_loop v17).OK := fun i v17 k0_hw1 k0_h8 => k0_hw1.2.2.2.2.2.2.2.2.2.2.2.2.2.2.1 k0_h8
theorem k0_mult5_dvd : ∀ (i : grid0.Coords) (v17 : BitVec 32) (k0_hw1 : k0_chk1 i v17) (k0_t5 : Fin (k0_t5_loop v17).trips), ∀ (k0_h8 : k0_cond8 i v17 = 1#1), 128 ∣ (k0_mult5 v17 k0_t5).toNat := fun i v17 k0_hw1 k0_t5 k0_h8 => k0_hw1.2.2.2.2.2.2.2.2.2.2.2.2.2.2.2.1 k0_t5 k0_h8
theorem k0_off5_inb : ∀ (i : grid0.Coords) (v17 : BitVec 32) (k0_hw1 : k0_chk1 i v17) (k0_t5 : Fin (k0_t5_loop v17).trips), ∀ (k0_h8 : k0_cond8 i v17 = 1#1), ∀ a, (k0_off5 v17 k0_t5) a + S128x1024.size a ≤ S1152x1024.size a := fun i v17 k0_hw1 k0_t5 k0_h8 => k0_hw1.2.2.2.2.2.2.2.2.2.2.2.2.2.2.2.2.1 k0_t5 k0_h8
theorem k0_t6_ok : ∀ (i : grid0.Coords) (v17 : BitVec 32) (k0_hw1 : k0_chk1 i v17), ∀ (k0_h8 : k0_cond8 i v17 = 1#1), (k0_t6_loop v17).OK := fun i v17 k0_hw1 k0_h8 => k0_hw1.2.2.2.2.2.2.2.2.2.2.2.2.2.2.2.2.2.1 k0_h8
theorem k0_mult6_dvd : ∀ (i : grid0.Coords) (v17 : BitVec 32) (k0_hw1 : k0_chk1 i v17) (k0_t6 : Fin (k0_t6_loop v17).trips), ∀ (k0_h8 : k0_cond8 i v17 = 1#1), 128 ∣ (k0_mult6 v17 k0_t6).toNat := fun i v17 k0_hw1 k0_t6 k0_h8 => k0_hw1.2.2.2.2.2.2.2.2.2.2.2.2.2.2.2.2.2.2.1 k0_t6 k0_h8
theorem k0_off6_inb : ∀ (i : grid0.Coords) (v17 : BitVec 32) (k0_hw1 : k0_chk1 i v17) (k0_t6 : Fin (k0_t6_loop v17).trips), ∀ (k0_h8 : k0_cond8 i v17 = 1#1), ∀ a, (k0_off6 v17 k0_t6) a + S128x1024.size a ≤ S1152x1024.size a := fun i v17 k0_hw1 k0_t6 k0_h8 => k0_hw1.2.2.2.2.2.2.2.2.2.2.2.2.2.2.2.2.2.2.2 k0_t6 k0_h8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x1088x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, false]

abbrev stage0_2 : Fin 2 → Memref sig .tc .vmem S1x2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x1088x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== ReferenceIdeal.lean ====
abbrev S8x256x1024 : Shape := ⟨3, ![8, 256, 1024]⟩
abbrev S8x4096x1024 : Shape := ⟨3, ![8, 4096, 1024]⟩
abbrev S8x256x8 : Shape := ⟨3, ![8, 256, 8]⟩
abbrev S8x4096x8 : Shape := ⟨3, ![8, 4096, 8]⟩
abbrev S6x1024 : Shape := ⟨2, ![6, 1024]⟩
abbrev S8x6x1024 : Shape := ⟨3, ![8, 6, 1024]⟩
abbrev S8x1024x3584 : Shape := ⟨3, ![8, 1024, 3584]⟩
abbrev S8x3584x1024 : Shape := ⟨3, ![8, 3584, 1024]⟩
abbrev S8x1x1024 : Shape := ⟨3, ![8, 1, 1024]⟩
abbrev S8x1024 : Shape := ⟨2, ![8, 1024]⟩
abbrev S_ : Shape := ⟨0, ![]⟩
abbrev S8x4096x1 : Shape := ⟨3, ![8, 4096, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S8x4096x3584 : Shape := ⟨3, ![8, 4096, 3584]⟩
abbrev S1x1024 : Shape := ⟨2, ![1, 1024]⟩
abbrev S1024 : Shape := ⟨1, ![1024]⟩
abbrev S8x256x1 : Shape := ⟨3, ![8, 256, 1]⟩
abbrev S8x256x3584 : Shape := ⟨3, ![8, 256, 3584]⟩
abbrev S1x1x1024 : Shape := ⟨3, ![1, 1, 1024]⟩
abbrev S8x4352x1024 : Shape := ⟨3, ![8, 4352, 1024]⟩

abbrev nBuf : Space → Nat
  | .hbm => 396
  | .vmem => 0
  | .smem => 0
  | _ => 0

abbrev hbmTy0_0 (i : Nat) : BufTy := match i % 128 with
  | 0 => ⟨S8x256x1024, .f32⟩
  | 1 => ⟨S8x4096x1024, .f32⟩
  | 2 => ⟨S8x256x8, .f32⟩
  | 3 => ⟨S8x4096x8, .f32⟩
  | 4 => ⟨S8x256x1024, .f32⟩
  | 5 => ⟨S8x4096x1024, .f32⟩
  | 6 => ⟨S6x1024, .f32⟩
  | 7 => ⟨S8x6x1024, .f32⟩
  | 8 => ⟨S8x1024x3584, .f32⟩
  | 9 => ⟨S8x1024x3584, .f32⟩
  | 10 => ⟨S8x3584x1024, .f32⟩
  | 11 => ⟨S8x1x1024, .f32⟩
  | 12 => ⟨S8x1024, .f32⟩
  | 13 => ⟨S8x1x1024, .f32⟩
  | 14 => ⟨S_, .f32⟩
  | 15 => ⟨S8x4096x1024, .f32⟩
  | 16 => ⟨S8x4096x1, .f32⟩
  | 17 => ⟨S1x1024x3584, .f32⟩
  | 18 => ⟨S1024x3584, .f32⟩
  | 19 => ⟨S1x1024x3584, .f32⟩
  | 20 => ⟨S1024x3584, .f32⟩
  | 21 => ⟨S1x3584x1024, .f32⟩
  | 22 => ⟨S3584x1024, .f32⟩
  | 23 => ⟨S8x4096x3584, .f32⟩
  | 24 => ⟨S8x4096x3584, .f32⟩
  | 25 => ⟨S8x4096x3584, .f32⟩
  | 26 => ⟨S_, .f32⟩
  | 27 => ⟨S8x4096x3584, .f32⟩
  | 28 => ⟨S8x4096x3584, .f32⟩
  | 29 => ⟨S_, .f32⟩
  | 30 => ⟨S8x4096x3584, .f32⟩
  | 31 => ⟨S8x4096x3584, .f32⟩
  | 32 => ⟨S8x4096x3584, .f32⟩
  | 33 => ⟨S8x4096x3584, .f32⟩
  | 34 => ⟨S8x4096x3584, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x1, .f32⟩
  | 40 => ⟨S1x1024x3584, .f32⟩
  | 41 => ⟨S1024x3584, .f32⟩
  | 42 => ⟨S1x1024x3584, .f32⟩
  | 43 => ⟨S1024x3584, .f32⟩
  | 44 => ⟨S1x3584x1024, .f32⟩
  | 45 => ⟨S3584x1024, .f32⟩
  | 46 => ⟨S8x4096x3584, .f32⟩
  | 47 => ⟨S8x4096x3584, .f32⟩
  | 48 => ⟨S8x4096x3584, .f32⟩
  | 49 => ⟨S_, .f32⟩
  | 50 => ⟨S8x4096x3584, .f32⟩
  | 51 => ⟨S8x4096x3584, .f32⟩
  | 52 => ⟨S_, .f32⟩
  | 53 => ⟨S8x4096x3584, .f32⟩
  | 54 => ⟨S8x4096x3584, .f32⟩
  | 55 => ⟨S8x4096x3584, .f32⟩
  | 56 => ⟨S8x4096x3584, .f32⟩
  | 57 => ⟨S8x4096x3584, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1, .f32⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S8x4096x3584, .f32⟩
  | 70 => ⟨S8x4096x3584, .f32⟩
  | 71 => ⟨S8x4096x3584, .f32⟩
  | 72 => ⟨S_, .f32⟩
  | 73 => ⟨S8x4096x3584, .f32⟩
  | 74 => ⟨S8x4096x3584, .f32⟩
  | 75 => ⟨S_, .f32⟩
  | 76 => ⟨S8x4096x3584, .f32⟩
  | 77 => ⟨S8x4096x3584, .f32⟩
  | 78 => ⟨S8x4096x3584, .f32⟩
  | 79 => ⟨S8x4096x3584, .f32⟩
  | 80 => ⟨S8x4096x3584, .f32⟩
  | 81 => ⟨S8x4096x1024, .f32⟩
  | 82 => ⟨S8x4096x1024, .f32⟩
  | 83 => ⟨S8x4096x1024, .f32⟩
  | 84 => ⟨S8x4096x1024, .f32⟩
  | 85 => ⟨S8x4096x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S8x4096x3584, .f32⟩
  | 93 => ⟨S8x4096x3584, .f32⟩
  | 94 => ⟨S8x4096x3584, .f32⟩
  | 95 => ⟨S_, .f32⟩
  | 96 => ⟨S8x4096x3584, .f32⟩
  | 97 => ⟨S8x4096x3584, .f32⟩
  | 98 => ⟨S_, .f32⟩
  | 99 => ⟨S8x4096x3584, .f32⟩
  | 100 => ⟨S8x4096x3584, .f32⟩
  | 101 => ⟨S8x4096x3584, .f32⟩
  | 102 => ⟨S8x4096x3584, .f32⟩
  | 103 => ⟨S8x4096x3584, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1, .f32⟩
  | 109 => ⟨S1x1024x3584, .f32⟩
  | 110 => ⟨S1024x3584, .f32⟩
  | 111 => ⟨S1x1024x3584, .f32⟩
  | 112 => ⟨S1024x3584, .f32⟩
  | 113 => ⟨S1x3584x1024, .f32⟩
  | 114 => ⟨S3584x1024, .f32⟩
  | 115 => ⟨S8x4096x3584, .f32⟩
  | 116 => ⟨S8x4096x3584, .f32⟩
  | 117 => ⟨S8x4096x3584, .f32⟩
  | 118 => ⟨S_, .f32⟩
  | 119 => ⟨S8x4096x3584, .f32⟩
  | 120 => ⟨S8x4096x3584, .f32⟩
  | 121 => ⟨S_, .f32⟩
  | 122 => ⟨S8x4096x3584, .f32⟩
  | 123 => ⟨S8x4096x3584, .f32⟩
  | 124 => ⟨S8x4096x3584, .f32⟩
  | 125 => ⟨S8x4096x3584, .f32⟩
  | 126 => ⟨S8x4096x3584, .f32⟩
  | 127 => ⟨S8x4096x1024, .f32⟩
  | _ => ⟨S8x256x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S8x4096x1, .f32⟩
  | 4 => ⟨S1x1024x3584, .f32⟩
  | 5 => ⟨S1024x3584, .f32⟩
  | 6 => ⟨S1x1024x3584, .f32⟩
  | 7 => ⟨S1024x3584, .f32⟩
  | 8 => ⟨S1x3584x1024, .f32⟩
  | 9 => ⟨S3584x1024, .f32⟩
  | 10 => ⟨S8x4096x3584, .f32⟩
  | 11 => ⟨S8x4096x3584, .f32⟩
  | 12 => ⟨S8x4096x3584, .f32⟩
  | 13 => ⟨S_, .f32⟩
  | 14 => ⟨S8x4096x3584, .f32⟩
  | 15 => ⟨S8x4096x3584, .f32⟩
  | 16 => ⟨S_, .f32⟩
  | 17 => ⟨S8x4096x3584, .f32⟩
  | 18 => ⟨S8x4096x3584, .f32⟩
  | 19 => ⟨S8x4096x3584, .f32⟩
  | 20 => ⟨S8x4096x3584, .f32⟩
  | 21 => ⟨S8x4096x3584, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1, .f32⟩
  | 27 => ⟨S1x1024x3584, .f32⟩
  | 28 => ⟨S1024x3584, .f32⟩
  | 29 => ⟨S1x1024x3584, .f32⟩
  | 30 => ⟨S1024x3584, .f32⟩
  | 31 => ⟨S1x3584x1024, .f32⟩
  | 32 => ⟨S3584x1024, .f32⟩
  | 33 => ⟨S8x4096x3584, .f32⟩
  | 34 => ⟨S8x4096x3584, .f32⟩
  | 35 => ⟨S8x4096x3584, .f32⟩
  | 36 => ⟨S_, .f32⟩
  | 37 => ⟨S8x4096x3584, .f32⟩
  | 38 => ⟨S8x4096x3584, .f32⟩
  | 39 => ⟨S_, .f32⟩
  | 40 => ⟨S8x4096x3584, .f32⟩
  | 41 => ⟨S8x4096x3584, .f32⟩
  | 42 => ⟨S8x4096x3584, .f32⟩
  | 43 => ⟨S8x4096x3584, .f32⟩
  | 44 => ⟨S8x4096x3584, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S8x4096x3584, .f32⟩
  | 57 => ⟨S8x4096x3584, .f32⟩
  | 58 => ⟨S8x4096x3584, .f32⟩
  | 59 => ⟨S_, .f32⟩
  | 60 => ⟨S8x4096x3584, .f32⟩
  | 61 => ⟨S8x4096x3584, .f32⟩
  | 62 => ⟨S_, .f32⟩
  | 63 => ⟨S8x4096x3584, .f32⟩
  | 64 => ⟨S8x4096x3584, .f32⟩
  | 65 => ⟨S8x4096x3584, .f32⟩
  | 66 => ⟨S8x4096x3584, .f32⟩
  | 67 => ⟨S8x4096x3584, .f32⟩
  | 68 => ⟨S8x4096x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S1x1024, .f32⟩
  | 76 => ⟨S1024, .f32⟩
  | 77 => ⟨S_, .f32⟩
  | 78 => ⟨S8x256x1024, .f32⟩
  | 79 => ⟨S8x256x1, .f32⟩
  | 80 => ⟨S1x1024x3584, .f32⟩
  | 81 => ⟨S1024x3584, .f32⟩
  | 82 => ⟨S1x1024x3584, .f32⟩
  | 83 => ⟨S1024x3584, .f32⟩
  | 84 => ⟨S1x3584x1024, .f32⟩
  | 85 => ⟨S3584x1024, .f32⟩
  | 86 => ⟨S8x256x3584, .f32⟩
  | 87 => ⟨S8x256x3584, .f32⟩
  | 88 => ⟨S8x256x3584, .f32⟩
  | 89 => ⟨S_, .f32⟩
  | 90 => ⟨S8x256x3584, .f32⟩
  | 91 => ⟨S8x256x3584, .f32⟩
  | 92 => ⟨S_, .f32⟩
  | 93 => ⟨S8x256x3584, .f32⟩
  | 94 => ⟨S8x256x3584, .f32⟩
  | 95 => ⟨S8x256x3584, .f32⟩
  | 96 => ⟨S8x256x3584, .f32⟩
  | 97 => ⟨S8x256x3584, .f32⟩
  | 98 => ⟨S8x256x1024, .f32⟩
  | 99 => ⟨S8x256x1024, .f32⟩
  | 100 => ⟨S8x256x1024, .f32⟩
  | 101 => ⟨S8x256x1024, .f32⟩
  | 102 => ⟨S8x256x1, .f32⟩
  | 103 => ⟨S1x1024x3584, .f32⟩
  | 104 => ⟨S1024x3584, .f32⟩
  | 105 => ⟨S1x1024x3584, .f32⟩
  | 106 => ⟨S1024x3584, .f32⟩
  | 107 => ⟨S1x3584x1024, .f32⟩
  | 108 => ⟨S3584x1024, .f32⟩
  | 109 => ⟨S8x256x3584, .f32⟩
  | 110 => ⟨S8x256x3584, .f32⟩
  | 111 => ⟨S8x256x3584, .f32⟩
  | 112 => ⟨S_, .f32⟩
  | 113 => ⟨S8x256x3584, .f32⟩
  | 114 => ⟨S8x256x3584, .f32⟩
  | 115 => ⟨S_, .f32⟩
  | 116 => ⟨S8x256x3584, .f32⟩
  | 117 => ⟨S8x256x3584, .f32⟩
  | 118 => ⟨S8x256x3584, .f32⟩
  | 119 => ⟨S8x256x3584, .f32⟩
  | 120 => ⟨S8x256x3584, .f32⟩
  | 121 => ⟨S8x256x1024, .f32⟩
  | 122 => ⟨S8x256x1024, .f32⟩
  | 123 => ⟨S8x256x1024, .f32⟩
  | 124 => ⟨S8x256x1024, .f32⟩
  | 125 => ⟨S8x256x1, .f32⟩
  | 126 => ⟨S1x1024x3584, .f32⟩
  | 127 => ⟨S1024x3584, .f32⟩
  | _ => ⟨S8x256x1024, .f32⟩

abbrev hbmTy0_2 (i : Nat) : BufTy := match i % 128 with
  | 0 => ⟨S1x1024x3584, .f32⟩
  | 1 => ⟨S1024x3584, .f32⟩
  | 2 => ⟨S1x3584x1024, .f32⟩
  | 3 => ⟨S3584x1024, .f32⟩
  | 4 => ⟨S8x256x3584, .f32⟩
  | 5 => ⟨S8x256x3584, .f32⟩
  | 6 => ⟨S8x256x3584, .f32⟩
  | 7 => ⟨S_, .f32⟩
  | 8 => ⟨S8x256x3584, .f32⟩
  | 9 => ⟨S8x256x3584, .f32⟩
  | 10 => ⟨S_, .f32⟩
  | 11 => ⟨S8x256x3584, .f32⟩
  | 12 => ⟨S8x256x3584, .f32⟩
  | 13 => ⟨S8x256x3584, .f32⟩
  | 14 => ⟨S8x256x3584, .f32⟩
  | 15 => ⟨S8x256x3584, .f32⟩
  | 16 => ⟨S8x256x1024, .f32⟩
  | 17 => ⟨S8x256x1024, .f32⟩
  | 18 => ⟨S8x256x1024, .f32⟩
  | 19 => ⟨S8x256x1024, .f32⟩
  | 20 => ⟨S8x256x1, .f32⟩
  | 21 => ⟨S1x1024x3584, .f32⟩
  | 22 => ⟨S1024x3584, .f32⟩
  | 23 => ⟨S1x1024x3584, .f32⟩
  | 24 => ⟨S1024x3584, .f32⟩
  | 25 => ⟨S1x3584x1024, .f32⟩
  | 26 => ⟨S3584x1024, .f32⟩
  | 27 => ⟨S8x256x3584, .f32⟩
  | 28 => ⟨S8x256x3584, .f32⟩
  | 29 => ⟨S8x256x3584, .f32⟩
  | 30 => ⟨S_, .f32⟩
  | 31 => ⟨S8x256x3584, .f32⟩
  | 32 => ⟨S8x256x3584, .f32⟩
  | 33 => ⟨S_, .f32⟩
  | 34 => ⟨S8x256x3584, .f32⟩
  | 35 => ⟨S8x256x3584, .f32⟩
  | 36 => ⟨S8x256x3584, .f32⟩
  | 37 => ⟨S8x256x3584, .f32⟩
  | 38 => ⟨S8x256x3584, .f32⟩
  | 39 => ⟨S8x256x1024, .f32⟩
  | 40 => ⟨S8x256x1024, .f32⟩
  | 41 => ⟨S8x256x1024, .f32⟩
  | 42 => ⟨S8x256x1024, .f32⟩
  | 43 => ⟨S8x256x1, .f32⟩
  | 44 => ⟨S1x1024x3584, .f32⟩
  | 45 => ⟨S1024x3584, .f32⟩
  | 46 => ⟨S1x1024x3584, .f32⟩
  | 47 => ⟨S1024x3584, .f32⟩
  | 48 => ⟨S1x3584x1024, .f32⟩
  | 49 => ⟨S3584x1024, .f32⟩
  | 50 => ⟨S8x256x3584, .f32⟩
  | 51 => ⟨S8x256x3584, .f32⟩
  | 52 => ⟨S8x256x3584, .f32⟩
  | 53 => ⟨S_, .f32⟩
  | 54 => ⟨S8x256x3584, .f32⟩
  | 55 => ⟨S8x256x3584, .f32⟩
  | 56 => ⟨S_, .f32⟩
  | 57 => ⟨S8x256x3584, .f32⟩
  | 58 => ⟨S8x256x3584, .f32⟩
  | 59 => ⟨S8x256x3584, .f32⟩
  | 60 => ⟨S8x256x3584, .f32⟩
  | 61 => ⟨S8x256x3584, .f32⟩
  | 62 => ⟨S8x256x1024, .f32⟩
  | 63 => ⟨S8x256x1024, .f32⟩
  | 64 => ⟨S8x256x1024, .f32⟩
  | 65 => ⟨S8x256x1024, .f32⟩
  | 66 => ⟨S8x256x1, .f32⟩
  | 67 => ⟨S1x1024x3584, .f32⟩
  | 68 => ⟨S1024x3584, .f32⟩
  | 69 => ⟨S1x1024x3584, .f32⟩
  | 70 => ⟨S1024x3584, .f32⟩
  | 71 => ⟨S1x3584x1024, .f32⟩
  | 72 => ⟨S3584x1024, .f32⟩
  | 73 => ⟨S8x256x3584, .f32⟩
  | 74 => ⟨S8x256x3584, .f32⟩
  | 75 => ⟨S8x256x3584, .f32⟩
  | 76 => ⟨S_, .f32⟩
  | 77 => ⟨S8x256x3584, .f32⟩
  | 78 => ⟨S8x256x3584, .f32⟩
  | 79 => ⟨S_, .f32⟩
  | 80 => ⟨S8x256x3584, .f32⟩
  | 81 => ⟨S8x256x3584, .f32⟩
  | 82 => ⟨S8x256x3584, .f32⟩
  | 83 => ⟨S8x256x3584, .f32⟩
  | 84 => ⟨S8x256x3584, .f32⟩
  | 85 => ⟨S8x256x1024, .f32⟩
  | 86 => ⟨S8x256x1024, .f32⟩
  | 87 => ⟨S8x256x1024, .f32⟩
  | 88 => ⟨S8x256x1024, .f32⟩
  | 89 => ⟨S8x256x1, .f32⟩
  | 90 => ⟨S1x1024x3584, .f32⟩
  | 91 => ⟨S1024x3584, .f32⟩
  | 92 => ⟨S1x1024x3584, .f32⟩
  | 93 => ⟨S1024x3584, .f32⟩
  | 94 => ⟨S1x3584x1024, .f32⟩
  | 95 => ⟨S3584x1024, .f32⟩
  | 96 => ⟨S8x256x3584, .f32⟩
  | 97 => ⟨S8x256x3584, .f32⟩
  | 98 => ⟨S8x256x3584, .f32⟩
  | 99 => ⟨S_, .f32⟩
  | 100 => ⟨S8x256x3584, .f32⟩
  | 101 => ⟨S8x256x3584, .f32⟩
  | 102 => ⟨S_, .f32⟩
  | 103 => ⟨S8x256x3584, .f32⟩
  | 104 => ⟨S8x256x3584, .f32⟩
  | 105 => ⟨S8x256x3584, .f32⟩
  | 106 => ⟨S8x256x3584, .f32⟩
  | 107 => ⟨S8x256x3584, .f32⟩
  | 108 => ⟨S8x256x1024, .f32⟩
  | 109 => ⟨S8x256x1024, .f32⟩
  | 110 => ⟨S8x256x1024, .f32⟩
  | 111 => ⟨S8x256x1024, .f32⟩
  | 112 => ⟨S8x256x1, .f32⟩
  | 113 => ⟨S1x1024x3584, .f32⟩
  | 114 => ⟨S1024x3584, .f32⟩
  | 115 => ⟨S1x1024x3584, .f32⟩
  | 116 => ⟨S1024x3584, .f32⟩
  | 117 => ⟨S1x3584x1024, .f32⟩
  | 118 => ⟨S3584x1024, .f32⟩
  | 119 => ⟨S8x256x3584, .f32⟩
  | 120 => ⟨S8x256x3584, .f32⟩
  | 121 => ⟨S8x256x3584, .f32⟩
  | 122 => ⟨S_, .f32⟩
  | 123 => ⟨S8x256x3584, .f32⟩
  | 124 => ⟨S8x256x3584, .f32⟩
  | 125 => ⟨S_, .f32⟩
  | 126 => ⟨S8x256x3584, .f32⟩
  | 127 => ⟨S8x256x3584, .f32⟩
  | _ => ⟨S8x256x1024, .f32⟩

abbrev hbmTy0_3 (i : Nat) : BufTy := match i % 128 with
  | 0 => ⟨S8x256x3584, .f32⟩
  | 1 => ⟨S8x256x3584, .f32⟩
  | 2 => ⟨S8x256x3584, .f32⟩
  | 3 => ⟨S8x256x1024, .f32⟩
  | 4 => ⟨S8x256x1024, .f32⟩
  | 5 => ⟨S8x256x1024, .f32⟩
  | 6 => ⟨S8x256x1024, .f32⟩
  | 7 => ⟨S1x1x1024, .f32⟩
  | 8 => ⟨S8x256x1024, .f32⟩
  | 9 => ⟨S8x256x1024, .f32⟩
  | 10 => ⟨S8x256x1024, .f32⟩
  | 11 => ⟨S8x4352x1024, .f32⟩
  | _ => ⟨S8x256x1024, .f32⟩

abbrev hbmTy (i : Nat) : BufTy := match i / 128 with
  | 0 => hbmTy0_0 i
  | 1 => hbmTy0_1 i
  | 2 => hbmTy0_2 i
  | 3 => hbmTy0_3 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_call5_v0 : Ref sig .tc := ⟨.hbm, 139, rfl⟩
abbrev main_call5_v1 : Ref sig .tc := ⟨.hbm, 140, rfl⟩
abbrev main_call5_cst : Ref sig .tc := ⟨.hbm, 141, rfl⟩
abbrev main_call5_v2 : Ref sig .tc := ⟨.hbm, 142, rfl⟩
abbrev main_call5_v3 : Ref sig .tc := ⟨.hbm, 143, rfl⟩
abbrev main_call5_cst_0 : Ref sig .tc := ⟨.hbm, 144, rfl⟩
abbrev main_call5_v4 : Ref sig .tc := ⟨.hbm, 145, rfl⟩
abbrev main_call5_v5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_call6_v0 : Ref sig .tc := ⟨.hbm, 162, rfl⟩
abbrev main_call6_v1 : Ref sig .tc := ⟨.hbm, 163, rfl⟩
abbrev main_call6_cst : Ref sig .tc := ⟨.hbm, 164, rfl⟩
abbrev main_call6_v2 : Ref sig .tc := ⟨.hbm, 165, rfl⟩
abbrev main_call6_v3 : Ref sig .tc := ⟨.hbm, 166, rfl⟩
abbrev main_call6_cst_0 : Ref sig .tc := ⟨.hbm, 167, rfl⟩
abbrev main_call6_v4 : Ref sig .tc := ⟨.hbm, 168, rfl⟩
abbrev main_call6_v5 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_call7_v0 : Ref sig .tc := ⟨.hbm, 185, rfl⟩
abbrev main_call7_v1 : Ref sig .tc := ⟨.hbm, 186, rfl⟩
abbrev main_call7_cst : Ref sig .tc := ⟨.hbm, 187, rfl⟩
abbrev main_call7_v2 : Ref sig .tc := ⟨.hbm, 188, rfl⟩
abbrev main_call7_v3 : Ref sig .tc := ⟨.hbm, 189, rfl⟩
abbrev main_call7_cst_0 : Ref sig .tc := ⟨.hbm, 190, rfl⟩
abbrev main_call7_v4 : Ref sig .tc := ⟨.hbm, 191, rfl⟩
abbrev main_call7_v5 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_0 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_call8_v0 : Ref sig .tc := ⟨.hbm, 215, rfl⟩
abbrev main_call8_v1 : Ref sig .tc := ⟨.hbm, 216, rfl⟩
abbrev main_call8_cst : Ref sig .tc := ⟨.hbm, 217, rfl⟩
abbrev main_call8_v2 : Ref sig .tc := ⟨.hbm, 218, rfl⟩
abbrev main_call8_v3 : Ref sig .tc := ⟨.hbm, 219, rfl⟩
abbrev main_call8_cst_0 : Ref sig .tc := ⟨.hbm, 220, rfl⟩
abbrev main_call8_v4 : Ref sig .tc := ⟨.hbm, 221, rfl⟩
abbrev main_call8_v5 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_call9_v0 : Ref sig .tc := ⟨.hbm, 238, rfl⟩
abbrev main_call9_v1 : Ref sig .tc := ⟨.hbm, 239, rfl⟩
abbrev main_call9_cst : Ref sig .tc := ⟨.hbm, 240, rfl⟩
abbrev main_call9_v2 : Ref sig .tc := ⟨.hbm, 241, rfl⟩
abbrev main_call9_v3 : Ref sig .tc := ⟨.hbm, 242, rfl⟩
abbrev main_call9_cst_0 : Ref sig .tc := ⟨.hbm, 243, rfl⟩
abbrev main_call9_v4 : Ref sig .tc := ⟨.hbm, 244, rfl⟩
abbrev main_call9_v5 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_call10_v0 : Ref sig .tc := ⟨.hbm, 261, rfl⟩
abbrev main_call10_v1 : Ref sig .tc := ⟨.hbm, 262, rfl⟩
abbrev main_call10_cst : Ref sig .tc := ⟨.hbm, 263, rfl⟩
abbrev main_call10_v2 : Ref sig .tc := ⟨.hbm, 264, rfl⟩
abbrev main_call10_v3 : Ref sig .tc := ⟨.hbm, 265, rfl⟩
abbrev main_call10_cst_0 : Ref sig .tc := ⟨.hbm, 266, rfl⟩
abbrev main_call10_v4 : Ref sig .tc := ⟨.hbm, 267, rfl⟩
abbrev main_call10_v5 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_call11_v0 : Ref sig .tc := ⟨.hbm, 284, rfl⟩
abbrev main_call11_v1 : Ref sig .tc := ⟨.hbm, 285, rfl⟩
abbrev main_call11_cst : Ref sig .tc := ⟨.hbm, 286, rfl⟩
abbrev main_call11_v2 : Ref sig .tc := ⟨.hbm, 287, rfl⟩
abbrev main_call11_v3 : Ref sig .tc := ⟨.hbm, 288, rfl⟩
abbrev main_call11_cst_0 : Ref sig .tc := ⟨.hbm, 289, rfl⟩
abbrev main_call11_v4 : Ref sig .tc := ⟨.hbm, 290, rfl⟩
abbrev main_call11_v5 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_call12_v0 : Ref sig .tc := ⟨.hbm, 307, rfl⟩
abbrev main_call12_v1 : Ref sig .tc := ⟨.hbm, 308, rfl⟩
abbrev main_call12_cst : Ref sig .tc := ⟨.hbm, 309, rfl⟩
abbrev main_call12_v2 : Ref sig .tc := ⟨.hbm, 310, rfl⟩
abbrev main_call12_v3 : Ref sig .tc := ⟨.hbm, 311, rfl⟩
abbrev main_call12_cst_0 : Ref sig .tc := ⟨.hbm, 312, rfl⟩
abbrev main_call12_v4 : Ref sig .tc := ⟨.hbm, 313, rfl⟩
abbrev main_call12_v5 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_call13_v0 : Ref sig .tc := ⟨.hbm, 330, rfl⟩
abbrev main_call13_v1 : Ref sig .tc := ⟨.hbm, 331, rfl⟩
abbrev main_call13_cst : Ref sig .tc := ⟨.hbm, 332, rfl⟩
abbrev main_call13_v2 : Ref sig .tc := ⟨.hbm, 333, rfl⟩
abbrev main_call13_v3 : Ref sig .tc := ⟨.hbm, 334, rfl⟩
abbrev main_call13_cst_0 : Ref sig .tc := ⟨.hbm, 335, rfl⟩
abbrev main_call13_v4 : Ref sig .tc := ⟨.hbm, 336, rfl⟩
abbrev main_call13_v5 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_call14_v0 : Ref sig .tc := ⟨.hbm, 353, rfl⟩
abbrev main_call14_v1 : Ref sig .tc := ⟨.hbm, 354, rfl⟩
abbrev main_call14_cst : Ref sig .tc := ⟨.hbm, 355, rfl⟩
abbrev main_call14_v2 : Ref sig .tc := ⟨.hbm, 356, rfl⟩
abbrev main_call14_v3 : Ref sig .tc := ⟨.hbm, 357, rfl⟩
abbrev main_call14_cst_0 : Ref sig .tc := ⟨.hbm, 358, rfl⟩
abbrev main_call14_v4 : Ref sig .tc := ⟨.hbm, 359, rfl⟩
abbrev main_call14_v5 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_v242 : Ref sig .tc := ⟨.hbm, 375, rfl⟩
abbrev main_call15_v0 : Ref sig .tc := ⟨.hbm, 376, rfl⟩
abbrev main_call15_v1 : Ref sig .tc := ⟨.hbm, 377, rfl⟩
abbrev main_call15_cst : Ref sig .tc := ⟨.hbm, 378, rfl⟩
abbrev main_call15_v2 : Ref sig .tc := ⟨.hbm, 379, rfl⟩
abbrev main_call15_v3 : Ref sig .tc := ⟨.hbm, 380, rfl⟩
abbrev main_call15_cst_0 : Ref sig .tc := ⟨.hbm, 381, rfl⟩
abbrev main_call15_v4 : Ref sig .tc := ⟨.hbm, 382, rfl⟩
abbrev main_call15_v5 : Ref sig .tc := ⟨.hbm, 383, rfl⟩
abbrev main_v243 : Ref sig .tc := ⟨.hbm, 384, rfl⟩
abbrev main_v244 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩

abbrev nD : Nat := 1
abbrev τ : Topo := Topo.v7x

variable {F : FTy → Type} [FloatOps F]
-- ==== Kernel2.lean ====
abbrev S8x256x1024 : Shape := ⟨3, ![8, 256, 1024]⟩
abbrev S8x4096x1024 : Shape := ⟨3, ![8, 4096, 1024]⟩
abbrev S6x1024 : Shape := ⟨2, ![6, 1024]⟩
abbrev S8x6x1024 : Shape := ⟨3, ![8, 6, 1024]⟩
abbrev S1024x2816 : Shape := ⟨2, ![1024, 2816]⟩
abbrev S2816x1024 : Shape := ⟨2, ![2816, 1024]⟩
abbrev S8x4352x1024 : Shape := ⟨3, ![8, 4352, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S8x2x8x1024 : Shape := ⟨4, ![8, 2, 8, 1024]⟩
abbrev S1x544x1024 : Shape := ⟨3, ![1, 544, 1024]⟩
abbrev S1x2x8x1024 : Shape := ⟨4, ![1, 2, 8, 1024]⟩
abbrev S544x1024 : Shape := ⟨2, ![544, 1024]⟩
abbrev S544x2816 : Shape := ⟨2, ![544, 2816]⟩
abbrev S1x1x1x1024 : Shape := ⟨4, ![1, 1, 1, 1024]⟩
abbrev S1x1024 : Shape := ⟨2, ![1, 1024]⟩

abbrev nBuf : Space → Nat
  | .hbm => 24
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x1024, .f32⟩
  | .hbm, ⟨3, _⟩ => ⟨S8x4096x1024, .f32⟩
  | .hbm, ⟨4, _⟩ => ⟨S6x1024, .f32⟩
  | .hbm, ⟨5, _⟩ => ⟨S8x6x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x4352x1024, .f32⟩
  | .hbm, ⟨10, _⟩ => ⟨S8x4352x1024, .f32⟩
  | .hbm, ⟨11, _⟩ => ⟨S8x4352x1024, .bf16⟩
  | .hbm, ⟨12, _⟩ => ⟨S1x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S_, .i32⟩
  | .hbm, ⟨18, _⟩ => ⟨S_, .f32⟩
  | .hbm, ⟨19, _⟩ => ⟨S8x2x8x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S8x4352x1024, .f32⟩
  | .local _ .vmem, ⟨0, _⟩ => ⟨S1x544x1024, .bf16⟩
  | .local _ .vmem, ⟨1, _⟩ => ⟨S1x544x1024, .bf16⟩
  | .local _ .vmem, ⟨2, _⟩ => ⟨S1x544x1024, .f32⟩
  | .local _ .vmem, ⟨3, _⟩ => ⟨S1x544x1024, .f32⟩
  | .local _ .vmem, ⟨4, _⟩ => ⟨S1x2x8x1024, .f32⟩
  | .local _ .vmem, ⟨5, _⟩ => ⟨S1x2x8x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x544x1024, .f32⟩
  | .local _ .vmem, ⟨10, _⟩ => ⟨S1x544x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x256x1024 : Shape := ⟨3, ![8, 256, 1024]⟩
abbrev S8x4096x1024 : Shape := ⟨3, ![8, 4096, 1024]⟩
abbrev S6x1024 : Shape := ⟨2, ![6, 1024]⟩
abbrev S8x6x1024 : Shape := ⟨3, ![8, 6, 1024]⟩
abbrev S1024x2816 : Shape := ⟨2, ![1024, 2816]⟩
abbrev S2816x1024 : Shape := ⟨2, ![2816, 1024]⟩
abbrev S8x1x1024 : Shape := ⟨3, ![8, 1, 1024]⟩
abbrev S8x1024 : Shape := ⟨2, ![8, 1024]⟩
abbrev S8x4096x2816 : Shape := ⟨3, ![8, 4096, 2816]⟩
abbrev S_ : Shape := ⟨0, ![]⟩
abbrev S1x1024 : Shape := ⟨2, ![1, 1024]⟩
abbrev S1024 : Shape := ⟨1, ![1024]⟩
abbrev S8x256x2816 : Shape := ⟨3, ![8, 256, 2816]⟩
abbrev S1x1x1024 : Shape := ⟨3, ![1, 1, 1024]⟩
abbrev S8x4352x1024 : Shape := ⟨3, ![8, 4352, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x1024, .f32⟩
  | .hbm, ⟨3, _⟩ => ⟨S8x4096x1024, .f32⟩
  | .hbm, ⟨4, _⟩ => ⟨S6x1024, .f32⟩
  | .hbm, ⟨5, _⟩ => ⟨S8x6x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x4096x2816, .f32⟩
  | .hbm, ⟨13, _⟩ => ⟨S8x4096x2816, .f32⟩
  | .hbm, ⟨14, _⟩ => ⟨S8x4096x2816, .f32⟩
  | .hbm, ⟨15, _⟩ => ⟨S_, .f32⟩
  | .hbm, ⟨16, _⟩ => ⟨S8x4096x2816, .f32⟩
  | .hbm, ⟨17, _⟩ => ⟨S8x4096x2816, .f32⟩
  | .hbm, ⟨18, _⟩ => ⟨S_, .f32⟩
  | .hbm, ⟨19, _⟩ => ⟨S8x4096x2816, .f32⟩
  | .hbm, ⟨20, _⟩ => ⟨S8x4096x2816, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1x1024, .f32⟩
  | .hbm, ⟨29, _⟩ => ⟨S1024, .f32⟩
  | .hbm, ⟨30, _⟩ => ⟨S8x256x2816, .f32⟩
  | .hbm, ⟨31, _⟩ => ⟨S8x256x2816, .f32⟩
  | .hbm, ⟨32, _⟩ => ⟨S8x256x2816, .f32⟩
  | .hbm, ⟨33, _⟩ => ⟨S_, .f32⟩
  | .hbm, ⟨34, _⟩ => ⟨S8x256x2816, .f32⟩
  | .hbm, ⟨35, _⟩ => ⟨S8x256x2816, .f32⟩
  | .hbm, ⟨36, _⟩ => ⟨S_, .f32⟩
  | .hbm, ⟨37, _⟩ => ⟨S8x256x2816, .f32⟩
  | .hbm, ⟨38, _⟩ => ⟨S8x256x2816, .f32⟩
  | .hbm, ⟨39, _⟩ => ⟨S8x256x2816, .f32⟩
  | .hbm, ⟨40, _⟩ => ⟨S8x256x2816, .f32⟩
  | .hbm, ⟨41, _⟩ => ⟨S8x256x2816, .f32⟩
  | .hbm, ⟨42, _⟩ => ⟨S8x256x1024, .f32⟩
  | .hbm, ⟨43, _⟩ => ⟨S1x1x1024, .f32⟩
  | .hbm, ⟨44, _⟩ => ⟨S8x256x1024, .f32⟩
  | .hbm, ⟨45, _⟩ => ⟨S8x256x1024, .f32⟩
  | .hbm, ⟨46, _⟩ => ⟨S8x256x1024, .f32⟩
  | .hbm, ⟨47, _⟩ => ⟨S8x4352x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩

abbrev nD : Nat := 1
abbrev τ : Topo := Topo.v7x

variable {F : FTy → Type} [FloatOps F]
-- ==== Kernel3.lean ====
abbrev S8x256x1024 : Shape := ⟨3, ![8, 256, 1024]⟩
abbrev S8x256x256 : Shape := ⟨3, ![8, 256, 256]⟩
abbrev S8x4096x1024 : Shape := ⟨3, ![8, 4096, 1024]⟩
abbrev S8x4096x256 : Shape := ⟨3, ![8, 4096, 256]⟩
abbrev S16 : Shape := ⟨1, ![16]⟩
abbrev S_ : Shape := ⟨0, ![]⟩
abbrev S8x256x1536 : Shape := ⟨3, ![8, 256, 1536]⟩
abbrev S8x4096x1536 : Shape := ⟨3, ![8, 4096, 1536]⟩
abbrev S8x4352x1536 : Shape := ⟨3, ![8, 4352, 1536]⟩
abbrev S16x1 : Shape := ⟨2, ![16, 1]⟩
abbrev S16x128 : Shape := ⟨2, ![16, 128]⟩
abbrev S8x4352x1024 : Shape := ⟨3, ![8, 4352, 1024]⟩
abbrev S1x256x1024 : Shape := ⟨3, ![1, 256, 1024]⟩
abbrev S1x128x256 : Shape := ⟨3, ![1, 128, 256]⟩
abbrev S1x256x256 : Shape := ⟨3, ![1, 256, 256]⟩
abbrev S128x256 : Shape := ⟨2, ![128, 256]⟩
abbrev S256x256 : Shape := ⟨2, ![256, 256]⟩
abbrev S768x256 : Shape := ⟨2, ![768, 256]⟩
abbrev S256x768 : Shape := ⟨2, ![256, 768]⟩
abbrev S1x256x64 : Shape := ⟨3, ![1, 256, 64]⟩
abbrev S256x64 : Shape := ⟨2, ![256, 64]⟩
abbrev S768x64 : Shape := ⟨2, ![768, 64]⟩
abbrev S1x1 : Shape := ⟨2, ![1, 1]⟩
abbrev S256 : Shape := ⟨1, ![256]⟩
abbrev S256x1 : Shape := ⟨2, ![256, 1]⟩
abbrev S256x1024 : Shape := ⟨2, ![256, 1024]⟩

abbrev nBuf : Space → Nat
  | .hbm => 20
  | .vmem => 21
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .hbm, ⟨2, _⟩ => ⟨S8x256x256, .f32⟩
  | .hbm, ⟨3, _⟩ => ⟨S8x4096x1024, .f32⟩
  | .hbm, ⟨4, _⟩ => ⟨S8x4096x256, .f32⟩
  | .hbm, ⟨5, _⟩ => ⟨S8x4096x256, .f32⟩
  | .hbm, ⟨6, _⟩ => ⟨S16, .f32⟩
  | .hbm, ⟨7, _⟩ => ⟨S_, .f32⟩
  | .hbm, ⟨8, _⟩ => ⟨S8x256x1024, .f32⟩
  | .hbm, ⟨9, _⟩ => ⟨S8x256x1024, .f32⟩
  | .hbm, ⟨10, _⟩ => ⟨S8x256x1536, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1536, .f32⟩
  | .hbm, ⟨15, _⟩ => ⟨S8x4352x1536, .f32⟩
  | .hbm, ⟨16, _⟩ => ⟨S8x4352x1536, .bf16⟩
  | .hbm, ⟨17, _⟩ => ⟨S16x1, .f32⟩
  | .hbm, ⟨18, _⟩ => ⟨S16x128, .f32⟩
  | .hbm, ⟨19, _⟩ => ⟨S8x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x256x256, .bf16⟩
  | .local _ .vmem, ⟨17, _⟩ => ⟨S1x256x256, .bf16⟩
  | .local _ .vmem, ⟨18, _⟩ => ⟨S16x128, .f32⟩
  | .local _ .vmem, ⟨19, _⟩ => ⟨S1x256x1024, .bf16⟩
  | .local _ .vmem, ⟨20, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c33_i32 : BitVec 32 := 33#32
  let v2 : BitVec 32 := Scalar.minsi v1 c33_i32
  let c4_i32 : BitVec 32 := 4#32
  let c0_i32 : BitVec 32 := 0#32
  ![arg0.toNat, v2.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c33_i32 : BitVec 32 := 33#32
  let v2 : BitVec 32 := Scalar.minsi v1 c33_i32
  let c5_i32 : BitVec 32 := 5#32
  let c0_i32 : BitVec 32 := 0#32
  ![arg0.toNat, v2.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S8x256x1024 : Shape := ⟨3, ![8, 256, 1024]⟩
abbrev S8x256x256 : Shape := ⟨3, ![8, 256, 256]⟩
abbrev S8x4096x1024 : Shape := ⟨3, ![8, 4096, 1024]⟩
abbrev S8x4096x256 : Shape := ⟨3, ![8, 4096, 256]⟩
abbrev S16 : Shape := ⟨1, ![16]⟩
abbrev S4x4 : Shape := ⟨2, ![4, 4]⟩
abbrev S8x256x4x4x64 : Shape := ⟨5, ![8, 256, 4, 4, 64]⟩
abbrev S8x256x4x64 : Shape := ⟨4, ![8, 256, 4, 64]⟩
abbrev S8x4096x4x4x64 : Shape := ⟨5, ![8, 4096, 4, 4, 64]⟩
abbrev S8x4096x4x64 : Shape := ⟨4, ![8, 4096, 4, 64]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S1x4x4x1x1 : Shape := ⟨5, ![1, 4, 4, 1, 1]⟩
abbrev S8x4x4x256x1 : Shape := ⟨5, ![8, 4, 4, 256, 1]⟩
abbrev S8x4x4x256x257 : Shape := ⟨5, ![8, 4, 4, 256, 257]⟩
abbrev S8x4x4x256 : Shape := ⟨4, ![8, 4, 4, 256]⟩
abbrev S8x4x64x4x256 : Shape := ⟨5, ![8, 4, 64, 4, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x4096x4096x4 : Shape := ⟨5, ![8, 4, 4096, 4096, 4]⟩
abbrev S8x4x4x4096x4096 : Shape := ⟨5, ![8, 4, 4, 4096, 4096]⟩
abbrev S8x4x256x4096x4 : Shape := ⟨5, ![8, 4, 256, 4096, 4]⟩
abbrev S8x4x4x4096x256 : Shape := ⟨5, ![8, 4, 4, 4096, 256]⟩
abbrev S8x4x4x4096x4352 : Shape := ⟨5, ![8, 4, 4, 4096, 4352]⟩
abbrev S8x4x4x4096x1 : Shape := ⟨5, ![8, 4, 4, 4096, 1]⟩
abbrev S8x4x4x4096x4353 : Shape := ⟨5, ![8, 4, 4, 4096, 4353]⟩
abbrev S8x4x4x4096 : Shape := ⟨4, ![8, 4, 4, 4096]⟩
abbrev S8x4x64x4x4096 : Shape := ⟨5, ![8, 4, 64, 4, 4096]⟩
abbrev S8x4352x1024 : Shape := ⟨3, ![8, 4352, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .hbm, ⟨2, _⟩ => ⟨S8x256x256, .f32⟩
  | .hbm, ⟨3, _⟩ => ⟨S8x4096x1024, .f32⟩
  | .hbm, ⟨4, _⟩ => ⟨S8x4096x256, .f32⟩
  | .hbm, ⟨5, _⟩ => ⟨S8x4096x256, .f32⟩
  | .hbm, ⟨6, _⟩ => ⟨S16, .f32⟩
  | .hbm, ⟨7, _⟩ => ⟨S4x4, .f32⟩
  | .hbm, ⟨8, _⟩ => ⟨S8x256x4x4x64, .f32⟩
  | .hbm, ⟨9, _⟩ => ⟨S8x256x4x64, .f32⟩
  | .hbm, ⟨10, _⟩ => ⟨S8x256x4x64, .f32⟩
  | .hbm, ⟨11, _⟩ => ⟨S8x4096x4x4x64, .f32⟩
  | .hbm, ⟨12, _⟩ => ⟨S8x4096x4x64, .f32⟩
  | .hbm, ⟨13, _⟩ => ⟨S8x4096x4x64, .f32⟩
  | .hbm, ⟨14, _⟩ => ⟨S8x4x256x256x4, .f32⟩
  | .hbm, ⟨15, _⟩ => ⟨S8x4x4x256x256, .f32⟩
  | .hbm, ⟨16, _⟩ => ⟨S_, .f32⟩
  | .hbm, ⟨17, _⟩ => ⟨S8x4x4x256x256, .f32⟩
  | .hbm, ⟨18, _⟩ => ⟨S8x4x4x256x256, .f32⟩
  | .hbm, ⟨19, _⟩ => ⟨S1x4x4x1x1, .f32⟩
  | .hbm, ⟨20, _⟩ => ⟨S8x4x4x256x1, .f32⟩
  | .hbm, ⟨21, _⟩ => ⟨S8x4x4x256x257, .f32⟩
  | .hbm, ⟨22, _⟩ => ⟨S_, .f32⟩
  | .hbm, ⟨23, _⟩ => ⟨S8x4x4x256, .f32⟩
  | .hbm, ⟨24, _⟩ => ⟨S_, .f32⟩
  | .hbm, ⟨25, _⟩ => ⟨S8x4x4x256, .f32⟩
  | .hbm, ⟨26, _⟩ => ⟨S8x4x4x256, .f32⟩
  | .hbm, ⟨27, _⟩ => ⟨S8x4x4x256x1, .f32⟩
  | .hbm, ⟨28, _⟩ => ⟨S8x4x4x256x257, .f32⟩
  | .hbm, ⟨29, _⟩ => ⟨S8x4x4x256x257, .f32⟩
  | .hbm, ⟨30, _⟩ => ⟨S8x4x4x256x257, .f32⟩
  | .hbm, ⟨31, _⟩ => ⟨S_, .f32⟩
  | .hbm, ⟨32, _⟩ => ⟨S8x4x4x256, .f32⟩
  | .hbm, ⟨33, _⟩ => ⟨S8x4x4x256x1, .f32⟩
  | .hbm, ⟨34, _⟩ => ⟨S8x4x4x256x257, .f32⟩
  | .hbm, ⟨35, _⟩ => ⟨S8x4x4x256x257, .f32⟩
  | .hbm, ⟨36, _⟩ => ⟨S8x4x4x256x256, .f32⟩
  | .hbm, ⟨37, _⟩ => ⟨S8x4x64x4x256, .f32⟩
  | .hbm, ⟨38, _⟩ => ⟨S8x256x4x4x64, .f32⟩
  | .hbm, ⟨39, _⟩ => ⟨S8x256x1024, .f32⟩
  | .hbm, ⟨40, _⟩ => ⟨S4096, .i32⟩
  | .hbm, ⟨41, _⟩ => ⟨S4096x1, .i32⟩
  | .hbm, ⟨42, _⟩ => ⟨S1x4096, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S4096x4096, .i32⟩
  | .hbm, ⟨47, _⟩ => ⟨S_, .i32⟩
  | .hbm, ⟨48, _⟩ => ⟨S4096x4096, .i32⟩
  | .hbm, ⟨49, _⟩ => ⟨S4096x4096, .i1⟩
  | .hbm, ⟨50, _⟩ => ⟨S8x4x4096x4096x4, .f32⟩
  | .hbm, ⟨51, _⟩ => ⟨S8x4x4x4096x4096, .f32⟩
  | .hbm, ⟨52, _⟩ => ⟨S_, .f32⟩
  | .hbm, ⟨53, _⟩ => ⟨S8x4x4x4096x4096, .f32⟩
  | .hbm, ⟨54, _⟩ => ⟨S8x4x4x4096x4096, .f32⟩
  | .hbm, ⟨55, _⟩ => ⟨S_, .f32⟩
  | .hbm, ⟨56, _⟩ => ⟨S_, .f32⟩
  | .hbm, ⟨57, _⟩ => ⟨S8x4x4x4096x4096, .i1⟩
  | .hbm, ⟨58, _⟩ => ⟨S8x4x4x4096x4096, .f32⟩
  | .hbm, ⟨59, _⟩ => ⟨S8x4x4x4096x4096, .f32⟩
  | .hbm, ⟨60, _⟩ => ⟨S8x4x256x4096x4, .f32⟩
  | .hbm, ⟨61, _⟩ => ⟨S8x4x4x4096x256, .f32⟩
  | .hbm, ⟨62, _⟩ => ⟨S_, .f32⟩
  | .hbm, ⟨63, _⟩ => ⟨S8x4x4x4096x256, .f32⟩
  | .hbm, ⟨64, _⟩ => ⟨S8x4x4x4096x256, .f32⟩
  | .hbm, ⟨65, _⟩ => ⟨S8x4x4x4096x4352, .f32⟩
  | .hbm, ⟨66, _⟩ => ⟨S1x4x4x1x1, .f32⟩
  | .hbm, ⟨67, _⟩ => ⟨S8x4x4x4096x1, .f32⟩
  | .hbm, ⟨68, _⟩ => ⟨S8x4x4x4096x4353, .f32⟩
  | .hbm, ⟨69, _⟩ => ⟨S_, .f32⟩
  | .hbm, ⟨70, _⟩ => ⟨S8x4x4x4096, .f32⟩
  | .hbm, ⟨71, _⟩ => ⟨S_, .f32⟩
  | .hbm, ⟨72, _⟩ => ⟨S8x4x4x4096, .f32⟩
  | .hbm, ⟨73, _⟩ => ⟨S8x4x4x4096, .f32⟩
  | .hbm, ⟨74, _⟩ => ⟨S8x4x4x4096x1, .f32⟩
  | .hbm, ⟨75, _⟩ => ⟨S8x4x4x4096x4353, .f32⟩
  | .hbm, ⟨76, _⟩ => ⟨S8x4x4x4096x4353, .f32⟩
  | .hbm, ⟨77, _⟩ => ⟨S8x4x4x4096x4353, .f32⟩
  | .hbm, ⟨78, _⟩ => ⟨S_, .f32⟩
  | .hbm, ⟨79, _⟩ => ⟨S8x4x4x4096, .f32⟩
  | .hbm, ⟨80, _⟩ => ⟨S8x4x4x4096x1, .f32⟩
  | .hbm, ⟨81, _⟩ => ⟨S8x4x4x4096x4353, .f32⟩
  | .hbm, ⟨82, _⟩ => ⟨S8x4x4x4096x4353, .f32⟩
  | .hbm, ⟨83, _⟩ => ⟨S8x4x4x4096x4352, .f32⟩
  | .hbm, ⟨84, _⟩ => ⟨S8x4x4x4096x4096, .f32⟩
  | .hbm, ⟨85, _⟩ => ⟨S8x4x64x4x4096, .f32⟩
  | .hbm, ⟨86, _⟩ => ⟨S8x4096x4x4x64, .f32⟩
  | .hbm, ⟨87, _⟩ => ⟨S8x4x4x4096x256, .f32⟩
  | .hbm, ⟨88, _⟩ => ⟨S8x4x64x4x4096, .f32⟩
  | .hbm, ⟨89, _⟩ => ⟨S8x4096x4x4x64, .f32⟩
  | .hbm, ⟨90, _⟩ => ⟨S8x4096x4x4x64, .f32⟩
  | .hbm, ⟨91, _⟩ => ⟨S8x4096x1024, .f32⟩
  | .hbm, ⟨92, _⟩ => ⟨S8x4352x1024, .f32⟩
  | .hbm, ⟨93, _⟩ => ⟨S8x4352x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel4.lean ====
abbrev S8x256x1024 : Shape := ⟨3, ![8, 256, 1024]⟩
abbrev S8x4096x1024 : Shape := ⟨3, ![8, 4096, 1024]⟩
abbrev S1024 : Shape := ⟨1, ![1024]⟩
abbrev S8x4352x1024 : Shape := ⟨3, ![8, 4352, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024, .f32⟩
  | .hbm, ⟨3, _⟩ => ⟨S8x4352x1024, .f32⟩
  | .hbm, ⟨4, _⟩ => ⟨S1x1024, .f32⟩
  | .hbm, ⟨5, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x256x1024 : Shape := ⟨3, ![8, 256, 1024]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Attn.Softmax.lean ====
/- Attention over two families of keys (the band's and the context's) with one extra score that carries no value (the sink):
   the quotient formed at the end, the weights formed first, and the sum over a gathered run of keys are one and the same. -/
module

public import Idealize.ShloMosaic.PureOps.Ideal
public import Idealize.ShloMosaic.Lib.Pointwise

@[expose] public section

noncomputable section

namespace Cert.Attn

open Idealize.ShloMosaic

/-- The largest of a family of scores, `⊥` if there is none. -/
def top {n : Nat} (s : Fin n → EReal) : EReal := Finset.fold max ⊥ s Finset.univ

theorem top_le {n : Nat} (s : Fin n → EReal) (b : EReal) : top s ≤ b ↔ ∀ i, s i ≤ b := by
  unfold top
  rw [Finset.fold_max_le]
  simp

/-- The attention's entry: band scores `sl`, context scores `sc`, sink `k`, the two families' values `vl` and `vc`. -/
def attn {a b : Nat} (sl : Fin a → EReal) (sc : Fin b → EReal) (k : EReal) (vl : Fin a → EReal) (vc : Fin b → EReal) : EReal :=
  Ideal.div (∑ t, Ideal.exp (sl t - max (max (top sl) (top sc)) k) * vl t + ∑ c, Ideal.exp (sc c - max (max (top sl) (top sc)) k) * vc c)
    (∑ t, Ideal.exp (sl t - max (max (top sl) (top sc)) k) + ∑ c, Ideal.exp (sc c - max (max (top sl) (top sc)) k)
      + Ideal.exp (k - max (max (top sl) (top sc)) k))

/-- A masked score weighs nothing. -/
theorem exp_bot_sub (x : EReal) : Ideal.exp (⊥ - x) = 0 := by
  rw [EReal.bot_sub]; rfl

/-- The entry as the kernel forms it, over one run of scores. -/
def kern {n : Nat} (s : Fin n → EReal) (k : EReal) (v : Fin n → EReal) : EReal :=
  Ideal.div (∑ c, Ideal.exp (s c - max (top s) k) * v c) (∑ c, Ideal.exp (s c - max (top s) k) + Ideal.exp (k - max (top s) k))

section Gather

variable {w a b : Nat} (s : Fin (w + b) → EReal) (v : Fin (w + b) → EReal) (sl : Fin a → EReal) (sc : Fin b → EReal)
  (vl : Fin a → EReal) (vc : Fin b → EReal) (V : Fin w → Prop) (key : Fin w → Fin a)

/-- The kernel's run of scores holds `w` gathered keys (some masked) and then the context's: its entry is the attention over all keys. -/
theorem kern_eq (k : EReal) (hinj : ∀ i j, V i → V j → key i = key j → i = j)
    (hs : ∀ i, V i → s (Fin.castAdd b i) = sl (key i)) (hn : ∀ i, ¬ V i → s (Fin.castAdd b i) = ⊥)
    (hv : ∀ i, V i → v (Fin.castAdd b i) = vl (key i)) (hout : ∀ t, (∀ i, V i → key i ≠ t) → sl t = ⊥)
    (hsc : ∀ c, s (Fin.natAdd w c) = sc c) (hvc : ∀ c, v (Fin.natAdd w c) = vc c) :
    kern s k v = attn sl sc k vl vc := by
  classical
  have hM : top s = max (top sl) (top sc) := by
    refine eq_of_forall_ge_iff fun x => ?_
    rw [max_le_iff, top_le, top_le, top_le]
    constructor
    · intro h
      refine ⟨fun t => ?_, fun c => (hsc c) ▸ h _⟩
      by_cases ht : ∃ i, V i ∧ key i = t
      · obtain ⟨i, hi, rfl⟩ := ht
        exact (hs i hi) ▸ h _
      · rw [hout t fun i hi he => ht ⟨i, hi, he⟩]
        exact bot_le
    · rintro ⟨h1, h2⟩ i
      refine Fin.addCases (fun j => ?_) (fun c => ?_) i
      · by_cases hj : V j
        · rw [hs j hj]; exact h1 _
        · rw [hn j hj]; exact bot_le
      · rw [hsc c]; exact h2 c
  have hsum : ∀ (f : Fin w → EReal) (g : Fin a → EReal), (∀ i, V i → f i = g (key i)) → (∀ i, ¬ V i → f i = 0)
      → (∀ t, (∀ i, V i → key i ≠ t) → g t = 0) → ∑ i, f i = ∑ t, g t := by
    intro f g h1 h2 h3
    have e : ∑ i, f i = ∑ i ∈ Finset.univ.filter V, f i := by
      rw [Finset.sum_filter]
      refine Finset.sum_congr rfl fun i _ => ?_
      by_cases hi : V i
      · rw [if_pos hi]
      · rw [if_neg hi, h2 i hi]
    rw [e]
    refine Finset.sum_of_injOn key ?_ ?_ ?_ ?_
    · intro i hi j hj he
      exact hinj i j (by simpa using hi) (by simpa using hj) he
    · intro i _; simp
    · intro t _ ht
      refine h3 t fun i hi he => ht ⟨i, ?_, he⟩
      simpa using hi
    · intro i hi
      exact h1 i (by simpa using hi)
  unfold kern attn
  rw [hM]
  generalize max (max (top sl) (top sc)) k = M
  congr 1
  · rw [Fin.sum_univ_add]
    congr 1
    · refine hsum _ _ (fun i hi => by rw [hs i hi, hv i hi]) (fun i hi => by rw [hn i hi, exp_bot_sub, zero_mul])
        (fun t ht => by rw [hout t ht, exp_bot_sub, zero_mul])
    · exact Finset.sum_congr rfl fun c _ => by rw [hsc, hvc]
  · rw [Fin.sum_univ_add]
    congr 2
    · refine hsum _ _ (fun i hi => by rw [hs i hi]) (fun i hi => by rw [hn i hi, exp_bot_sub])
        (fun t ht => by rw [hout t ht, exp_bot_sub])
    · exact Finset.sum_congr rfl fun c _ => by rw [hsc]

end Gather

/-- A sum times a finite nonnegative number. -/
theorem sum_mul_coe {ι : Type*} (s : Finset ι) (f : ι → EReal) (d : ℝ) (hd : 0 ≤ d) :
    (∑ i ∈ s, f i) * (d : EReal) = ∑ i ∈ s, f i * (d : EReal) := by
  classical
  induction s using Finset.induction_on with
  | empty => simp
  | insert x s hx ih =>
    rw [Finset.sum_insert hx, Finset.sum_insert hx, ← ih]
    exact EReal.right_distrib_of_nonneg_of_ne_top (by exact_mod_cast hd) (EReal.coe_ne_top d) _ _

/-- A finite sum of finite numbers is their real sum. -/
theorem coe_sum' {ι : Type*} (s : Finset ι) (f : ι → ℝ) : ∑ i ∈ s, (f i : EReal) = ((∑ i ∈ s, f i : ℝ) : EReal) := by
  classical
  induction s using Finset.induction_on with
  | empty => simp
  | insert x s hx ih => rw [Finset.sum_insert hx, Finset.sum_insert hx, ih, EReal.coe_add]

/-- A score below `⊤` weighs a finite nonnegative amount against a finite maximum. -/
theorem exp_sub_real (x : EReal) (hx : x ≠ ⊤) (M : ℝ) : ∃ e : ℝ, 0 ≤ e ∧ Ideal.exp (x - (M : EReal)) = (e : EReal) := by
  induction x with
  | bot => exact ⟨0, le_refl _, by rw [exp_bot_sub]; rfl⟩
  | top => exact absurd rfl hx
  | coe r => exact ⟨Real.exp (r - M), (Real.exp_pos _).le, rfl⟩

/-- The weight of score `x i` among the scores `x`: the softmax. -/
def soft {n : Nat} (x : Fin n → EReal) (i : Fin n) : EReal :=
  Ideal.div (Ideal.exp (x i - top x)) (∑ j, Ideal.exp (x j - top x))

/-- Weights first, over band, context and sink in one row, then the sum of the values: the attention's entry, where the sink is finite
    and no score is `⊤`. -/
theorem soft_eq {a b : Nat} (x : Fin (a + b + 1) → EReal) (sl : Fin a → EReal) (sc : Fin b → EReal) (k : ℝ)
    (vl : Fin a → EReal) (vc : Fin b → EReal)
    (h1 : ∀ t, x (Fin.castSucc (Fin.castAdd b t)) = sl t) (h2 : ∀ c, x (Fin.castSucc (Fin.natAdd a c)) = sc c) (h3 : x (Fin.last _) = (k : EReal))
    (hl : ∀ t, sl t ≠ ⊤) (hc : ∀ c, sc c ≠ ⊤) :
    ∑ t, soft x (Fin.castSucc (Fin.castAdd b t)) * vl t + ∑ c, soft x (Fin.castSucc (Fin.natAdd a c)) * vc c = attn sl sc k vl vc := by
  have hM : top x = max (max (top sl) (top sc)) (k : EReal) := by
    refine eq_of_forall_ge_iff fun y => ?_
    rw [max_le_iff, max_le_iff, top_le, top_le, top_le]
    constructor
    · intro h
      exact ⟨⟨fun t => h1 t ▸ h _, fun c => h2 c ▸ h _⟩, h3 ▸ h _⟩
    · rintro ⟨⟨g1, g2⟩, g3⟩ i
      refine Fin.lastCases ?_ (fun j => ?_) i
      · rw [h3]; exact g3
      · refine Fin.addCases (fun t => ?_) (fun c => ?_) j
        · rw [h1]; exact g1 t
        · rw [h2]; exact g2 c
  have lt_top : ∀ {n : Nat} (s : Fin n → EReal), (∀ i, s i ≠ ⊤) → top s < ⊤ := by
    intro n s hs
    unfold top
    rw [Finset.fold_max_lt]
    exact ⟨bot_lt_top, fun i _ => lt_top_iff_ne_top.mpr (hs i)⟩
  obtain ⟨M, hMr⟩ : ∃ M : ℝ, max (max (top sl) (top sc)) (k : EReal) = (M : EReal) := by
    have u1 : max (max (top sl) (top sc)) (k : EReal) ≠ ⊤ :=
      (max_lt (max_lt (lt_top sl hl) (lt_top sc hc)) (EReal.coe_lt_top k)).ne
    have u2 : max (max (top sl) (top sc)) (k : EReal) ≠ ⊥ := (lt_of_lt_of_le (EReal.bot_lt_coe k) (le_max_right _ _)).ne'
    exact ⟨_, (EReal.coe_toReal u1 u2).symm⟩
  unfold attn soft
  rw [hM, hMr]
  have hD : ∑ j, Ideal.exp (x j - (M : EReal)) = ∑ t, Ideal.exp (sl t - (M : EReal)) + ∑ c, Ideal.exp (sc c - (M : EReal)) + Ideal.exp ((k : EReal) - (M : EReal)) := by
    rw [Fin.sum_univ_castSucc, Fin.sum_univ_add]
    simp only [h1, h2, h3]
  rw [hD]
  choose el hel0 hel using fun t => exp_sub_real (sl t) (hl t) M
  choose ec hec0 hec using fun c => exp_sub_real (sc c) (hc c) M
  have hk : Ideal.exp ((k : EReal) - (M : EReal)) = (Real.exp (k - M) : EReal) := rfl
  simp only [h1, h2, hel, hec, hk]
  rw [coe_sum', coe_sum', ← EReal.coe_add, ← EReal.coe_add]
  have hpos : 0 < ∑ t, el t + ∑ c, ec c + Real.exp (k - M) :=
    add_pos_of_nonneg_of_pos (add_nonneg (Finset.sum_nonneg fun t _ => hel0 t) (Finset.sum_nonneg fun c _ => hec0 c)) (Real.exp_pos _)
  generalize ∑ t, el t + ∑ c, ec c + Real.exp (k - M) = D at hpos
  have hdiv : ∀ y : EReal, Ideal.div y (D : EReal) = y * ((D⁻¹ : ℝ) : EReal) := by
    intro y
    unfold Ideal.div
    rw [if_neg (by exact_mod_cast hpos.ne'), EReal.coe_inv]
  simp only [hdiv]
  have hi : 0 ≤ D⁻¹ := (inv_pos.mpr hpos).le
  rw [EReal.right_distrib_of_nonneg_of_ne_top (by exact_mod_cast hi) (EReal.coe_ne_top _), sum_mul_coe _ _ _ hi, sum_mul_coe _ _ _ hi]
  congr 1 <;> exact Finset.sum_congr rfl fun i _ => by rw [mul_assoc, mul_comm ((D⁻¹ : ℝ) : EReal), ← mul_assoc]

/-- With no band key at all (every band score masked) the row may hold the context and the sink alone. -/
theorem soft_ctx_eq {a b : Nat} (x : Fin (b + 1) → EReal) (sc : Fin b → EReal) (k : ℝ) (vl : Fin a → EReal) (vc : Fin b → EReal)
    (h2 : ∀ c, x (Fin.castSucc c) = sc c) (h3 : x (Fin.last _) = (k : EReal)) (hc : ∀ c, sc c ≠ ⊤) :
    ∑ c, soft x (Fin.castSucc c) * vc c = attn (fun _ : Fin a => ⊥) sc k vl vc := by
  have key := soft_eq (a := 0) (b := b) (fun i => x (Fin.cast (by omega) i)) (fun t => t.elim0) sc k (fun t => t.elim0) vc
    (fun t => t.elim0) (fun c => by rw [← h2 c]; congr 1; apply Fin.ext; simp) (by rw [← h3]; congr 1; apply Fin.ext; simp)
    (fun t => t.elim0) hc
  have hs : ∀ c : Fin b, soft (fun i : Fin (0 + b + 1) => x (Fin.cast (by omega) i)) (Fin.castSucc (Fin.natAdd 0 c)) = soft x (Fin.castSucc c) := by
    intro c
    have ht : top (fun i : Fin (0 + b + 1) => x (Fin.cast (by omega) i)) = top x := by
      refine eq_of_forall_ge_iff fun y => ?_
      rw [top_le, top_le]
      exact ⟨fun h i => h (Fin.cast (by omega) i), fun h i => h _⟩
    unfold soft
    rw [ht]
    have hx : x (Fin.cast (by omega) (Fin.castSucc (Fin.natAdd 0 c))) = x (Fin.castSucc c) := by
      congr 1; apply Fin.ext; simp
    congr 1
    · exact congrArg (fun y => Ideal.exp (y - top x)) hx
    · exact Equiv.sum_comp (finCongr (by omega)) (fun j : Fin (b + 1) => Ideal.exp (x j - top x))
  simp only [hs, Finset.univ_eq_empty, Finset.sum_empty, zero_add] at key
  rw [key]
  have t0 : top (fun t : Fin 0 => (t.elim0 : EReal)) = ⊥ := rfl
  have t1 : top (fun _ : Fin a => (⊥ : EReal)) = ⊥ := le_antisymm ((top_le _ _).mpr fun _ => le_refl _) bot_le
  unfold attn
  simp only [t0, t1, exp_bot_sub, zero_mul, Finset.sum_const_zero, Finset.univ_eq_empty, Finset.sum_empty, zero_add]

end Cert.Attn

end
-- ==== Proof.Attn.Heads.lean ====
/- One head of the attention's body: its sixteen spellings in the body's text read at a row and column, as one softmax-weighted sum. -/
module

public import proofs.«01_k».proof.Defs
public import proofs.«01_k».proof.Proof.Gen.Kernel3Ideal.Value
public import Idealize.ShloMosaic.Lib.Pipeline.Value
public import Idealize.ShloMosaic.Lib.Pointwise
public import proofs.«01_k».proof.Proof.Attn.Softmax

@[expose] public section

set_option maxRecDepth 16384

noncomputable section

namespace Cert.Attn

open Idealize.ShloMosaic Idealize.ShloMosaic.TcCoe Idealize.SL.Sem
open Cert.Kernel3Ideal Cert.Kernel3Ideal.Gen

/-- The word the maxima start from is minus infinity. -/
theorem neg_inf : Ideal.ofBits .f32 4286578688#32 = ⊥ := by
  simp [Ideal.ofBits, Ideal.ieee]

/-- The mask's constant is minus infinity. -/
theorem mask_bot : (Named.named κ "mask" 4048155338#32 : Ideal .f32) = (⊥ : EReal) :=
  IdealRules.named_const.ideal_named_scalar _ _ _ _ rfl

/-- A bit's choice between two values. -/
theorem pick (b : BitVec 1) (x y : EReal) : Scalar.select b x y = if b = 1#1 then x else y := rfl

/-- Column `e` of key-value head `g` among the four heads' columns. -/
def kvc (g : Fin 4) (e : Fin 64) : Fin 256 := ⟨g.val * 64 + e.val, by omega⟩

/-- One head's score of row `r` against key `c`: the product of query and key, `⊥` where the mask is off. -/
def sco (g : Fin 4) (M : IVec S256x768 1) (q : Vec Ideal S1x256x64 .bf16) (K : FVec Ideal S768x256 .bf16) (r : Fin 256) (c : Fin 768) : EReal :=
  if M (ix2 r c) = 1#1 then ∑ e : Fin 64, q (ix3 0 r e) * K (ix2 c (kvc g e)) else ⊥

/-- One head's result at row `r`, column `d`. -/
def hd (g : Fin 4) (M : IVec S256x768 1) (q : Vec Ideal S1x256x64 .bf16) (k : Vec Ideal S1x1 .f32) (K V : FVec Ideal S768x256 .bf16) (r : Fin 256) (d : Fin 64) : EReal :=
  kern (sco g M q K r) (k (ix2 0 0)) (fun c => V (ix2 c (kvc g d)))

/-- Head 0. -/
theorem h0 (a : BitVec 32) (K V : FVec Ideal S768x256 .bf16) (v19 v24 v28 : IVec S256x768 32) (b : BitVec 32) (q : Vec Ideal S1x256x64 .bf16) (k : Vec Ideal S1x1 .f32) (r : Fin 256) (d : Fin 64) :
    k0_pay8 a K V v19 v24 v28 b q k (ix2 r d) = hd 0 (k0_pay7 a v19 v24 v28 b) q k K V r d := by
  generalize hM : k0_pay7 a v19 v24 v28 b = M
  unfold hd kern sco top
  pointwise [k0_pay8, hM, neg_inf, mask_bot, pick, kvc]

/-- Head 1. -/
theorem h1 (K V : FVec Ideal S768x256 .bf16) (M : IVec S256x768 1) (q : Vec Ideal S1x256x64 .bf16) (k : Vec Ideal S1x1 .f32) (r : Fin 256) (d : Fin 64) :
    k0_pay10 K V M (k0_pay9 q) k (ix2 r d) = hd 0 M q k K V r d := by
  unfold hd kern sco top
  pointwise [k0_pay10, k0_pay9, neg_inf, mask_bot, pick, kvc]

/-- Head 2. -/
theorem h2 (K V : FVec Ideal S768x256 .bf16) (M : IVec S256x768 1) (q : Vec Ideal S1x256x64 .bf16) (k : Vec Ideal S1x1 .f32) (r : Fin 256) (d : Fin 64) :
    k0_pay18 (k0_pay11 V) (k0_pay14 K M q k) (k0_pay15 K M q k) (k0_pay16 K M q k) (k0_pay17 k) (ix2 r d) = hd 0 M q k K V r d := by
  unfold hd kern sco top
  pointwise [k0_pay11, k0_pay12, k0_pay13, k0_pay14, k0_pay15, k0_pay16, k0_pay17, k0_pay18, neg_inf, mask_bot, pick, kvc]

/-- Head 3. -/
theorem h3 (K V : FVec Ideal S768x256 .bf16) (M : IVec S256x768 1) (q : Vec Ideal S1x256x64 .bf16) (k : Vec Ideal S1x1 .f32) (r : Fin 256) (d : Fin 64) :
    k0_pay19 K V M q k (ix2 r d) = hd 0 M q k K V r d := by
  unfold hd kern sco top
  pointwise [k0_pay19, neg_inf, mask_bot, pick, kvc]

/-- Head 4. -/
theorem h4 (K V : FVec Ideal S768x256 .bf16) (M : IVec S256x768 1) (q : Vec Ideal S1x256x64 .bf16) (k : Vec Ideal S1x1 .f32) (r : Fin 256) (d : Fin 64) :
    k0_pay22 (k0_pay20 V) (k0_pay21 K M q) k (ix2 r d) = hd 1 M q k K V r d := by
  unfold hd kern sco top
  pointwise [k0_pay20, k0_pay21, k0_pay22, neg_inf, mask_bot, pick, kvc]

/-- Head 5. -/
theorem h5 (K V : FVec Ideal S768x256 .bf16) (M : IVec S256x768 1) (q : Vec Ideal S1x256x64 .bf16) (k : Vec Ideal S1x1 .f32) (r : Fin 256) (d : Fin 64) :
    k0_pay23 K V M q k (ix2 r d) = hd 1 M q k K V r d := by
  unfold hd kern sco top
  pointwise [k0_pay23, neg_inf, mask_bot, pick, kvc]

/-- Head 6. -/
theorem h6 (K V : FVec Ideal S768x256 .bf16) (M : IVec S256x768 1) (q : Vec Ideal S1x256x64 .bf16) (k : Vec Ideal S1x1 .f32) (r : Fin 256) (d : Fin 64) :
    k0_pay24 K V M q k (ix2 r d) = hd 1 M q k K V r d := by
  unfold hd kern sco top
  pointwise [k0_pay24, neg_inf, mask_bot, pick, kvc]

/-- Head 7. -/
theorem h7 (K V : FVec Ideal S768x256 .bf16) (M : IVec S256x768 1) (q : Vec Ideal S1x256x64 .bf16) (k : Vec Ideal S1x1 .f32) (r : Fin 256) (d : Fin 64) :
    k0_pay30 (k0_pay25 V) (k0_pay27 k) (k0_pay28 K M q k) (k0_pay29 K M q k) (ix2 r d) = hd 1 M q k K V r d := by
  unfold hd kern sco top
  pointwise [k0_pay25, k0_pay26, k0_pay27, k0_pay28, k0_pay29, k0_pay30, neg_inf, mask_bot, pick, kvc]

/-- Head 8. -/
theorem h8 (K V : FVec Ideal S768x256 .bf16) (M : IVec S256x768 1) (q : Vec Ideal S1x256x64 .bf16) (k : Vec Ideal S1x1 .f32) (r : Fin 256) (d : Fin 64) :
    k0_pay31 K V M q k (ix2 r d) = hd 2 M q k K V r d := by
  unfold hd kern sco top
  pointwise [k0_pay31, neg_inf, mask_bot, pick, kvc]

/-- Head 9. -/
theorem h9 (K V : FVec Ideal S768x256 .bf16) (M : IVec S256x768 1) (q : Vec Ideal S1x256x64 .bf16) (k : Vec Ideal S1x1 .f32) (r : Fin 256) (d : Fin 64) :
    k0_pay34 M (k0_pay32 V) (k0_pay33 K q) k (ix2 r d) = hd 2 M q k K V r d := by
  unfold hd kern sco top
  pointwise [k0_pay32, k0_pay33, k0_pay34, neg_inf, mask_bot, pick, kvc]

/-- Head 10. -/
theorem h10 (K V : FVec Ideal S768x256 .bf16) (M : IVec S256x768 1) (q : Vec Ideal S1x256x64 .bf16) (k : Vec Ideal S1x1 .f32) (r : Fin 256) (d : Fin 64) :
    k0_pay42 (k0_pay35 V) (k0_pay40 K M q k) (k0_pay41 K M q k) (ix2 r d) = hd 2 M q k K V r d := by
  unfold hd kern sco top
  pointwise [k0_pay35, k0_pay36, k0_pay37, k0_pay38, k0_pay39, k0_pay40, k0_pay41, k0_pay42, neg_inf, mask_bot, pick, kvc]

/-- Head 11. -/
theorem h11 (K V : FVec Ideal S768x256 .bf16) (M : IVec S256x768 1) (q : Vec Ideal S1x256x64 .bf16) (k : Vec Ideal S1x1 .f32) (r : Fin 256) (d : Fin 64) :
    k0_pay43 K V M q k (ix2 r d) = hd 2 M q k K V r d := by
  unfold hd kern sco top
  pointwise [k0_pay43, neg_inf, mask_bot, pick, kvc]

/-- Head 12. -/
theorem h12 (K V : FVec Ideal S768x256 .bf16) (M : IVec S256x768 1) (q : Vec Ideal S1x256x64 .bf16) (k : Vec Ideal S1x1 .f32) (r : Fin 256) (d : Fin 64) :
    k0_pay48 (k0_pay44 V) (k0_pay45 K M q) (k0_pay46 k) (k0_pay47 K M q) (ix2 r d) = hd 3 M q k K V r d := by
  unfold hd kern sco top
  pointwise [k0_pay44, k0_pay45, k0_pay46, k0_pay47, k0_pay48, neg_inf, mask_bot, pick, kvc]

/-- Head 13. -/
theorem h13 (K V : FVec Ideal S768x256 .bf16) (M : IVec S256x768 1) (q : Vec Ideal S1x256x64 .bf16) (k : Vec Ideal S1x1 .f32) (r : Fin 256) (d : Fin 64) :
    k0_pay49 K V M q k (ix2 r d) = hd 3 M q k K V r d := by
  unfold hd kern sco top
  pointwise [k0_pay49, neg_inf, mask_bot, pick, kvc]

/-- Head 14. -/
theorem h14 (K V : FVec Ideal S768x256 .bf16) (M : IVec S256x768 1) (q : Vec Ideal S1x256x64 .bf16) (k : Vec Ideal S1x1 .f32) (r : Fin 256) (d : Fin 64) :
    k0_pay50 K V M q k (ix2 r d) = hd 3 M q k K V r d := by
  unfold hd kern sco top
  pointwise [k0_pay50, neg_inf, mask_bot, pick, kvc]

/-- Head 15. -/
theorem h15 (K V : FVec Ideal S768x256 .bf16) (M : IVec S256x768 1) (q : Vec Ideal S1x256x64 .bf16) (k : Vec Ideal S1x1 .f32) (r : Fin 256) (d : Fin 64) :
    k0_pay1 (k0_pay51 V) (k0_pay53 k) (k0_pay54 K M q k) (k0_pay55 K M q k) (k0_pay56 K M q k) (ix2 r d) = hd 3 M q k K V r d := by
  unfold hd kern sco top
  pointwise [k0_pay1, k0_pay51, k0_pay52, k0_pay53, k0_pay54, k0_pay55, k0_pay56, neg_inf, mask_bot, pick, kvc]

end Cert.Attn

end
-- ==== Proof.Attn.Mask.lean ====
/- The attention's mask, bit by bit, as a statement about numbers. -/
module

public import proofs.«01_k».proof.Proof.Gen.Kernel3Ideal.Value
public import Idealize.ShloMosaic.Lib.Pointwise

@[expose] public section

set_option maxRecDepth 16384

noncomputable section

namespace Cert.Attn

open Idealize.ShloMosaic Idealize.ShloMosaic.TcCoe
open Cert.Kernel3Ideal Cert.Kernel3Ideal.Gen

theorem ofInt_toInt (z : Int) (h1 : -2147483648 ≤ z) (h2 : z < 2147483648) : (BitVec.ofInt 32 z).toInt = z := by
  rw [BitVec.toInt_ofInt]
  apply Int.bmod_eq_of_le <;> omega

theorem lit (n : Nat) : BitVec.ofNat 32 n = BitVec.ofInt 32 (n : Int) := rfl
theorem add_w (a b : Int) : IntOp.addi (BitVec.ofInt 32 a) (BitVec.ofInt 32 b) = BitVec.ofInt 32 (a + b) := (BitVec.ofInt_add ..).symm
theorem mul_w (a b : Int) : IntOp.muli (BitVec.ofInt 32 a) (BitVec.ofInt 32 b) = BitVec.ofInt 32 (a * b) := (BitVec.ofInt_mul ..).symm
theorem sub_w (a b : Int) : IntOp.subi (BitVec.ofInt 32 a) (BitVec.ofInt 32 b) = BitVec.ofInt 32 (a - b) := by
  show BitVec.ofInt 32 a - BitVec.ofInt 32 b = _
  rw [Int.sub_eq_add_neg, BitVec.ofInt_add, BitVec.ofInt_neg, BitVec.sub_eq_add_neg]
theorem abs_w (a : Int) (h1 : -2147483648 < a) (h2 : a < 2147483648) : IntOp.absi (BitVec.ofInt 32 a) = BitVec.ofInt 32 |a| := by
  unfold IntOp.absi
  have e : (BitVec.ofInt 32 a).msb = decide (a < 0) := by
    rw [BitVec.msb_eq_toInt, ofInt_toInt a (by omega) h2]
  rw [e]
  by_cases h : a < 0
  · rw [if_pos (by simpa using h), abs_of_neg h, BitVec.ofInt_neg]
  · rw [if_neg (by simpa using h), abs_of_nonneg (by omega)]

theorem bit (p : Prop) [Decidable p] : BitVec.ofBool (decide p) = 1#1 ↔ p := by
  by_cases h : p <;> simp [h]
theorem sle_w (a b : Int) (h1 : -2147483648 ≤ a) (h2 : a < 2147483648) (h3 : -2147483648 ≤ b) (h4 : b < 2147483648) :
    IntOp.cmpi .sle (BitVec.ofInt 32 a) (BitVec.ofInt 32 b) = 1#1 ↔ a ≤ b := by
  show BitVec.ofBool (BitVec.sle _ _) = 1#1 ↔ _
  unfold BitVec.sle
  rw [ofInt_toInt a h1 h2, ofInt_toInt b h3 h4, bit]
theorem sge_w (a b : Int) (h1 : -2147483648 ≤ a) (h2 : a < 2147483648) (h3 : -2147483648 ≤ b) (h4 : b < 2147483648) :
    IntOp.cmpi .sge (BitVec.ofInt 32 a) (BitVec.ofInt 32 b) = 1#1 ↔ b ≤ a := by
  show BitVec.ofBool (BitVec.sle _ _) = 1#1 ↔ _
  unfold BitVec.sle
  rw [ofInt_toInt a h1 h2, ofInt_toInt b h3 h4, bit]
theorem slt_w (a b : Int) (h1 : -2147483648 ≤ a) (h2 : a < 2147483648) (h3 : -2147483648 ≤ b) (h4 : b < 2147483648) :
    IntOp.cmpi .slt (BitVec.ofInt 32 a) (BitVec.ofInt 32 b) = 1#1 ↔ a < b := by
  show BitVec.ofBool (BitVec.slt _ _) = 1#1 ↔ _
  unfold BitVec.slt
  rw [ofInt_toInt a h1 h2, ofInt_toInt b h3 h4, bit]
theorem and_w (a b : BitVec 1) : IntOp.andi a b = 1#1 ↔ a = 1#1 ∧ b = 1#1 := by
  revert a b; decide
theorem or_w (a b : BitVec 1) : IntOp.ori a b = 1#1 ↔ a = 1#1 ∨ b = 1#1 := by
  revert a b; decide

/-- The mask of block `j`: the context's columns always, a window column where it lies in the window of the row and in the sequence. -/
theorem mask_iff (i : grid0.Coords) (r : Fin 256) (c : Fin 768) :
    kernelRun0_A.sl.r_2 i (ix2 r c) = 1#1 ↔ 512 ≤ c.val ∨ (|(r.val : Int) - ((c.val : Int) - 128)| ≤ 128
      ∧ 0 ≤ (((i 1).val : Int) - 1) * 256 - 128 + c.val ∧ (((i 1).val : Int) - 1) * 256 - 128 + c.val < 4096) ∧ 1 ≤ (i 1).val := by
  have hi : (i 1).val < 17 := (i 1).isLt
  unfold kernelRun0_A.sl.r_2 kernelRun0_A.sl.v19
  pointwise [k0_pay7, k0_pay5, k0_pay6]
  have l0 : (0#32 : BitVec 32) = BitVec.ofInt 32 0 := rfl
  have l1 : (1#32 : BitVec 32) = BitVec.ofInt 32 1 := rfl
  have l2 : (128#32 : BitVec 32) = BitVec.ofInt 32 128 := rfl
  have l3 : (256#32 : BitVec 32) = BitVec.ofInt 32 256 := rfl
  have l4 : (512#32 : BitVec 32) = BitVec.ofInt 32 512 := rfl
  have l5 : (4096#32 : BitVec 32) = BitVec.ofInt 32 4096 := rfl
  have hr := r.isLt
  have hc := c.isLt
  have habs : |(r.val : Int) - ((c.val : Int) - 128)| < 2147483648 := by rw [abs_lt]; omega
  have habs' := abs_nonneg ((r.val : Int) - ((c.val : Int) - 128))
  have s1 : ∀ a b : Int, Scalar.subi (BitVec.ofInt 32 a) (BitVec.ofInt 32 b) = BitVec.ofInt 32 (a - b) := sub_w
  have s2 : ∀ a b : Int, Scalar.muli (BitVec.ofInt 32 a) (BitVec.ofInt 32 b) = BitVec.ofInt 32 (a * b) := mul_w
  rw [l0, l1, l2, l3, l4, l5, lit r.val, lit c.val, lit (i 1).val]
  simp only [s1, s2, sub_w, add_w]
  rw [abs_w _ (by omega) (by omega)]
  rw [or_w, and_w, and_w, and_w, sge_w _ _ (by omega) (by omega) (by omega) (by omega), sle_w _ _ (by omega) (by omega) (by omega) (by omega),
    sge_w _ _ (by omega) (by omega) (by omega) (by omega), slt_w _ _ (by omega) (by omega) (by omega) (by omega)]
  have s3 : Scalar.cmpi CmpIPredicate.sge (BitVec.ofInt 32 ((i 1).val : Int)) (BitVec.ofInt 32 1) = 1#1 ↔ (1 : Int) ≤ (i 1).val :=
    sge_w _ _ (by omega) (by omega) (by omega) (by omega)
  rw [s3]
  have e1 : ((512 : Int) ≤ (c.val : Int)) ↔ 512 ≤ c.val := by omega
  have e2 : ((1 : Int) ≤ ((i 1).val : Int)) ↔ 1 ≤ (i 1).val := by omega
  rw [e1, e2]

end Cert.Attn

end
-- ==== Proof.Attn.Cat.lean ====
/- The sixteen heads' columns joined side by side, read back head by head. -/
module

public import proofs.«01_k».proof.Proof.Attn.Heads
public import proofs.«01_k».proof.Proof.Attn.Mask
public import Idealize.ShloMosaic.Lib.VecWindow
public import Idealize.ShloMosaic.Lib.Pipeline.FrameBody

@[expose] public section

set_option maxRecDepth 16384
set_option maxHeartbeats 1000000

noncomputable section

namespace Cert.Attn

open Idealize.ShloMosaic Idealize.ShloMosaic.TcCoe Idealize.SL.Sem
open Cert.Kernel3Ideal Cert.Kernel3Ideal.Gen

/-- Column `d` of head `h` among the sixteen heads' columns. -/
def hc (h : Fin 16) (d : Fin 64) : Fin 1024 := ⟨h.val * 64 + d.val, by omega⟩
/-- The key-value head that head `h` reads. -/
def grp (h : Fin 16) : Fin 4 := ⟨h.val / 4, by omega⟩

section Cat
variable (v0 v1 v2 v3 v4 v5 v6 v7 v8 v9 v10 v11 v12 v13 v14 : FVec Ideal S256x64 .bf16) (v15 : FVec Ideal S256x64 .f32) (r : Fin 256) (d : Fin 64)

/-- A sheet of one read at a row and a column. -/
theorem sheet (v : FVec Ideal S256x1024 .bf16) (r : Fin 256) (c : Fin 1024) :
    shapeCast S1x256x1024 v shapeCasts_S256x1024_S1x256x1024 (ix3 0 r c) = v (ix2 r c) := by
  pointwise

/-- Off the axis the piece's coordinates are the whole's. -/
theorem off (r : Fin 256) (c : Fin 1024) (d : Fin 64) (b : Fin S256x64.rank) (hb : b.cast (rfl : S256x64.rank = S256x1024.rank) ≠ (1 : Fin 2)) :
    (ix2 r d b).val = (ix2 r c (b.cast (rfl : S256x64.rank = S256x1024.rank))).val := by
  match b with
  | ⟨0, _⟩ => rfl
  | ⟨1, _⟩ => exact absurd rfl hb

/-- Along the axis the pieces before and the piece's own coordinate add up to the whole's. -/
theorem along (r : Fin 256) (d : Fin 64) (h : Fin 16) (p : Nat) (e : h.val * 64 = p) :
    p + (ix2 (n0 := 256) r d ((1 : Fin 2).cast (rfl : S256x1024.rank = S256x64.rank))).val = (ix2 (n0 := 256) r (hc h d) (1 : Fin 2)).val := by
  subst e
  rfl

theorem cat0 : k0_pay2 v0 v1 v2 v3 v4 v5 v6 v7 v8 v9 v10 v11 v12 v13 v14 v15 (ix3 0 r (hc 0 d)) = v0 (ix2 r d) := by
  unfold k0_pay2
  refine (sheet _ r _).trans ?_
  exact concatenate_apply_piece (t := S256x1024) 1 _ _ _ 0 (by show 0 < 16; omega) S256x64 v0 rfl rfl 0 rfl (ix2 r d) (off r _ d) (along r d _ 0 rfl)
theorem cat1 : k0_pay2 v0 v1 v2 v3 v4 v5 v6 v7 v8 v9 v10 v11 v12 v13 v14 v15 (ix3 0 r (hc 1 d)) = v1 (ix2 r d) := by
  unfold k0_pay2
  refine (sheet _ r _).trans ?_
  exact concatenate_apply_piece (t := S256x1024) 1 _ _ _ 1 (by show 1 < 16; omega) S256x64 v1 rfl rfl 64 rfl (ix2 r d) (off r _ d) (along r d _ 64 rfl)
theorem cat2 : k0_pay2 v0 v1 v2 v3 v4 v5 v6 v7 v8 v9 v10 v11 v12 v13 v14 v15 (ix3 0 r (hc 2 d)) = v2 (ix2 r d) := by
  unfold k0_pay2
  refine (sheet _ r _).trans ?_
  exact concatenate_apply_piece (t := S256x1024) 1 _ _ _ 2 (by show 2 < 16; omega) S256x64 v2 rfl rfl 128 rfl (ix2 r d) (off r _ d) (along r d _ 128 rfl)
theorem cat3 : k0_pay2 v0 v1 v2 v3 v4 v5 v6 v7 v8 v9 v10 v11 v12 v13 v14 v15 (ix3 0 r (hc 3 d)) = v3 (ix2 r d) := by
  unfold k0_pay2
  refine (sheet _ r _).trans ?_
  exact concatenate_apply_piece (t := S256x1024) 1 _ _ _ 3 (by show 3 < 16; omega) S256x64 v3 rfl rfl 192 rfl (ix2 r d) (off r _ d) (along r d _ 192 rfl)
theorem cat4 : k0_pay2 v0 v1 v2 v3 v4 v5 v6 v7 v8 v9 v10 v11 v12 v13 v14 v15 (ix3 0 r (hc 4 d)) = v4 (ix2 r d) := by
  unfold k0_pay2
  refine (sheet _ r _).trans ?_
  exact concatenate_apply_piece (t := S256x1024) 1 _ _ _ 4 (by show 4 < 16; omega) S256x64 v4 rfl rfl 256 rfl (ix2 r d) (off r _ d) (along r d _ 256 rfl)
theorem cat5 : k0_pay2 v0 v1 v2 v3 v4 v5 v6 v7 v8 v9 v10 v11 v12 v13 v14 v15 (ix3 0 r (hc 5 d)) = v5 (ix2 r d) := by
  unfold k0_pay2
  refine (sheet _ r _).trans ?_
  exact concatenate_apply_piece (t := S256x1024) 1 _ _ _ 5 (by show 5 < 16; omega) S256x64 v5 rfl rfl 320 rfl (ix2 r d) (off r _ d) (along r d _ 320 rfl)
theorem cat6 : k0_pay2 v0 v1 v2 v3 v4 v5 v6 v7 v8 v9 v10 v11 v12 v13 v14 v15 (ix3 0 r (hc 6 d)) = v6 (ix2 r d) := by
  unfold k0_pay2
  refine (sheet _ r _).trans ?_
  exact concatenate_apply_piece (t := S256x1024) 1 _ _ _ 6 (by show 6 < 16; omega) S256x64 v6 rfl rfl 384 rfl (ix2 r d) (off r _ d) (along r d _ 384 rfl)
theorem cat7 : k0_pay2 v0 v1 v2 v3 v4 v5 v6 v7 v8 v9 v10 v11 v12 v13 v14 v15 (ix3 0 r (hc 7 d)) = v7 (ix2 r d) := by
  unfold k0_pay2
  refine (sheet _ r _).trans ?_
  exact concatenate_apply_piece (t := S256x1024) 1 _ _ _ 7 (by show 7 < 16; omega) S256x64 v7 rfl rfl 448 rfl (ix2 r d) (off r _ d) (along r d _ 448 rfl)
theorem cat8 : k0_pay2 v0 v1 v2 v3 v4 v5 v6 v7 v8 v9 v10 v11 v12 v13 v14 v15 (ix3 0 r (hc 8 d)) = v8 (ix2 r d) := by
  unfold k0_pay2
  refine (sheet _ r _).trans ?_
  exact concatenate_apply_piece (t := S256x1024) 1 _ _ _ 8 (by show 8 < 16; omega) S256x64 v8 rfl rfl 512 rfl (ix2 r d) (off r _ d) (along r d _ 512 rfl)
theorem cat9 : k0_pay2 v0 v1 v2 v3 v4 v5 v6 v7 v8 v9 v10 v11 v12 v13 v14 v15 (ix3 0 r (hc 9 d)) = v9 (ix2 r d) := by
  unfold k0_pay2
  refine (sheet _ r _).trans ?_
  exact concatenate_apply_piece (t := S256x1024) 1 _ _ _ 9 (by show 9 < 16; omega) S256x64 v9 rfl rfl 576 rfl (ix2 r d) (off r _ d) (along r d _ 576 rfl)
theorem cat10 : k0_pay2 v0 v1 v2 v3 v4 v5 v6 v7 v8 v9 v10 v11 v12 v13 v14 v15 (ix3 0 r (hc 10 d)) = v10 (ix2 r d) := by
  unfold k0_pay2
  refine (sheet _ r _).trans ?_
  exact concatenate_apply_piece (t := S256x1024) 1 _ _ _ 10 (by show 10 < 16; omega) S256x64 v10 rfl rfl 640 rfl (ix2 r d) (off r _ d) (along r d _ 640 rfl)
theorem cat11 : k0_pay2 v0 v1 v2 v3 v4 v5 v6 v7 v8 v9 v10 v11 v12 v13 v14 v15 (ix3 0 r (hc 11 d)) = v11 (ix2 r d) := by
  unfold k0_pay2
  refine (sheet _ r _).trans ?_
  exact concatenate_apply_piece (t := S256x1024) 1 _ _ _ 11 (by show 11 < 16; omega) S256x64 v11 rfl rfl 704 rfl (ix2 r d) (off r _ d) (along r d _ 704 rfl)
theorem cat12 : k0_pay2 v0 v1 v2 v3 v4 v5 v6 v7 v8 v9 v10 v11 v12 v13 v14 v15 (ix3 0 r (hc 12 d)) = v12 (ix2 r d) := by
  unfold k0_pay2
  refine (sheet _ r _).trans ?_
  exact concatenate_apply_piece (t := S256x1024) 1 _ _ _ 12 (by show 12 < 16; omega) S256x64 v12 rfl rfl 768 rfl (ix2 r d) (off r _ d) (along r d _ 768 rfl)
theorem cat13 : k0_pay2 v0 v1 v2 v3 v4 v5 v6 v7 v8 v9 v10 v11 v12 v13 v14 v15 (ix3 0 r (hc 13 d)) = v13 (ix2 r d) := by
  unfold k0_pay2
  refine (sheet _ r _).trans ?_
  exact concatenate_apply_piece (t := S256x1024) 1 _ _ _ 13 (by show 13 < 16; omega) S256x64 v13 rfl rfl 832 rfl (ix2 r d) (off r _ d) (along r d _ 832 rfl)
theorem cat14 : k0_pay2 v0 v1 v2 v3 v4 v5 v6 v7 v8 v9 v10 v11 v12 v13 v14 v15 (ix3 0 r (hc 14 d)) = v14 (ix2 r d) := by
  unfold k0_pay2
  refine (sheet _ r _).trans ?_
  exact concatenate_apply_piece (t := S256x1024) 1 _ _ _ 14 (by show 14 < 16; omega) S256x64 v14 rfl rfl 896 rfl (ix2 r d) (off r _ d) (along r d _ 896 rfl)
theorem cat15 : k0_pay2 v0 v1 v2 v3 v4 v5 v6 v7 v8 v9 v10 v11 v12 v13 v14 v15 (ix3 0 r (hc 15 d)) = v15 (ix2 r d) := by
  unfold k0_pay2
  refine (sheet _ r _).trans ?_
  exact concatenate_apply_piece (t := S256x1024) 1 _ _ _ 15 (by show 15 < 16; omega) S256x64 (truncf .bf16 v15 bitsLt_bf16_f32 : FVec Ideal S256x64 .bf16) rfl rfl 960 rfl (ix2 r d) (off r _ d) (along r d _ 960 rfl)

end Cat
end Cert.Attn
-- ==== Proof.Attn.Host.lean ====
/- The attention's operands as its windows hold them: the joined array read off the arguments, and each window's block at a point
   of the grid. -/
module

public import proofs.«01_k».proof.Defs
public import proofs.«01_k».proof.Proof.Gen.Kernel3Ideal.Value
public import Idealize.ShloMosaic.Lib.Pipeline.Value
public import Idealize.ShloMosaic.Lib.Pointwise

@[expose] public section

set_option maxRecDepth 16384
set_option maxHeartbeats 1000000

noncomputable section

namespace Cert.Attn

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The queries' scale. -/
def sca : EReal := FloatOps.ofBits (F := Ideal) .f32 0x3E000000#32

/-- An array times the scale. -/
def scaled {s : Shape} (x : s.Idx → EReal) : s.Idx → EReal := fun j => x j * sca

/-- A family of the context's 256 rows and then the sequence's 4096. -/
def two (f : Fin 256 → EReal) (g : Fin 4096 → EReal) (s : Fin 4352) : EReal :=
  if h : s.val < 256 then f ⟨s.val, h⟩ else g ⟨s.val - 256, by omega⟩

section Cat
variable (q0 : S8x256x1024.Idx → EReal) (k0 v0 : S8x256x256.Idx → EReal) (q1 : S8x4096x1024.Idx → EReal) (k1 v1 : S8x4096x256.Idx → EReal)

/-- The joined array. -/
def joined : S8x4352x1536.Idx → EReal :=
  concatenate S8x4352x1536 1
    [⟨S8x256x1536, concatenate S8x256x1536 2 [⟨S8x256x1024, q0⟩, ⟨S8x256x256, k0⟩, ⟨S8x256x256, v0⟩] concatenates_S8x256x1024_S8x256x256_S8x256x256_S8x256x1536_d2⟩,
     ⟨S8x4096x1536, concatenate S8x4096x1536 2 [⟨S8x4096x1024, q1⟩, ⟨S8x4096x256, k1⟩, ⟨S8x4096x256, v1⟩] concatenates_S8x4096x1024_S8x4096x256_S8x4096x256_S8x4096x1536_d2⟩]
    concatenates_S8x256x1536_S8x4096x1536_S8x4352x1536_d1

theorem joined_q (n : Fin 8) (s : Fin 4352) (d : Fin 1024) :
    joined q0 k0 v0 q1 k1 v1 (ix3 n s (⟨d.val, by omega⟩ : Fin 1536)) = two (fun s => q0 (ix3 n s d)) (fun s => q1 (ix3 n s d)) s := by
  have hd := d.isLt
  pointwise [joined, two]

theorem joined_k (n : Fin 8) (s : Fin 4352) (d : Fin 256) :
    joined q0 k0 v0 q1 k1 v1 (ix3 n s (⟨1024 + d.val, by omega⟩ : Fin 1536)) = two (fun s => k0 (ix3 n s d)) (fun s => k1 (ix3 n s d)) s := by
  have hd := d.isLt
  pointwise [joined, two]

theorem joined_v (n : Fin 8) (s : Fin 4352) (d : Fin 256) :
    joined q0 k0 v0 q1 k1 v1 (ix3 n s (⟨1280 + d.val, by omega⟩ : Fin 1536)) = two (fun s => v0 (ix3 n s d)) (fun s => v1 (ix3 n s d)) s := by
  have hd := d.isLt
  pointwise [joined, two]
  split
  · rw [dif_neg (by omega), dif_neg (by omega)]
    exact congrArg (fun z => v0 (ix3 n _ z)) (Fin.ext (by show 1280 + d.val - 1024 - 256 = d.val; omega))
  · rw [dif_neg (by omega), dif_neg (by omega)]
    exact congrArg (fun z => v1 (ix3 n _ z)) (Fin.ext (by show 1280 + d.val - 1024 - 256 = d.val; omega))
end Cat

/-- The array of the first nine windows, as the host lines build it. -/
theorem V_all : V m c main_v7 = joined
    (scaled (s := S8x256x1024) (m ((c : Thread nD τ).loc main_arg0)))
    (m ((c : Thread nD τ).loc main_arg1)) (m ((c : Thread nD τ).loc main_arg2))
    (scaled (s := S8x4096x1024) (m ((c : Thread nD τ).loc main_arg3)))
    (m ((c : Thread nD τ).loc main_arg4)) (m ((c : Thread nD τ).loc main_arg5)) := by
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The sinks' table: head `h`'s sink along row `h`. -/
theorem V_sink (h : Fin 16) (l : Fin 128) : V m c main_v9 (ix2 h l) = (m ((c : Thread nD τ).loc main_arg6) : S16.Idx → EReal) (ix1 h) := by
  refine Eq.trans (b := broadcastInDim S16x128 ![0, 1] bcast_S16x1_S16x128_0_1 (broadcastInDim S16x1 ![0] bcast_S16_S16x1_0 (m ((c : Thread nD τ).loc main_arg6) : S16.Idx → EReal)) (ix2 h l)) ?_ (by pointwise)
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp

/-! ## The windows' blocks at a point -/

/-- Each window's block index at point `t`: batch row `t / 17`, row block `t % 17`; the neighbours' half blocks before and after, held inside the array. -/
theorem index_all : ∀ t : Fin cfg0.N,
    (win0_0.index t = ![t.val / 17, t.val % 17, 0] ∧ win0_10.index t = ![t.val / 17, t.val % 17, 0] ∧ win0_9.index t = ![0, 0] ∧ (grid0.coords t 1).val = t.val % 17)
    ∧ (win0_1.index t = ![t.val / 17, 2 * (t.val % 17) - 1, 4] ∧ win0_2.index t = ![t.val / 17, t.val % 17, 4] ∧ win0_3.index t = ![t.val / 17, min (2 * (t.val % 17) + 2) 33, 4] ∧ win0_4.index t = ![t.val / 17, 0, 4])
    ∧ (win0_5.index t = ![t.val / 17, 2 * (t.val % 17) - 1, 5] ∧ win0_6.index t = ![t.val / 17, t.val % 17, 5] ∧ win0_7.index t = ![t.val / 17, min (2 * (t.val % 17) + 2) 33, 5] ∧ win0_8.index t = ![t.val / 17, 0, 5]) :=
  (by decide +kernel : ∀ t : Fin grid0.N, _)

theorem lt_N (t : Fin cfg0.N) : t.val < 136 := by have := t.isLt; have h : cfg0.N = 136 := N_0; omega

/-- Batch row of point `t`. -/
def bat (t : Fin cfg0.N) : Fin 8 := ⟨t.val / 17, by have := lt_N t; omega⟩
/-- Array row of row `r` of point `t`'s block. -/
def row (t : Fin cfg0.N) (r : Fin 256) : Fin 4352 := ⟨t.val % 17 * 256 + r.val, by have := r.isLt; omega⟩
/-- Array row of row `r` of the half block before. -/
def rowp (t : Fin cfg0.N) (r : Fin 128) : Fin 4352 := ⟨(2 * (t.val % 17) - 1) * 128 + r.val, by have := r.isLt; omega⟩
/-- Array row of row `r` of the half block after. -/
def rown (t : Fin cfg0.N) (r : Fin 128) : Fin 4352 := ⟨min (2 * (t.val % 17) + 2) 33 * 128 + r.val, by have := r.isLt; omega⟩

theorem X0_apply (t : Fin cfg0.N) (r : Fin 256) (k : Fin 1024) :
    X0_0 m c t (ix3 0 r k) = V m c main_v7 (ix3 (bat t) (row t r) (⟨k.val, by omega⟩ : Fin 1536)) := by
  have h := (index_all t).1.1
  unfold X0_0 Pipeline.Window.fill
  rw [dif_pos (moved0_0 t _)]
  show V m c main_v7 _ = _
  congr 1
  funext a
  apply Fin.ext
  match a with
  | ⟨0, _⟩ => show win0_0.index t 0 * 1 + 1 * 0 = t.val / 17; rw [h]; simp
  | ⟨1, _⟩ => show win0_0.index t 1 * 256 + 1 * r.val = t.val % 17 * 256 + r.val; rw [h]; simp
  | ⟨2, _⟩ => show win0_0.index t 2 * 1024 + 1 * k.val = k.val; rw [h]; simp

theorem iblk1_apply (t : Fin cfg0.N) (r : Fin 128) (e : Fin 256) :
    iblk m c 1 t (ix3 0 r e) = V m c main_v7 (ix3 (bat t) (rowp t r) (⟨1024 + e.val, by omega⟩ : Fin 1536)) := by
  have h := (index_all t).2.1.1
  show V m c main_v7 _ = _
  congr 1
  funext a
  apply Fin.ext
  match a with
  | ⟨0, _⟩ => show win0_1.index t 0 * 1 + 1 * 0 = t.val / 17; rw [h]; simp
  | ⟨1, _⟩ => show win0_1.index t 1 * 128 + 1 * r.val = (2 * (t.val % 17) - 1) * 128 + r.val; rw [h]; simp
  | ⟨2, _⟩ => show win0_1.index t 2 * 256 + 1 * e.val = 1024 + e.val; rw [h]; show 4 * 256 + _ = _; omega

theorem iblk5_apply (t : Fin cfg0.N) (r : Fin 128) (e : Fin 256) :
    iblk m c 5 t (ix3 0 r e) = V m c main_v7 (ix3 (bat t) (rowp t r) (⟨1280 + e.val, by omega⟩ : Fin 1536)) := by
  have h := (index_all t).2.2.1
  show V m c main_v7 _ = _
  congr 1
  funext a
  apply Fin.ext
  match a with
  | ⟨0, _⟩ => show win0_5.index t 0 * 1 + 1 * 0 = t.val / 17; rw [h]; simp
  | ⟨1, _⟩ => show win0_5.index t 1 * 128 + 1 * r.val = (2 * (t.val % 17) - 1) * 128 + r.val; rw [h]; simp
  | ⟨2, _⟩ => show win0_5.index t 2 * 256 + 1 * e.val = 1280 + e.val; rw [h]; show 5 * 256 + _ = _; omega

theorem iblk2_apply (t : Fin cfg0.N) (r : Fin 256) (e : Fin 256) :
    iblk m c 2 t (ix3 0 r e) = V m c main_v7 (ix3 (bat t) (row t r) (⟨1024 + e.val, by omega⟩ : Fin 1536)) := by
  have h := (index_all t).2.1.2.1
  show V m c main_v7 _ = _
  congr 1
  funext a
  apply Fin.ext
  match a with
  | ⟨0, _⟩ => show win0_2.index t 0 * 1 + 1 * 0 = t.val / 17; rw [h]; simp
  | ⟨1, _⟩ => show win0_2.index t 1 * 256 + 1 * r.val = t.val % 17 * 256 + r.val; rw [h]; simp
  | ⟨2, _⟩ => show win0_2.index t 2 * 256 + 1 * e.val = 1024 + e.val; rw [h]; show 4 * 256 + _ = _; omega

theorem iblk6_apply (t : Fin cfg0.N) (r : Fin 256) (e : Fin 256) :
    iblk m c 6 t (ix3 0 r e) = V m c main_v7 (ix3 (bat t) (row t r) (⟨1280 + e.val, by omega⟩ : Fin 1536)) := by
  have h := (index_all t).2.2.2.1
  show V m c main_v7 _ = _
  congr 1
  funext a
  apply Fin.ext
  match a with
  | ⟨0, _⟩ => show win0_6.index t 0 * 1 + 1 * 0 = t.val / 17; rw [h]; simp
  | ⟨1, _⟩ => show win0_6.index t 1 * 256 + 1 * r.val = t.val % 17 * 256 + r.val; rw [h]; simp
  | ⟨2, _⟩ => show win0_6.index t 2 * 256 + 1 * e.val = 1280 + e.val; rw [h]; show 5 * 256 + _ = _; omega

theorem iblk3_apply (t : Fin cfg0.N) (r : Fin 128) (e : Fin 256) :
    iblk m c 3 t (ix3 0 r e) = V m c main_v7 (ix3 (bat t) (rown t r) (⟨1024 + e.val, by omega⟩ : Fin 1536)) := by
  have h := (index_all t).2.1.2.2.1
  show V m c main_v7 _ = _
  congr 1
  funext a
  apply Fin.ext
  match a with
  | ⟨0, _⟩ => show win0_3.index t 0 * 1 + 1 * 0 = t.val / 17; rw [h]; simp
  | ⟨1, _⟩ => show win0_3.index t 1 * 128 + 1 * r.val = min (2 * (t.val % 17) + 2) 33 * 128 + r.val; rw [h]; simp
  | ⟨2, _⟩ => show win0_3.index t 2 * 256 + 1 * e.val = 1024 + e.val; rw [h]; show 4 * 256 + _ = _; omega

theorem iblk7_apply (t : Fin cfg0.N) (r : Fin 128) (e : Fin 256) :
    iblk m c 7 t (ix3 0 r e) = V m c main_v7 (ix3 (bat t) (rown t r) (⟨1280 + e.val, by omega⟩ : Fin 1536)) := by
  have h := (index_all t).2.2.2.2.1
  show V m c main_v7 _ = _
  congr 1
  funext a
  apply Fin.ext
  match a with
  | ⟨0, _⟩ => show win0_7.index t 0 * 1 + 1 * 0 = t.val / 17; rw [h]; simp
  | ⟨1, _⟩ => show win0_7.index t 1 * 128 + 1 * r.val = min (2 * (t.val % 17) + 2) 33 * 128 + r.val; rw [h]; simp
  | ⟨2, _⟩ => show win0_7.index t 2 * 256 + 1 * e.val = 1280 + e.val; rw [h]; show 5 * 256 + _ = _; omega

theorem iblk4_apply (t : Fin cfg0.N) (r : Fin 256) (e : Fin 256) :
    iblk m c 4 t (ix3 0 r e) = V m c main_v7 (ix3 (bat t) ((⟨r.val, by omega⟩ : Fin 4352)) (⟨1024 + e.val, by omega⟩ : Fin 1536)) := by
  have h := (index_all t).2.1.2.2.2
  show V m c main_v7 _ = _
  congr 1
  funext a
  apply Fin.ext
  match a with
  | ⟨0, _⟩ => show win0_4.index t 0 * 1 + 1 * 0 = t.val / 17; rw [h]; simp
  | ⟨1, _⟩ => show win0_4.index t 1 * 256 + 1 * r.val = r.val; rw [h]; simp
  | ⟨2, _⟩ => show win0_4.index t 2 * 256 + 1 * e.val = 1024 + e.val; rw [h]; show 4 * 256 + _ = _; omega

theorem iblk8_apply (t : Fin cfg0.N) (r : Fin 256) (e : Fin 256) :
    iblk m c 8 t (ix3 0 r e) = V m c main_v7 (ix3 (bat t) ((⟨r.val, by omega⟩ : Fin 4352)) (⟨1280 + e.val, by omega⟩ : Fin 1536)) := by
  have h := (index_all t).2.2.2.2.2
  show V m c main_v7 _ = _
  congr 1
  funext a
  apply Fin.ext
  match a with
  | ⟨0, _⟩ => show win0_8.index t 0 * 1 + 1 * 0 = t.val / 17; rw [h]; simp
  | ⟨1, _⟩ => show win0_8.index t 1 * 256 + 1 * r.val = r.val; rw [h]; simp
  | ⟨2, _⟩ => show win0_8.index t 2 * 256 + 1 * e.val = 1280 + e.val; rw [h]; show 5 * 256 + _ = _; omega

theorem iblk9_apply (t : Fin cfg0.N) (h : Fin 16) (l : Fin 128) :
    iblk m c 9 t (ix2 h l) = V m c main_v9 (ix2 h l) := by
  have h' := (index_all t).1.2.2.1
  show V m c main_v9 _ = _
  congr 1
  funext a
  apply Fin.ext
  match a with
  | ⟨0, _⟩ => show win0_9.index t 0 * 16 + 1 * h.val = h.val; rw [h']; simp
  | ⟨1, _⟩ => show win0_9.index t 1 * 128 + 1 * l.val = l.val; rw [h']; simp

/-! ## The stacked keys and values -/

section Stack
variable (x1 : Vec Ideal S1x128x256 .bf16) (x2 : Vec Ideal S1x256x256 .bf16) (x3 : Vec Ideal S1x128x256 .bf16) (x4 : Vec Ideal S1x256x256 .bf16) (e : Fin 256)

/-- Row `r` of the stack of four blocks. -/
def stk (r : Fin 768) : EReal :=
  if h1 : r.val < 128 then x1 (ix3 0 ⟨r.val, h1⟩ e) else if h2 : r.val - 128 < 256 then x2 (ix3 0 ⟨r.val - 128, h2⟩ e)
  else if h3 : r.val - 128 - 256 < 128 then x3 (ix3 0 ⟨r.val - 128 - 256, h3⟩ e) else x4 (ix3 0 ⟨r.val - 128 - 256 - 128, by omega⟩ e)

theorem pay3_apply (r : Fin 768) : k0_pay3 x1 x2 x3 x4 (ix2 r e) = stk x1 x2 x3 x4 e r := by
  unfold stk
  pointwise [k0_pay3]

theorem pay4_apply (r : Fin 768) : k0_pay4 x1 x2 x3 x4 (ix2 r e) = stk x1 x2 x3 x4 e r := by
  unfold stk
  pointwise [k0_pay4]
end Stack

end Cert.Attn

end
-- ==== Proof.Attn.Goal.lean ====
/- The attention's result as one formula over its seven arguments, and what finite arguments give: finite scores. -/
module

public import proofs.«01_k».proof.Proof.Attn.Cat
public import proofs.«01_k».proof.Proof.Attn.Host

@[expose] public section

set_option maxRecDepth 16384
set_option maxHeartbeats 1000000

noncomputable section

namespace Cert.Attn

open Idealize.ShloMosaic Idealize.ShloMosaic.TcCoe Idealize.SL.Sem
open Cert.Kernel3Ideal Cert.Kernel3Ideal.Gen

/-- The result at batch row `n`, row `s`, head `h`, column `d`: a sequence row attends to the sequence's keys at most 128 away, every row
    to all context keys, and to its head's sink; a head of group `h / 4` reads that group's keys and values. -/
def G (qc : S8x256x1024.Idx → EReal) (kc vc : S8x256x256.Idx → EReal) (ql : S8x4096x1024.Idx → EReal) (kl vl : S8x4096x256.Idx → EReal)
    (sk : S16.Idx → EReal) (n : Fin 8) (s : Fin 4352) (h : Fin 16) (d : Fin 64) : EReal :=
  attn
    (fun t : Fin 4096 => if 256 ≤ s.val ∧ |(s.val : Int) - 256 - (t.val : Int)| ≤ 128 then
      (∑ e : Fin 64, two (fun s => qc (ix3 n s (hc h e))) (fun s => ql (ix3 n s (hc h e))) s * kl (ix3 n t (kvc (grp h) e))) * sca else ⊥)
    (fun c : Fin 256 =>
      (∑ e : Fin 64, two (fun s => qc (ix3 n s (hc h e))) (fun s => ql (ix3 n s (hc h e))) s * kc (ix3 n c (kvc (grp h) e))) * sca)
    (sk (ix1 h)) (fun t => vl (ix3 n t (kvc (grp h) d))) (fun c => vc (ix3 n c (kvc (grp h) d)))

theorem two_ctx (f : Fin 256 → EReal) (g : Fin 4096 → EReal) (s : Fin 256) : two f g (⟨s.val, by omega⟩ : Fin 4352) = f s :=
  dif_pos s.isLt

theorem two_seq (f : Fin 256 → EReal) (g : Fin 4096 → EReal) (s : Fin 4352) (k : Fin 4096) (h : s.val = 256 + k.val) : two f g s = g k := by
  unfold two
  rw [dif_neg (by omega)]
  exact congrArg g (Fin.ext (by show s.val - 256 = k.val; omega))

/-- The scale is one eighth. -/
theorem sca_eq : sca = ((1 / 8 : ℝ) : EReal) := by
  show Ideal.ofBits .f32 0x3E000000#32 = _
  simp [Ideal.ofBits, Ideal.ieee]
  rw [← EReal.coe_mul]
  norm_num

/-- Scaling the queries scales the sum of products. -/
theorem sum_scaled (q k : Fin 64 → EReal) : ∑ e, (q e * sca) * k e = (∑ e, q e * k e) * sca := by
  rw [sca_eq, sum_mul_coe _ _ _ (by norm_num)]
  exact Finset.sum_congr rfl fun e _ => mul_right_comm _ _ _

/-- An extended real that is a number. -/
def IsReal (x : EReal) : Prop := ∃ r : ℝ, x = (r : EReal)

/-- Finite queries and keys give a score that is not plus infinity. -/
theorem score_ne_top (q k : Fin 64 → EReal) (hq : ∀ e, IsReal (q e)) (hk : ∀ e, IsReal (k e)) : (∑ e, q e * k e) * sca ≠ ⊤ := by
  choose a ha using hq
  choose b hb using hk
  have e : ∑ e, q e * k e = ((∑ e, a e * b e : ℝ) : EReal) := by
    rw [← coe_sum']
    exact Finset.sum_congr rfl fun e _ => by rw [ha, hb, EReal.coe_mul]
  rw [e, sca_eq, ← EReal.coe_mul]
  exact EReal.coe_ne_top _

end Cert.Attn

end
-- ==== Proof.Attn.Out.lean ====
/- What the attention's body leaves at each row and column of its block: one head's entry over the blocks it holds. -/
module

public import proofs.«01_k».proof.Proof.Attn.Cat
public import Idealize.ShloMosaic.Lib.Pipeline.Value

@[expose] public section

set_option maxRecDepth 16384
set_option maxHeartbeats 1000000

noncomputable section

namespace Cert.Attn

open Idealize.ShloMosaic Idealize.ShloMosaic.TcCoe Idealize.SL.Sem
open Cert.Kernel3Ideal Cert.Kernel3Ideal.Gen

/-- One head's entry, from the query block, the mask, the stacked keys and values and the sinks. -/
def ent (M : IVec S256x768 1) (x0 : Vec Ideal S1x256x1024 .bf16) (x9 : Vec Ideal S16x128 .f32) (K V : FVec Ideal S768x256 .bf16)
    (h : Fin 16) (r : Fin 256) (d : Fin 64) : EReal :=
  kern (fun c : Fin 768 => if M (ix2 r c) = 1#1 then ∑ e : Fin 64, x0 (ix3 0 r (hc h e)) * K (ix2 c (kvc (grp h) e)) else ⊥)
    (x9 (ix2 h 0)) (fun c => V (ix2 c (kvc (grp h) d)))

/-- A head's result is that entry when its query columns and its sink are read where they lie. -/
theorem hd_ent (h : Fin 16) (g : Fin 4) (hg : grp h = g) (M : IVec S256x768 1) (q : Vec Ideal S1x256x64 .bf16) (k : Vec Ideal S1x1 .f32) (K V : FVec Ideal S768x256 .bf16)
    (x0 : Vec Ideal S1x256x1024 .bf16) (x9 : Vec Ideal S16x128 .f32) (K' V' : FVec Ideal S768x256 .bf16) (r : Fin 256) (d : Fin 64)
    (hq : ∀ e, q (ix3 0 r e) = x0 (ix3 0 r (hc h e))) (hk : k (ix2 0 0) = x9 (ix2 h 0)) (hK : K = K') (hV : V = V') :
    hd g M q k K V r d = ent M x0 x9 K' V' h r d := by
  subst hg hK hV
  unfold hd ent sco
  simp only [hq, hk]

/-- A load of sixty-four columns of the query block. -/
theorem ld_q (v : View sig .tc .vmem S1x256x1024 .bf16) (f : v.ty.Contents (Elt Ideal)) (x0 : Vec Ideal S1x256x1024 .bf16) (hf : v.read (Elt Ideal) f = x0)
    (h : Fin 16) (o : Nat) (ho : h.val * 64 = o) (inb : ∀ a, ![0, 0, o] a + S1x256x64.size a ≤ S1x256x1024.size a) (r : Fin 256) (e : Fin 64) :
    v.readAt (Elt Ideal) (Rect.unit (s := S1x256x1024) ![0, 0, o] S1x256x64.size inb).toLoadRect f (ix3 0 r e) = x0 (ix3 0 r (hc h e)) := by
  subst hf ho
  show v.read (Elt Ideal) f _ = v.read (Elt Ideal) f _
  congr 1
  funext a
  apply Fin.ext
  match a with
  | ⟨0, _⟩ => rfl
  | ⟨1, _⟩ => show 0 + 1 * r.val = r.val; omega
  | ⟨2, _⟩ => show h.val * 64 + 1 * e.val = h.val * 64 + e.val; omega

/-- A load of one head's sink. -/
theorem ld_s (v : View sig .tc .vmem S16x128 .f32) (f : v.ty.Contents (Elt Ideal)) (x9 : Vec Ideal S16x128 .f32) (hf : v.read (Elt Ideal) f = x9)
    (h : Fin 16) (o : Nat) (ho : h.val = o) (inb : ∀ a, ![o, 0] a + S1x1.size a ≤ S16x128.size a) :
    v.readAt (Elt Ideal) (Rect.unit (s := S16x128) ![o, 0] S1x1.size inb).toLoadRect f (ix2 0 0) = x9 (ix2 h 0) := by
  subst hf ho
  show v.read (Elt Ideal) f _ = v.read (Elt Ideal) f _
  congr 1
  funext a
  apply Fin.ext
  match a with
  | ⟨0, _⟩ => show h.val + 1 * 0 = h.val; omega
  | ⟨1, _⟩ => rfl

theorem hz3 : (![0, 0, 0] : Fin 3 → Nat) = fun _ => 0 := funext fun a => by fin_cases a <;> rfl

section
variable (c : Dev nD) (i : grid0.Coords) (arg2 : Memref sig .tc .vmem S1x256x1024 .bf16) (harg2 : arg2.IsWhole) (arg3 : Memref sig .tc .vmem S1x128x256 .bf16) (harg3 : arg3.IsWhole) (arg4 : Memref sig .tc .vmem S1x256x256 .bf16) (harg4 : arg4.IsWhole) (arg5 : Memref sig .tc .vmem S1x128x256 .bf16) (harg5 : arg5.IsWhole) (arg6 : Memref sig .tc .vmem S1x256x256 .bf16) (harg6 : arg6.IsWhole) (arg7 : Memref sig .tc .vmem S1x128x256 .bf16) (harg7 : arg7.IsWhole) (arg8 : Memref sig .tc .vmem S1x256x256 .bf16) (harg8 : arg8.IsWhole) (arg9 : Memref sig .tc .vmem S1x128x256 .bf16) (harg9 : arg9.IsWhole) (arg10 : Memref sig .tc .vmem S1x256x256 .bf16) (harg10 : arg10.IsWhole) (arg11 : Memref sig .tc .vmem S16x128 .f32) (harg11 : arg11.IsWhole) (arg12 : Memref sig .tc .vmem S1x256x1024 .bf16) (harg12 : arg12.IsWhole)
  (x0 : Vec Ideal S1x256x1024 .bf16) (x1 : Vec Ideal S1x128x256 .bf16) (x2 : Vec Ideal S1x256x256 .bf16) (x3 : Vec Ideal S1x128x256 .bf16) (x4 : Vec Ideal S1x256x256 .bf16) (x5 : Vec Ideal S1x128x256 .bf16) (x6 : Vec Ideal S1x256x256 .bf16) (x7 : Vec Ideal S1x128x256 .bf16) (x8 : Vec Ideal S1x256x256 .bf16) (x9 : Vec Ideal S16x128 .f32)

/-- The keys' rows as the body stacks them. -/
theorem keys_eq : kernelRun0_A.sl.r (F := Ideal) c arg3 harg3 arg4 harg4 arg5 harg5 arg6 harg6 x1 x2 x3 x4 = k0_pay3 x1 x2 x3 x4 := by
  unfold kernelRun0_A.sl.r
  rw [View.readAt_full, View.readAt_full, View.readAt_full, View.readAt_full]
  rw [harg3.read_unread, harg4.read_unread, harg5.read_unread, harg6.read_unread]

/-- The values' rows as the body stacks them. -/
theorem vals_eq : kernelRun0_A.sl.r_1 (F := Ideal) c arg7 harg7 arg8 harg8 arg9 harg9 arg10 harg10 x5 x6 x7 x8 = k0_pay4 x5 x6 x7 x8 := by
  unfold kernelRun0_A.sl.r_1
  rw [View.readAt_full, View.readAt_full, View.readAt_full, View.readAt_full]
  rw [harg7.read_unread, harg8.read_unread, harg9.read_unread, harg10.read_unread]

/-- What the body leaves at row `r` and column `d` of head `h`. -/
theorem out_head (h : Fin 16) (r : Fin 256) (d : Fin 64) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r (hc h d))
      = ent (kernelRun0_A.sl.r_2 i) x0 x9 (k0_pay3 x1 x2 x3 x4) (k0_pay4 x5 x6 x7 x8) h r d := by
  unfold out0_A_10 kernelRun0_A
  dsimp only
  rw [View.read_writes_full]
  match h with
  | ⟨0, _⟩ =>
    refine (cat0 _ _ _ _ _ _ _ _ _ _ _ _ _ _ _ _ r d).trans ((h0 _ _ _ _ _ _ _ _ _ r d).trans ?_)
    exact hd_ent 0 _ rfl _ _ _ _ _ x0 x9 _ _ r d (ld_q _ _ x0 (harg2.read_unread _) 0 _ rfl _ r) (ld_s _ _ x9 (harg11.read_unread _) 0 _ rfl _)
      (keys_eq c arg3 harg3 arg4 harg4 arg5 harg5 arg6 harg6 x1 x2 x3 x4) (vals_eq c arg7 harg7 arg8 harg8 arg9 harg9 arg10 harg10 x5 x6 x7 x8)
  | ⟨1, _⟩ =>
    refine (cat1 _ _ _ _ _ _ _ _ _ _ _ _ _ _ _ _ r d).trans ((h1 _ _ _ _ _ r d).trans ?_)
    exact hd_ent 1 _ rfl _ _ _ _ _ x0 x9 _ _ r d (ld_q _ _ x0 (harg2.read_unread _) 1 _ rfl _ r) (ld_s _ _ x9 (harg11.read_unread _) 1 _ rfl _)
      (keys_eq c arg3 harg3 arg4 harg4 arg5 harg5 arg6 harg6 x1 x2 x3 x4) (vals_eq c arg7 harg7 arg8 harg8 arg9 harg9 arg10 harg10 x5 x6 x7 x8)
  | ⟨2, _⟩ =>
    refine (cat2 _ _ _ _ _ _ _ _ _ _ _ _ _ _ _ _ r d).trans ((h2 _ _ _ _ _ r d).trans ?_)
    exact hd_ent 2 _ rfl _ _ _ _ _ x0 x9 _ _ r d (ld_q _ _ x0 (harg2.read_unread _) 2 _ rfl _ r) (ld_s _ _ x9 (harg11.read_unread _) 2 _ rfl _)
      (keys_eq c arg3 harg3 arg4 harg4 arg5 harg5 arg6 harg6 x1 x2 x3 x4) (vals_eq c arg7 harg7 arg8 harg8 arg9 harg9 arg10 harg10 x5 x6 x7 x8)
  | ⟨3, _⟩ =>
    refine (cat3 _ _ _ _ _ _ _ _ _ _ _ _ _ _ _ _ r d).trans ((h3 _ _ _ _ _ r d).trans ?_)
    exact hd_ent 3 _ rfl _ _ _ _ _ x0 x9 _ _ r d (ld_q _ _ x0 (harg2.read_unread _) 3 _ rfl _ r) (ld_s _ _ x9 (harg11.read_unread _) 3 _ rfl _)
      (keys_eq c arg3 harg3 arg4 harg4 arg5 harg5 arg6 harg6 x1 x2 x3 x4) (vals_eq c arg7 harg7 arg8 harg8 arg9 harg9 arg10 harg10 x5 x6 x7 x8)
  | ⟨4, _⟩ =>
    refine (cat4 _ _ _ _ _ _ _ _ _ _ _ _ _ _ _ _ r d).trans ((h4 _ _ _ _ _ r d).trans ?_)
    exact hd_ent 4 _ rfl _ _ _ _ _ x0 x9 _ _ r d (ld_q _ _ x0 (harg2.read_unread _) 4 _ rfl _ r) (ld_s _ _ x9 (harg11.read_unread _) 4 _ rfl _)
      (keys_eq c arg3 harg3 arg4 harg4 arg5 harg5 arg6 harg6 x1 x2 x3 x4) (vals_eq c arg7 harg7 arg8 harg8 arg9 harg9 arg10 harg10 x5 x6 x7 x8)
  | ⟨5, _⟩ =>
    refine (cat5 _ _ _ _ _ _ _ _ _ _ _ _ _ _ _ _ r d).trans ((h5 _ _ _ _ _ r d).trans ?_)
    exact hd_ent 5 _ rfl _ _ _ _ _ x0 x9 _ _ r d (ld_q _ _ x0 (harg2.read_unread _) 5 _ rfl _ r) (ld_s _ _ x9 (harg11.read_unread _) 5 _ rfl _)
      (keys_eq c arg3 harg3 arg4 harg4 arg5 harg5 arg6 harg6 x1 x2 x3 x4) (vals_eq c arg7 harg7 arg8 harg8 arg9 harg9 arg10 harg10 x5 x6 x7 x8)
  | ⟨6, _⟩ =>
    refine (cat6 _ _ _ _ _ _ _ _ _ _ _ _ _ _ _ _ r d).trans ((h6 _ _ _ _ _ r d).trans ?_)
    exact hd_ent 6 _ rfl _ _ _ _ _ x0 x9 _ _ r d (ld_q _ _ x0 (harg2.read_unread _) 6 _ rfl _ r) (ld_s _ _ x9 (harg11.read_unread _) 6 _ rfl _)
      (keys_eq c arg3 harg3 arg4 harg4 arg5 harg5 arg6 harg6 x1 x2 x3 x4) (vals_eq c arg7 harg7 arg8 harg8 arg9 harg9 arg10 harg10 x5 x6 x7 x8)
  | ⟨7, _⟩ =>
    refine (cat7 _ _ _ _ _ _ _ _ _ _ _ _ _ _ _ _ r d).trans ((h7 _ _ _ _ _ r d).trans ?_)
    exact hd_ent 7 _ rfl _ _ _ _ _ x0 x9 _ _ r d (ld_q _ _ x0 (harg2.read_unread _) 7 _ rfl _ r) (ld_s _ _ x9 (harg11.read_unread _) 7 _ rfl _)
      (keys_eq c arg3 harg3 arg4 harg4 arg5 harg5 arg6 harg6 x1 x2 x3 x4) (vals_eq c arg7 harg7 arg8 harg8 arg9 harg9 arg10 harg10 x5 x6 x7 x8)
  | ⟨8, _⟩ =>
    refine (cat8 _ _ _ _ _ _ _ _ _ _ _ _ _ _ _ _ r d).trans ((h8 _ _ _ _ _ r d).trans ?_)
    exact hd_ent 8 _ rfl _ _ _ _ _ x0 x9 _ _ r d (ld_q _ _ x0 (harg2.read_unread _) 8 _ rfl _ r) (ld_s _ _ x9 (harg11.read_unread _) 8 _ rfl _)
      (keys_eq c arg3 harg3 arg4 harg4 arg5 harg5 arg6 harg6 x1 x2 x3 x4) (vals_eq c arg7 harg7 arg8 harg8 arg9 harg9 arg10 harg10 x5 x6 x7 x8)
  | ⟨9, _⟩ =>
    refine (cat9 _ _ _ _ _ _ _ _ _ _ _ _ _ _ _ _ r d).trans ((h9 _ _ _ _ _ r d).trans ?_)
    exact hd_ent 9 _ rfl _ _ _ _ _ x0 x9 _ _ r d (ld_q _ _ x0 (harg2.read_unread _) 9 _ rfl _ r) (ld_s _ _ x9 (harg11.read_unread _) 9 _ rfl _)
      (keys_eq c arg3 harg3 arg4 harg4 arg5 harg5 arg6 harg6 x1 x2 x3 x4) (vals_eq c arg7 harg7 arg8 harg8 arg9 harg9 arg10 harg10 x5 x6 x7 x8)
  | ⟨10, _⟩ =>
    refine (cat10 _ _ _ _ _ _ _ _ _ _ _ _ _ _ _ _ r d).trans ((h10 _ _ _ _ _ r d).trans ?_)
    exact hd_ent 10 _ rfl _ _ _ _ _ x0 x9 _ _ r d (ld_q _ _ x0 (harg2.read_unread _) 10 _ rfl _ r) (ld_s _ _ x9 (harg11.read_unread _) 10 _ rfl _)
      (keys_eq c arg3 harg3 arg4 harg4 arg5 harg5 arg6 harg6 x1 x2 x3 x4) (vals_eq c arg7 harg7 arg8 harg8 arg9 harg9 arg10 harg10 x5 x6 x7 x8)
  | ⟨11, _⟩ =>
    refine (cat11 _ _ _ _ _ _ _ _ _ _ _ _ _ _ _ _ r d).trans ((h11 _ _ _ _ _ r d).trans ?_)
    exact hd_ent 11 _ rfl _ _ _ _ _ x0 x9 _ _ r d (ld_q _ _ x0 (harg2.read_unread _) 11 _ rfl _ r) (ld_s _ _ x9 (harg11.read_unread _) 11 _ rfl _)
      (keys_eq c arg3 harg3 arg4 harg4 arg5 harg5 arg6 harg6 x1 x2 x3 x4) (vals_eq c arg7 harg7 arg8 harg8 arg9 harg9 arg10 harg10 x5 x6 x7 x8)
  | ⟨12, _⟩ =>
    refine (cat12 _ _ _ _ _ _ _ _ _ _ _ _ _ _ _ _ r d).trans ((h12 _ _ _ _ _ r d).trans ?_)
    exact hd_ent 12 _ rfl _ _ _ _ _ x0 x9 _ _ r d (ld_q _ _ x0 (harg2.read_unread _) 12 _ rfl _ r) (ld_s _ _ x9 (harg11.read_unread _) 12 _ rfl _)
      (keys_eq c arg3 harg3 arg4 harg4 arg5 harg5 arg6 harg6 x1 x2 x3 x4) (vals_eq c arg7 harg7 arg8 harg8 arg9 harg9 arg10 harg10 x5 x6 x7 x8)
  | ⟨13, _⟩ =>
    refine (cat13 _ _ _ _ _ _ _ _ _ _ _ _ _ _ _ _ r d).trans ((h13 _ _ _ _ _ r d).trans ?_)
    exact hd_ent 13 _ rfl _ _ _ _ _ x0 x9 _ _ r d (ld_q _ _ x0 (harg2.read_unread _) 13 _ rfl _ r) (ld_s _ _ x9 (harg11.read_unread _) 13 _ rfl _)
      (keys_eq c arg3 harg3 arg4 harg4 arg5 harg5 arg6 harg6 x1 x2 x3 x4) (vals_eq c arg7 harg7 arg8 harg8 arg9 harg9 arg10 harg10 x5 x6 x7 x8)
  | ⟨14, _⟩ =>
    refine (cat14 _ _ _ _ _ _ _ _ _ _ _ _ _ _ _ _ r d).trans ((h14 _ _ _ _ _ r d).trans ?_)
    exact hd_ent 14 _ rfl _ _ _ _ _ x0 x9 _ _ r d (ld_q _ _ x0 (harg2.read_unread _) 14 _ rfl _ r) (ld_s _ _ x9 (harg11.read_unread _) 14 _ rfl _)
      (keys_eq c arg3 harg3 arg4 harg4 arg5 harg5 arg6 harg6 x1 x2 x3 x4) (vals_eq c arg7 harg7 arg8 harg8 arg9 harg9 arg10 harg10 x5 x6 x7 x8)
  | ⟨15, _⟩ =>
    refine (cat15 _ _ _ _ _ _ _ _ _ _ _ _ _ _ _ _ r d).trans ((h15 _ _ _ _ _ r d).trans ?_)
    exact hd_ent 15 _ rfl _ _ _ _ _ x0 x9 _ _ r d (ld_q _ _ x0 (harg2.read_unread _) 15 _ rfl _ r) (ld_s _ _ x9 (harg11.read_unread _) 15 _ rfl _)
      (keys_eq c arg3 harg3 arg4 harg4 arg5 harg5 arg6 harg6 x1 x2 x3 x4) (vals_eq c arg7 harg7 arg8 harg8 arg9 harg9 arg10 harg10 x5 x6 x7 x8)
  | ⟨n + 16, hn⟩ => exact absurd hn (by omega)
end
end Cert.Attn

end
-- ==== Proof.Attn.Value.lean ====
/- The attention's result array after the run: the formula at every index. -/
module

public import proofs.«01_k».proof.Proof.Attn.Goal
public import proofs.«01_k».proof.Proof.Attn.Mask
public import proofs.«01_k».proof.Proof.Attn.Out

@[expose] public section

set_option maxRecDepth 16384
set_option maxHeartbeats 1000000

noncomputable section

namespace Cert.Attn

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The result at batch row `n`, row `s`, head `h`, column `d`, from the arguments at launch. -/
def GM (n : Fin 8) (s : Fin 4352) (h : Fin 16) (d : Fin 64) : EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n s h d

/-- The result array, as a function of the memory at launch. -/
def GV : S8x4352x1024.Idx → EReal := fun j =>
  GM m c (j 0) (j 1) ⟨(j 2).val / 64, by have h : (j 2).val < 1024 := (j 2).isLt; omega⟩ ⟨(j 2).val % 64, by omega⟩

/-- Window column `i` of row `r` of point `t` is seen: the point holds sequence rows, the column is in the row's band, its key in the sequence. -/
def W (t : Fin cfg0.N) (r : Fin 256) (i : Fin 512) : Prop :=
  1 ≤ t.val % 17 ∧ r.val ≤ i.val ∧ i.val ≤ r.val + 256 ∧ 128 ≤ (t.val % 17 - 1) * 256 + i.val ∧ (t.val % 17 - 1) * 256 + i.val < 4096 + 128

/-- The sequence key window column `i` of point `t` holds. -/
def key (t : Fin cfg0.N) (i : Fin 512) : Fin 4096 := ⟨((t.val % 17 - 1) * 256 + i.val - 128) % 4096, by omega⟩

theorem key_val (t : Fin cfg0.N) (r : Fin 256) (i : Fin 512) (h : W t r i) : (key t i).val + 128 = (t.val % 17 - 1) * 256 + i.val := by
  obtain ⟨h1, h2, h3, h4, h5⟩ := h
  show ((t.val % 17 - 1) * 256 + i.val - 128) % 4096 + 128 = _
  rw [Nat.mod_eq_of_lt (by omega)]
  omega

/-- The mask on a window column. -/
theorem mask_win (t : Fin cfg0.N) (r : Fin 256) (i : Fin 512) :
    kernelRun0_A.sl.r_2 (grid0.coords t) (ix2 r (Fin.castAdd 256 i : Fin 768)) = 1#1 ↔ W t r i := by
  refine (mask_iff _ r (Fin.castAdd 256 i : Fin 768)).trans ?_
  rw [(index_all t).1.2.2.2]
  have hi := i.isLt
  have hr := r.isLt
  show 512 ≤ i.val ∨ (|(r.val : Int) - ((i.val : Int) - 128)| ≤ 128 ∧ 0 ≤ (((t.val % 17 : Nat) : Int) - 1) * 256 - 128 + i.val
    ∧ (((t.val % 17 : Nat) : Int) - 1) * 256 - 128 + i.val < 4096) ∧ 1 ≤ t.val % 17 ↔ _
  unfold W
  rw [abs_le]
  generalize t.val % 17 = j
  omega

/-- The mask on a context column. -/
theorem mask_ctx (t : Fin cfg0.N) (r : Fin 256) (i : Fin 256) :
    kernelRun0_A.sl.r_2 (grid0.coords t) (ix2 r (Fin.natAdd 512 i : Fin 768)) = 1#1 :=
  (mask_iff _ r (Fin.natAdd 512 i : Fin 768)).mpr (Or.inl (by show 512 ≤ 512 + i.val; omega))

section Rows
variable (x1 : Vec Ideal S1x128x256 .bf16) (x2 : Vec Ideal S1x256x256 .bf16) (x3 : Vec Ideal S1x128x256 .bf16) (x4 : Vec Ideal S1x256x256 .bf16)
  (e : Fin 256) (A : Fin 4352 → EReal) (t : Fin cfg0.N)

/-- A seen window column of the stack holds its key's row of the array. -/
theorem stk_win (h1 : ∀ r, x1 (ix3 0 r e) = A (rowp t r)) (h2 : ∀ r, x2 (ix3 0 r e) = A (row t r)) (h3 : ∀ r, x3 (ix3 0 r e) = A (rown t r))
    (r : Fin 256) (i : Fin 512) (hw : W t r i) : stk x1 x2 x3 x4 e (Fin.castAdd 256 i : Fin 768) = A ⟨256 + (key t i).val, by omega⟩ := by
  have hk := key_val t r i hw
  obtain ⟨w1, w2, w3, w4, w5⟩ := hw
  have hi := i.isLt
  unfold stk
  by_cases a1 : i.val < 128
  · rw [dif_pos (show (Fin.castAdd 256 i : Fin 768).val < 128 from a1), h1]
    refine congrArg A (Fin.ext ?_)
    show (2 * (t.val % 17) - 1) * 128 + i.val = 256 + (key t i).val
    omega
  · rw [dif_neg (show ¬ (Fin.castAdd 256 i : Fin 768).val < 128 from a1)]
    by_cases a2 : i.val - 128 < 256
    · rw [dif_pos (show (Fin.castAdd 256 i : Fin 768).val - 128 < 256 from a2), h2]
      refine congrArg A (Fin.ext ?_)
      show t.val % 17 * 256 + (i.val - 128) = 256 + (key t i).val
      omega
    · rw [dif_neg (show ¬ (Fin.castAdd 256 i : Fin 768).val - 128 < 256 from a2),
        dif_pos (show (Fin.castAdd 256 i : Fin 768).val - 128 - 256 < 128 by show i.val - 128 - 256 < 128; omega), h3]
      refine congrArg A (Fin.ext ?_)
      show min (2 * (t.val % 17) + 2) 33 * 128 + (i.val - 128 - 256) = 256 + (key t i).val
      omega

/-- A context column of the stack holds its row of the array. -/
theorem stk_ctx (h4 : ∀ r : Fin 256, x4 (ix3 0 r e) = A ⟨r.val, by omega⟩) (i : Fin 256) :
    stk x1 x2 x3 x4 e (Fin.natAdd 512 i : Fin 768) = A ⟨i.val, by omega⟩ := by
  have hv : (Fin.natAdd 512 i : Fin 768).val = 512 + i.val := rfl
  unfold stk
  rw [dif_neg (by omega), dif_neg (by omega), dif_neg (by omega), h4]
  exact congrArg A (Fin.ext (by show 512 + i.val - 128 - 256 - 128 = i.val; omega))
end Rows

theorem key_win (t : Fin cfg0.N) (e r : Fin 256) (i : Fin 512) (hw : W t r i) :
    k0_pay3 (iblk m c 1 t) (iblk m c 2 t) (iblk m c 3 t) (iblk m c 4 t) (ix2 (Fin.castAdd 256 i : Fin 768) e)
      = (m ((c : Thread nD τ).loc main_arg4) : S8x4096x256.Idx → EReal) (ix3 (bat t) (key t i) e) := by
  rw [pay3_apply]
  refine (stk_win _ _ _ _ e (fun s => V m c main_v7 (ix3 (bat t) s (⟨1024 + e.val, by omega⟩ : Fin 1536))) t
    (fun r => iblk1_apply m c t r e) (fun r => iblk2_apply m c t r e) (fun r => iblk3_apply m c t r e) r i hw).trans ?_
  rw [V_all]
  exact (joined_k _ _ _ _ _ _ _ _ e).trans (two_seq _ _ _ (key t i) rfl)

theorem key_ctx (t : Fin cfg0.N) (e i : Fin 256) :
    k0_pay3 (iblk m c 1 t) (iblk m c 2 t) (iblk m c 3 t) (iblk m c 4 t) (ix2 (Fin.natAdd 512 i : Fin 768) e)
      = (m ((c : Thread nD τ).loc main_arg1) : S8x256x256.Idx → EReal) (ix3 (bat t) i e) := by
  rw [pay3_apply]
  refine (stk_ctx _ _ _ _ e (fun s => V m c main_v7 (ix3 (bat t) s (⟨1024 + e.val, by omega⟩ : Fin 1536)))
    (fun r => iblk4_apply m c t r e) i).trans ?_
  rw [V_all]
  exact (joined_k _ _ _ _ _ _ _ _ e).trans (two_ctx _ _ i)

theorem val_win (t : Fin cfg0.N) (e r : Fin 256) (i : Fin 512) (hw : W t r i) :
    k0_pay4 (iblk m c 5 t) (iblk m c 6 t) (iblk m c 7 t) (iblk m c 8 t) (ix2 (Fin.castAdd 256 i : Fin 768) e)
      = (m ((c : Thread nD τ).loc main_arg5) : S8x4096x256.Idx → EReal) (ix3 (bat t) (key t i) e) := by
  rw [pay4_apply]
  refine (stk_win _ _ _ _ e (fun s => V m c main_v7 (ix3 (bat t) s (⟨1280 + e.val, by omega⟩ : Fin 1536))) t
    (fun r => iblk5_apply m c t r e) (fun r => iblk6_apply m c t r e) (fun r => iblk7_apply m c t r e) r i hw).trans ?_
  rw [V_all]
  exact (joined_v _ _ _ _ _ _ _ _ e).trans (two_seq _ _ _ (key t i) rfl)

theorem val_ctx (t : Fin cfg0.N) (e i : Fin 256) :
    k0_pay4 (iblk m c 5 t) (iblk m c 6 t) (iblk m c 7 t) (iblk m c 8 t) (ix2 (Fin.natAdd 512 i : Fin 768) e)
      = (m ((c : Thread nD τ).loc main_arg2) : S8x256x256.Idx → EReal) (ix3 (bat t) i e) := by
  rw [pay4_apply]
  refine (stk_ctx _ _ _ _ e (fun s => V m c main_v7 (ix3 (bat t) s (⟨1280 + e.val, by omega⟩ : Fin 1536)))
    (fun r => iblk8_apply m c t r e) i).trans ?_
  rw [V_all]
  exact (joined_v _ _ _ _ _ _ _ _ e).trans (two_ctx _ _ i)

/-- The query block holds the scaled queries. -/
theorem query (t : Fin cfg0.N) (r : Fin 256) (d : Fin 1024) :
    (X0_0 m c t : S1x256x1024.Idx → EReal) (ix3 0 r d) = two (fun s => (m ((c : Thread nD τ).loc main_arg0) : S8x256x1024.Idx → EReal) (ix3 (bat t) s d))
      (fun s => (m ((c : Thread nD τ).loc main_arg3) : S8x4096x1024.Idx → EReal) (ix3 (bat t) s d)) (row t r) * sca := by
  rw [X0_apply, V_all]
  refine (joined_q _ _ _ _ _ _ _ _ d).trans ?_
  unfold two scaled
  split <;> rfl

theorem sink (t : Fin cfg0.N) (h : Fin 16) :
    iblk m c 9 t (ix2 h 0) = (m ((c : Thread nD τ).loc main_arg6) : S16.Idx → EReal) (ix1 h) :=
  (iblk9_apply m c t h 0).trans (V_sink m c h 0)

/-- A score over the scaled queries. -/
theorem score (t : Fin cfg0.N) (r : Fin 256) (h : Fin 16) (q K K' : Fin 64 → EReal)
    (hq : ∀ e, q e = two (fun s => (m ((c : Thread nD τ).loc main_arg0) : S8x256x1024.Idx → EReal) (ix3 (bat t) s (hc h e)))
          (fun s => (m ((c : Thread nD τ).loc main_arg3) : S8x4096x1024.Idx → EReal) (ix3 (bat t) s (hc h e))) (row t r) * sca) (hK : ∀ e, K e = K' e) :
    ∑ e : Fin 64, q e * K e
      = (∑ e : Fin 64, two (fun s => (m ((c : Thread nD τ).loc main_arg0) : S8x256x1024.Idx → EReal) (ix3 (bat t) s (hc h e)))
          (fun s => (m ((c : Thread nD τ).loc main_arg3) : S8x4096x1024.Idx → EReal) (ix3 (bat t) s (hc h e))) (row t r) * K' e) * sca := by
  rw [← sum_scaled]
  exact Finset.sum_congr rfl fun e _ => by rw [hK, hq]

/-- One head's entry over the blocks of point `t` is the formula's. -/
theorem ent_eq (t : Fin cfg0.N) (h : Fin 16) (r : Fin 256) (d : Fin 64) :
    ent (kernelRun0_A.sl.r_2 (grid0.coords t)) (X0_0 m c t) (iblk m c 9 t) (k0_pay3 (iblk m c 1 t) (iblk m c 2 t) (iblk m c 3 t) (iblk m c 4 t))
      (k0_pay4 (iblk m c 5 t) (iblk m c 6 t) (iblk m c 7 t) (iblk m c 8 t)) h r d = GM m c (bat t) (row t r) h d := by
  have hrow : (row t r).val = t.val % 17 * 256 + r.val := rfl
  have hr := r.isLt
  unfold ent GM G
  rw [sink]
  refine kern_eq (w := 512) (b := 256) (a := 4096) _ _ _ _ _ _ (W t r) (key t) _ ?_ ?_ ?_ ?_ ?_ ?_ ?_
  · intro i i' hi hi' e
    have e1 := key_val t r i hi
    have e2 := key_val t r i' hi'
    rw [e] at e1
    exact Fin.ext (by omega)
  · intro i hi
    have e1 := key_val t r i hi
    refine (if_pos ((mask_win t r i).mpr hi)).trans (Eq.trans ?_ (if_pos ?_).symm)
    · exact score m c t r h _ _ _ (fun e => query m c t r _) fun e => key_win m c t _ r i hi
    · obtain ⟨w1, w2, w3, w4, w5⟩ := hi
      rw [abs_le]
      omega
  · intro i hi
    exact if_neg fun hh => hi ((mask_win t r i).mp hh)
  · intro i hi
    exact val_win m c t _ r i hi
  · intro s hs
    refine if_neg fun hh => ?_
    obtain ⟨b1, b2⟩ := hh
    rw [abs_le] at b2
    have hs' := s.isLt
    have hw : W t r ⟨s.val + 128 - (t.val % 17 - 1) * 256, by omega⟩ := by
      unfold W
      dsimp only
      omega
    have hk := key_val t r _ hw
    refine hs _ hw (Fin.ext ?_)
    dsimp only at hk
    omega
  · intro i
    refine (if_pos (mask_ctx t r i)).trans ?_
    exact score m c t r h _ _ _ (fun e => query m c t r _) fun e => key_ctx m c t _ i
  · intro i
    exact val_ctx m c t _ i

/-- What point `t` writes back, read at row `r` and a head's column. -/
theorem out_apply (t : Fin cfg0.N) (r : Fin 256) (h : Fin 16) (d : Fin 64) :
    outsAt0 m c t (ix3 0 r (hc h d)) = GM m c (bat t) (row t r) h d :=
  (out_head c (grid0.coords t) _ _ _ _ _ _ _ _ _ _ _ _ _ _ _ _ _ _ _ _ _ _ _ _ _ _ _ _ _ _ _ _ h r d).trans (ent_eq m c t h r d)

/-- What point `t` writes back is its block of the result array. -/
theorem flushed_eq (t : Fin cfg0.N) : (dats m 0 c).flushed 10 t = (win0_10.blk t).view.read (Elt Ideal) (GV m c) := by
  rw [Cert.Kernel3Ideal.Value.flushed10]
  have h := (index_all t).1.2.1
  funext j
  have e0 : (j 0).val < 1 := (j 0).isLt
  have e1 : (j 1).val < 256 := (j 1).isLt
  have e2 : (j 2).val < 1024 := (j 2).isLt
  have ej : (fun a => j a) = (ix3 (n1 := 256) (n2 := 1024) (0 : Fin 1) ⟨(j 1).val, e1⟩ (hc ⟨(j 2).val / 64, by omega⟩ ⟨(j 2).val % 64, by omega⟩) : S1x256x1024.Idx) := by
    funext a
    apply Fin.ext
    match a with
    | ⟨0, _⟩ => show (j 0).val = 0; omega
    | ⟨1, _⟩ => rfl
    | ⟨2, _⟩ => show (j 2).val = (j 2).val / 64 * 64 + (j 2).val % 64; omega
  have key := out_apply m c t ⟨(j 1).val, e1⟩ ⟨(j 2).val / 64, by omega⟩ ⟨(j 2).val % 64, by omega⟩
  rw [← ej] at key
  refine Eq.trans (?_ : _ = outsAt0 m c t (fun a => j a)) (key.trans ?_)
  · rfl
  · refine Eq.trans (b := GV m c (ix3 (bat t) (row t ⟨(j 1).val, e1⟩) ⟨(j 2).val, e2⟩)) rfl (congrArg (GV m c) ?_)
    funext a
    apply Fin.ext
    match a with
    | ⟨0, _⟩ => show t.val / 17 = win0_10.index t 0 * 1 + 1 * (j 0).val; rw [h]; show _ = t.val / 17 * 1 + _; omega
    | ⟨1, _⟩ => show t.val % 17 * 256 + (j 1).val = win0_10.index t 1 * 256 + 1 * (j 1).val; rw [h]; simp
    | ⟨2, _⟩ => show (j 2).val = win0_10.index t 2 * 1024 + 1 * (j 2).val; rw [h]; simp

/-- An index of the result array is in point `t`'s block exactly when batch row and row block are `t`'s. -/
theorem mem_blk (t : Fin cfg0.N) (i : S8x4352x1024.Idx) (h0 : (i 0 : Nat) = t.val / 17)
    (h1 : t.val % 17 * 256 ≤ (i 1 : Nat)) (h1' : (i 1 : Nat) < t.val % 17 * 256 + 256) :
    i ∈ ((cfg0.win 10).blk t).view.set := by
  show i ∈ ((View.whole main_v10).slice (win0_10.rect t)).set
  rw [View.set_slice_whole, Rect.mem_set_unit]
  have h := (index_all t).1.2.1
  have h2 : (i 2 : Nat) < 1024 := (i 2).isLt
  intro a
  match a with
  | ⟨0, _⟩ => show win0_10.index t 0 * 1 ≤ (i 0 : Nat) ∧ (i 0 : Nat) < win0_10.index t 0 * 1 + 1
              rw [h]; show t.val / 17 * 1 ≤ _ ∧ _ < t.val / 17 * 1 + 1; omega
  | ⟨1, _⟩ => show win0_10.index t 1 * 256 ≤ (i 1 : Nat) ∧ (i 1 : Nat) < win0_10.index t 1 * 256 + 256
              rw [h]; exact ⟨h1, h1'⟩
  | ⟨2, _⟩ => show win0_10.index t 2 * 1024 ≤ (i 2 : Nat) ∧ (i 2 : Nat) < win0_10.index t 2 * 1024 + 1024
              rw [h]; show 0 * 1024 ≤ _ ∧ _ < 0 * 1024 + 1024; omega

/-- The blocks cover the result array. -/
theorem cover (i : S8x4352x1024.Idx) : ∃ t : Fin cfg0.N, (cfg0.win 10).flush t = true ∧ i ∈ ((cfg0.win 10).blk t).view.set := by
  have h0 : (i 0 : Nat) < 8 := (i 0).isLt
  have h1 : (i 1 : Nat) < 4352 := (i 1).isLt
  have hN : cfg0.N = 136 := N_0
  refine ⟨⟨(i 0 : Nat) * 17 + (i 1 : Nat) / 256, by omega⟩, flush0_10 _, mem_blk _ i ?_ ?_ ?_⟩ <;> dsimp only <;> omega

/-- The kernel's result array after the run. -/
theorem final : (dats m 0 c).arrAt 10 cfg0.N = GV m c :=
  (dats m 0 c).arrAt_eq_of_cover 10 (GV m c) (fun t _ => flushed_eq m c t) cover

end Cert.Attn

end
-- ==== Proof.Attn.RefDefs.lean ====
/- The attention's reference, its result written as scores, softmax and sums of values. -/
module

public import proofs.«01_k».proof.Proof.Gen.Reference3Ideal.Run
public import Idealize.ShloMosaic.Lib.Pointwise

@[expose] public section

set_option maxRecDepth 16384
set_option maxHeartbeats 2000000

noncomputable section

namespace Cert.Attn.Ref

open Idealize.ShloMosaic Idealize.ShloMosaic.TcCoe Idealize.SL.Sem
open Cert.Reference3Ideal Cert.Reference3Ideal.Gen

/-- The context rows' scores and sinks. -/
def XC (a0 : FVec Ideal S8x256x1024 .f32) (a1 : FVec Ideal S8x256x256 .f32) (a6 : FVec Ideal S16 .f32) : FVec Ideal S8x4x4x256x257 .f32 :=
  concatenate S8x4x4x256x257 4 [⟨S8x4x4x256x256, (mulf (transpose S8x4x4x256x256 [0, 1, 4, 3, 2] (Host.dotGeneral dot_S8x256x4x64_S8x256x4x4x64_S8x4x256x256x4_3_4_1_13_02_02 none (shapeCast _ a1 shapeCasts_S8x256x256_S8x256x4x64) (shapeCast _ a0 shapeCasts_S8x256x1024_S8x256x4x4x64)) transposes_S8x4x256x256x4_S8x4x4x256x256_0_1_4_3_2) (broadcastInDim S8x4x4x256x256 ![] bcast_S_S8x4x4x256x256 (constant S_ .f32 0x3E000000#32)))⟩, ⟨S8x4x4x256x1, (broadcastInDim S8x4x4x256x1 ![0, 1, 2, 3, 4] bcast_S1x4x4x1x1_S8x4x4x256x1_0_1_2_3_4 (broadcastInDim S1x4x4x1x1 ![1, 2] bcast_S4x4_S1x4x4x1x1_1_2 (shapeCast _ a6 shapeCasts_S16_S4x4)))⟩] concatenates_S8x4x4x256x256_S8x4x4x256x1_S8x4x4x256x257_d4

/-- The sequence rows' scores (the band's, the context's) and sinks. -/
def XL (a1 : FVec Ideal S8x256x256 .f32) (a3 : FVec Ideal S8x4096x1024 .f32) (a4 : FVec Ideal S8x4096x256 .f32) (a6 : FVec Ideal S16 .f32) : FVec Ideal S8x4x4x4096x4353 .f32 :=
  concatenate S8x4x4x4096x4353 4 [⟨S8x4x4x4096x4352, (concatenate S8x4x4x4096x4352 4 [⟨S8x4x4x4096x4096, (select (broadcastInDim S8x4x4x4096x4096 ![3, 4] bcast_S4096x4096_S8x4x4x4096x4096_3_4 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32)))) (mulf (transpose S8x4x4x4096x4096 [0, 1, 4, 3, 2] (Host.dotGeneral dot_S8x4096x4x64_S8x4096x4x4x64_S8x4x4096x4096x4_3_4_1_13_02_02 none (shapeCast _ a4 shapeCasts_S8x4096x256_S8x4096x4x64) (shapeCast _ a3 shapeCasts_S8x4096x1024_S8x4096x4x4x64)) transposes_S8x4x4096x4096x4_S8x4x4x4096x4096_0_1_4_3_2) (broadcastInDim S8x4x4x4096x4096 ![] bcast_S_S8x4x4x4096x4096 (constant S_ .f32 0x3E000000#32))) (broadcastInDim S8x4x4x4096x4096 ![] bcast_S_S8x4x4x4096x4096 (id (constant S_ .f32 0xFF800000#32))))⟩, ⟨S8x4x4x4096x256, (mulf (transpose S8x4x4x4096x256 [0, 1, 4, 3, 2] (Host.dotGeneral dot_S8x256x4x64_S8x4096x4x4x64_S8x4x256x4096x4_3_4_1_13_02_02 none (shapeCast _ a1 shapeCasts_S8x256x256_S8x256x4x64) (shapeCast _ a3 shapeCasts_S8x4096x1024_S8x4096x4x4x64)) transposes_S8x4x256x4096x4_S8x4x4x4096x256_0_1_4_3_2) (broadcastInDim S8x4x4x4096x256 ![] bcast_S_S8x4x4x4096x256 (constant S_ .f32 0x3E000000#32)))⟩] concatenates_S8x4x4x4096x4096_S8x4x4x4096x256_S8x4x4x4096x4352_d4)⟩, ⟨S8x4x4x4096x1, (broadcastInDim S8x4x4x4096x1 ![0, 1, 2, 3, 4] bcast_S1x4x4x1x1_S8x4x4x4096x1_0_1_2_3_4 (broadcastInDim S1x4x4x1x1 ![1, 2] bcast_S4x4_S1x4x4x1x1_1_2 (shapeCast _ a6 shapeCasts_S16_S4x4)))⟩] concatenates_S8x4x4x4096x4352_S8x4x4x4096x1_S8x4x4x4096x4353_d4

/-- The context rows' softmax. -/
def SC (X : FVec Ideal S8x4x4x256x257 .f32) : FVec Ideal S8x4x4x256x257 .f32 :=
  Host.divf (Host.exp (subf X (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 (maximumf (broadcastInDim S8x4x4x256 ![] bcast_S_S8x4x4x256 (constant S_ .f32 0xFF800000#32)) (Host.reduce FloatOps.maximumf X (constant S_ .f32 0xFF800000#32) reducesTo_S8x4x4x256x257_S8x4x4x256_d4 h_S_)))))) (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 (Host.reduceAdd (Host.exp (subf X (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 (maximumf (broadcastInDim S8x4x4x256 ![] bcast_S_S8x4x4x256 (constant S_ .f32 0xFF800000#32)) (Host.reduce FloatOps.maximumf X (constant S_ .f32 0xFF800000#32) reducesTo_S8x4x4x256x257_S8x4x4x256_d4 h_S_)))))) (constant S_ .f32 0x00000000#32) reducesTo_S8x4x4x256x257_S8x4x4x256_d4 h_S_)))

/-- The sequence rows' softmax. -/
def SL (X : FVec Ideal S8x4x4x4096x4353 .f32) : FVec Ideal S8x4x4x4096x4353 .f32 :=
  Host.divf (Host.exp (subf X (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 (maximumf (broadcastInDim S8x4x4x4096 ![] bcast_S_S8x4x4x4096 (constant S_ .f32 0xFF800000#32)) (Host.reduce FloatOps.maximumf X (constant S_ .f32 0xFF800000#32) reducesTo_S8x4x4x4096x4353_S8x4x4x4096_d4 h_S_)))))) (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 (Host.reduceAdd (Host.exp (subf X (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 (maximumf (broadcastInDim S8x4x4x4096 ![] bcast_S_S8x4x4x4096 (constant S_ .f32 0xFF800000#32)) (Host.reduce FloatOps.maximumf X (constant S_ .f32 0xFF800000#32) reducesTo_S8x4x4x4096x4353_S8x4x4x4096_d4 h_S_)))))) (constant S_ .f32 0x00000000#32) reducesTo_S8x4x4x4096x4353_S8x4x4x4096_d4 h_S_)))

/-- The context rows' result. -/
def OC (a2 : FVec Ideal S8x256x256 .f32) (W : FVec Ideal S8x4x4x256x257 .f32) : FVec Ideal S8x256x1024 .f32 :=
  shapeCast S8x256x1024 (transpose S8x256x4x4x64 [0, 4, 1, 3, 2] (Host.dotGeneral dot_S8x256x4x64_S8x4x4x256x256_S8x4x64x4x256_1_4_3_23_02_01 none (shapeCast _ a2 shapeCasts_S8x256x256_S8x256x4x64) (extractStridedSlice S8x4x4x256x256 ![0, 0, 0, 0, 0] W slices_S8x4x4x256x257_S8x4x4x256x256_0_0_0_0_0)) transposes_S8x4x64x4x256_S8x256x4x4x64_0_4_1_3_2) shapeCasts_S8x256x4x4x64_S8x256x1024

/-- The sequence rows' result. -/
def OL (a2 : FVec Ideal S8x256x256 .f32) (a5 : FVec Ideal S8x4096x256 .f32) (W : FVec Ideal S8x4x4x4096x4353 .f32) : FVec Ideal S8x4096x1024 .f32 :=
  shapeCast S8x4096x1024 (addf (transpose S8x4096x4x4x64 [0, 4, 1, 3, 2] (Host.dotGeneral dot_S8x4096x4x64_S8x4x4x4096x4096_S8x4x64x4x4096_1_4_3_23_02_01 none (shapeCast _ a5 shapeCasts_S8x4096x256_S8x4096x4x64) (extractStridedSlice S8x4x4x4096x4096 ![0, 0, 0, 0, 0] (extractStridedSlice S8x4x4x4096x4352 ![0, 0, 0, 0, 0] W slices_S8x4x4x4096x4353_S8x4x4x4096x4352_0_0_0_0_0) slices_S8x4x4x4096x4352_S8x4x4x4096x4096_0_0_0_0_0)) transposes_S8x4x64x4x4096_S8x4096x4x4x64_0_4_1_3_2) (transpose S8x4096x4x4x64 [0, 4, 1, 3, 2] (Host.dotGeneral dot_S8x256x4x64_S8x4x4x4096x256_S8x4x64x4x4096_1_4_3_23_02_01 none (shapeCast _ a2 shapeCasts_S8x256x256_S8x256x4x64) (extractStridedSlice S8x4x4x4096x256 ![0, 0, 0, 0, 4096] (extractStridedSlice S8x4x4x4096x4352 ![0, 0, 0, 0, 0] W slices_S8x4x4x4096x4353_S8x4x4x4096x4352_0_0_0_0_0) slices_S8x4x4x4096x4352_S8x4x4x4096x256_0_0_0_0_4096)) transposes_S8x4x64x4x4096_S8x4096x4x4x64_0_4_1_3_2)) shapeCasts_S8x4096x4x4x64_S8x4096x1024

variable (m : (ℓ : Loc nD τ sig) → Buf (Elt Ideal) ℓ) (c : Dev nD)

/-- The reference's result in these parts. -/
theorem res_eq : Cert.Reference3Ideal.Value.res_main_v72 m c = concatenate S8x4352x1024 1
    [⟨S8x256x1024, OC (m ((c.tc : Thread nD τ).loc main_arg2)) (SC (XC (m ((c.tc : Thread nD τ).loc main_arg0)) (m ((c.tc : Thread nD τ).loc main_arg1)) (m ((c.tc : Thread nD τ).loc main_arg6))))⟩,
     ⟨S8x4096x1024, OL (m ((c.tc : Thread nD τ).loc main_arg2)) (m ((c.tc : Thread nD τ).loc main_arg5)) (SL (XL (m ((c.tc : Thread nD τ).loc main_arg1)) (m ((c.tc : Thread nD τ).loc main_arg3)) (m ((c.tc : Thread nD τ).loc main_arg4)) (m ((c.tc : Thread nD τ).loc main_arg6))))⟩]
    concatenates_S8x256x1024_S8x4096x1024_S8x4352x1024_d1 := by
  unfold Cert.Reference3Ideal.Value.res_main_v72
  rfl

end Cert.Attn.Ref

end
-- ==== Proof.Attn.RefSoft.lean ====
/- The reference's softmax, read at an index. -/
module

public import proofs.«01_k».proof.Proof.Attn.RefDefs
public import proofs.«01_k».proof.Proof.Attn.Softmax

@[expose] public section

set_option maxRecDepth 16384
set_option maxHeartbeats 2000000

noncomputable section

namespace Cert.Attn.Ref

open Idealize.ShloMosaic Idealize.ShloMosaic.TcCoe Idealize.SL.Sem
open Cert.Reference3Ideal Cert.Reference3Ideal.Gen

/-- The word the maxima start from is minus infinity. -/
theorem neg_inf : Ideal.ofBits .f32 4286578688#32 = ⊥ := by
  simp [Ideal.ofBits, Ideal.ieee]

theorem redC (X : FVec Ideal S8x4x4x256x257 .f32) (n : Fin 8) (k g : Fin 4) (q : Fin 256) :
    (Host.reduce FloatOps.maximumf X (constant S_ .f32 0xFF800000#32) reducesTo_S8x4x4x256x257_S8x4x4x256_d4 h_S_) (ix4 n k g q) = top (fun i : Fin 257 => X (ix5 n k g q i)) := by
  unfold top
  pointwise [neg_inf]

theorem maxC (A B : FVec Ideal S8x4x4x256 .f32) (n : Fin 8) (k g : Fin 4) (q : Fin 256) : maximumf A B (ix4 n k g q) = max (A (ix4 n k g q)) (B (ix4 n k g q)) := by
  pointwise

theorem infC (n : Fin 8) (k g : Fin 4) (q : Fin 256) : (broadcastInDim S8x4x4x256 ![] bcast_S_S8x4x4x256 (constant S_ .f32 0xFF800000#32) : FVec Ideal S8x4x4x256 .f32) (ix4 n k g q) = (⊥ : EReal) := by
  pointwise [neg_inf]

/-- The largest score of a row. -/
theorem topC (X : FVec Ideal S8x4x4x256x257 .f32) (n : Fin 8) (k g : Fin 4) (q : Fin 256) :
    maximumf (broadcastInDim S8x4x4x256 ![] bcast_S_S8x4x4x256 (constant S_ .f32 0xFF800000#32)) (Host.reduce FloatOps.maximumf X (constant S_ .f32 0xFF800000#32) reducesTo_S8x4x4x256x257_S8x4x4x256_d4 h_S_) (ix4 n k g q) = top (fun i : Fin 257 => X (ix5 n k g q i)) := by
  rw [maxC, infC, redC]
  exact max_eq_right bot_le

theorem sumC (X : FVec Ideal S8x4x4x256x257 .f32) (n : Fin 8) (k g : Fin 4) (q : Fin 256) :
    Host.reduceAdd X (constant S_ .f32 0x00000000#32) reducesTo_S8x4x4x256x257_S8x4x4x256_d4 h_S_ (ix4 n k g q) = ∑ i : Fin 257, X (ix5 n k g q i) := by
  pointwise

theorem spreadC (M : FVec Ideal S8x4x4x256 .f32) (n : Fin 8) (k g : Fin 4) (q : Fin 256) (i : Fin 257) :
    (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 M)) (ix5 n k g q i) = M (ix4 n k g q) := by
  pointwise

theorem expC (X : FVec Ideal S8x4x4x256x257 .f32) (M : FVec Ideal S8x4x4x256 .f32) (n : Fin 8) (k g : Fin 4) (q : Fin 256) (i : Fin 257) :
    Host.exp (subf X (broadcastInDim S8x4x4x256x257 ![0, 1, 2, 3, 4] bcast_S8x4x4x256x1_S8x4x4x256x257_0_1_2_3_4 (broadcastInDim S8x4x4x256x1 ![0, 1, 2, 3] bcast_S8x4x4x256_S8x4x4x256x1_0_1_2_3 M))) (ix5 n k g q i) = Ideal.exp (X (ix5 n k g q i) - M (ix4 n k g q)) := by
  pointwise

theorem quotC (A B : FVec Ideal S8x4x4x256x257 .f32) (n : Fin 8) (k g : Fin 4) (q : Fin 256) (i : Fin 257) : Host.divf A B (ix5 n k g q i) = Ideal.div (A (ix5 n k g q i)) (B (ix5 n k g q i)) := by
  pointwise

/-- The softmax read at an index: the weight of the row's score there. -/
theorem SC_apply (X : FVec Ideal S8x4x4x256x257 .f32) (n : Fin 8) (k g : Fin 4) (q : Fin 256) (i : Fin 257) :
    SC X (ix5 n k g q i) = soft (fun i : Fin 257 => X (ix5 n k g q i)) i := by
  unfold SC soft
  rw [quotC, expC, spreadC, sumC, topC]
  exact congrArg _ (Finset.sum_congr rfl fun j _ => (expC ..).trans (by rw [topC]))

theorem redL (X : FVec Ideal S8x4x4x4096x4353 .f32) (n : Fin 8) (k g : Fin 4) (q : Fin 4096) :
    (Host.reduce FloatOps.maximumf X (constant S_ .f32 0xFF800000#32) reducesTo_S8x4x4x4096x4353_S8x4x4x4096_d4 h_S_) (ix4 n k g q) = top (fun i : Fin 4353 => X (ix5 n k g q i)) := by
  unfold top
  pointwise [neg_inf]

theorem maxL (A B : FVec Ideal S8x4x4x4096 .f32) (n : Fin 8) (k g : Fin 4) (q : Fin 4096) : maximumf A B (ix4 n k g q) = max (A (ix4 n k g q)) (B (ix4 n k g q)) := by
  pointwise

theorem infL (n : Fin 8) (k g : Fin 4) (q : Fin 4096) : (broadcastInDim S8x4x4x4096 ![] bcast_S_S8x4x4x4096 (constant S_ .f32 0xFF800000#32) : FVec Ideal S8x4x4x4096 .f32) (ix4 n k g q) = (⊥ : EReal) := by
  pointwise [neg_inf]

/-- The largest score of a row. -/
theorem topL (X : FVec Ideal S8x4x4x4096x4353 .f32) (n : Fin 8) (k g : Fin 4) (q : Fin 4096) :
    maximumf (broadcastInDim S8x4x4x4096 ![] bcast_S_S8x4x4x4096 (constant S_ .f32 0xFF800000#32)) (Host.reduce FloatOps.maximumf X (constant S_ .f32 0xFF800000#32) reducesTo_S8x4x4x4096x4353_S8x4x4x4096_d4 h_S_) (ix4 n k g q) = top (fun i : Fin 4353 => X (ix5 n k g q i)) := by
  rw [maxL, infL, redL]
  exact max_eq_right bot_le

theorem sumL (X : FVec Ideal S8x4x4x4096x4353 .f32) (n : Fin 8) (k g : Fin 4) (q : Fin 4096) :
    Host.reduceAdd X (constant S_ .f32 0x00000000#32) reducesTo_S8x4x4x4096x4353_S8x4x4x4096_d4 h_S_ (ix4 n k g q) = ∑ i : Fin 4353, X (ix5 n k g q i) := by
  pointwise

theorem spreadL (M : FVec Ideal S8x4x4x4096 .f32) (n : Fin 8) (k g : Fin 4) (q : Fin 4096) (i : Fin 4353) :
    (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 M)) (ix5 n k g q i) = M (ix4 n k g q) := by
  pointwise

theorem expL (X : FVec Ideal S8x4x4x4096x4353 .f32) (M : FVec Ideal S8x4x4x4096 .f32) (n : Fin 8) (k g : Fin 4) (q : Fin 4096) (i : Fin 4353) :
    Host.exp (subf X (broadcastInDim S8x4x4x4096x4353 ![0, 1, 2, 3, 4] bcast_S8x4x4x4096x1_S8x4x4x4096x4353_0_1_2_3_4 (broadcastInDim S8x4x4x4096x1 ![0, 1, 2, 3] bcast_S8x4x4x4096_S8x4x4x4096x1_0_1_2_3 M))) (ix5 n k g q i) = Ideal.exp (X (ix5 n k g q i) - M (ix4 n k g q)) := by
  pointwise

theorem quotL (A B : FVec Ideal S8x4x4x4096x4353 .f32) (n : Fin 8) (k g : Fin 4) (q : Fin 4096) (i : Fin 4353) : Host.divf A B (ix5 n k g q i) = Ideal.div (A (ix5 n k g q i)) (B (ix5 n k g q i)) := by
  pointwise

/-- The softmax read at an index: the weight of the row's score there. -/
theorem SL_apply (X : FVec Ideal S8x4x4x4096x4353 .f32) (n : Fin 8) (k g : Fin 4) (q : Fin 4096) (i : Fin 4353) :
    SL X (ix5 n k g q i) = soft (fun i : Fin 4353 => X (ix5 n k g q i)) i := by
  unfold SL soft
  rw [quotL, expL, spreadL, sumL, topL]
  exact congrArg _ (Finset.sum_congr rfl fun j _ => (expL ..).trans (by rw [topL]))

end Cert.Attn.Ref

end
-- ==== Proof.Attn.RefScore.lean ====
/- The reference's scores, read at an index. -/
module

public import proofs.«01_k».proof.Proof.Attn.RefDefs
public import proofs.«01_k».proof.Proof.Attn.RefSoft
public import proofs.«01_k».proof.Proof.Attn.Mask

@[expose] public section

set_option maxRecDepth 16384
set_option maxHeartbeats 2000000

noncomputable section

namespace Cert.Attn.Ref

open Idealize.ShloMosaic Idealize.ShloMosaic.TcCoe Idealize.SL.Sem
open Cert.Reference3Ideal Cert.Reference3Ideal.Gen

theorem pick (b : BitVec 1) (x y : EReal) : Scalar.select b x y = if b = 1#1 then x else y := rfl

theorem neg_inf' : (constant S_ .f32 4286578688#32 : FVec Ideal S_ .f32) ix0 = ⊥ := neg_inf

/-- The band's bit as a statement about numbers: the two positions are at most 128 apart. -/
theorem band_iff (q i : Fin 4096) :
    IntOp.cmpi CmpIPredicate.sle (IntOp.absi (IntOp.subi (BitVec.ofNat 32 q.val) (BitVec.ofNat 32 i.val))) 128#32 = 1#1 ↔ |(q.val : Int) - (i.val : Int)| ≤ 128 := by
  have hq := q.isLt
  have hi := i.isLt
  rw [Cert.Attn.lit, Cert.Attn.lit, Cert.Attn.sub_w, Cert.Attn.abs_w _ (by omega) (by omega)]
  have hb : |(q.val : Int) - (i.val : Int)| < 4096 := by rw [abs_lt]; omega
  have h0 : 0 ≤ |(q.val : Int) - (i.val : Int)| := abs_nonneg _
  exact (Cert.Attn.sle_w _ 128 (by omega) (by omega) (by omega) (by omega))

theorem XC_key (a0 : FVec Ideal S8x256x1024 .f32) (a1 : FVec Ideal S8x256x256 .f32) (a6 : FVec Ideal S16 .f32) (n : Fin 8) (k g : Fin 4) (q i : Fin 256) :
    XC a0 a1 a6 (ix5 n k g q (⟨i.val, by omega⟩ : Fin 257)) = (∑ x : Fin 64, a1 (ix3 n i (⟨k.val * 64 + x.val, by omega⟩ : Fin 256)) * a0 (ix3 n q (⟨k.val * 256 + g.val * 64 + x.val, by omega⟩ : Fin 1024))) * FloatOps.ofBits (F := Ideal) .f32 0x3E000000#32 := by
  have hi := i.isLt
  pointwise [XC]

theorem XC_sink (a0 : FVec Ideal S8x256x1024 .f32) (a1 : FVec Ideal S8x256x256 .f32) (a6 : FVec Ideal S16 .f32) (n : Fin 8) (k g : Fin 4) (q : Fin 256) :
    XC a0 a1 a6 (ix5 n k g q (256 : Fin 257)) = a6 (ix1 (⟨k.val * 4 + g.val, by omega⟩ : Fin 16)) := by
  pointwise [XC]

theorem XL_band (a1 : FVec Ideal S8x256x256 .f32) (a3 : FVec Ideal S8x4096x1024 .f32) (a4 : FVec Ideal S8x4096x256 .f32) (a6 : FVec Ideal S16 .f32) (n : Fin 8) (k g : Fin 4) (q i : Fin 4096) :
    XL a1 a3 a4 a6 (ix5 n k g q (⟨i.val, by omega⟩ : Fin 4353))
      = if |(q.val : Int) - (i.val : Int)| ≤ 128 then (∑ x : Fin 64, a4 (ix3 n i (⟨k.val * 64 + x.val, by omega⟩ : Fin 256)) * a3 (ix3 n q (⟨k.val * 256 + g.val * 64 + x.val, by omega⟩ : Fin 1024))) * FloatOps.ofBits (F := Ideal) .f32 0x3E000000#32 else ⊥ := by
  have hi := i.isLt
  pointwise [XL]
  rw [dif_pos (by omega), pick]
  exact if_congr (band_iff q i) rfl neg_inf'

theorem XL_ctx (a1 : FVec Ideal S8x256x256 .f32) (a3 : FVec Ideal S8x4096x1024 .f32) (a4 : FVec Ideal S8x4096x256 .f32) (a6 : FVec Ideal S16 .f32) (n : Fin 8) (k g : Fin 4) (q : Fin 4096) (i : Fin 256) :
    XL a1 a3 a4 a6 (ix5 n k g q (⟨4096 + i.val, by omega⟩ : Fin 4353)) = (∑ x : Fin 64, a1 (ix3 n i (⟨k.val * 64 + x.val, by omega⟩ : Fin 256)) * a3 (ix3 n q (⟨k.val * 256 + g.val * 64 + x.val, by omega⟩ : Fin 1024))) * FloatOps.ofBits (F := Ideal) .f32 0x3E000000#32 := by
  have hi := i.isLt
  pointwise [XL]
  rw [dif_pos (by omega)]

theorem XL_sink (a1 : FVec Ideal S8x256x256 .f32) (a3 : FVec Ideal S8x4096x1024 .f32) (a4 : FVec Ideal S8x4096x256 .f32) (a6 : FVec Ideal S16 .f32) (n : Fin 8) (k g : Fin 4) (q : Fin 4096) :
    XL a1 a3 a4 a6 (ix5 n k g q (4352 : Fin 4353)) = a6 (ix1 (⟨k.val * 4 + g.val, by omega⟩ : Fin 16)) := by
  pointwise [XL]

end Cert.Attn.Ref

end
-- ==== Proof.Attn.RefOut.lean ====
/- The reference's sums of values, read at an index. -/
module

public import proofs.«01_k».proof.Proof.Attn.RefDefs
public import proofs.«01_k».proof.Proof.Attn.Softmax

@[expose] public section

set_option maxRecDepth 16384
set_option maxHeartbeats 2000000

noncomputable section

namespace Cert.Attn.Ref

open Idealize.ShloMosaic Idealize.ShloMosaic.TcCoe Idealize.SL.Sem
open Cert.Reference3Ideal Cert.Reference3Ideal.Gen

theorem OC_apply (a2 : FVec Ideal S8x256x256 .f32) (W : FVec Ideal S8x4x4x256x257 .f32) (n : Fin 8) (s : Fin 256) (h : Fin 16) (d : Fin 64) :
    OC a2 W (ix3 n s (⟨h.val * 64 + d.val, by omega⟩ : Fin 1024))
      = ∑ i : Fin 256, a2 (ix3 n i (⟨h.val / 4 * 64 + d.val, by omega⟩ : Fin 256)) * W (ix5 n (⟨h.val / 4, by omega⟩ : Fin 4) (⟨h.val % 4, by omega⟩ : Fin 4) s (⟨i.val, by omega⟩ : Fin 257)) := by
  have hh := h.isLt
  have hd := d.isLt
  have e1 : (h.val * 64 + d.val) / 256 = h.val / 4 := by omega
  have e2 : (h.val * 64 + d.val) / 64 % 4 = h.val % 4 := by omega
  pointwise [OC, e1, e2]

theorem OL_apply (a2 : FVec Ideal S8x256x256 .f32) (a5 : FVec Ideal S8x4096x256 .f32) (W : FVec Ideal S8x4x4x4096x4353 .f32) (n : Fin 8) (s : Fin 4096) (h : Fin 16) (d : Fin 64) :
    OL a2 a5 W (ix3 n s (⟨h.val * 64 + d.val, by omega⟩ : Fin 1024))
      = ∑ i : Fin 4096, a5 (ix3 n i (⟨h.val / 4 * 64 + d.val, by omega⟩ : Fin 256)) * W (ix5 n (⟨h.val / 4, by omega⟩ : Fin 4) (⟨h.val % 4, by omega⟩ : Fin 4) s (⟨i.val, by omega⟩ : Fin 4353))
        + ∑ i : Fin 256, a2 (ix3 n i (⟨h.val / 4 * 64 + d.val, by omega⟩ : Fin 256)) * W (ix5 n (⟨h.val / 4, by omega⟩ : Fin 4) (⟨h.val % 4, by omega⟩ : Fin 4) s (⟨4096 + i.val, by omega⟩ : Fin 4353)) := by
  have hh := h.isLt
  have hd := d.isLt
  have e1 : (h.val * 64 + d.val) / 256 = h.val / 4 := by omega
  have e2 : (h.val * 64 + d.val) / 64 % 4 = h.val % 4 := by omega
  pointwise [OL, e1, e2]

end Cert.Attn.Ref
end
-- ==== Proof.Attn.RefValue.lean ====
/- The attention's reference equals the formula where queries, keys and sinks are finite. -/
module

public import proofs.«01_k».proof.Proof.Attn.Goal
public import proofs.«01_k».proof.Proof.Attn.RefScore
public import proofs.«01_k».proof.Proof.Attn.RefOut

@[expose] public section

set_option maxRecDepth 16384
set_option maxHeartbeats 1000000

noncomputable section

namespace Cert.Attn.Ref

open Idealize.ShloMosaic Idealize.ShloMosaic.TcCoe Idealize.SL.Sem
open Cert.Reference3Ideal Cert.Reference3Ideal.Gen

theorem XC_key' (a0 : FVec Ideal S8x256x1024 .f32) (a1 : FVec Ideal S8x256x256 .f32) (a6 : FVec Ideal S16 .f32) (n : Fin 8) (h : Fin 16) (q i : Fin 256) :
    XC a0 a1 a6 (ix5 n (⟨h.val / 4, by omega⟩ : Fin 4) (⟨h.val % 4, by omega⟩ : Fin 4) q (⟨i.val, by omega⟩ : Fin 257))
      = (∑ e : Fin 64, a0 (ix3 n q (hc h e)) * a1 (ix3 n i (kvc (grp h) e))) * sca := by
  rw [XC_key]
  refine congrArg (· * sca) (Finset.sum_congr rfl fun e _ => (mul_comm _ _).trans ?_)
  refine congrArg (a0 · * _) (congrArg (ix3 n q) (Fin.ext ?_))
  show h.val / 4 * 256 + h.val % 4 * 64 + e.val = h.val * 64 + e.val
  omega

theorem XL_ctx' (a1 : FVec Ideal S8x256x256 .f32) (a3 : FVec Ideal S8x4096x1024 .f32) (a4 : FVec Ideal S8x4096x256 .f32) (a6 : FVec Ideal S16 .f32)
    (n : Fin 8) (h : Fin 16) (q : Fin 4096) (i : Fin 256) :
    XL a1 a3 a4 a6 (ix5 n (⟨h.val / 4, by omega⟩ : Fin 4) (⟨h.val % 4, by omega⟩ : Fin 4) q (⟨4096 + i.val, by omega⟩ : Fin 4353))
      = (∑ e : Fin 64, a3 (ix3 n q (hc h e)) * a1 (ix3 n i (kvc (grp h) e))) * sca := by
  rw [XL_ctx]
  refine congrArg (· * sca) (Finset.sum_congr rfl fun e _ => (mul_comm _ _).trans ?_)
  refine congrArg (a3 · * _) (congrArg (ix3 n q) (Fin.ext ?_))
  show h.val / 4 * 256 + h.val % 4 * 64 + e.val = h.val * 64 + e.val
  omega

theorem XL_band' (a1 : FVec Ideal S8x256x256 .f32) (a3 : FVec Ideal S8x4096x1024 .f32) (a4 : FVec Ideal S8x4096x256 .f32) (a6 : FVec Ideal S16 .f32)
    (n : Fin 8) (h : Fin 16) (q i : Fin 4096) :
    XL a1 a3 a4 a6 (ix5 n (⟨h.val / 4, by omega⟩ : Fin 4) (⟨h.val % 4, by omega⟩ : Fin 4) q (⟨i.val, by omega⟩ : Fin 4353))
      = if |(q.val : Int) - (i.val : Int)| ≤ 128 then (∑ e : Fin 64, a3 (ix3 n q (hc h e)) * a4 (ix3 n i (kvc (grp h) e))) * sca else ⊥ := by
  rw [XL_band]
  refine if_congr Iff.rfl (congrArg (· * sca) (Finset.sum_congr rfl fun e _ => (mul_comm _ _).trans ?_)) rfl
  refine congrArg (a3 · * _) (congrArg (ix3 n q) (Fin.ext ?_))
  show h.val / 4 * 256 + h.val % 4 * 64 + e.val = h.val * 64 + e.val
  omega

/-- A head's sink, read through its group and its place in it. -/
theorem sink_ix (a6 : FVec Ideal S16 .f32) (h : Fin 16) (hk : h.val / 4 * 4 + h.val % 4 < 16) :
    a6 (ix1 (⟨h.val / 4 * 4 + h.val % 4, hk⟩ : Fin 16)) = a6 (ix1 h) :=
  congrArg a6 (congrArg ix1 (Fin.ext (by show h.val / 4 * 4 + h.val % 4 = h.val; omega)))

/-- A context row of the reference. -/
theorem ctx_eq (a0 : FVec Ideal S8x256x1024 .f32) (a1 a2 : FVec Ideal S8x256x256 .f32) (a3 : FVec Ideal S8x4096x1024 .f32)
    (a4 a5 : FVec Ideal S8x4096x256 .f32) (a6 : FVec Ideal S16 .f32)
    (h0 : ∀ j, IsReal (a0 j)) (h1 : ∀ j, IsReal (a1 j)) (h6 : ∀ j, IsReal (a6 j))
    (n : Fin 8) (s : Fin 256) (h : Fin 16) (d : Fin 64) :
    OC a2 (SC (XC a0 a1 a6)) (ix3 n s (hc h d)) = G a0 a1 a2 a3 a4 a5 a6 n (⟨s.val, by omega⟩ : Fin 4352) h d := by
  obtain ⟨k, hk⟩ := h6 (ix1 h)
  refine (OC_apply a2 (SC (XC a0 a1 a6)) n s h d).trans ?_
  unfold G
  rw [hk]
  have e1 : (fun t : Fin 4096 => if 256 ≤ s.val ∧ |(s.val : Int) - 256 - (t.val : Int)| ≤ 128 then
      (∑ e : Fin 64, two (fun s => a0 (ix3 n s (hc h e))) (fun s => a3 (ix3 n s (hc h e))) (⟨s.val, by omega⟩ : Fin 4352) * a4 (ix3 n t (kvc (grp h) e))) * sca else ⊥)
      = fun _ => ⊥ := funext fun t => if_neg fun hh => by have := s.isLt; omega
  refine Eq.trans ?_ (congrArg (fun z => attn z _ _ _ _) e1.symm)
  simp only [two_ctx]
  rw [← soft_ctx_eq (fun i : Fin 257 => XC a0 a1 a6 (ix5 n (⟨h.val / 4, by omega⟩ : Fin 4) (⟨h.val % 4, by omega⟩ : Fin 4) s i)) _ k _ _
    (fun c => XC_key' a0 a1 a6 n h s c) ((XC_sink a0 a1 a6 n _ _ s).trans ((sink_ix a6 h _).trans hk))
    (fun c => score_ne_top _ _ (fun e => h0 _) (fun e => h1 _))]
  refine Finset.sum_congr rfl fun i _ => (mul_comm _ _).trans ?_
  rw [SC_apply]
  rfl

/-- A sequence row of the reference. -/
theorem seq_eq (a0 : FVec Ideal S8x256x1024 .f32) (a1 a2 : FVec Ideal S8x256x256 .f32) (a3 : FVec Ideal S8x4096x1024 .f32)
    (a4 a5 : FVec Ideal S8x4096x256 .f32) (a6 : FVec Ideal S16 .f32)
    (h1 : ∀ j, IsReal (a1 j)) (h3 : ∀ j, IsReal (a3 j)) (h4 : ∀ j, IsReal (a4 j)) (h6 : ∀ j, IsReal (a6 j))
    (n : Fin 8) (s : Fin 4096) (h : Fin 16) (d : Fin 64) :
    OL a2 a5 (SL (XL a1 a3 a4 a6)) (ix3 n s (hc h d)) = G a0 a1 a2 a3 a4 a5 a6 n (⟨256 + s.val, by omega⟩ : Fin 4352) h d := by
  obtain ⟨k, hk⟩ := h6 (ix1 h)
  refine (OL_apply a2 a5 (SL (XL a1 a3 a4 a6)) n s h d).trans ?_
  unfold G
  rw [hk]
  simp only [fun (f : Fin 256 → EReal) (g : Fin 4096 → EReal) => two_seq f g (⟨256 + s.val, by omega⟩ : Fin 4352) s rfl]
  rw [← soft_eq (fun i : Fin 4353 => XL a1 a3 a4 a6 (ix5 n (⟨h.val / 4, by omega⟩ : Fin 4) (⟨h.val % 4, by omega⟩ : Fin 4) s i)) _ _ k _ _
    (fun t => (XL_band' a1 a3 a4 a6 n h s t).trans (if_congr ?_ rfl rfl)) (fun c => XL_ctx' a1 a3 a4 a6 n h s c)
    ((XL_sink a1 a3 a4 a6 n _ _ s).trans ((sink_ix a6 h _).trans hk)) (fun t => ?_)
    (fun c => score_ne_top _ _ (fun e => h3 _) (fun e => h1 _))]
  · refine congrArg₂ (· + ·) ?_ ?_
    · refine Finset.sum_congr rfl fun i _ => (mul_comm _ _).trans ?_
      rw [SL_apply]
      rfl
    · refine Finset.sum_congr rfl fun i _ => (mul_comm _ _).trans ?_
      rw [SL_apply]
      rfl
  · show _ ↔ 256 ≤ 256 + s.val ∧ |((256 + s.val : Nat) : Int) - 256 - (t.val : Int)| ≤ 128
    rw [show ((256 + s.val : Nat) : Int) - 256 - (t.val : Int) = (s.val : Int) - (t.val : Int) by push_cast; ring]
    exact ⟨fun x => ⟨by omega, x⟩, fun x => x.2⟩
  · split
    · exact score_ne_top _ _ (fun e => h3 _) (fun e => h4 _)
    · exact bot_ne_top

end Cert.Attn.Ref

end
-- ==== Proof.Attn.RefRun.lean ====
/- The attention's reference: its result array is the formula where queries, keys and sinks are finite. -/
module

public import proofs.«01_k».proof.Proof.Attn.RefValue

@[expose] public section

set_option maxRecDepth 16384
set_option maxHeartbeats 1000000

noncomputable section

namespace Cert.Attn.Ref

open Idealize.ShloMosaic Idealize.ShloMosaic.TcCoe Idealize.SL.Sem
open Cert.Reference3Ideal Cert.Reference3Ideal.Gen

variable (m : (ℓ : Loc nD τ sig) → Buf (Elt Ideal) ℓ) (c : Dev nD)

/-- Context rows, then sequence rows. -/
theorem rows_apply (A : FVec Ideal S8x256x1024 .f32) (B : FVec Ideal S8x4096x1024 .f32) (n : Fin 8) (s : Fin 4352) (d : Fin 1024) :
    concatenate S8x4352x1024 1 [⟨S8x256x1024, A⟩, ⟨S8x4096x1024, B⟩] concatenates_S8x256x1024_S8x4096x1024_S8x4352x1024_d1 (ix3 n s d)
      = if h : s.val < 256 then A (ix3 n ⟨s.val, h⟩ d) else B (ix3 n ⟨s.val - 256, by omega⟩ d) := by
  pointwise

/-- The reference's result array, as a function of the memory at launch. -/
def GR : S8x4352x1024.Idx → EReal := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (j 0) (j 1) ⟨(j 2).val / 64, by have h : (j 2).val < 1024 := (j 2).isLt; omega⟩ ⟨(j 2).val % 64, by omega⟩

/-- Where queries, keys and sinks are finite, the result is the formula's. -/
theorem res_G (h0 : ∀ j, IsReal ((m ((c : Thread nD τ).loc main_arg0) : S8x256x1024.Idx → EReal) j))
    (h1 : ∀ j, IsReal ((m ((c : Thread nD τ).loc main_arg1) : S8x256x256.Idx → EReal) j))
    (h3 : ∀ j, IsReal ((m ((c : Thread nD τ).loc main_arg3) : S8x4096x1024.Idx → EReal) j))
    (h4 : ∀ j, IsReal ((m ((c : Thread nD τ).loc main_arg4) : S8x4096x256.Idx → EReal) j))
    (h6 : ∀ j, IsReal ((m ((c : Thread nD τ).loc main_arg6) : S16.Idx → EReal) j)) : Value.res_main_v72 (F := Ideal) m c = GR m c := by
  refine (res_eq m c).trans ?_
  funext j
  have hj : (j 2).val < 1024 := (j 2).isLt
  have ej : j = ix3 (j 0) (j 1) (hc ⟨(j 2).val / 64, by omega⟩ ⟨(j 2).val % 64, by omega⟩) := by
    funext a
    apply Fin.ext
    match a with
    | ⟨0, _⟩ => rfl
    | ⟨1, _⟩ => rfl
    | ⟨2, _⟩ => show (j 2).val = (j 2).val / 64 * 64 + (j 2).val % 64; omega
  refine (congrArg _ ej).trans ((rows_apply _ _ (j 0) (j 1) _).trans ?_)
  have hs : (j 1).val < 4352 := (j 1).isLt
  split
  · rename_i h
    exact ctx_eq _ _ _ _ _ _ _ h0 h1 h6 _ ⟨(j 1).val, h⟩ _ _
  · rename_i h
    refine (seq_eq (m ((c : Thread nD τ).loc main_arg0)) _ _ _ _ _ _ h1 h3 h4 h6 _ ⟨(j 1).val - 256, by omega⟩ _ _).trans ?_
    unfold GR
    exact congrArg (fun s => G _ _ _ _ _ _ _ (j 0) s _ _) (Fin.ext (by show 256 + ((j 1).val - 256) = (j 1).val; omega))

end Cert.Attn.Ref

end
-- ==== Proof.Moe.Sec.lean ====
/-
  The mixture-of-experts kernel's body cut into sections: the routing counts, the gather, the expert's layer, the scatter.
-/
module

public import proofs.«01_k».proof.Proof.Gen.KernelIdeal.Skeleton
public import Idealize.ShloMosaic.Lib.Exec
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]

/-- The first step of a tile: count the routed rows and clear the result. -/
def secA (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let ⟨v43, v63, v67, v70, v74⟩ : Σ' (v43 : FVec F S136x136 .bf16) (v63 : FVec F S1x128 .f32) (v67 : IVec S136x128 1) (v70 : FVec F S136x128 .f32), FVec F S136x128 .f32 ← k0_part1 i arg4 harg4 arg5 harg5 arg6 harg6 arg7 harg7 arg8 harg8 arg9 harg9 arg10 harg10 arg11 harg11 arg12 harg12 arg13 harg13 arg14 harg14 arg15 harg15
  let ⟨v101, v105, v108, v110⟩ : Σ' (v101 : FVec F S1x128 .f32) (v105 : IVec S136x128 1) (v108 : FVec F S136x128 .f32), FVec F S136x128 .f32 ← k0_part2 i arg4 harg4 arg5 harg5 arg6 harg6 arg7 harg7 arg8 harg8 arg9 harg9 arg10 harg10 arg11 harg11 arg12 harg12 arg13 harg13 arg14 harg14 arg15 harg15 v43 v63 v67 v70 v74
  let ⟨v139, v143, v146, v147⟩ : Σ' (v139 : FVec F S1x128 .f32) (v143 : IVec S136x128 1) (v146 : FVec F S136x128 .f32), FVec F S136x128 .bf16 ← k0_part3 i arg4 harg4 arg5 harg5 arg6 harg6 arg7 harg7 arg8 harg8 arg9 harg9 arg10 harg10 arg11 harg11 arg12 harg12 arg13 harg13 arg14 harg14 arg15 harg15 v43 v101 v105 v108 v110
  let ⟨v177, v181, v182, v183⟩ : Σ' (v177 : FVec F S1x128 .f32) (v181 : IVec S136x128 1) (v182 : FVec F S136x128 .f32), FVec F S136x128 .f32 ← k0_part4 i arg4 harg4 arg5 harg5 arg6 harg6 arg7 harg7 arg8 harg8 arg9 harg9 arg10 harg10 arg11 harg11 arg12 harg12 arg13 harg13 arg14 harg14 arg15 harg15 v43 v139 v143 v146 v147
  let v191 : Vec F S136x128 .f32 ← Prog.lift (.load arg12 (Rect.unit (s := S1088x128) ![952, 0] S136x128.size inb_S1088x128_S136x128_952_0).toLoadRect (View.loadsAt_vmem h_S136x128))
  Prog.lift (.store arg12 (Rect.unit (s := S1088x128) ![952, 0] S136x128.size inb_S1088x128_S136x128_952_0) (k0_pay76 v43 v177 v181 v182 v183) Finset.univ (View.stores_vmem_bits_univ h_S136x128 rfl) (.inl rfl))
  let v199 : Vec F S8x128 .f32 ← Prog.lift (.load arg13 (Rect.unit (s := S8x128) ![0, 0] S8x128.size inb_S8x128_S8x128_0_0).toLoadRect (View.loadsAt_vmem h_S8x128))
  Prog.lift (.store arg13 (Rect.unit (s := S8x128) ![0, 0] S8x128.size inb_S8x128_S8x128_0_0) (k0_pay77 v177 v181 v182 v183) Finset.univ (View.stores_vmem_bits_univ h_S8x128 rfl) (.inl rfl))
  let v203 : Vec F S1x1088x1024 .f32 ← Prog.lift (.load arg11 (Rect.unit (s := S1x1088x1024) ![0, 0, 0] S1x1088x1024.size inb_S1x1088x1024_S1x1088x1024_0_0_0).toLoadRect (View.loadsAt_vmem h_S1x1088x1024))
  Prog.lift (.store arg11 (Rect.unit (s := S1x1088x1024) ![0, 0, 0] S1x1088x1024.size inb_S1x1088x1024_S1x1088x1024_0_0_0) (k0_pay78 (F := F)) Finset.univ (View.stores_vmem_bits_univ h_S1x1088x1024 rfl) (.inl rfl))
  pure ⟨⟩

/-- The gather of one expert's rows. -/
def secB (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h2 : k0_cond2 i v17 = 1#1) :
    Prog (TpuEff nD τ sig (Elt F) Λ₀ .tc) PUnit := do
  let arg2 : BitVec 32 := BitVec.ofNat 32 (i 2).val
  have v18 : IVec S544x128 32 := iota .tc S544x128 32 [1] iota_S544x128_d1_w32
  let v20 : BitVec 32 := Scalar.subi v17 4#32
  let v21 : BitVec 32 := Scalar.maxsi v20 0#32
  let v79 : FVec F S544x512 .bf16 ← k0_part7 i arg4 harg4 arg5 harg5 arg6 harg6 arg7 harg7 arg8 harg8 arg9 harg9 arg10 harg10 arg11 harg11 arg12 harg12 arg13 harg13 arg14 harg14 arg15 harg15 arg2 v18
  let ⟨v82, v100, v108, v116, v120⟩ : Σ' (v82 : FVec F S512x1024 .f32) (v100 : FVec F S544x128 .bf16) (v108 : FVec F S544x128 .bf16) (v116 : FVec F S544x128 .bf16), IVec S544x128 1 ← k0_part8 i arg4 harg4 arg5 harg5 arg6 harg6 arg7 harg7 arg8 harg8 arg9 harg9 arg10 harg10 arg11 harg11 arg12 harg12 arg13 harg13 arg14 harg14 arg15 harg15 arg2 v18 v79
  let v126 : Vec F S1x544x1024 .bf16 ← Prog.lift (.load arg4 (Rect.unit (s := S1x1088x1024) ![0, 544, 0] S1x544x1024.size inb_S1x1088x1024_S1x544x1024_0_544_0).toLoadRect (View.loadsAt_vmem h_S1x544x1024))
  let v131 : Vec F S512x1024 .bf16 ← Prog.lift (.load arg14 (Rect.unit (s := S1152x1024) ![0, 0] S512x1024.size inb_S1152x1024_S512x1024_0_0).toLoadRect (View.loadsAt_vmem h_S512x1024))
  Prog.lift (.store arg14 (Rect.unit (s := S1152x1024) ![0, 0] S512x1024.size inb_S1152x1024_S512x1024_0_0) (k0_pay81 v82 v100 v108 v116 v120 v126) Finset.univ (View.stores_vmem h_S512x1024 (harg14.storeExact_slice rfl _ packedbf16_S1152x1024_S512x1024_0_0) (fun _ => rfl)) (.inl rfl))
  let v135 : Vec F S512x1024 .f32 ← Prog.lift (.load arg15 (Rect.unit (s := S1152x1024) ![0, 0] S512x1024.size inb_S1152x1024_S512x1024_0_0).toLoadRect (View.loadsAt_vmem h_S512x1024))
  Prog.lift (.store arg15 (Rect.unit (s := S1152x1024) ![0, 0] S512x1024.size inb_S1152x1024_S512x1024_0_0) (k0_pay82 (F := F)) Finset.univ (View.stores_vmem_bits_univ h_S512x1024 rfl) (.inl rfl))
  let v138 : BitVec 32 := Scalar.subi v21 0#32
  let v140 : BitVec 32 := Scalar.divsi v138 1#32
  let v141 : BitVec 32 := Scalar.muli v140 1#32
  let v142 : BitVec 32 := Scalar.addi 0#32 v141
  Scf.Loop.for (k0_t1_loop v17) (k0_t1_ok i v17 k0_hw1 k0_h2) ⟨⟩ (k0_t1_body i arg4 harg4 arg5 harg5 arg6 harg6 arg7 harg7 arg8 harg8 arg9 harg9 arg10 harg10 arg11 harg11 arg12 harg12 arg13 harg13 arg14 harg14 arg15 harg15 arg2 v17 k0_hw1 v18 k0_h2)
  Scf.Loop.for (k0_t2_loop v17) (k0_t2_ok i v17 k0_hw1 k0_h2) ⟨⟩ (k0_t2_body i arg4 harg4 arg5 harg5 arg6 harg6 arg7 harg7 arg8 harg8 arg9 harg9 arg10 harg10 arg11 harg11 arg12 harg12 arg13 harg13 arg14 harg14 arg15 harg15 arg2 v17 k0_hw1 v18 k0_h2 v142)
  pure ⟨⟩

/-- One expert's layer on the first rows, size class 1. -/
def secC1 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let v58 : Vec F S256x1024 .bf16 ← Prog.lift (.load arg14 (Rect.unit (s := S1152x1024) ![0, 0] S256x1024.size inb_S1152x1024_S256x1024_0_0).toLoadRect (View.loadsAt_vmem h_S256x1024))
  let v59 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
  let v62 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
  let v69 : Vec F S256x1024 .f32 ← Prog.lift (.load arg15 (Rect.unit (s := S1152x1024) ![0, 0] S256x1024.size inb_S1152x1024_S256x1024_0_0).toLoadRect (View.loadsAt_vmem h_S256x1024))
  let v70 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
  let v74 : Vec F S256x1024 .f32 ← Prog.lift (.load arg15 (Rect.unit (s := S1152x1024) ![0, 0] S256x1024.size inb_S1152x1024_S256x1024_0_0).toLoadRect (View.loadsAt_vmem h_S256x1024))
  Prog.lift (.store arg15 (Rect.unit (s := S1152x1024) ![0, 0] S256x1024.size inb_S1152x1024_S256x1024_0_0) (k0_pay87 v58 v59 v62 v69 v70) Finset.univ (View.stores_vmem_bits_univ h_S256x1024 rfl) (.inl rfl))
  pure ⟨⟩

/-- One expert's layer on the first rows, size class 2. -/
def secC2 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let v58 : Vec F S320x1024 .bf16 ← Prog.lift (.load arg14 (Rect.unit (s := S1152x1024) ![0, 0] S320x1024.size inb_S1152x1024_S320x1024_0_0).toLoadRect (View.loadsAt_vmem h_S320x1024))
  let v59 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
  let v62 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
  let v69 : Vec F S320x1024 .f32 ← Prog.lift (.load arg15 (Rect.unit (s := S1152x1024) ![0, 0] S320x1024.size inb_S1152x1024_S320x1024_0_0).toLoadRect (View.loadsAt_vmem h_S320x1024))
  let v70 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
  let v74 : Vec F S320x1024 .f32 ← Prog.lift (.load arg15 (Rect.unit (s := S1152x1024) ![0, 0] S320x1024.size inb_S1152x1024_S320x1024_0_0).toLoadRect (View.loadsAt_vmem h_S320x1024))
  Prog.lift (.store arg15 (Rect.unit (s := S1152x1024) ![0, 0] S320x1024.size inb_S1152x1024_S320x1024_0_0) (k0_pay88 v58 v59 v62 v69 v70) Finset.univ (View.stores_vmem_bits_univ h_S320x1024 rfl) (.inl rfl))
  pure ⟨⟩

/-- One expert's layer on the first rows, size class 3. -/
def secC3 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let v58 : Vec F S384x1024 .bf16 ← Prog.lift (.load arg14 (Rect.unit (s := S1152x1024) ![0, 0] S384x1024.size inb_S1152x1024_S384x1024_0_0).toLoadRect (View.loadsAt_vmem h_S384x1024))
  let v59 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
  let v62 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
  let v69 : Vec F S384x1024 .f32 ← Prog.lift (.load arg15 (Rect.unit (s := S1152x1024) ![0, 0] S384x1024.size inb_S1152x1024_S384x1024_0_0).toLoadRect (View.loadsAt_vmem h_S384x1024))
  let v70 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
  let v74 : Vec F S384x1024 .f32 ← Prog.lift (.load arg15 (Rect.unit (s := S1152x1024) ![0, 0] S384x1024.size inb_S1152x1024_S384x1024_0_0).toLoadRect (View.loadsAt_vmem h_S384x1024))
  Prog.lift (.store arg15 (Rect.unit (s := S1152x1024) ![0, 0] S384x1024.size inb_S1152x1024_S384x1024_0_0) (k0_pay89 v58 v59 v62 v69 v70) Finset.univ (View.stores_vmem_bits_univ h_S384x1024 rfl) (.inl rfl))
  pure ⟨⟩

/-- One expert's layer on the first rows, size class 4. -/
def secC4 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let v58 : Vec F S512x1024 .bf16 ← Prog.lift (.load arg14 (Rect.unit (s := S1152x1024) ![0, 0] S512x1024.size inb_S1152x1024_S512x1024_0_0).toLoadRect (View.loadsAt_vmem h_S512x1024))
  let v59 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
  let v62 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
  let v69 : Vec F S512x1024 .f32 ← Prog.lift (.load arg15 (Rect.unit (s := S1152x1024) ![0, 0] S512x1024.size inb_S1152x1024_S512x1024_0_0).toLoadRect (View.loadsAt_vmem h_S512x1024))
  let v70 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
  let v74 : Vec F S512x1024 .f32 ← Prog.lift (.load arg15 (Rect.unit (s := S1152x1024) ![0, 0] S512x1024.size inb_S1152x1024_S512x1024_0_0).toLoadRect (View.loadsAt_vmem h_S512x1024))
  Prog.lift (.store arg15 (Rect.unit (s := S1152x1024) ![0, 0] S512x1024.size inb_S1152x1024_S512x1024_0_0) (k0_pay90 v58 v59 v62 v69 v70) Finset.univ (View.stores_vmem_bits_univ h_S512x1024 rfl) (.inl rfl))
  pure ⟨⟩

/-- One expert's layer. -/
def secC (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h3 : k0_cond3 v17 = 1#1) (v8 : Vec F S1x128 .f32) :
    Prog (TpuEff nD τ sig (Elt F) Λ₀ .tc) PUnit := do
  have cst_13 : F .f32 := Scalar.ofBits .f32 0x43800000#32
  let v37 : BitVec 1 := Scalar.cmpf .ole (k0_pay79 i v8) cst_13
  let v38 : BitVec 32 := Scalar.extui v37
  let v39 : BitVec 1 := Scalar.cmpi .ne v38 0#32
  (if v39 = 1#1 then secC1 i arg4 harg4 arg5 harg5 arg6 harg6 arg7 harg7 arg8 harg8 arg9 harg9 arg10 harg10 arg11 harg11 arg12 harg12 arg13 harg13 arg14 harg14 arg15 harg15 else pure ⟨⟩) >>= fun _ => do
    have cst_15 : F .f32 := Scalar.ofBits .f32 0x43A00000#32
    let v40 : BitVec 1 := Scalar.cmpf .ole (k0_pay79 i v8) cst_15
    have cst_16 : F .f32 := Scalar.ofBits .f32 0x43800000#32
    let v41 : BitVec 1 := Scalar.cmpf .ogt (k0_pay79 i v8) cst_16
    let v42 : BitVec 1 := Scalar.andi v40 v41
    let v43 : BitVec 32 := Scalar.extui v42
    let v44 : BitVec 1 := Scalar.cmpi .ne v43 0#32
    (if v44 = 1#1 then secC2 i arg4 harg4 arg5 harg5 arg6 harg6 arg7 harg7 arg8 harg8 arg9 harg9 arg10 harg10 arg11 harg11 arg12 harg12 arg13 harg13 arg14 harg14 arg15 harg15 else pure ⟨⟩) >>= fun _ => do
      have cst_18 : F .f32 := Scalar.ofBits .f32 0x43C00000#32
      let v45 : BitVec 1 := Scalar.cmpf .ole (k0_pay79 i v8) cst_18
      have cst_19 : F .f32 := Scalar.ofBits .f32 0x43A00000#32
      let v46 : BitVec 1 := Scalar.cmpf .ogt (k0_pay79 i v8) cst_19
      let v47 : BitVec 1 := Scalar.andi v45 v46
      let v48 : BitVec 32 := Scalar.extui v47
      let v49 : BitVec 1 := Scalar.cmpi .ne v48 0#32
      (if v49 = 1#1 then secC3 i arg4 harg4 arg5 harg5 arg6 harg6 arg7 harg7 arg8 harg8 arg9 harg9 arg10 harg10 arg11 harg11 arg12 harg12 arg13 harg13 arg14 harg14 arg15 harg15 else pure ⟨⟩) >>= fun _ => do
        have cst_21 : F .f32 := Scalar.ofBits .f32 0x43C00000#32
        let v50 : BitVec 1 := Scalar.cmpf .ogt (k0_pay79 i v8) cst_21
        let v51 : BitVec 32 := Scalar.extui v50
        let v52 : BitVec 1 := Scalar.cmpi .ne v51 0#32
        (if v52 = 1#1 then secC4 i arg4 harg4 arg5 harg5 arg6 harg6 arg7 harg7 arg8 harg8 arg9 harg9 arg10 harg10 arg11 harg11 arg12 harg12 arg13 harg13 arg14 harg14 arg15 harg15 else pure ⟨⟩) >>= fun _ => do
          Scf.Loop.for (k0_t3_loop v17) (k0_t3_ok i v17 k0_hw1 k0_h3) ⟨⟩ (k0_t3_body i arg4 harg4 arg5 harg5 arg6 harg6 arg7 harg7 arg8 harg8 arg9 harg9 arg10 harg10 arg11 harg11 arg12 harg12 arg13 harg13 arg14 harg14 arg15 harg15 v17 k0_hw1 k0_h3)
          Scf.Loop.for (k0_t4_loop v17) (k0_t4_ok i v17 k0_hw1 k0_h3) ⟨⟩ (k0_t4_body i arg4 harg4 arg5 harg5 arg6 harg6 arg7 harg7 arg8 harg8 arg9 harg9 arg10 harg10 arg11 harg11 arg12 harg12 arg13 harg13 arg14 harg14 arg15 harg15 v17 k0_hw1 k0_h3)
          pure ⟨⟩

/-- The scatter of one expert's rows. -/
def secD (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h8 : k0_cond8 i v17 = 1#1) :
    Prog (TpuEff nD τ sig (Elt F) Λ₀ .tc) PUnit := do
  let arg2 : BitVec 32 := BitVec.ofNat 32 (i 2).val
  have v18 : IVec S544x128 32 := iota .tc S544x128 32 [1] iota_S544x128_d1_w32
  let v20 : BitVec 32 := Scalar.subi v17 4#32
  let v21 : BitVec 32 := Scalar.maxsi v20 0#32
  let ⟨v38, v56, v64, v72, v76, cst_31, v77⟩ : Σ' (v38 : FVec F S512x1024 .bf16) (v56 : FVec F S544x128 .bf16) (v64 : FVec F S544x128 .bf16) (v72 : FVec F S544x128 .bf16) (v76 : IVec S544x128 1) (cst_31 : F .f32), FVec F S544x128 .f32 ← k0_part13 i arg4 harg4 arg5 harg5 arg6 harg6 arg7 harg7 arg8 harg8 arg9 harg9 arg10 harg10 arg11 harg11 arg12 harg12 arg13 harg13 arg14 harg14 arg15 harg15 arg2 v18
  let ⟨v107, v108, v116⟩ : Σ' (v107 : FVec F S544x1 .f32) (v108 : FVec F S544x128 .f32), FVec F S544x128 .bf16 ← k0_part14 i arg4 harg4 arg5 harg5 arg6 harg6 arg7 harg7 arg8 harg8 arg9 harg9 arg10 harg10 arg11 harg11 arg12 harg12 arg13 harg13 arg14 harg14 arg15 harg15 arg2 v18 v38 v56 v64 v72 v76 cst_31 v77
  let v155 : FVec F S544x1024 .f32 ← k0_part15 i arg4 harg4 arg5 harg5 arg6 harg6 arg7 harg7 arg8 harg8 arg9 harg9 arg10 harg10 arg11 harg11 arg12 harg12 arg13 harg13 arg14 harg14 arg15 harg15 arg2 v18 v38 v107 v108 v116
  let v156 : Vec F S1x544x1024 .f32 ← Prog.lift (.load arg11 (Rect.unit (s := S1x1088x1024) ![0, 544, 0] S1x544x1024.size inb_S1x1088x1024_S1x544x1024_0_544_0).toLoadRect (View.loadsAt_vmem h_S1x544x1024))
  Prog.lift (.store arg11 (Rect.unit (s := S1x1088x1024) ![0, 544, 0] S1x544x1024.size inb_S1x1088x1024_S1x544x1024_0_544_0) (k0_pay93 v155) Finset.univ (View.stores_vmem_bits_univ h_S1x544x1024 rfl) (.inl rfl))
  let v159 : BitVec 32 := Scalar.subi v21 0#32
  let v161 : BitVec 32 := Scalar.divsi v159 1#32
  let v162 : BitVec 32 := Scalar.muli v161 1#32
  let v163 : BitVec 32 := Scalar.addi 0#32 v162
  Scf.Loop.for (k0_t5_loop v17) (k0_t5_ok i v17 k0_hw1 k0_h8) ⟨⟩ (k0_t5_body i arg4 harg4 arg5 harg5 arg6 harg6 arg7 harg7 arg8 harg8 arg9 harg9 arg10 harg10 arg11 harg11 arg12 harg12 arg13 harg13 arg14 harg14 arg15 harg15 arg2 v17 k0_hw1 v18 k0_h8)
  Scf.Loop.for (k0_t6_loop v17) (k0_t6_ok i v17 k0_hw1 k0_h8) ⟨⟩ (k0_t6_body i arg4 harg4 arg5 harg5 arg6 harg6 arg7 harg7 arg8 harg8 arg9 harg9 arg10 harg10 arg11 harg11 arg12 harg12 arg13 harg13 arg14 harg14 arg15 harg15 arg2 v17 k0_hw1 v18 k0_h8 v163)
  pure ⟨⟩

/-- The expert's layer on the further tiles of rows. -/
def secC5 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h3 : k0_cond3 v17 = 1#1) :
    Prog (TpuEff nD τ sig (Elt F) Λ₀ .tc) PUnit := do
  let v20 : BitVec 32 := Scalar.subi v17 4#32
  let v21 : BitVec 32 := Scalar.maxsi v20 0#32
  Scf.Loop.for (k0_t3_loop v17) (k0_t3_ok i v17 k0_hw1 k0_h3) ⟨⟩ (k0_t3_body i arg4 harg4 arg5 harg5 arg6 harg6 arg7 harg7 arg8 harg8 arg9 harg9 arg10 harg10 arg11 harg11 arg12 harg12 arg13 harg13 arg14 harg14 arg15 harg15 v17 k0_hw1 k0_h3)
  Scf.Loop.for (k0_t4_loop v17) (k0_t4_ok i v17 k0_hw1 k0_h3) ⟨⟩ (k0_t4_body i arg4 harg4 arg5 harg5 arg6 harg6 arg7 harg7 arg8 harg8 arg9 harg9 arg10 harg10 arg11 harg11 arg12 harg12 arg13 harg13 arg14 harg14 arg15 harg15 v17 k0_hw1 k0_h3)
  pure ⟨⟩

/-- The last step of a tile: the gated residual. -/
def secE (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let arg1 : BitVec 32 := BitVec.ofNat 32 (i 1).val
  let v37 : Vec F S1x1088x1024 .f32 ← Prog.lift (.load arg5 (Rect.unit (s := S1x1088x1024) ![0, 0, 0] S1x1088x1024.size inb_S1x1088x1024_S1x1088x1024_0_0_0).toLoadRect (View.loadsAt_vmem h_S1x1088x1024))
  let v45 : Vec F S1x1x1x1024 .f32 ← Prog.lift (.load arg6 (Rect.unit (s := S1x2x8x1024) ![0, 0, 5, 0] S1x1x1x1024.size inb_S1x2x8x1024_S1x1x1x1024_0_0_5_0).toLoadRect (View.loadsAt_vmem h_S1x1x1x1024))
  let v47 : Vec F S1x1x1x1024 .f32 ← Prog.lift (.load arg6 (Rect.unit (s := S1x2x8x1024) ![0, 1, 5, 0] S1x1x1x1024.size inb_S1x2x8x1024_S1x1x1x1024_0_1_5_0).toLoadRect (View.loadsAt_vmem h_S1x1x1x1024))
  let v54 : Vec F S1x1088x1024 .f32 ← Prog.lift (.load arg11 (Rect.unit (s := S1x1088x1024) ![0, 0, 0] S1x1088x1024.size inb_S1x1088x1024_S1x1088x1024_0_0_0).toLoadRect (View.loadsAt_vmem h_S1x1088x1024))
  let v58 : Vec F S1x1088x1024 .f32 ← Prog.lift (.load arg11 (Rect.unit (s := S1x1088x1024) ![0, 0, 0] S1x1088x1024.size inb_S1x1088x1024_S1x1088x1024_0_0_0).toLoadRect (View.loadsAt_vmem h_S1x1088x1024))
  Prog.lift (.store arg11 (Rect.unit (s := S1x1088x1024) ![0, 0, 0] S1x1088x1024.size inb_S1x1088x1024_S1x1088x1024_0_0_0) (k0_pay1 arg1 v37 v45 v47 v54) Finset.univ (View.stores_vmem_bits_univ h_S1x1088x1024 rfl) (.inl rfl))
  pure ⟨⟩

/-- The body up to its last conditional, section by section. -/
def sec16 (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) (Σ' (arg1 : BitVec 32) (arg3 : BitVec 32) (v32 : BitVec 1), BitVec 32) := do
  let arg1 : BitVec 32 := BitVec.ofNat 32 (i 1).val
  let arg2 : BitVec 32 := BitVec.ofNat 32 (i 2).val
  let arg3 : BitVec 32 := BitVec.ofNat 32 (i 3).val
  let v0 : BitVec 1 := Scalar.cmpi .eq arg2 0#32
  let v1 : BitVec 1 := Scalar.cmpi .eq arg3 0#32
  let v2 : BitVec 1 := Scalar.andi v0 v1
  let v3 : BitVec 32 := Scalar.extui v2
  let v4 : BitVec 1 := Scalar.cmpi .ne v3 0#32
  (if k0_h1 : v4 = 1#1 then secA i arg4 harg4 arg5 harg5 arg6 harg6 arg7 harg7 arg8 harg8 arg9 harg9 arg10 harg10 arg11 harg11 arg12 harg12 arg13 harg13 arg14 harg14 arg15 harg15 else pure ⟨⟩) >>= fun _ => do
    let v8 : Vec F S1x128 .f32 ← Prog.lift (.load arg13 (Rect.unit (s := S8x128) ![0, 0] S1x128.size inb_S8x128_S1x128_0_0).toLoadRect (View.loadsAt_vmem h_S1x128))
    let v17 : BitVec 32 := Scalar.fptosi 32 (k0_pay80 i v8)
    have k0_hw1 : k0_chk1 i v17 := (← Prog.lift (TpuEff.assume (k0_chk1 i v17) (k0_chk1.dec i v17))).down
    have v18 : IVec S544x128 32 := iota .tc S544x128 32 [1] iota_S544x128_d1_w32
    let v20 : BitVec 32 := Scalar.subi v17 4#32
    let v21 : BitVec 32 := Scalar.maxsi v20 0#32
    (if k0_h2 : k0_cond2 i v17 = 1#1 then secB i arg4 harg4 arg5 harg5 arg6 harg6 arg7 harg7 arg8 harg8 arg9 harg9 arg10 harg10 arg11 harg11 arg12 harg12 arg13 harg13 arg14 harg14 arg15 harg15 v17 k0_hw1 k0_h2 else pure ⟨⟩) >>= fun _ => do
      (if k0_h3 : k0_cond3 v17 = 1#1 then secC i arg4 harg4 arg5 harg5 arg6 harg6 arg7 harg7 arg8 harg8 arg9 harg9 arg10 harg10 arg11 harg11 arg12 harg12 arg13 harg13 arg14 harg14 arg15 harg15 v17 k0_hw1 k0_h3 v8 else pure ⟨⟩) >>= fun _ => do
        (if k0_h8 : k0_cond8 i v17 = 1#1 then secD i arg4 harg4 arg5 harg5 arg6 harg6 arg7 harg7 arg8 harg8 arg9 harg9 arg10 harg10 arg11 harg11 arg12 harg12 arg13 harg13 arg14 harg14 arg15 harg15 v17 k0_hw1 k0_h8 else pure ⟨⟩) >>= fun _ => do
          let v32 : BitVec 1 := Scalar.cmpi .eq arg2 7#32
          pure ⟨arg1, arg3, v32, 3#32⟩

/-- The body, section by section. -/
def secBody (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) :
    Prog (TpuEff nD τ sig (Elt F) Λ₀ .tc) PUnit := do
  let arg1 : BitVec 32 := BitVec.ofNat 32 (i 1).val
  let arg2 : BitVec 32 := BitVec.ofNat 32 (i 2).val
  let arg3 : BitVec 32 := BitVec.ofNat 32 (i 3).val
  let v0 : BitVec 1 := Scalar.cmpi .eq arg2 0#32
  let v1 : BitVec 1 := Scalar.cmpi .eq arg3 0#32
  let v2 : BitVec 1 := Scalar.andi v0 v1
  let v3 : BitVec 32 := Scalar.extui v2
  let v4 : BitVec 1 := Scalar.cmpi .ne v3 0#32
  (if k0_h1 : v4 = 1#1 then secA i arg4 harg4 arg5 harg5 arg6 harg6 arg7 harg7 arg8 harg8 arg9 harg9 arg10 harg10 arg11 harg11 arg12 harg12 arg13 harg13 arg14 harg14 arg15 harg15 else pure ⟨⟩) >>= fun _ => do
    let v8 : Vec F S1x128 .f32 ← Prog.lift (.load arg13 (Rect.unit (s := S8x128) ![0, 0] S1x128.size inb_S8x128_S1x128_0_0).toLoadRect (View.loadsAt_vmem h_S1x128))
    let v17 : BitVec 32 := Scalar.fptosi 32 (k0_pay80 i v8)
    have k0_hw1 : k0_chk1 i v17 := (← Prog.lift (TpuEff.assume (k0_chk1 i v17) (k0_chk1.dec i v17))).down
    have v18 : IVec S544x128 32 := iota .tc S544x128 32 [1] iota_S544x128_d1_w32
    let v20 : BitVec 32 := Scalar.subi v17 4#32
    let v21 : BitVec 32 := Scalar.maxsi v20 0#32
    (if k0_h2 : k0_cond2 i v17 = 1#1 then secB i arg4 harg4 arg5 harg5 arg6 harg6 arg7 harg7 arg8 harg8 arg9 harg9 arg10 harg10 arg11 harg11 arg12 harg12 arg13 harg13 arg14 harg14 arg15 harg15 v17 k0_hw1 k0_h2 else pure ⟨⟩) >>= fun _ => do
      (if k0_h3 : k0_cond3 v17 = 1#1 then secC i arg4 harg4 arg5 harg5 arg6 harg6 arg7 harg7 arg8 harg8 arg9 harg9 arg10 harg10 arg11 harg11 arg12 harg12 arg13 harg13 arg14 harg14 arg15 harg15 v17 k0_hw1 k0_h3 v8 else pure ⟨⟩) >>= fun _ => do
        (if k0_h8 : k0_cond8 i v17 = 1#1 then secD i arg4 harg4 arg5 harg5 arg6 harg6 arg7 harg7 arg8 harg8 arg9 harg9 arg10 harg10 arg11 harg11 arg12 harg12 arg13 harg13 arg14 harg14 arg15 harg15 v17 k0_hw1 k0_h8 else pure ⟨⟩) >>= fun _ => do
          let v32 : BitVec 1 := Scalar.cmpi .eq arg2 7#32
          let v33 : BitVec 1 := Scalar.cmpi .eq arg3 3#32
          let v34 : BitVec 1 := Scalar.andi v32 v33
          let v35 : BitVec 32 := Scalar.extui v34
          let v36 : BitVec 1 := Scalar.cmpi .ne v35 0#32
          (if k0_h9 : v36 = 1#1 then secE i arg4 harg4 arg5 harg5 arg6 harg6 arg7 harg7 arg8 harg8 arg9 harg9 arg10 harg10 arg11 harg11 arg12 harg12 arg13 harg13 arg14 harg14 arg15 harg15 else pure ⟨⟩) >>= fun _ => do
            pure ⟨⟩

universe u in
theorem join {Ef : Type → Type u} {α : Type} {p : Prop} [Decidable p] {A' : p → Prog Ef α} {A : p → Prog Ef PUnit} {J J' : Prog Ef α}
    (hJ : J = J') (hA : ∀ h, A' h = A h >>= fun _ => J) :
    dite p A' (fun _ => J) = (dite p A (fun _ => pure ⟨⟩) >>= fun _ => J') := by
  subst hJ
  by_cases h : p <;> simp [h, hA]

universe u in
theorem joinI {Ef : Type → Type u} {α : Type} {p : Prop} [Decidable p] {A' : Prog Ef α} {A : Prog Ef PUnit} {J J' : Prog Ef α}
    (hJ : J = J') (hA : A' = A >>= fun _ => J) :
    ite p A' J = (ite p A (pure ⟨⟩) >>= fun _ => J') := by
  subst hJ
  by_cases h : p <;> simp [h, hA]

universe u in
theorem bcong {Ef : Type → Type u} {α β : Type} {x : Prog Ef α} {f g : α → Prog Ef β} (h : ∀ a, f a = g a) : x >>= f = x >>= g :=
  congrArg _ (funext h)

set_option maxHeartbeats 4000000 in
/-- The body up to its last conditional is its sections. -/
theorem part16_eq_sec : k0_part16_skel (F := F) = sec16 (F := F) := by
  funext i arg4 harg4 arg5 harg5 arg6 harg6 arg7 harg7 arg8 harg8 arg9 harg9 arg10 harg10 arg11 harg11 arg12 harg12 arg13 harg13 arg14 harg14 arg15 harg15
  unfold k0_part16_skel sec16
  extract_lets
  apply join
  · refine bcong fun v8 => ?_
    refine bcong fun hw => ?_
    extract_lets
    apply join
    · apply join
      · apply join
        · rfl
        · intro h
          unfold secD
          simp only [bind_assoc, pure_bind]
          rfl
      · intro h
        unfold secC
        extract_lets
        simp -zeta only [bind_assoc, pure_bind]
        apply joinI
        · apply joinI
          · apply joinI
            · refine joinI (p := _) rfl ?_
              · unfold secC4
                simp only [bind_assoc, pure_bind]
            · unfold secC3
              simp only [bind_assoc, pure_bind]
          · unfold secC2
            simp only [bind_assoc, pure_bind]
        · unfold secC1
          simp only [bind_assoc, pure_bind]
    · intro h
      unfold secB
      simp only [bind_assoc, pure_bind]
      rfl
  · intro h
    unfold secA
    simp only [bind_assoc, pure_bind]

theorem body_eq_sec : cc0_moe_experts (F := F) = secBody (F := F) := by
  rw [cc0_moe_experts_eq_skeleton]
  funext i arg4 harg4 arg5 harg5 arg6 harg6 arg7 harg7 arg8 harg8 arg9 harg9 arg10 harg10 arg11 harg11 arg12 harg12 arg13 harg13 arg14 harg14 arg15 harg15
  unfold cc0_moe_experts_skel
  rw [k0_part16_eq_skeleton, part16_eq_sec]
  unfold sec16 secBody
  simp only [bind_assoc, pure_bind]
  refine bcong fun _ => ?_
  refine bcong fun v8 => ?_
  refine bcong fun hw => ?_
  refine bcong fun _ => ?_
  refine bcong fun _ => ?_
  refine bcong fun _ => ?_
  apply join
  · rfl
  · intro h
    unfold secE
    simp only [bind_assoc, pure_bind]

end Cert.KernelIdeal.Gen

end
-- ==== Proof.Moe.RunA.lean ====
/-
  The run of the counting section.
-/
module

public import proofs.«01_k».proof.Proof.Gen.KernelIdeal.Loops
public import proofs.«01_k».proof.Proof.Moe.Sec

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The counting section: what it leaves in the positions, the counts and the result. -/
@[irreducible] def runA (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg7 : BufTy.Contents (Elt F) arg7.view.ty) :
    Σ' (L_arg11 : List (View.Piece (Elt F) S1x1088x1024 .f32)), Σ' (L_arg12 : List (View.Piece (Elt F) S1088x128 .f32)), { L_arg13 : List (View.Piece (Elt F) S8x128 .f32) // ∀ (E : Set ℕ) (f_arg11 : BufTy.Contents (Elt F) arg11.view.ty) (f_arg12 : BufTy.Contents (Elt F) arg12.view.ty) (f_arg13 : BufTy.Contents (Elt F) arg13.view.ty),
      (iprop((arg7.view.loc (c : Thread nD τ) ↦[arg7.view.set]{fullShare} X_arg7) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13)) : sProp 𝕄G)
      ⊢ wp frame (wpE (defs₀ (F := F)) 𝒱 (c : Thread nD τ) bd) E (secA (F := F) i arg4 harg4 arg5 harg5 arg6 harg6 arg7 harg7 arg8 harg8 arg9 harg9 arg10 harg10 arg11 harg11 arg12 harg12 arg13 harg13 arg14 harg14 arg15 harg15 )
          (fun _ => iprop((arg7.view.loc (c : Thread nD τ) ↦[arg7.view.set]{fullShare} X_arg7) ∗ (arg11.view.loc (c : Thread nD τ) ↦[arg11.view.set]{fullShare} (arg11.view.writes (Elt F) f_arg11 L_arg11)) ∗ (arg12.view.loc (c : Thread nD τ) ↦[arg12.view.set]{fullShare} (arg12.view.writes (Elt F) f_arg12 L_arg12)) ∗ (arg13.view.loc (c : Thread nD τ) ↦[arg13.view.set]{fullShare} (arg13.view.writes (Elt F) f_arg13 L_arg13)))) } := by
  refine ⟨?_, ?_, ?_, fun E f_arg11 f_arg12 f_arg13 => ?run⟩
  case run =>
    unfold secA
    iintro ⟨H_arg7, H_arg11, H_arg12, H_arg13⟩
    sl_exec
    sl_step
    sl_close

/-- The counting section, as a relation between what the memrefs hold before and after. -/
def RelA (i : grid0.Coords) (Y_arg7 : Vec F S1x1088x128 .f32) (y_arg11 : Vec F S1x1088x1024 .f32) (y_arg12 : Vec F S1088x128 .f32) (y_arg13 : Vec F S8x128 .f32) (z_arg11 : Vec F S1x1088x1024 .f32) (z_arg12 : Vec F S1088x128 .f32) (z_arg13 : Vec F S8x128 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg7 : BufTy.Contents (Elt F) arg7.view.ty) (f_arg11 : BufTy.Contents (Elt F) arg11.view.ty) (f_arg12 : BufTy.Contents (Elt F) arg12.view.ty) (f_arg13 : BufTy.Contents (Elt F) arg13.view.ty),
    arg7.view.read (Elt F) X_arg7 = Y_arg7 ∧ arg11.view.read (Elt F) f_arg11 = y_arg11 ∧ arg12.view.read (Elt F) f_arg12 = y_arg12 ∧ arg13.view.read (Elt F) f_arg13 = y_arg13 ∧ arg11.view.read (Elt F) (arg11.view.writes (Elt F) f_arg11 (runA (F := F) Variants.none c none i arg4 harg4 arg5 harg5 arg6 harg6 arg7 harg7 arg8 harg8 arg9 harg9 arg10 harg10 arg11 harg11 arg12 harg12 arg13 harg13 arg14 harg14 arg15 harg15  X_arg7).1) = z_arg11 ∧ arg12.view.read (Elt F) (arg12.view.writes (Elt F) f_arg12 (runA (F := F) Variants.none c none i arg4 harg4 arg5 harg5 arg6 harg6 arg7 harg7 arg8 harg8 arg9 harg9 arg10 harg10 arg11 harg11 arg12 harg12 arg13 harg13 arg14 harg14 arg15 harg15  X_arg7).2.1) = z_arg12 ∧ arg13.view.read (Elt F) (arg13.view.writes (Elt F) f_arg13 (runA (F := F) Variants.none c none i arg4 harg4 arg5 harg5 arg6 harg6 arg7 harg7 arg8 harg8 arg9 harg9 arg10 harg10 arg11 harg11 arg12 harg12 arg13 harg13 arg14 harg14 arg15 harg15  X_arg7).2.2.1) = z_arg13

/-- The counting section: the section takes the memrefs through the relation. -/
theorem runA_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg7 : Vec F S1x1088x128 .f32) (y_arg11 : Vec F S1x1088x1024 .f32) (y_arg12 : Vec F S1088x128 .f32) (y_arg13 : Vec F S8x128 .f32) :
    (iprop(owns (c : Thread nD τ) arg7 fullShare Y_arg7 ∗ owns (c : Thread nD τ) arg11 fullShare y_arg11 ∗ owns (c : Thread nD τ) arg12 fullShare y_arg12 ∗ owns (c : Thread nD τ) arg13 fullShare y_arg13) : sProp 𝕄G)
      ⊢ wp frame (wpE (defs₀ (F := F)) Variants.none (c : Thread nD τ) none) E (secA (F := F) i arg4 harg4 arg5 harg5 arg6 harg6 arg7 harg7 arg8 harg8 arg9 harg9 arg10 harg10 arg11 harg11 arg12 harg12 arg13 harg13 arg14 harg14 arg15 harg15 ) (fun _ => iprop(∃ z_arg11 z_arg12 z_arg13, ⌜RelA i  Y_arg7 y_arg11 y_arg12 y_arg13 z_arg11 z_arg12 z_arg13⌝ ∗ owns (c : Thread nD τ) arg7 fullShare Y_arg7 ∗ owns (c : Thread nD τ) arg11 fullShare z_arg11 ∗ owns (c : Thread nD τ) arg12 fullShare z_arg12 ∗ owns (c : Thread nD τ) arg13 fullShare z_arg13)) := by
  unfold owns
  iintro ⟨⟨%X_arg7, %h_arg7, H_arg7⟩, ⟨%f_arg11, %h_arg11, H_arg11⟩, ⟨%f_arg12, %h_arg12, H_arg12⟩, ⟨%f_arg13, %h_arg13, H_arg13⟩⟩
  iapply (wp_wand_r Idealize.ShloMosaic.frame (wpE (defs₀ (F := F)) Variants.none (c : Thread nD τ) none) E)
  isplitl [H_arg7 H_arg11 H_arg12 H_arg13]
  · iapply ((runA (F := F) Variants.none c none i arg4 harg4 arg5 harg5 arg6 harg6 arg7 harg7 arg8 harg8 arg9 harg9 arg10 harg10 arg11 harg11 arg12 harg12 arg13 harg13 arg14 harg14 arg15 harg15  X_arg7).2.2.2 E f_arg11 f_arg12 f_arg13)
    isplitl [H_arg7]; · iexact H_arg7
    isplitl [H_arg11]; · iexact H_arg11
    isplitl [H_arg12]; · iexact H_arg12
    iexact H_arg13
  · iintro %_ ⟨H_arg7, H_arg11, H_arg12, H_arg13⟩
    iexists _
    iexists _
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg7, f_arg11, f_arg12, f_arg13, h_arg7, h_arg11, h_arg12, h_arg13, rfl, rfl, rfl⟩
    isplitl [H_arg7]
    · iexists _; isplitr; · ipureintro; exact h_arg7
      iexact H_arg7
    isplitl [H_arg11]
    · iexists _; isplitr; · ipureintro; rfl
      iexact H_arg11
    isplitl [H_arg12]
    · iexists _; isplitr; · ipureintro; rfl
      iexact H_arg12
    iexists _; isplitr; · ipureintro; rfl
    iexact H_arg13

end Cert.KernelIdeal.Gen

end
-- ==== Proof.Moe.RunB.lean ====
/-
  The run of the gather section.
-/
module

public import proofs.«01_k».proof.Proof.Gen.KernelIdeal.Loops
public import proofs.«01_k».proof.Proof.Moe.Sec

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The gather section: the pieces it leaves in the gathered rows and in the accumulator. -/
@[irreducible] def runB (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h2 : k0_cond2 i v17 = 1#1) (X_arg4 : BufTy.Contents (Elt F) arg4.view.ty) (X_arg12 : BufTy.Contents (Elt F) arg12.view.ty) :
    Σ' (L_arg14 : List (View.Piece (Elt F) S1152x1024 .bf16)), { L_arg15 : List (View.Piece (Elt F) S1152x1024 .f32) // ∀ (E : Set ℕ) (f_arg14 : BufTy.Contents (Elt F) arg14.view.ty) (f_arg15 : BufTy.Contents (Elt F) arg15.view.ty),
      (iprop((arg4.view.loc (c : Thread nD τ) ↦[arg4.view.set]{fullShare} X_arg4) ∗ (arg12.view.loc (c : Thread nD τ) ↦[arg12.view.set]{fullShare} X_arg12) ∗ (arg14.view.loc (c : Thread nD τ) ↦[arg14.view.set]{fullShare} f_arg14) ∗ (arg15.view.loc (c : Thread nD τ) ↦[arg15.view.set]{fullShare} f_arg15)) : sProp 𝕄G)
      ⊢ wp frame (wpE (defs₀ (F := F)) 𝒱 (c : Thread nD τ) bd) E (secB (F := F) i arg4 harg4 arg5 harg5 arg6 harg6 arg7 harg7 arg8 harg8 arg9 harg9 arg10 harg10 arg11 harg11 arg12 harg12 arg13 harg13 arg14 harg14 arg15 harg15 v17 k0_hw1 k0_h2)
          (fun _ => iprop((arg4.view.loc (c : Thread nD τ) ↦[arg4.view.set]{fullShare} X_arg4) ∗ (arg12.view.loc (c : Thread nD τ) ↦[arg12.view.set]{fullShare} X_arg12) ∗ (arg14.view.loc (c : Thread nD τ) ↦[arg14.view.set]{fullShare} (arg14.view.writes (Elt F) f_arg14 L_arg14)) ∗ (arg15.view.loc (c : Thread nD τ) ↦[arg15.view.set]{fullShare} (arg15.view.writes (Elt F) f_arg15 L_arg15)))) } := by
  refine ⟨?_, ?_, fun E f_arg14 f_arg15 => ?run⟩
  case run =>
    unfold secB
    iintro ⟨H_arg4, H_arg12, H_arg14, H_arg15⟩
    sl_exec
    sl_step
    sl_close

/-- The gather section, as a relation between what the memrefs hold before and after. -/
def RelB (i : grid0.Coords) (v17 : BitVec 32) (k0_hw1 : k0_chk1 i v17) (k0_h2 : k0_cond2 i v17 = 1#1) (Y_arg4 : Vec F S1x1088x1024 .bf16) (Y_arg12 : Vec F S1088x128 .f32) (y_arg14 : Vec F S1152x1024 .bf16) (y_arg15 : Vec F S1152x1024 .f32) (z_arg14 : Vec F S1152x1024 .bf16) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg4 : BufTy.Contents (Elt F) arg4.view.ty) (X_arg12 : BufTy.Contents (Elt F) arg12.view.ty) (f_arg14 : BufTy.Contents (Elt F) arg14.view.ty) (f_arg15 : BufTy.Contents (Elt F) arg15.view.ty),
    arg4.view.read (Elt F) X_arg4 = Y_arg4 ∧ arg12.view.read (Elt F) X_arg12 = Y_arg12 ∧ arg14.view.read (Elt F) f_arg14 = y_arg14 ∧ arg15.view.read (Elt F) f_arg15 = y_arg15 ∧ arg14.view.read (Elt F) (arg14.view.writes (Elt F) f_arg14 (runB (F := F) Variants.none c none i arg4 harg4 arg5 harg5 arg6 harg6 arg7 harg7 arg8 harg8 arg9 harg9 arg10 harg10 arg11 harg11 arg12 harg12 arg13 harg13 arg14 harg14 arg15 harg15 v17 k0_hw1 k0_h2 X_arg4 X_arg12).1) = z_arg14 ∧ arg15.view.read (Elt F) (arg15.view.writes (Elt F) f_arg15 (runB (F := F) Variants.none c none i arg4 harg4 arg5 harg5 arg6 harg6 arg7 harg7 arg8 harg8 arg9 harg9 arg10 harg10 arg11 harg11 arg12 harg12 arg13 harg13 arg14 harg14 arg15 harg15 v17 k0_hw1 k0_h2 X_arg4 X_arg12).2.1) = z_arg15

/-- The gather section: the section takes the memrefs through the relation. -/
theorem runB_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h2 : k0_cond2 i v17 = 1#1) (Y_arg4 : Vec F S1x1088x1024 .bf16) (Y_arg12 : Vec F S1088x128 .f32) (y_arg14 : Vec F S1152x1024 .bf16) (y_arg15 : Vec F S1152x1024 .f32) :
    (iprop(owns (c : Thread nD τ) arg4 fullShare Y_arg4 ∗ owns (c : Thread nD τ) arg12 fullShare Y_arg12 ∗ owns (c : Thread nD τ) arg14 fullShare y_arg14 ∗ owns (c : Thread nD τ) arg15 fullShare y_arg15) : sProp 𝕄G)
      ⊢ wp frame (wpE (defs₀ (F := F)) Variants.none (c : Thread nD τ) none) E (secB (F := F) i arg4 harg4 arg5 harg5 arg6 harg6 arg7 harg7 arg8 harg8 arg9 harg9 arg10 harg10 arg11 harg11 arg12 harg12 arg13 harg13 arg14 harg14 arg15 harg15 v17 k0_hw1 k0_h2) (fun _ => iprop(∃ z_arg14 z_arg15, ⌜RelB i v17 k0_hw1 k0_h2 Y_arg4 Y_arg12 y_arg14 y_arg15 z_arg14 z_arg15⌝ ∗ owns (c : Thread nD τ) arg4 fullShare Y_arg4 ∗ owns (c : Thread nD τ) arg12 fullShare Y_arg12 ∗ owns (c : Thread nD τ) arg14 fullShare z_arg14 ∗ owns (c : Thread nD τ) arg15 fullShare z_arg15)) := by
  unfold owns
  iintro ⟨⟨%X_arg4, %h_arg4, H_arg4⟩, ⟨%X_arg12, %h_arg12, H_arg12⟩, ⟨%f_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg4 H_arg12 H_arg14 H_arg15]
  · iapply ((runB (F := F) Variants.none c none i arg4 harg4 arg5 harg5 arg6 harg6 arg7 harg7 arg8 harg8 arg9 harg9 arg10 harg10 arg11 harg11 arg12 harg12 arg13 harg13 arg14 harg14 arg15 harg15 v17 k0_hw1 k0_h2 X_arg4 X_arg12).2.2 E f_arg14 f_arg15)
    isplitl [H_arg4]; · iexact H_arg4
    isplitl [H_arg12]; · iexact H_arg12
    isplitl [H_arg14]; · iexact H_arg14
    iexact H_arg15
  · iintro %_ ⟨H_arg4, H_arg12, H_arg14, H_arg15⟩
    iexists _
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg4, X_arg12, f_arg14, f_arg15, h_arg4, h_arg12, h_arg14, h_arg15, rfl, rfl⟩
    isplitl [H_arg4]
    · iexists _; isplitr; · ipureintro; exact h_arg4
      iexact H_arg4
    isplitl [H_arg12]
    · iexists _; isplitr; · ipureintro; exact h_arg12
      iexact H_arg12
    isplitl [H_arg14]
    · iexists _; isplitr; · ipureintro; rfl
      iexact H_arg14
    iexists _; isplitr; · ipureintro; rfl
    iexact H_arg15

end Cert.KernelIdeal.Gen

end
-- ==== Proof.Moe.RunC.lean ====
/-
  The run of the expert section.
-/
module

public import proofs.«01_k».proof.Proof.Gen.KernelIdeal.Loops
public import proofs.«01_k».proof.Proof.Moe.Sec

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first rows of the expert, class 1. -/
@[irreducible] def runC1 (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty) :
    { L_arg15 : List (View.Piece (Elt F) S1152x1024 .f32) // ∀ (E : Set ℕ),
      (iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15)) : sProp 𝕄G)
      ⊢ wp frame (wpE (defs₀ (F := F)) 𝒱 (c : Thread nD τ) bd) E (secC1 (F := F) i arg4 harg4 arg5 harg5 arg6 harg6 arg7 harg7 arg8 harg8 arg9 harg9 arg10 harg10 arg11 harg11 arg12 harg12 arg13 harg13 arg14 harg14 arg15 harg15 )
          (fun _ => iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} (arg15.view.writes (Elt F) f_arg15 L_arg15)))) } := by
  refine ⟨?_, fun E => ?run⟩
  case run =>
    unfold secC1
    iintro ⟨H_arg8, H_arg9, H_arg10, H_arg14, H_arg15⟩
    sl_exec
    sl_step
    sl_close

/-- The expert section, class 1, as a relation between what the memrefs hold before and after. -/
def RelC1 (i : grid0.Coords) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty),
    arg8.view.read (Elt F) X_arg8 = Y_arg8 ∧ arg9.view.read (Elt F) X_arg9 = Y_arg9 ∧ arg10.view.read (Elt F) X_arg10 = Y_arg10 ∧ arg14.view.read (Elt F) X_arg14 = Y_arg14 ∧ arg15.view.read (Elt F) f_arg15 = y_arg15 ∧ arg15.view.read (Elt F) (arg15.view.writes (Elt F) f_arg15 (runC1 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).1) = z_arg15

/-- The expert section, class 1: the section takes the memrefs through the relation. -/
theorem runC1_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (secC1 (F := F) i arg4 harg4 arg5 harg5 arg6 harg6 arg7 harg7 arg8 harg8 arg9 harg9 arg10 harg10 arg11 harg11 arg12 harg12 arg13 harg13 arg14 harg14 arg15 harg15 ) (fun _ => iprop(∃ z_arg15, ⌜RelC1 i  Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  unfold owns
  iintro ⟨⟨%X_arg8, %h_arg8, H_arg8⟩, ⟨%X_arg9, %h_arg9, H_arg9⟩, ⟨%X_arg10, %h_arg10, H_arg10⟩, ⟨%X_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg8 H_arg9 H_arg10 H_arg14 H_arg15]
  · iapply ((runC1 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).2 E)
    isplitl [H_arg8]; · iexact H_arg8
    isplitl [H_arg9]; · iexact H_arg9
    isplitl [H_arg10]; · iexact H_arg10
    isplitl [H_arg14]; · iexact H_arg14
    iexact H_arg15
  · iintro %_ ⟨H_arg8, H_arg9, H_arg10, H_arg14, H_arg15⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg8, X_arg9, X_arg10, X_arg14, f_arg15, h_arg8, h_arg9, h_arg10, h_arg14, h_arg15, rfl⟩
    isplitl [H_arg8]
    · iexists _; isplitr; · ipureintro; exact h_arg8
      iexact H_arg8
    isplitl [H_arg9]
    · iexists _; isplitr; · ipureintro; exact h_arg9
      iexact H_arg9
    isplitl [H_arg10]
    · iexists _; isplitr; · ipureintro; exact h_arg10
      iexact H_arg10
    isplitl [H_arg14]
    · iexists _; isplitr; · ipureintro; exact h_arg14
      iexact H_arg14
    iexists _; isplitr; · ipureintro; rfl
    iexact H_arg15

/-- The first rows of the expert, class 2. -/
@[irreducible] def runC2 (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty) :
    { L_arg15 : List (View.Piece (Elt F) S1152x1024 .f32) // ∀ (E : Set ℕ),
      (iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15)) : sProp 𝕄G)
      ⊢ wp frame (wpE (defs₀ (F := F)) 𝒱 (c : Thread nD τ) bd) E (secC2 (F := F) i arg4 harg4 arg5 harg5 arg6 harg6 arg7 harg7 arg8 harg8 arg9 harg9 arg10 harg10 arg11 harg11 arg12 harg12 arg13 harg13 arg14 harg14 arg15 harg15 )
          (fun _ => iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} (arg15.view.writes (Elt F) f_arg15 L_arg15)))) } := by
  refine ⟨?_, fun E => ?run⟩
  case run =>
    unfold secC2
    iintro ⟨H_arg8, H_arg9, H_arg10, H_arg14, H_arg15⟩
    sl_exec
    sl_step
    sl_close

/-- The expert section, class 2, as a relation between what the memrefs hold before and after. -/
def RelC2 (i : grid0.Coords) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty),
    arg8.view.read (Elt F) X_arg8 = Y_arg8 ∧ arg9.view.read (Elt F) X_arg9 = Y_arg9 ∧ arg10.view.read (Elt F) X_arg10 = Y_arg10 ∧ arg14.view.read (Elt F) X_arg14 = Y_arg14 ∧ arg15.view.read (Elt F) f_arg15 = y_arg15 ∧ arg15.view.read (Elt F) (arg15.view.writes (Elt F) f_arg15 (runC2 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).1) = z_arg15

/-- The expert section, class 2: the section takes the memrefs through the relation. -/
theorem runC2_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (secC2 (F := F) i arg4 harg4 arg5 harg5 arg6 harg6 arg7 harg7 arg8 harg8 arg9 harg9 arg10 harg10 arg11 harg11 arg12 harg12 arg13 harg13 arg14 harg14 arg15 harg15 ) (fun _ => iprop(∃ z_arg15, ⌜RelC2 i  Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  unfold owns
  iintro ⟨⟨%X_arg8, %h_arg8, H_arg8⟩, ⟨%X_arg9, %h_arg9, H_arg9⟩, ⟨%X_arg10, %h_arg10, H_arg10⟩, ⟨%X_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg8 H_arg9 H_arg10 H_arg14 H_arg15]
  · iapply ((runC2 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).2 E)
    isplitl [H_arg8]; · iexact H_arg8
    isplitl [H_arg9]; · iexact H_arg9
    isplitl [H_arg10]; · iexact H_arg10
    isplitl [H_arg14]; · iexact H_arg14
    iexact H_arg15
  · iintro %_ ⟨H_arg8, H_arg9, H_arg10, H_arg14, H_arg15⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg8, X_arg9, X_arg10, X_arg14, f_arg15, h_arg8, h_arg9, h_arg10, h_arg14, h_arg15, rfl⟩
    isplitl [H_arg8]
    · iexists _; isplitr; · ipureintro; exact h_arg8
      iexact H_arg8
    isplitl [H_arg9]
    · iexists _; isplitr; · ipureintro; exact h_arg9
      iexact H_arg9
    isplitl [H_arg10]
    · iexists _; isplitr; · ipureintro; exact h_arg10
      iexact H_arg10
    isplitl [H_arg14]
    · iexists _; isplitr; · ipureintro; exact h_arg14
      iexact H_arg14
    iexists _; isplitr; · ipureintro; rfl
    iexact H_arg15

/-- The first rows of the expert, class 3. -/
@[irreducible] def runC3 (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty) :
    { L_arg15 : List (View.Piece (Elt F) S1152x1024 .f32) // ∀ (E : Set ℕ),
      (iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15)) : sProp 𝕄G)
      ⊢ wp frame (wpE (defs₀ (F := F)) 𝒱 (c : Thread nD τ) bd) E (secC3 (F := F) i arg4 harg4 arg5 harg5 arg6 harg6 arg7 harg7 arg8 harg8 arg9 harg9 arg10 harg10 arg11 harg11 arg12 harg12 arg13 harg13 arg14 harg14 arg15 harg15 )
          (fun _ => iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} (arg15.view.writes (Elt F) f_arg15 L_arg15)))) } := by
  refine ⟨?_, fun E => ?run⟩
  case run =>
    unfold secC3
    iintro ⟨H_arg8, H_arg9, H_arg10, H_arg14, H_arg15⟩
    sl_exec
    sl_step
    sl_close

/-- The expert section, class 3, as a relation between what the memrefs hold before and after. -/
def RelC3 (i : grid0.Coords) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty),
    arg8.view.read (Elt F) X_arg8 = Y_arg8 ∧ arg9.view.read (Elt F) X_arg9 = Y_arg9 ∧ arg10.view.read (Elt F) X_arg10 = Y_arg10 ∧ arg14.view.read (Elt F) X_arg14 = Y_arg14 ∧ arg15.view.read (Elt F) f_arg15 = y_arg15 ∧ arg15.view.read (Elt F) (arg15.view.writes (Elt F) f_arg15 (runC3 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).1) = z_arg15

/-- The expert section, class 3: the section takes the memrefs through the relation. -/
theorem runC3_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (secC3 (F := F) i arg4 harg4 arg5 harg5 arg6 harg6 arg7 harg7 arg8 harg8 arg9 harg9 arg10 harg10 arg11 harg11 arg12 harg12 arg13 harg13 arg14 harg14 arg15 harg15 ) (fun _ => iprop(∃ z_arg15, ⌜RelC3 i  Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  unfold owns
  iintro ⟨⟨%X_arg8, %h_arg8, H_arg8⟩, ⟨%X_arg9, %h_arg9, H_arg9⟩, ⟨%X_arg10, %h_arg10, H_arg10⟩, ⟨%X_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg8 H_arg9 H_arg10 H_arg14 H_arg15]
  · iapply ((runC3 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).2 E)
    isplitl [H_arg8]; · iexact H_arg8
    isplitl [H_arg9]; · iexact H_arg9
    isplitl [H_arg10]; · iexact H_arg10
    isplitl [H_arg14]; · iexact H_arg14
    iexact H_arg15
  · iintro %_ ⟨H_arg8, H_arg9, H_arg10, H_arg14, H_arg15⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg8, X_arg9, X_arg10, X_arg14, f_arg15, h_arg8, h_arg9, h_arg10, h_arg14, h_arg15, rfl⟩
    isplitl [H_arg8]
    · iexists _; isplitr; · ipureintro; exact h_arg8
      iexact H_arg8
    isplitl [H_arg9]
    · iexists _; isplitr; · ipureintro; exact h_arg9
      iexact H_arg9
    isplitl [H_arg10]
    · iexists _; isplitr; · ipureintro; exact h_arg10
      iexact H_arg10
    isplitl [H_arg14]
    · iexists _; isplitr; · ipureintro; exact h_arg14
      iexact H_arg14
    iexists _; isplitr; · ipureintro; rfl
    iexact H_arg15

/-- The first rows of the expert, class 4. -/
@[irreducible] def runC4 (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty) :
    { L_arg15 : List (View.Piece (Elt F) S1152x1024 .f32) // ∀ (E : Set ℕ),
      (iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15)) : sProp 𝕄G)
      ⊢ wp frame (wpE (defs₀ (F := F)) 𝒱 (c : Thread nD τ) bd) E (secC4 (F := F) i arg4 harg4 arg5 harg5 arg6 harg6 arg7 harg7 arg8 harg8 arg9 harg9 arg10 harg10 arg11 harg11 arg12 harg12 arg13 harg13 arg14 harg14 arg15 harg15 )
          (fun _ => iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} (arg15.view.writes (Elt F) f_arg15 L_arg15)))) } := by
  refine ⟨?_, fun E => ?run⟩
  case run =>
    unfold secC4
    iintro ⟨H_arg8, H_arg9, H_arg10, H_arg14, H_arg15⟩
    sl_exec
    sl_step
    sl_close

/-- The expert section, class 4, as a relation between what the memrefs hold before and after. -/
def RelC4 (i : grid0.Coords) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty),
    arg8.view.read (Elt F) X_arg8 = Y_arg8 ∧ arg9.view.read (Elt F) X_arg9 = Y_arg9 ∧ arg10.view.read (Elt F) X_arg10 = Y_arg10 ∧ arg14.view.read (Elt F) X_arg14 = Y_arg14 ∧ arg15.view.read (Elt F) f_arg15 = y_arg15 ∧ arg15.view.read (Elt F) (arg15.view.writes (Elt F) f_arg15 (runC4 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).1) = z_arg15

/-- The expert section, class 4: the section takes the memrefs through the relation. -/
theorem runC4_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (secC4 (F := F) i arg4 harg4 arg5 harg5 arg6 harg6 arg7 harg7 arg8 harg8 arg9 harg9 arg10 harg10 arg11 harg11 arg12 harg12 arg13 harg13 arg14 harg14 arg15 harg15 ) (fun _ => iprop(∃ z_arg15, ⌜RelC4 i  Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  unfold owns
  iintro ⟨⟨%X_arg8, %h_arg8, H_arg8⟩, ⟨%X_arg9, %h_arg9, H_arg9⟩, ⟨%X_arg10, %h_arg10, H_arg10⟩, ⟨%X_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg8 H_arg9 H_arg10 H_arg14 H_arg15]
  · iapply ((runC4 (F := F) Variants.none c none i arg4 harg4 arg5 harg5 arg6 harg6 arg7 harg7 arg8 harg8 arg9 harg9 arg10 harg10 arg11 harg11 arg12 harg12 arg13 harg13 arg14 harg14 arg15 harg15  X_arg8 X_arg9 X_arg10 X_arg14 f_arg15).2 E)
    isplitl [H_arg8]; · iexact H_arg8
    isplitl [H_arg9]; · iexact H_arg9
    isplitl [H_arg10]; · iexact H_arg10
    isplitl [H_arg14]; · iexact H_arg14
    iexact H_arg15
  · iintro %_ ⟨H_arg8, H_arg9, H_arg10, H_arg14, H_arg15⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg8, X_arg9, X_arg10, X_arg14, f_arg15, h_arg8, h_arg9, h_arg10, h_arg14, h_arg15, rfl⟩
    isplitl [H_arg8]
    · iexists _; isplitr; · ipureintro; exact h_arg8
      iexact H_arg8
    isplitl [H_arg9]
    · iexists _; isplitr; · ipureintro; exact h_arg9
      iexact H_arg9
    isplitl [H_arg10]
    · iexists _; isplitr; · ipureintro; exact h_arg10
      iexact H_arg10
    isplitl [H_arg14]
    · iexists _; isplitr; · ipureintro; exact h_arg14
      iexact H_arg14
    iexists _; isplitr; · ipureintro; rfl
    iexact H_arg15

/-- The expert on the further tiles. -/
@[irreducible] def runC5 (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h3 : k0_cond3 v17 = 1#1) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty) :
    { L_arg15 : List (View.Piece (Elt F) S1152x1024 .f32) // ∀ (E : Set ℕ),
      (iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15)) : sProp 𝕄G)
      ⊢ wp frame (wpE (defs₀ (F := F)) 𝒱 (c : Thread nD τ) bd) E (secC5 (F := F) i arg4 harg4 arg5 harg5 arg6 harg6 arg7 harg7 arg8 harg8 arg9 harg9 arg10 harg10 arg11 harg11 arg12 harg12 arg13 harg13 arg14 harg14 arg15 harg15 v17 k0_hw1 k0_h3)
          (fun _ => iprop((arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} (arg15.view.writes (Elt F) f_arg15 L_arg15)))) } := by
  refine ⟨?_, fun E => ?run⟩
  case run =>
    unfold secC5
    iintro ⟨H_arg8, H_arg9, H_arg10, H_arg14, H_arg15⟩
    sl_exec
    sl_step
    sl_close

/-- The expert section, further tiles, as a relation between what the memrefs hold before and after. -/
def RelC5 (i : grid0.Coords) (v17 : BitVec 32) (k0_hw1 : k0_chk1 i v17) (k0_h3 : k0_cond3 v17 = 1#1) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg8 : BufTy.Contents (Elt F) arg8.view.ty) (X_arg9 : BufTy.Contents (Elt F) arg9.view.ty) (X_arg10 : BufTy.Contents (Elt F) arg10.view.ty) (X_arg14 : BufTy.Contents (Elt F) arg14.view.ty) (f_arg15 : BufTy.Contents (Elt F) arg15.view.ty),
    arg8.view.read (Elt F) X_arg8 = Y_arg8 ∧ arg9.view.read (Elt F) X_arg9 = Y_arg9 ∧ arg10.view.read (Elt F) X_arg10 = Y_arg10 ∧ arg14.view.read (Elt F) X_arg14 = Y_arg14 ∧ arg15.view.read (Elt F) f_arg15 = y_arg15 ∧ arg15.view.read (Elt F) (arg15.view.writes (Elt F) f_arg15 (runC5 (F := F) Variants.none c none i arg4 harg4 arg5 harg5 arg6 harg6 arg7 harg7 arg8 harg8 arg9 harg9 arg10 harg10 arg11 harg11 arg12 harg12 arg13 harg13 arg14 harg14 arg15 harg15 v17 k0_hw1 k0_h3 X_arg8 X_arg9 X_arg10 X_arg14 f_arg15).1) = z_arg15

/-- The expert section, further tiles: the section takes the memrefs through the relation. -/
theorem runC5_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h3 : k0_cond3 v17 = 1#1) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (secC5 (F := F) i arg4 harg4 arg5 harg5 arg6 harg6 arg7 harg7 arg8 harg8 arg9 harg9 arg10 harg10 arg11 harg11 arg12 harg12 arg13 harg13 arg14 harg14 arg15 harg15 v17 k0_hw1 k0_h3) (fun _ => iprop(∃ z_arg15, ⌜RelC5 i v17 k0_hw1 k0_h3 Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  unfold owns
  iintro ⟨⟨%X_arg8, %h_arg8, H_arg8⟩, ⟨%X_arg9, %h_arg9, H_arg9⟩, ⟨%X_arg10, %h_arg10, H_arg10⟩, ⟨%X_arg14, %h_arg14, H_arg14⟩, ⟨%f_arg15, %h_arg15, H_arg15⟩⟩
  iapply (wp_wand_r Idealize.ShloMosaic.frame (wpE (defs₀ (F := F)) Variants.none (c : Thread nD τ) none) E)
  isplitl [H_arg8 H_arg9 H_arg10 H_arg14 H_arg15]
  · iapply ((runC5 (F := F) Variants.none c none i arg4 harg4 arg5 harg5 arg6 harg6 arg7 harg7 arg8 harg8 arg9 harg9 arg10 harg10 arg11 harg11 arg12 harg12 arg13 harg13 arg14 harg14 arg15 harg15 v17 k0_hw1 k0_h3 X_arg8 X_arg9 X_arg10 X_arg14 f_arg15).2 E)
    isplitl [H_arg8]; · iexact H_arg8
    isplitl [H_arg9]; · iexact H_arg9
    isplitl [H_arg10]; · iexact H_arg10
    isplitl [H_arg14]; · iexact H_arg14
    iexact H_arg15
  · iintro %_ ⟨H_arg8, H_arg9, H_arg10, H_arg14, H_arg15⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg8, X_arg9, X_arg10, X_arg14, f_arg15, h_arg8, h_arg9, h_arg10, h_arg14, h_arg15, rfl⟩
    isplitl [H_arg8]
    · iexists _; isplitr; · ipureintro; exact h_arg8
      iexact H_arg8
    isplitl [H_arg9]
    · iexists _; isplitr; · ipureintro; exact h_arg9
      iexact H_arg9
    isplitl [H_arg10]
    · iexists _; isplitr; · ipureintro; exact h_arg10
      iexact H_arg10
    isplitl [H_arg14]
    · iexists _; isplitr; · ipureintro; exact h_arg14
      iexact H_arg14
    iexists _; isplitr; · ipureintro; rfl
    iexact H_arg15

end Cert.KernelIdeal.Gen

end
-- ==== Proof.Moe.RunD.lean ====
/-
  The run of the scatter section.
-/
module

public import proofs.«01_k».proof.Proof.Gen.KernelIdeal.Loops
public import proofs.«01_k».proof.Proof.Moe.Sec

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The scatter section: what it leaves in the result. -/
def runD (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h8 : k0_cond8 i v17 = 1#1) (X_arg7 : BufTy.Contents (Elt F) arg7.view.ty) (X_arg12 : BufTy.Contents (Elt F) arg12.view.ty) (X_arg15 : BufTy.Contents (Elt F) arg15.view.ty) (f_arg11 : BufTy.Contents (Elt F) arg11.view.ty) :
    { g_arg11 : BufTy.Contents (Elt F) arg11.view.ty // ∀ (E : Set ℕ),
      (iprop((arg7.view.loc (c : Thread nD τ) ↦[arg7.view.set]{fullShare} X_arg7) ∗ (arg12.view.loc (c : Thread nD τ) ↦[arg12.view.set]{fullShare} X_arg12) ∗ (arg15.view.loc (c : Thread nD τ) ↦[arg15.view.set]{fullShare} X_arg15) ∗ (arg11.view.loc (c : Thread nD τ) ↦[arg11.view.set]{fullShare} f_arg11)) : sProp 𝕄G)
      ⊢ wp frame (wpE (defs₀ (F := F)) 𝒱 (c : Thread nD τ) bd) E (secD (F := F) i arg4 harg4 arg5 harg5 arg6 harg6 arg7 harg7 arg8 harg8 arg9 harg9 arg10 harg10 arg11 harg11 arg12 harg12 arg13 harg13 arg14 harg14 arg15 harg15 v17 k0_hw1 k0_h8)
          (fun _ => iprop((arg7.view.loc (c : Thread nD τ) ↦[arg7.view.set]{fullShare} X_arg7) ∗ (arg12.view.loc (c : Thread nD τ) ↦[arg12.view.set]{fullShare} X_arg12) ∗ (arg15.view.loc (c : Thread nD τ) ↦[arg15.view.set]{fullShare} X_arg15) ∗ (arg11.view.loc (c : Thread nD τ) ↦[arg11.view.set]{fullShare} g_arg11))) } := by
  refine ⟨?_, fun E => ?run⟩
  case run =>
    unfold secD
    iintro ⟨H_arg7, H_arg12, H_arg15, H_arg11⟩
    sl_exec
    sl_step
    sl_close

/-- The scatter section, as a relation between what the memrefs hold before and after. -/
def RelD (i : grid0.Coords) (v17 : BitVec 32) (k0_hw1 : k0_chk1 i v17) (k0_h8 : k0_cond8 i v17 = 1#1) (Y_arg7 : Vec F S1x1088x128 .f32) (Y_arg12 : Vec F S1088x128 .f32) (Y_arg15 : Vec F S1152x1024 .f32) (y_arg11 : Vec F S1x1088x1024 .f32) (z_arg11 : Vec F S1x1088x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg7 : BufTy.Contents (Elt F) arg7.view.ty) (X_arg12 : BufTy.Contents (Elt F) arg12.view.ty) (X_arg15 : BufTy.Contents (Elt F) arg15.view.ty) (f_arg11 : BufTy.Contents (Elt F) arg11.view.ty),
    arg7.view.read (Elt F) X_arg7 = Y_arg7 ∧ arg12.view.read (Elt F) X_arg12 = Y_arg12 ∧ arg15.view.read (Elt F) X_arg15 = Y_arg15 ∧ arg11.view.read (Elt F) f_arg11 = y_arg11 ∧ arg11.view.read (Elt F) (runD (F := F) Variants.none c none i arg4 harg4 arg5 harg5 arg6 harg6 arg7 harg7 arg8 harg8 arg9 harg9 arg10 harg10 arg11 harg11 arg12 harg12 arg13 harg13 arg14 harg14 arg15 harg15 v17 k0_hw1 k0_h8 X_arg7 X_arg12 X_arg15 f_arg11).1 = z_arg11

/-- The scatter section: the section takes the memrefs through the relation. -/
theorem runD_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (k0_h8 : k0_cond8 i v17 = 1#1) (Y_arg7 : Vec F S1x1088x128 .f32) (Y_arg12 : Vec F S1088x128 .f32) (Y_arg15 : Vec F S1152x1024 .f32) (y_arg11 : Vec F S1x1088x1024 .f32) :
    (iprop(owns (c : Thread nD τ) arg7 fullShare Y_arg7 ∗ owns (c : Thread nD τ) arg12 fullShare Y_arg12 ∗ owns (c : Thread nD τ) arg15 fullShare Y_arg15 ∗ owns (c : Thread nD τ) arg11 fullShare y_arg11) : sProp 𝕄G)
      ⊢ wp frame (wpE (defs₀ (F := F)) Variants.none (c : Thread nD τ) none) E (secD (F := F) i arg4 harg4 arg5 harg5 arg6 harg6 arg7 harg7 arg8 harg8 arg9 harg9 arg10 harg10 arg11 harg11 arg12 harg12 arg13 harg13 arg14 harg14 arg15 harg15 v17 k0_hw1 k0_h8) (fun _ => iprop(∃ z_arg11, ⌜RelD i v17 k0_hw1 k0_h8 Y_arg7 Y_arg12 Y_arg15 y_arg11 z_arg11⌝ ∗ owns (c : Thread nD τ) arg7 fullShare Y_arg7 ∗ owns (c : Thread nD τ) arg12 fullShare Y_arg12 ∗ owns (c : Thread nD τ) arg15 fullShare Y_arg15 ∗ owns (c : Thread nD τ) arg11 fullShare z_arg11)) := by
  unfold owns
  iintro ⟨⟨%X_arg7, %h_arg7, H_arg7⟩, ⟨%X_arg12, %h_arg12, H_arg12⟩, ⟨%X_arg15, %h_arg15, H_arg15⟩, ⟨%f_arg11, %h_arg11, H_arg11⟩⟩
  iapply (wp_wand_r Idealize.ShloMosaic.frame (wpE (defs₀ (F := F)) Variants.none (c : Thread nD τ) none) E)
  isplitl [H_arg7 H_arg12 H_arg15 H_arg11]
  · iapply ((runD (F := F) Variants.none c none i arg4 harg4 arg5 harg5 arg6 harg6 arg7 harg7 arg8 harg8 arg9 harg9 arg10 harg10 arg11 harg11 arg12 harg12 arg13 harg13 arg14 harg14 arg15 harg15 v17 k0_hw1 k0_h8 X_arg7 X_arg12 X_arg15 f_arg11).2 E)
    isplitl [H_arg7]; · iexact H_arg7
    isplitl [H_arg12]; · iexact H_arg12
    isplitl [H_arg15]; · iexact H_arg15
    iexact H_arg11
  · iintro %_ ⟨H_arg7, H_arg12, H_arg15, H_arg11⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg7, X_arg12, X_arg15, f_arg11, h_arg7, h_arg12, h_arg15, h_arg11, rfl⟩
    isplitl [H_arg7]
    · iexists _; isplitr; · ipureintro; exact h_arg7
      iexact H_arg7
    isplitl [H_arg12]
    · iexists _; isplitr; · ipureintro; exact h_arg12
      iexact H_arg12
    isplitl [H_arg15]
    · iexists _; isplitr; · ipureintro; exact h_arg15
      iexact H_arg15
    iexists _; isplitr; · ipureintro; rfl
    iexact H_arg11

end Cert.KernelIdeal.Gen

end
-- ==== Proof.Moe.RunE.lean ====
/-
  The run of the last section.
-/
module

public import proofs.«01_k».proof.Proof.Gen.KernelIdeal.Loops
public import proofs.«01_k».proof.Proof.Moe.Sec

@[expose] public section

set_option maxRecDepth 16384
set_option maxHeartbeats 8000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The last section: what it leaves in the result. -/
@[irreducible] def runE (𝒱 : Variants) (c : Dev nD) (bd : Option 𝒱.V) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg5 : BufTy.Contents (Elt F) arg5.view.ty) (X_arg6 : BufTy.Contents (Elt F) arg6.view.ty) (f_arg11 : BufTy.Contents (Elt F) arg11.view.ty) :
    { L_arg11 : List (View.Piece (Elt F) S1x1088x1024 .f32) // ∀ (E : Set ℕ),
      (iprop((arg5.view.loc (c : Thread nD τ) ↦[arg5.view.set]{fullShare} X_arg5) ∗ (arg6.view.loc (c : Thread nD τ) ↦[arg6.view.set]{fullShare} X_arg6) ∗ (arg11.view.loc (c : Thread nD τ) ↦[arg11.view.set]{fullShare} f_arg11)) : sProp 𝕄G)
      ⊢ wp frame (wpE (defs₀ (F := F)) 𝒱 (c : Thread nD τ) bd) E (secE (F := F) i arg4 harg4 arg5 harg5 arg6 harg6 arg7 harg7 arg8 harg8 arg9 harg9 arg10 harg10 arg11 harg11 arg12 harg12 arg13 harg13 arg14 harg14 arg15 harg15 )
          (fun _ => iprop((arg5.view.loc (c : Thread nD τ) ↦[arg5.view.set]{fullShare} X_arg5) ∗ (arg6.view.loc (c : Thread nD τ) ↦[arg6.view.set]{fullShare} X_arg6) ∗ (arg11.view.loc (c : Thread nD τ) ↦[arg11.view.set]{fullShare} (arg11.view.writes (Elt F) f_arg11 L_arg11)))) } := by
  refine ⟨?_, fun E => ?run⟩
  case run =>
    unfold secE
    iintro ⟨H_arg5, H_arg6, H_arg11⟩
    sl_exec
    sl_step
    sl_close

/-- The last section, as a relation between what the memrefs hold before and after. -/
def RelE (i : grid0.Coords) (Y_arg5 : Vec F S1x1088x1024 .f32) (Y_arg6 : Vec F S1x2x8x1024 .f32) (y_arg11 : Vec F S1x1088x1024 .f32) (z_arg11 : Vec F S1x1088x1024 .f32) : Prop :=
  ∃ (c : Dev nD) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X_arg5 : BufTy.Contents (Elt F) arg5.view.ty) (X_arg6 : BufTy.Contents (Elt F) arg6.view.ty) (f_arg11 : BufTy.Contents (Elt F) arg11.view.ty),
    arg5.view.read (Elt F) X_arg5 = Y_arg5 ∧ arg6.view.read (Elt F) X_arg6 = Y_arg6 ∧ arg11.view.read (Elt F) f_arg11 = y_arg11 ∧ arg11.view.read (Elt F) (arg11.view.writes (Elt F) f_arg11 (runE (F := F) Variants.none c none i arg4 harg4 arg5 harg5 arg6 harg6 arg7 harg7 arg8 harg8 arg9 harg9 arg10 harg10 arg11 harg11 arg12 harg12 arg13 harg13 arg14 harg14 arg15 harg15  X_arg5 X_arg6 f_arg11).1) = z_arg11

/-- The last section: the section takes the memrefs through the relation. -/
theorem runE_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (Y_arg5 : Vec F S1x1088x1024 .f32) (Y_arg6 : Vec F S1x2x8x1024 .f32) (y_arg11 : Vec F S1x1088x1024 .f32) :
    (iprop(owns (c : Thread nD τ) arg5 fullShare Y_arg5 ∗ owns (c : Thread nD τ) arg6 fullShare Y_arg6 ∗ owns (c : Thread nD τ) arg11 fullShare y_arg11) : sProp 𝕄G)
      ⊢ wp frame (wpE (defs₀ (F := F)) Variants.none (c : Thread nD τ) none) E (secE (F := F) i arg4 harg4 arg5 harg5 arg6 harg6 arg7 harg7 arg8 harg8 arg9 harg9 arg10 harg10 arg11 harg11 arg12 harg12 arg13 harg13 arg14 harg14 arg15 harg15 ) (fun _ => iprop(∃ z_arg11, ⌜RelE i  Y_arg5 Y_arg6 y_arg11 z_arg11⌝ ∗ owns (c : Thread nD τ) arg5 fullShare Y_arg5 ∗ owns (c : Thread nD τ) arg6 fullShare Y_arg6 ∗ owns (c : Thread nD τ) arg11 fullShare z_arg11)) := by
  unfold owns
  iintro ⟨⟨%X_arg5, %h_arg5, H_arg5⟩, ⟨%X_arg6, %h_arg6, H_arg6⟩, ⟨%f_arg11, %h_arg11, H_arg11⟩⟩
  iapply (wp_wand_r Idealize.ShloMosaic.frame (wpE (defs₀ (F := F)) Variants.none (c : Thread nD τ) none) E)
  isplitl [H_arg5 H_arg6 H_arg11]
  · iapply ((runE (F := F) Variants.none c none i arg4 harg4 arg5 harg5 arg6 harg6 arg7 harg7 arg8 harg8 arg9 harg9 arg10 harg10 arg11 harg11 arg12 harg12 arg13 harg13 arg14 harg14 arg15 harg15  X_arg5 X_arg6 f_arg11).2 E)
    isplitl [H_arg5]; · iexact H_arg5
    isplitl [H_arg6]; · iexact H_arg6
    iexact H_arg11
  · iintro %_ ⟨H_arg5, H_arg6, H_arg11⟩
    iexists _
    isplitr
    · ipureintro
      exact ⟨c, arg4, harg4, arg5, harg5, arg6, harg6, arg7, harg7, arg8, harg8, arg9, harg9, arg10, harg10, arg11, harg11, arg12, harg12, arg13, harg13, arg14, harg14, arg15, harg15, X_arg5, X_arg6, f_arg11, h_arg5, h_arg6, h_arg11, rfl⟩
    isplitl [H_arg5]
    · iexists _; isplitr; · ipureintro; exact h_arg5
      iexact H_arg5
    isplitl [H_arg6]
    · iexists _; isplitr; · ipureintro; exact h_arg6
      iexact H_arg6
    iexists _; isplitr; · ipureintro; rfl
    iexact H_arg11

end Cert.KernelIdeal.Gen

end
-- ==== Proof.Moe.Body.lean ====
/-
  The body of the mixture-of-experts call at one point of the grid, as a relation: the four scratch arrays and the result
  go through its sections one after the other.
-/
module

public import proofs.«01_k».proof.Proof.Moe.RunA
public import proofs.«01_k».proof.Proof.Moe.RunB
public import proofs.«01_k».proof.Proof.Moe.RunC
public import proofs.«01_k».proof.Proof.Moe.RunD
public import proofs.«01_k».proof.Proof.Moe.RunE
public import Idealize.ShloMosaic.Lib.Pipeline.FrameBody

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The counting section, where its condition holds; nothing otherwise. -/
def StepA (i : grid0.Coords)  (Y_arg7 : Vec F S1x1088x128 .f32) (y_arg11 : Vec F S1x1088x1024 .f32) (y_arg12 : Vec F S1088x128 .f32) (y_arg13 : Vec F S8x128 .f32) (z_arg11 : Vec F S1x1088x1024 .f32) (z_arg12 : Vec F S1088x128 .f32) (z_arg13 : Vec F S8x128 .f32) : Prop :=
  (∃ h : Scalar.cmpi .ne (Scalar.extui (Scalar.andi (Scalar.cmpi .eq (BitVec.ofNat 32 (i 2).val) 0#32) (Scalar.cmpi .eq (BitVec.ofNat 32 (i 3).val) 0#32))) 0#32 = 1#1, RelA i Y_arg7 y_arg11 y_arg12 y_arg13 z_arg11 z_arg12 z_arg13) ∨ (¬ (Scalar.cmpi .ne (Scalar.extui (Scalar.andi (Scalar.cmpi .eq (BitVec.ofNat 32 (i 2).val) 0#32) (Scalar.cmpi .eq (BitVec.ofNat 32 (i 3).val) 0#32))) 0#32 = 1#1) ∧ z_arg11 = y_arg11 ∧ z_arg12 = y_arg12 ∧ z_arg13 = y_arg13)

/-- The counting section, conditional: the memrefs go through `StepA`. -/
theorem stepA (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole)  (Y_arg7 : Vec F S1x1088x128 .f32) (y_arg11 : Vec F S1x1088x1024 .f32) (y_arg12 : Vec F S1088x128 .f32) (y_arg13 : Vec F S8x128 .f32) :
    (iprop(owns (c : Thread nD τ) arg7 fullShare Y_arg7 ∗ owns (c : Thread nD τ) arg11 fullShare y_arg11 ∗ owns (c : Thread nD τ) arg12 fullShare y_arg12 ∗ owns (c : Thread nD τ) arg13 fullShare y_arg13) : sProp 𝕄G)
      ⊢ wp frame (wpE (defs₀ (F := F)) Variants.none (c : Thread nD τ) none) E (if Scalar.cmpi .ne (Scalar.extui (Scalar.andi (Scalar.cmpi .eq (BitVec.ofNat 32 (i 2).val) 0#32) (Scalar.cmpi .eq (BitVec.ofNat 32 (i 3).val) 0#32))) 0#32 = 1#1 then secA (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg11 z_arg12 z_arg13, ⌜StepA i  Y_arg7 y_arg11 y_arg12 y_arg13 z_arg11 z_arg12 z_arg13⌝ ∗ owns (c : Thread nD τ) arg7 fullShare Y_arg7 ∗ owns (c : Thread nD τ) arg11 fullShare z_arg11 ∗ owns (c : Thread nD τ) arg12 fullShare z_arg12 ∗ owns (c : Thread nD τ) arg13 fullShare z_arg13)) := by
  by_cases h : Scalar.cmpi .ne (Scalar.extui (Scalar.andi (Scalar.cmpi .eq (BitVec.ofNat 32 (i 2).val) 0#32) (Scalar.cmpi .eq (BitVec.ofNat 32 (i 3).val) 0#32))) 0#32 = 1#1
  · rw [if_pos h]
    refine (runA_owns c E i arg4 harg4 arg5 harg5 arg6 harg6 arg7 harg7 arg8 harg8 arg9 harg9 arg10 harg10 arg11 harg11 arg12 harg12 arg13 harg13 arg14 harg14 arg15 harg15 Y_arg7 y_arg11 y_arg12 y_arg13).trans (wp_mono _ _ _ fun _ => ?_)
    iintro ⟨%z_arg11, %z_arg12, %z_arg13, %hR, H_arg7, H_arg11, H_arg12, H_arg13⟩
    iexists z_arg11
    iexists z_arg12
    iexists z_arg13
    isplitr; · ipureintro; exact .inl ⟨h, hR⟩
    isplitl [H_arg7]; · iexact H_arg7
    isplitl [H_arg11]; · iexact H_arg11
    isplitl [H_arg12]; · iexact H_arg12
    iexact H_arg13
  · rw [if_neg h, wp_pure]
    iintro ⟨H_arg7, H_arg11, H_arg12, H_arg13⟩
    imodintro
    iexists y_arg11
    iexists y_arg12
    iexists y_arg13
    isplitr; · ipureintro; exact .inr ⟨h, rfl, rfl, rfl⟩
    isplitl [H_arg7]; · iexact H_arg7
    isplitl [H_arg11]; · iexact H_arg11
    isplitl [H_arg12]; · iexact H_arg12
    iexact H_arg13

/-- The gather section, where its condition holds; nothing otherwise. -/
def StepB (i : grid0.Coords) (v17 : BitVec 32) (k0_hw1 : k0_chk1 i v17) (Y_arg4 : Vec F S1x1088x1024 .bf16) (Y_arg12 : Vec F S1088x128 .f32) (y_arg14 : Vec F S1152x1024 .bf16) (y_arg15 : Vec F S1152x1024 .f32) (z_arg14 : Vec F S1152x1024 .bf16) (z_arg15 : Vec F S1152x1024 .f32) : Prop :=
  (∃ h : k0_cond2 i v17 = 1#1, RelB i v17 k0_hw1 h Y_arg4 Y_arg12 y_arg14 y_arg15 z_arg14 z_arg15) ∨ (¬ (k0_cond2 i v17 = 1#1) ∧ z_arg14 = y_arg14 ∧ z_arg15 = y_arg15)

/-- The gather section, conditional: the memrefs go through `StepB`. -/
theorem stepB (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (Y_arg4 : Vec F S1x1088x1024 .bf16) (Y_arg12 : Vec F S1088x128 .f32) (y_arg14 : Vec F S1152x1024 .bf16) (y_arg15 : Vec F S1152x1024 .f32) :
    (iprop(owns (c : Thread nD τ) arg4 fullShare Y_arg4 ∗ owns (c : Thread nD τ) arg12 fullShare Y_arg12 ∗ owns (c : Thread nD τ) arg14 fullShare y_arg14 ∗ owns (c : Thread nD τ) arg15 fullShare y_arg15) : sProp 𝕄G)
      ⊢ wp frame (wpE (defs₀ (F := F)) Variants.none (c : Thread nD τ) none) E (if h : k0_cond2 i v17 = 1#1 then secB (F := F) i arg4 harg4 arg5 harg5 arg6 harg6 arg7 harg7 arg8 harg8 arg9 harg9 arg10 harg10 arg11 harg11 arg12 harg12 arg13 harg13 arg14 harg14 arg15 harg15 v17 k0_hw1 h else pure ⟨⟩) (fun _ => iprop(∃ z_arg14 z_arg15, ⌜StepB i v17 k0_hw1 Y_arg4 Y_arg12 y_arg14 y_arg15 z_arg14 z_arg15⌝ ∗ owns (c : Thread nD τ) arg4 fullShare Y_arg4 ∗ owns (c : Thread nD τ) arg12 fullShare Y_arg12 ∗ owns (c : Thread nD τ) arg14 fullShare z_arg14 ∗ owns (c : Thread nD τ) arg15 fullShare z_arg15)) := by
  by_cases h : k0_cond2 i v17 = 1#1
  · rw [dif_pos h]
    refine (runB_owns c E i arg4 harg4 arg5 harg5 arg6 harg6 arg7 harg7 arg8 harg8 arg9 harg9 arg10 harg10 arg11 harg11 arg12 harg12 arg13 harg13 arg14 harg14 arg15 harg15 v17 k0_hw1 h Y_arg4 Y_arg12 y_arg14 y_arg15).trans (wp_mono _ _ _ fun _ => ?_)
    iintro ⟨%z_arg14, %z_arg15, %hR, H_arg4, H_arg12, H_arg14, H_arg15⟩
    iexists z_arg14
    iexists z_arg15
    isplitr; · ipureintro; exact .inl ⟨h, hR⟩
    isplitl [H_arg4]; · iexact H_arg4
    isplitl [H_arg12]; · iexact H_arg12
    isplitl [H_arg14]; · iexact H_arg14
    iexact H_arg15
  · rw [dif_neg h, wp_pure]
    iintro ⟨H_arg4, H_arg12, H_arg14, H_arg15⟩
    imodintro
    iexists y_arg14
    iexists y_arg15
    isplitr; · ipureintro; exact .inr ⟨h, rfl, rfl⟩
    isplitl [H_arg4]; · iexact H_arg4
    isplitl [H_arg12]; · iexact H_arg12
    isplitl [H_arg14]; · iexact H_arg14
    iexact H_arg15

/-- The expert section, class 1, where its condition holds; nothing otherwise. -/
def StepC1 (i : grid0.Coords) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  (∃ h : Scalar.cmpi .ne (Scalar.extui (Scalar.cmpf .ole (k0_pay79 i v8) (Scalar.ofBits (F := F) .f32 0x43800000#32))) 0#32 = 1#1, RelC1 i Y_arg8 Y_arg9 Y_arg10 Y_arg14 y_arg15 z_arg15) ∨ (¬ (Scalar.cmpi .ne (Scalar.extui (Scalar.cmpf .ole (k0_pay79 i v8) (Scalar.ofBits (F := F) .f32 0x43800000#32))) 0#32 = 1#1) ∧ z_arg15 = y_arg15)

/-- The expert section, class 1, conditional: the memrefs go through `StepC1`. -/
theorem stepC1 (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (if Scalar.cmpi .ne (Scalar.extui (Scalar.cmpf .ole (k0_pay79 i v8) (Scalar.ofBits (F := F) .f32 0x43800000#32))) 0#32 = 1#1 then secC1 (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg15, ⌜StepC1 i v8 Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  by_cases h : Scalar.cmpi .ne (Scalar.extui (Scalar.cmpf .ole (k0_pay79 i v8) (Scalar.ofBits (F := F) .f32 0x43800000#32))) 0#32 = 1#1
  · rw [if_pos h]
    refine (runC1_owns c E i arg4 harg4 arg5 harg5 arg6 harg6 arg7 harg7 arg8 harg8 arg9 harg9 arg10 harg10 arg11 harg11 arg12 harg12 arg13 harg13 arg14 harg14 arg15 harg15 Y_arg8 Y_arg9 Y_arg10 Y_arg14 y_arg15).trans (wp_mono _ _ _ fun _ => ?_)
    iintro ⟨%z_arg15, %hR, H_arg8, H_arg9, H_arg10, H_arg14, H_arg15⟩
    iexists z_arg15
    isplitr; · ipureintro; exact .inl ⟨h, hR⟩
    isplitl [H_arg8]; · iexact H_arg8
    isplitl [H_arg9]; · iexact H_arg9
    isplitl [H_arg10]; · iexact H_arg10
    isplitl [H_arg14]; · iexact H_arg14
    iexact H_arg15
  · rw [if_neg h, wp_pure]
    iintro ⟨H_arg8, H_arg9, H_arg10, H_arg14, H_arg15⟩
    imodintro
    iexists y_arg15
    isplitr; · ipureintro; exact .inr ⟨h, rfl⟩
    isplitl [H_arg8]; · iexact H_arg8
    isplitl [H_arg9]; · iexact H_arg9
    isplitl [H_arg10]; · iexact H_arg10
    isplitl [H_arg14]; · iexact H_arg14
    iexact H_arg15

/-- The expert section, class 2, where its condition holds; nothing otherwise. -/
def StepC2 (i : grid0.Coords) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  (∃ h : Scalar.cmpi .ne (Scalar.extui (Scalar.andi (Scalar.cmpf .ole (k0_pay79 i v8) (Scalar.ofBits (F := F) .f32 0x43A00000#32)) (Scalar.cmpf .ogt (k0_pay79 i v8) (Scalar.ofBits (F := F) .f32 0x43800000#32)))) 0#32 = 1#1, RelC2 i Y_arg8 Y_arg9 Y_arg10 Y_arg14 y_arg15 z_arg15) ∨ (¬ (Scalar.cmpi .ne (Scalar.extui (Scalar.andi (Scalar.cmpf .ole (k0_pay79 i v8) (Scalar.ofBits (F := F) .f32 0x43A00000#32)) (Scalar.cmpf .ogt (k0_pay79 i v8) (Scalar.ofBits (F := F) .f32 0x43800000#32)))) 0#32 = 1#1) ∧ z_arg15 = y_arg15)

/-- The expert section, class 2, conditional: the memrefs go through `StepC2`. -/
theorem stepC2 (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (if Scalar.cmpi .ne (Scalar.extui (Scalar.andi (Scalar.cmpf .ole (k0_pay79 i v8) (Scalar.ofBits (F := F) .f32 0x43A00000#32)) (Scalar.cmpf .ogt (k0_pay79 i v8) (Scalar.ofBits (F := F) .f32 0x43800000#32)))) 0#32 = 1#1 then secC2 (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg15, ⌜StepC2 i v8 Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  by_cases h : Scalar.cmpi .ne (Scalar.extui (Scalar.andi (Scalar.cmpf .ole (k0_pay79 i v8) (Scalar.ofBits (F := F) .f32 0x43A00000#32)) (Scalar.cmpf .ogt (k0_pay79 i v8) (Scalar.ofBits (F := F) .f32 0x43800000#32)))) 0#32 = 1#1
  · rw [if_pos h]
    refine (runC2_owns c E i arg4 harg4 arg5 harg5 arg6 harg6 arg7 harg7 arg8 harg8 arg9 harg9 arg10 harg10 arg11 harg11 arg12 harg12 arg13 harg13 arg14 harg14 arg15 harg15 Y_arg8 Y_arg9 Y_arg10 Y_arg14 y_arg15).trans (wp_mono _ _ _ fun _ => ?_)
    iintro ⟨%z_arg15, %hR, H_arg8, H_arg9, H_arg10, H_arg14, H_arg15⟩
    iexists z_arg15
    isplitr; · ipureintro; exact .inl ⟨h, hR⟩
    isplitl [H_arg8]; · iexact H_arg8
    isplitl [H_arg9]; · iexact H_arg9
    isplitl [H_arg10]; · iexact H_arg10
    isplitl [H_arg14]; · iexact H_arg14
    iexact H_arg15
  · rw [if_neg h, wp_pure]
    iintro ⟨H_arg8, H_arg9, H_arg10, H_arg14, H_arg15⟩
    imodintro
    iexists y_arg15
    isplitr; · ipureintro; exact .inr ⟨h, rfl⟩
    isplitl [H_arg8]; · iexact H_arg8
    isplitl [H_arg9]; · iexact H_arg9
    isplitl [H_arg10]; · iexact H_arg10
    isplitl [H_arg14]; · iexact H_arg14
    iexact H_arg15

/-- The expert section, class 3, where its condition holds; nothing otherwise. -/
def StepC3 (i : grid0.Coords) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  (∃ h : Scalar.cmpi .ne (Scalar.extui (Scalar.andi (Scalar.cmpf .ole (k0_pay79 i v8) (Scalar.ofBits (F := F) .f32 0x43C00000#32)) (Scalar.cmpf .ogt (k0_pay79 i v8) (Scalar.ofBits (F := F) .f32 0x43A00000#32)))) 0#32 = 1#1, RelC3 i Y_arg8 Y_arg9 Y_arg10 Y_arg14 y_arg15 z_arg15) ∨ (¬ (Scalar.cmpi .ne (Scalar.extui (Scalar.andi (Scalar.cmpf .ole (k0_pay79 i v8) (Scalar.ofBits (F := F) .f32 0x43C00000#32)) (Scalar.cmpf .ogt (k0_pay79 i v8) (Scalar.ofBits (F := F) .f32 0x43A00000#32)))) 0#32 = 1#1) ∧ z_arg15 = y_arg15)

/-- The expert section, class 3, conditional: the memrefs go through `StepC3`. -/
theorem stepC3 (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (if Scalar.cmpi .ne (Scalar.extui (Scalar.andi (Scalar.cmpf .ole (k0_pay79 i v8) (Scalar.ofBits (F := F) .f32 0x43C00000#32)) (Scalar.cmpf .ogt (k0_pay79 i v8) (Scalar.ofBits (F := F) .f32 0x43A00000#32)))) 0#32 = 1#1 then secC3 (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg15, ⌜StepC3 i v8 Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  by_cases h : Scalar.cmpi .ne (Scalar.extui (Scalar.andi (Scalar.cmpf .ole (k0_pay79 i v8) (Scalar.ofBits (F := F) .f32 0x43C00000#32)) (Scalar.cmpf .ogt (k0_pay79 i v8) (Scalar.ofBits (F := F) .f32 0x43A00000#32)))) 0#32 = 1#1
  · rw [if_pos h]
    refine (runC3_owns c E i arg4 harg4 arg5 harg5 arg6 harg6 arg7 harg7 arg8 harg8 arg9 harg9 arg10 harg10 arg11 harg11 arg12 harg12 arg13 harg13 arg14 harg14 arg15 harg15 Y_arg8 Y_arg9 Y_arg10 Y_arg14 y_arg15).trans (wp_mono _ _ _ fun _ => ?_)
    iintro ⟨%z_arg15, %hR, H_arg8, H_arg9, H_arg10, H_arg14, H_arg15⟩
    iexists z_arg15
    isplitr; · ipureintro; exact .inl ⟨h, hR⟩
    isplitl [H_arg8]; · iexact H_arg8
    isplitl [H_arg9]; · iexact H_arg9
    isplitl [H_arg10]; · iexact H_arg10
    isplitl [H_arg14]; · iexact H_arg14
    iexact H_arg15
  · rw [if_neg h, wp_pure]
    iintro ⟨H_arg8, H_arg9, H_arg10, H_arg14, H_arg15⟩
    imodintro
    iexists y_arg15
    isplitr; · ipureintro; exact .inr ⟨h, rfl⟩
    isplitl [H_arg8]; · iexact H_arg8
    isplitl [H_arg9]; · iexact H_arg9
    isplitl [H_arg10]; · iexact H_arg10
    isplitl [H_arg14]; · iexact H_arg14
    iexact H_arg15

/-- The expert section, class 4, where its condition holds; nothing otherwise. -/
def StepC4 (i : grid0.Coords) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) (z_arg15 : Vec F S1152x1024 .f32) : Prop :=
  (∃ h : Scalar.cmpi .ne (Scalar.extui (Scalar.cmpf .ogt (k0_pay79 i v8) (Scalar.ofBits (F := F) .f32 0x43C00000#32))) 0#32 = 1#1, RelC4 i Y_arg8 Y_arg9 Y_arg10 Y_arg14 y_arg15 z_arg15) ∨ (¬ (Scalar.cmpi .ne (Scalar.extui (Scalar.cmpf .ogt (k0_pay79 i v8) (Scalar.ofBits (F := F) .f32 0x43C00000#32))) 0#32 = 1#1) ∧ z_arg15 = y_arg15)

/-- The expert section, class 4, conditional: the memrefs go through `StepC4`. -/
theorem stepC4 (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v8 : Vec F S1x128 .f32) (Y_arg8 : Vec F S1x1024x896 .bf16) (Y_arg9 : Vec F S1x1024x896 .bf16) (Y_arg10 : Vec F S1x896x1024 .bf16) (Y_arg14 : Vec F S1152x1024 .bf16) (y_arg15 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y_arg15) : sProp 𝕄G)
      ⊢ wp frame (wpE (defs₀ (F := F)) Variants.none (c : Thread nD τ) none) E (if Scalar.cmpi .ne (Scalar.extui (Scalar.cmpf .ogt (k0_pay79 i v8) (Scalar.ofBits (F := F) .f32 0x43C00000#32))) 0#32 = 1#1 then secC4 (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg15, ⌜StepC4 i v8 Y_arg8 Y_arg9 Y_arg10 Y_arg14 y_arg15 z_arg15⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z_arg15)) := by
  by_cases h : Scalar.cmpi .ne (Scalar.extui (Scalar.cmpf .ogt (k0_pay79 i v8) (Scalar.ofBits (F := F) .f32 0x43C00000#32))) 0#32 = 1#1
  · rw [if_pos h]
    refine (runC4_owns c E i arg4 harg4 arg5 harg5 arg6 harg6 arg7 harg7 arg8 harg8 arg9 harg9 arg10 harg10 arg11 harg11 arg12 harg12 arg13 harg13 arg14 harg14 arg15 harg15 Y_arg8 Y_arg9 Y_arg10 Y_arg14 y_arg15).trans (wp_mono _ _ _ fun _ => ?_)
    iintro ⟨%z_arg15, %hR, H_arg8, H_arg9, H_arg10, H_arg14, H_arg15⟩
    iexists z_arg15
    isplitr; · ipureintro; exact .inl ⟨h, hR⟩
    isplitl [H_arg8]; · iexact H_arg8
    isplitl [H_arg9]; · iexact H_arg9
    isplitl [H_arg10]; · iexact H_arg10
    isplitl [H_arg14]; · iexact H_arg14
    iexact H_arg15
  · rw [if_neg h, wp_pure]
    iintro ⟨H_arg8, H_arg9, H_arg10, H_arg14, H_arg15⟩
    imodintro
    iexists y_arg15
    isplitr; · ipureintro; exact .inr ⟨h, rfl⟩
    isplitl [H_arg8]; · iexact H_arg8
    isplitl [H_arg9]; · iexact H_arg9
    isplitl [H_arg10]; · iexact H_arg10
    isplitl [H_arg14]; · iexact H_arg14
    iexact H_arg15

/-- The scatter section, where its condition holds; nothing otherwise. -/
def StepD (i : grid0.Coords) (v17 : BitVec 32) (k0_hw1 : k0_chk1 i v17) (Y_arg7 : Vec F S1x1088x128 .f32) (Y_arg12 : Vec F S1088x128 .f32) (Y_arg15 : Vec F S1152x1024 .f32) (y_arg11 : Vec F S1x1088x1024 .f32) (z_arg11 : Vec F S1x1088x1024 .f32) : Prop :=
  (∃ h : k0_cond8 i v17 = 1#1, RelD i v17 k0_hw1 h Y_arg7 Y_arg12 Y_arg15 y_arg11 z_arg11) ∨ (¬ (k0_cond8 i v17 = 1#1) ∧ z_arg11 = y_arg11)

/-- The scatter section, conditional: the memrefs go through `StepD`. -/
theorem stepD (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (Y_arg7 : Vec F S1x1088x128 .f32) (Y_arg12 : Vec F S1088x128 .f32) (Y_arg15 : Vec F S1152x1024 .f32) (y_arg11 : Vec F S1x1088x1024 .f32) :
    (iprop(owns (c : Thread nD τ) arg7 fullShare Y_arg7 ∗ owns (c : Thread nD τ) arg12 fullShare Y_arg12 ∗ owns (c : Thread nD τ) arg15 fullShare Y_arg15 ∗ owns (c : Thread nD τ) arg11 fullShare y_arg11) : sProp 𝕄G)
      ⊢ wp frame (wpE (defs₀ (F := F)) Variants.none (c : Thread nD τ) none) E (if h : k0_cond8 i v17 = 1#1 then secD (F := F) i arg4 harg4 arg5 harg5 arg6 harg6 arg7 harg7 arg8 harg8 arg9 harg9 arg10 harg10 arg11 harg11 arg12 harg12 arg13 harg13 arg14 harg14 arg15 harg15 v17 k0_hw1 h else pure ⟨⟩) (fun _ => iprop(∃ z_arg11, ⌜StepD i v17 k0_hw1 Y_arg7 Y_arg12 Y_arg15 y_arg11 z_arg11⌝ ∗ owns (c : Thread nD τ) arg7 fullShare Y_arg7 ∗ owns (c : Thread nD τ) arg12 fullShare Y_arg12 ∗ owns (c : Thread nD τ) arg15 fullShare Y_arg15 ∗ owns (c : Thread nD τ) arg11 fullShare z_arg11)) := by
  by_cases h : k0_cond8 i v17 = 1#1
  · rw [dif_pos h]
    refine (runD_owns c E i arg4 harg4 arg5 harg5 arg6 harg6 arg7 harg7 arg8 harg8 arg9 harg9 arg10 harg10 arg11 harg11 arg12 harg12 arg13 harg13 arg14 harg14 arg15 harg15 v17 k0_hw1 h Y_arg7 Y_arg12 Y_arg15 y_arg11).trans (wp_mono _ _ _ fun _ => ?_)
    iintro ⟨%z_arg11, %hR, H_arg7, H_arg12, H_arg15, H_arg11⟩
    iexists z_arg11
    isplitr; · ipureintro; exact .inl ⟨h, hR⟩
    isplitl [H_arg7]; · iexact H_arg7
    isplitl [H_arg12]; · iexact H_arg12
    isplitl [H_arg15]; · iexact H_arg15
    iexact H_arg11
  · rw [dif_neg h, wp_pure]
    iintro ⟨H_arg7, H_arg12, H_arg15, H_arg11⟩
    imodintro
    iexists y_arg11
    isplitr; · ipureintro; exact .inr ⟨h, rfl⟩
    isplitl [H_arg7]; · iexact H_arg7
    isplitl [H_arg12]; · iexact H_arg12
    isplitl [H_arg15]; · iexact H_arg15
    iexact H_arg11

/-- The last section, where its condition holds; nothing otherwise. -/
def StepE (i : grid0.Coords)  (Y_arg5 : Vec F S1x1088x1024 .f32) (Y_arg6 : Vec F S1x2x8x1024 .f32) (y_arg11 : Vec F S1x1088x1024 .f32) (z_arg11 : Vec F S1x1088x1024 .f32) : Prop :=
  (∃ h : Scalar.cmpi .ne (Scalar.extui (Scalar.andi (Scalar.cmpi .eq (BitVec.ofNat 32 (i 2).val) 7#32) (Scalar.cmpi .eq (BitVec.ofNat 32 (i 3).val) 3#32))) 0#32 = 1#1, RelE i Y_arg5 Y_arg6 y_arg11 z_arg11) ∨ (¬ (Scalar.cmpi .ne (Scalar.extui (Scalar.andi (Scalar.cmpi .eq (BitVec.ofNat 32 (i 2).val) 7#32) (Scalar.cmpi .eq (BitVec.ofNat 32 (i 3).val) 3#32))) 0#32 = 1#1) ∧ z_arg11 = y_arg11)

/-- The last section, conditional: the memrefs go through `StepE`. -/
theorem stepE (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole)  (Y_arg5 : Vec F S1x1088x1024 .f32) (Y_arg6 : Vec F S1x2x8x1024 .f32) (y_arg11 : Vec F S1x1088x1024 .f32) :
    (iprop(owns (c : Thread nD τ) arg5 fullShare Y_arg5 ∗ owns (c : Thread nD τ) arg6 fullShare Y_arg6 ∗ owns (c : Thread nD τ) arg11 fullShare y_arg11) : sProp 𝕄G)
      ⊢ wp frame (wpE (defs₀ (F := F)) Variants.none (c : Thread nD τ) none) E (if Scalar.cmpi .ne (Scalar.extui (Scalar.andi (Scalar.cmpi .eq (BitVec.ofNat 32 (i 2).val) 7#32) (Scalar.cmpi .eq (BitVec.ofNat 32 (i 3).val) 3#32))) 0#32 = 1#1 then secE (F := F) i arg4 harg4 arg5 harg5 arg6 harg6 arg7 harg7 arg8 harg8 arg9 harg9 arg10 harg10 arg11 harg11 arg12 harg12 arg13 harg13 arg14 harg14 arg15 harg15 else pure ⟨⟩) (fun _ => iprop(∃ z_arg11, ⌜StepE i  Y_arg5 Y_arg6 y_arg11 z_arg11⌝ ∗ owns (c : Thread nD τ) arg5 fullShare Y_arg5 ∗ owns (c : Thread nD τ) arg6 fullShare Y_arg6 ∗ owns (c : Thread nD τ) arg11 fullShare z_arg11)) := by
  by_cases h : Scalar.cmpi .ne (Scalar.extui (Scalar.andi (Scalar.cmpi .eq (BitVec.ofNat 32 (i 2).val) 7#32) (Scalar.cmpi .eq (BitVec.ofNat 32 (i 3).val) 3#32))) 0#32 = 1#1
  · rw [if_pos h]
    refine (runE_owns c E i arg4 harg4 arg5 harg5 arg6 harg6 arg7 harg7 arg8 harg8 arg9 harg9 arg10 harg10 arg11 harg11 arg12 harg12 arg13 harg13 arg14 harg14 arg15 harg15 Y_arg5 Y_arg6 y_arg11).trans (wp_mono _ _ _ fun _ => ?_)
    iintro ⟨%z_arg11, %hR, H_arg5, H_arg6, H_arg11⟩
    iexists z_arg11
    isplitr; · ipureintro; exact .inl ⟨h, hR⟩
    isplitl [H_arg5]; · iexact H_arg5
    isplitl [H_arg6]; · iexact H_arg6
    iexact H_arg11
  · rw [if_neg h, wp_pure]
    iintro ⟨H_arg5, H_arg6, H_arg11⟩
    imodintro
    iexists y_arg11
    isplitr; · ipureintro; exact .inr ⟨h, rfl⟩
    isplitl [H_arg5]; · iexact H_arg5
    isplitl [H_arg6]; · iexact H_arg6
    iexact H_arg11

/-- The expert section: the four classes one after the other, then the further tiles. -/
def RelC (i : grid0.Coords) (v17 : BitVec 32) (k0_hw1 : k0_chk1 i v17) (h : k0_cond3 v17 = 1#1) (v8 : Vec F S1x128 .f32) (Y_arg8 : Vec F S1x1024x896 .bf16) (Y_arg9 : Vec F S1x1024x896 .bf16) (Y_arg10 : Vec F S1x896x1024 .bf16) (Y_arg14 : Vec F S1152x1024 .bf16) (y0 y5 : Vec F S1152x1024 .f32) : Prop :=
  ∃ y1 y2 y3 y4, StepC1 i v8 Y_arg8 Y_arg9 Y_arg10 Y_arg14 y0 y1 ∧ StepC2 i v8 Y_arg8 Y_arg9 Y_arg10 Y_arg14 y1 y2 ∧ StepC3 i v8 Y_arg8 Y_arg9 Y_arg10 Y_arg14 y2 y3 ∧ StepC4 i v8 Y_arg8 Y_arg9 Y_arg10 Y_arg14 y3 y4
    ∧ RelC5 i v17 k0_hw1 h Y_arg8 Y_arg9 Y_arg10 Y_arg14 y4 y5

/-- The expert section takes the memrefs through its relation. -/
theorem runC_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (h : k0_cond3 v17 = 1#1) (v8 : Vec F S1x128 .f32) (Y_arg8 : Vec F S1x1024x896 .bf16) (Y_arg9 : Vec F S1x1024x896 .bf16) (Y_arg10 : Vec F S1x896x1024 .bf16) (Y_arg14 : Vec F S1152x1024 .bf16) (y0 : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y0) : sProp 𝕄G)
      ⊢ wp frame (wpE (defs₀ (F := F)) Variants.none (c : Thread nD τ) none) E (secC (F := F) i arg4 harg4 arg5 harg5 arg6 harg6 arg7 harg7 arg8 harg8 arg9 harg9 arg10 harg10 arg11 harg11 arg12 harg12 arg13 harg13 arg14 harg14 arg15 harg15 v17 k0_hw1 h v8) (fun _ => iprop(∃ y5, ⌜RelC i v17 k0_hw1 h v8 Y_arg8 Y_arg9 Y_arg10 Y_arg14 y0 y5⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y5)) := by
  unfold secC
  iintro ⟨H_arg8, H_arg9, H_arg10, H_arg14, H_arg15⟩
  rw [wp_bind]
  iapply (wp_wand_r Idealize.ShloMosaic.frame (wpE (defs₀ (F := F)) Variants.none (c : Thread nD τ) none) E)
  isplitl [H_arg8 H_arg9 H_arg10 H_arg14 H_arg15]
  · iapply (stepC1 c E i arg4 harg4 arg5 harg5 arg6 harg6 arg7 harg7 arg8 harg8 arg9 harg9 arg10 harg10 arg11 harg11 arg12 harg12 arg13 harg13 arg14 harg14 arg15 harg15 v8 Y_arg8 Y_arg9 Y_arg10 Y_arg14 _)
    isplitl [H_arg8]; · iexact H_arg8
    isplitl [H_arg9]; · iexact H_arg9
    isplitl [H_arg10]; · iexact H_arg10
    isplitl [H_arg14]; · iexact H_arg14
    iexact H_arg15
  iintro %_ ⟨%y1, %h1, H_arg8, H_arg9, H_arg10, H_arg14, H_arg15⟩
  rw [wp_bind]
  iapply (wp_wand_r Idealize.ShloMosaic.frame (wpE (defs₀ (F := F)) Variants.none (c : Thread nD τ) none) E)
  isplitl [H_arg8 H_arg9 H_arg10 H_arg14 H_arg15]
  · iapply (stepC2 c E i arg4 harg4 arg5 harg5 arg6 harg6 arg7 harg7 arg8 harg8 arg9 harg9 arg10 harg10 arg11 harg11 arg12 harg12 arg13 harg13 arg14 harg14 arg15 harg15 v8 Y_arg8 Y_arg9 Y_arg10 Y_arg14 _)
    isplitl [H_arg8]; · iexact H_arg8
    isplitl [H_arg9]; · iexact H_arg9
    isplitl [H_arg10]; · iexact H_arg10
    isplitl [H_arg14]; · iexact H_arg14
    iexact H_arg15
  iintro %_ ⟨%y2, %h2, H_arg8, H_arg9, H_arg10, H_arg14, H_arg15⟩
  rw [wp_bind]
  iapply (wp_wand_r Idealize.ShloMosaic.frame (wpE (defs₀ (F := F)) Variants.none (c : Thread nD τ) none) E)
  isplitl [H_arg8 H_arg9 H_arg10 H_arg14 H_arg15]
  · iapply (stepC3 c E i arg4 harg4 arg5 harg5 arg6 harg6 arg7 harg7 arg8 harg8 arg9 harg9 arg10 harg10 arg11 harg11 arg12 harg12 arg13 harg13 arg14 harg14 arg15 harg15 v8 Y_arg8 Y_arg9 Y_arg10 Y_arg14 _)
    isplitl [H_arg8]; · iexact H_arg8
    isplitl [H_arg9]; · iexact H_arg9
    isplitl [H_arg10]; · iexact H_arg10
    isplitl [H_arg14]; · iexact H_arg14
    iexact H_arg15
  iintro %_ ⟨%y3, %h3, H_arg8, H_arg9, H_arg10, H_arg14, H_arg15⟩
  rw [wp_bind]
  iapply (wp_wand_r Idealize.ShloMosaic.frame (wpE (defs₀ (F := F)) Variants.none (c : Thread nD τ) none) E)
  isplitl [H_arg8 H_arg9 H_arg10 H_arg14 H_arg15]
  · iapply (stepC4 c E i arg4 harg4 arg5 harg5 arg6 harg6 arg7 harg7 arg8 harg8 arg9 harg9 arg10 harg10 arg11 harg11 arg12 harg12 arg13 harg13 arg14 harg14 arg15 harg15 v8 Y_arg8 Y_arg9 Y_arg10 Y_arg14 _)
    isplitl [H_arg8]; · iexact H_arg8
    isplitl [H_arg9]; · iexact H_arg9
    isplitl [H_arg10]; · iexact H_arg10
    isplitl [H_arg14]; · iexact H_arg14
    iexact H_arg15
  iintro %_ ⟨%y4, %h4, H_arg8, H_arg9, H_arg10, H_arg14, H_arg15⟩
  iapply (wp_wand_r Idealize.ShloMosaic.frame (wpE (defs₀ (F := F)) Variants.none (c : Thread nD τ) none) E)
  isplitl [H_arg8 H_arg9 H_arg10 H_arg14 H_arg15]
  · iapply (runC5_owns c E i arg4 harg4 arg5 harg5 arg6 harg6 arg7 harg7 arg8 harg8 arg9 harg9 arg10 harg10 arg11 harg11 arg12 harg12 arg13 harg13 arg14 harg14 arg15 harg15 v17 k0_hw1 h Y_arg8 Y_arg9 Y_arg10 Y_arg14 _)
    isplitl [H_arg8]; · iexact H_arg8
    isplitl [H_arg9]; · iexact H_arg9
    isplitl [H_arg10]; · iexact H_arg10
    isplitl [H_arg14]; · iexact H_arg14
    iexact H_arg15
  iintro %_ ⟨%y5, %h5, H_arg8, H_arg9, H_arg10, H_arg14, H_arg15⟩
  iexists y5
  isplitr; · ipureintro; exact ⟨y1, y2, y3, y4, h1, h2, h3, h4, h5⟩
  isplitl [H_arg8]; · iexact H_arg8
  isplitl [H_arg9]; · iexact H_arg9
  isplitl [H_arg10]; · iexact H_arg10
  isplitl [H_arg14]; · iexact H_arg14
  iexact H_arg15

/-- The expert section, where its condition holds; nothing otherwise. -/
def StepC (i : grid0.Coords) (v17 : BitVec 32) (k0_hw1 : k0_chk1 i v17) (v8 : Vec F S1x128 .f32) (Y_arg8 : Vec F S1x1024x896 .bf16) (Y_arg9 : Vec F S1x1024x896 .bf16) (Y_arg10 : Vec F S1x896x1024 .bf16) (Y_arg14 : Vec F S1152x1024 .bf16) (y z : Vec F S1152x1024 .f32) : Prop :=
  (∃ h : k0_cond3 v17 = 1#1, RelC i v17 k0_hw1 h v8 Y_arg8 Y_arg9 Y_arg10 Y_arg14 y z) ∨ (¬ (k0_cond3 v17 = 1#1) ∧ z = y)

/-- The expert section, conditional. -/
theorem stepC (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (v17 : BitVec 32) (k0_hw1 : k0_chk1 i v17) (v8 : Vec F S1x128 .f32) (Y_arg8 : Vec F S1x1024x896 .bf16) (Y_arg9 : Vec F S1x1024x896 .bf16) (Y_arg10 : Vec F S1x896x1024 .bf16) (Y_arg14 : Vec F S1152x1024 .bf16) (y : Vec F S1152x1024 .f32) :
    (iprop(owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare y) : sProp 𝕄G)
      ⊢ wp frame (wpE (defs₀ (F := F)) Variants.none (c : Thread nD τ) none) E (if h : k0_cond3 v17 = 1#1 then secC (F := F) i arg4 harg4 arg5 harg5 arg6 harg6 arg7 harg7 arg8 harg8 arg9 harg9 arg10 harg10 arg11 harg11 arg12 harg12 arg13 harg13 arg14 harg14 arg15 harg15 v17 k0_hw1 h v8 else pure ⟨⟩) (fun _ => iprop(∃ z, ⌜StepC i v17 k0_hw1 v8 Y_arg8 Y_arg9 Y_arg10 Y_arg14 y z⌝ ∗ owns (c : Thread nD τ) arg8 fullShare Y_arg8 ∗ owns (c : Thread nD τ) arg9 fullShare Y_arg9 ∗ owns (c : Thread nD τ) arg10 fullShare Y_arg10 ∗ owns (c : Thread nD τ) arg14 fullShare Y_arg14 ∗ owns (c : Thread nD τ) arg15 fullShare z)) := by
  by_cases h : k0_cond3 v17 = 1#1
  · rw [dif_pos h]
    refine (runC_owns c E i arg4 harg4 arg5 harg5 arg6 harg6 arg7 harg7 arg8 harg8 arg9 harg9 arg10 harg10 arg11 harg11 arg12 harg12 arg13 harg13 arg14 harg14 arg15 harg15 v17 k0_hw1 h v8 Y_arg8 Y_arg9 Y_arg10 Y_arg14 y).trans (wp_mono _ _ _ fun _ => ?_)
    iintro ⟨%z, %hR, H_arg8, H_arg9, H_arg10, H_arg14, H_arg15⟩
    iexists z
    isplitr; · ipureintro; exact .inl ⟨h, hR⟩
    isplitl [H_arg8]; · iexact H_arg8
    isplitl [H_arg9]; · iexact H_arg9
    isplitl [H_arg10]; · iexact H_arg10
    isplitl [H_arg14]; · iexact H_arg14
    iexact H_arg15
  · rw [dif_neg h, wp_pure]
    iintro ⟨H_arg8, H_arg9, H_arg10, H_arg14, H_arg15⟩
    imodintro
    iexists y
    isplitr; · ipureintro; exact .inr ⟨h, rfl⟩
    isplitl [H_arg8]; · iexact H_arg8
    isplitl [H_arg9]; · iexact H_arg9
    isplitl [H_arg10]; · iexact H_arg10
    isplitl [H_arg14]; · iexact H_arg14
    iexact H_arg15

/-- The counts as the body reads them: the first row of the scratch of counts. -/
def v8of (n : Vec F S8x128 .f32) : Vec F S1x128 .f32 :=
  View.ld n (Rect.unit (s := S8x128) ![0, 0] S1x128.size inb_S8x128_S1x128_0_0)

/-- The number of tiles of the point's expert, from the scratch of counts. -/
def v17of (i : grid0.Coords) (n : Vec F S8x128 .f32) : BitVec 32 := Scalar.fptosi 32 (k0_pay80 i (v8of n))

/-- One point of the grid: the scratch arrays and the result go through the sections one after the other. -/
def BodyRel (i : grid0.Coords) (X4 : Vec F S1x1088x1024 .bf16) (X5 : Vec F S1x1088x1024 .f32) (X6 : Vec F S1x2x8x1024 .f32) (X7 : Vec F S1x1088x128 .f32) (X8 : Vec F S1x1024x896 .bf16) (X9 : Vec F S1x1024x896 .bf16) (X10 : Vec F S1x896x1024 .bf16)
    (d : Vec F S1088x128 .f32) (n : Vec F S8x128 .f32) (x : Vec F S1152x1024 .bf16) (y : Vec F S1152x1024 .f32) (o : Vec F S1x1088x1024 .f32)
    (d' : Vec F S1088x128 .f32) (n' : Vec F S8x128 .f32) (x' : Vec F S1152x1024 .bf16) (y' : Vec F S1152x1024 .f32) (o' : Vec F S1x1088x1024 .f32) : Prop :=
  ∃ o1 o2, StepA i X7 o d n o1 d' n' ∧ ∃ hw : k0_chk1 i (v17of i n'), ∃ y1,
    StepB i (v17of i n') hw X4 d' x y x' y1 ∧ StepC i (v17of i n') hw (v8of n') X8 X9 X10 x' y1 y' ∧
    StepD i (v17of i n') hw X7 d' y' o1 o2 ∧ StepE i X5 X6 o2 o'

/-- The body's load of the counts. -/
theorem wp_bind_load13 (c : Dev nD) (E : Set ℕ) (arg13 : Memref sig .tc .vmem S8x128 .f32) (n : Vec F S8x128 .f32)
    {α : Type} {hl} (k : Vec F S1x128 .f32 → Prog (TpuEff nD τ sig (Elt F) Λ₀ .tc) α) (Q : α → sProp 𝕄G) :
    iprop(owns (c : Thread nD τ) arg13 fullShare n ∗ (owns (c : Thread nD τ) arg13 fullShare n -∗ wp frame (wpE (defs₀ (F := F)) Variants.none (c : Thread nD τ) none) E (k (v8of n)) Q))
      ⊢ wp frame (wpE (defs₀ (F := F)) Variants.none (c : Thread nD τ) none) E
        (Prog.lift (TpuEff.load arg13 (Rect.unit (s := S8x128) ![0, 0] S1x128.size inb_S8x128_S1x128_0_0).toLoadRect hl) >>= k) Q := by
  unfold owns
  iintro ⟨⟨%f, %hf, H⟩, HK⟩
  subst hf
  simp only [Prog.bind_lift]
  sl_step
  iapply HK
  iexists f
  isplitr; · ipureintro; rfl
  iexact H

/-- The body at any point, where the check that it makes holds after the counting section. -/
theorem body_owns (c : Dev nD) (E : Set ℕ) (i : grid0.Coords) (arg4 : Memref sig .tc .vmem S1x1088x1024 .bf16) (harg4 : arg4.IsWhole) (arg5 : Memref sig .tc .vmem S1x1088x1024 .f32) (harg5 : arg5.IsWhole) (arg6 : Memref sig .tc .vmem S1x2x8x1024 .f32) (harg6 : arg6.IsWhole) (arg7 : Memref sig .tc .vmem S1x1088x128 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1088x1024 .f32) (harg11 : arg11.IsWhole) (arg12 : Memref sig .tc .vmem S1088x128 .f32) (harg12 : arg12.IsWhole) (arg13 : Memref sig .tc .vmem S8x128 .f32) (harg13 : arg13.IsWhole) (arg14 : Memref sig .tc .vmem S1152x1024 .bf16) (harg14 : arg14.IsWhole) (arg15 : Memref sig .tc .vmem S1152x1024 .f32) (harg15 : arg15.IsWhole) (X4 : Vec F S1x1088x1024 .bf16) (X5 : Vec F S1x1088x1024 .f32) (X6 : Vec F S1x2x8x1024 .f32) (X7 : Vec F S1x1088x128 .f32) (X8 : Vec F S1x1024x896 .bf16) (X9 : Vec F S1x1024x896 .bf16) (X10 : Vec F S1x896x1024 .bf16) (d : Vec F S1088x128 .f32) (n : Vec F S8x128 .f32) (x : Vec F S1152x1024 .bf16) (y : Vec F S1152x1024 .f32) (o : Vec F S1x1088x1024 .f32)
    (hchk : ∀ o1 d1 n1, StepA i X7 o d n o1 d1 n1 → k0_chk1 i (v17of i n1)) :
    (iprop(owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare o ∗ owns (c : Thread nD τ) arg12 fullShare d ∗ owns (c : Thread nD τ) arg13 fullShare n ∗ owns (c : Thread nD τ) arg14 fullShare x ∗ owns (c : Thread nD τ) arg15 fullShare y) : sProp 𝕄G)
      ⊢ wp frame (wpE (defs₀ (F := F)) Variants.none (c : Thread nD τ) none) E (cc0_moe_experts (F := F) i arg4 harg4 arg5 harg5 arg6 harg6 arg7 harg7 arg8 harg8 arg9 harg9 arg10 harg10 arg11 harg11 arg12 harg12 arg13 harg13 arg14 harg14 arg15 harg15) (fun _ => iprop(∃ d' n' x' y' o', ⌜BodyRel i X4 X5 X6 X7 X8 X9 X10 d n x y o d' n' x' y' o'⌝ ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare o' ∗ owns (c : Thread nD τ) arg12 fullShare d' ∗ owns (c : Thread nD τ) arg13 fullShare n' ∗ owns (c : Thread nD τ) arg14 fullShare x' ∗ owns (c : Thread nD τ) arg15 fullShare y')) := by
  rw [body_eq_sec]
  unfold secBody
  iintro ⟨H_arg4, H_arg5, H_arg6, H_arg7, H_arg8, H_arg9, H_arg10, H_arg11, H_arg12, H_arg13, H_arg14, H_arg15⟩
  rw [wp_bind]
  iapply (wp_wand_r Idealize.ShloMosaic.frame (wpE (defs₀ (F := F)) Variants.none (c : Thread nD τ) none) E)
  isplitl [H_arg7 H_arg11 H_arg12 H_arg13]
  · iapply (stepA c E i arg4 harg4 arg5 harg5 arg6 harg6 arg7 harg7 arg8 harg8 arg9 harg9 arg10 harg10 arg11 harg11 arg12 harg12 arg13 harg13 arg14 harg14 arg15 harg15 X7 o d n)
    isplitl [H_arg7]; · iexact H_arg7
    isplitl [H_arg11]; · iexact H_arg11
    isplitl [H_arg12]; · iexact H_arg12
    iexact H_arg13
  iintro %_ ⟨%o1, %d', %n', %hA, H_arg7, H_arg11, H_arg12, H_arg13⟩
  have hw := hchk o1 d' n' hA
  iapply (wp_bind_load13 c E arg13 n')
  isplitl [H_arg13]; · iexact H_arg13
  iintro H_arg13
  iapply (wp_assume Variants.none (c : Thread nD τ) none E hw)
  dsimp only [Prog.bind]
  rw [wp_bind]
  iapply (wp_wand_r Idealize.ShloMosaic.frame (wpE (defs₀ (F := F)) Variants.none (c : Thread nD τ) none) E)
  isplitl [H_arg4 H_arg12 H_arg14 H_arg15]
  · iapply (stepB c E i arg4 harg4 arg5 harg5 arg6 harg6 arg7 harg7 arg8 harg8 arg9 harg9 arg10 harg10 arg11 harg11 arg12 harg12 arg13 harg13 arg14 harg14 arg15 harg15 (v17of i n') hw X4 d' x y)
    isplitl [H_arg4]; · iexact H_arg4
    isplitl [H_arg12]; · iexact H_arg12
    isplitl [H_arg14]; · iexact H_arg14
    iexact H_arg15
  iintro %_ ⟨%x', %y1, %hB, H_arg4, H_arg12, H_arg14, H_arg15⟩
  rw [wp_bind]
  iapply (wp_wand_r Idealize.ShloMosaic.frame (wpE (defs₀ (F := F)) Variants.none (c : Thread nD τ) none) E)
  isplitl [H_arg8 H_arg9 H_arg10 H_arg14 H_arg15]
  · iapply (stepC c E i arg4 harg4 arg5 harg5 arg6 harg6 arg7 harg7 arg8 harg8 arg9 harg9 arg10 harg10 arg11 harg11 arg12 harg12 arg13 harg13 arg14 harg14 arg15 harg15 (v17of i n') hw (v8of n') X8 X9 X10 x' y1)
    isplitl [H_arg8]; · iexact H_arg8
    isplitl [H_arg9]; · iexact H_arg9
    isplitl [H_arg10]; · iexact H_arg10
    isplitl [H_arg14]; · iexact H_arg14
    iexact H_arg15
  iintro %_ ⟨%y', %hC, H_arg8, H_arg9, H_arg10, H_arg14, H_arg15⟩
  rw [wp_bind]
  iapply (wp_wand_r Idealize.ShloMosaic.frame (wpE (defs₀ (F := F)) Variants.none (c : Thread nD τ) none) E)
  isplitl [H_arg7 H_arg12 H_arg15 H_arg11]
  · iapply (stepD c E i arg4 harg4 arg5 harg5 arg6 harg6 arg7 harg7 arg8 harg8 arg9 harg9 arg10 harg10 arg11 harg11 arg12 harg12 arg13 harg13 arg14 harg14 arg15 harg15 (v17of i n') hw X7 d' y' o1)
    isplitl [H_arg7]; · iexact H_arg7
    isplitl [H_arg12]; · iexact H_arg12
    isplitl [H_arg15]; · iexact H_arg15
    iexact H_arg11
  iintro %_ ⟨%o2, %hD, H_arg7, H_arg12, H_arg15, H_arg11⟩
  rw [wp_bind]
  iapply (wp_wand_r Idealize.ShloMosaic.frame (wpE (defs₀ (F := F)) Variants.none (c : Thread nD τ) none) E)
  isplitl [H_arg5 H_arg6 H_arg11]
  · iapply (stepE c E i arg4 harg4 arg5 harg5 arg6 harg6 arg7 harg7 arg8 harg8 arg9 harg9 arg10 harg10 arg11 harg11 arg12 harg12 arg13 harg13 arg14 harg14 arg15 harg15 X5 X6 o2)
    isplitl [H_arg5]; · iexact H_arg5
    isplitl [H_arg6]; · iexact H_arg6
    iexact H_arg11
  iintro %_ ⟨%o', %hE, H_arg5, H_arg6, H_arg11⟩
  rw [wp_pure]
  imodintro
  iexists d', n', x', y', o'
  isplitr; · ipureintro; exact ⟨o1, o2, hA, hw, y1, hB, hC, hD, hE⟩
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexact H_arg14
  iexact H_arg15

end Cert.KernelIdeal.Gen

end
-- ==== Proof.Moe.Run.lean ====
/-
  The run of the mixture-of-experts call from an invariant of its scratch arrays and of the result's buffer.
-/
module

public import proofs.«01_k».proof.Proof.Gen.KernelIdeal.Frame
public import proofs.«01_k».proof.Proof.Moe.Body
public import Idealize.ShloMosaic.Lib.Pipeline.DatRel

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (Dat Cfg Window BodyObligation BodyObligationRel cellOf)

variable (m : (ℓ : Loc nD τ sig) → Buf (Elt F) ℓ) (ρ : Dev nD → PrngReg)

/-- What holds of the scratch arrays before point `k` (`P`), and of the result's buffer after point `k` (`O`), for the
    blocks of `m`'s arrays. -/
structure Inv where
  P : Dev nD → ℕ → Vec F S1088x128 .f32 → Vec F S8x128 .f32 → Vec F S1152x1024 .bf16 → Vec F S1152x1024 .f32 → Prop
  O : Dev nD → ℕ → Vec F S1x1088x1024 .f32 → Prop
  start : ∀ c d n x y, P c 0 d n x y
  check : ∀ c (t : Fin cfg0.N) d n x y o, P c t.val d n x y → (t.val % 32 ≠ 0 → O c (t.val - 1) o) →
    ∀ o1 d1 n1, StepA (grid0.coords t) (iblk m c 3 t) o d n o1 d1 n1 → k0_chk1 (grid0.coords t) (v17of (grid0.coords t) n1)
  step : ∀ c (t : Fin cfg0.N) d n x y o, P c t.val d n x y → (t.val % 32 ≠ 0 → O c (t.val - 1) o) →
    ∀ d' n' x' y' o', BodyRel (grid0.coords t) (iblk m c 0 t) (iblk m c 1 t) (iblk m c 2 t) (iblk m c 3 t) (iblk m c 4 t) (iblk m c 5 t) (iblk m c 6 t)
        d n x y o d' n' x' y' o' → P c (t.val + 1) d' n' x' y' ∧ O c t.val o'

variable {m} (I : Inv m)

/-- The scratch arrays at some contents that meet the invariant, and the generator register. -/
def PhiM (c : Dev nD) (k : ℕ) : sProp 𝕄G :=
  iprop(∃ d n x y, ⌜I.P c k d n x y⌝ ∗ owns (c : Thread nD τ) (Memref.whole cc0_scratch0) fullShare d ∗ owns (c : Thread nD τ) (Memref.whole cc0_scratch1) fullShare n
    ∗ owns (c : Thread nD τ) (Memref.whole cc0_scratch2) fullShare x ∗ owns (c : Thread nD τ) (Memref.whole cc0_scratch3) fullShare y ∗ ∃ r, prngReg (c : Thread nD τ).1 r)

/-- The proof data: the arrays as the region finds them, each input's block in place. -/
def datM (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
  Φ k := PhiM I c k.val
  q _ := fullShare
  owed _ := 0

/-- The window of the result is held to the invariant. -/
def fgtM : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

/-- What the body leaves in the result's buffer meets the invariant. -/
def RlM (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun X => I.O c t.val X

theorem A_eqM (c : Dev nD) (w : Fin cfg0.W) : (datM I c).A w = V m c (Pipeline.arrRef spec0 w) := by
  dsimp only [datM]

theorem afterM_0 (c : Dev nD) (t : Fin cfg0.N) : (datM I c).after 0 t = iblk m c 0 t := by dsimp only [datM]
theorem afterM_1 (c : Dev nD) (t : Fin cfg0.N) : (datM I c).after 1 t = iblk m c 1 t := by dsimp only [datM]
theorem afterM_2 (c : Dev nD) (t : Fin cfg0.N) : (datM I c).after 2 t = iblk m c 2 t := by dsimp only [datM]
theorem afterM_3 (c : Dev nD) (t : Fin cfg0.N) : (datM I c).after 3 t = iblk m c 3 t := by dsimp only [datM]
theorem afterM_4 (c : Dev nD) (t : Fin cfg0.N) : (datM I c).after 4 t = iblk m c 4 t := by dsimp only [datM]
theorem afterM_5 (c : Dev nD) (t : Fin cfg0.N) : (datM I c).after 5 t = iblk m c 5 t := by dsimp only [datM]
theorem afterM_6 (c : Dev nD) (t : Fin cfg0.N) : (datM I c).after 6 t = iblk m c 6 t := by dsimp only [datM]
theorem beforeM_0 (c : Dev nD) (t : Fin cfg0.N) (d) : (datM I c).before 0 t d = iblk m c 0 t :=
  before0_0_of m (datM I c) (A_eqM I c 0) (afterM_0 I c) t d
theorem beforeM_1 (c : Dev nD) (t : Fin cfg0.N) (d) : (datM I c).before 1 t d = iblk m c 1 t :=
  before0_1_of m (datM I c) (A_eqM I c 1) (afterM_1 I c) t d
theorem beforeM_2 (c : Dev nD) (t : Fin cfg0.N) (d) : (datM I c).before 2 t d = iblk m c 2 t :=
  before0_2_of m (datM I c) (A_eqM I c 2) (afterM_2 I c) t d
theorem beforeM_3 (c : Dev nD) (t : Fin cfg0.N) (d) : (datM I c).before 3 t d = iblk m c 3 t :=
  before0_3_of m (datM I c) (A_eqM I c 3) (afterM_3 I c) t d
theorem beforeM_4 (c : Dev nD) (t : Fin cfg0.N) (d) : (datM I c).before 4 t d = iblk m c 4 t :=
  before0_4_of m (datM I c) (A_eqM I c 4) (afterM_4 I c) t d
theorem beforeM_5 (c : Dev nD) (t : Fin cfg0.N) (d) : (datM I c).before 5 t d = iblk m c 5 t :=
  before0_5_of m (datM I c) (A_eqM I c 5) (afterM_5 I c) t d
theorem beforeM_6 (c : Dev nD) (t : Fin cfg0.N) (d) : (datM I c).before 6 t d = iblk m c 6 t :=
  before0_6_of m (datM I c) (A_eqM I c 6) (afterM_6 I c) t d

/-- What the body finds in the result's buffer, inside an output block, is what it left there. -/
theorem findsM (c : Dev nD) (t : Fin cfg0.N) (Y) (h : ((datM I c).toRRel fgtM (RlM I c)).Finds 7 t Y) (ht : t.val % 32 ≠ 0) :
    I.O c (t.val - 1) Y := by
  unfold Pipeline.RDat.Finds at h
  rw [if_neg (by rw [Bool.not_eq_true]; rfl), if_neg (by omega)] at h
  dsimp only at h
  rw [if_neg (by rw [flush0_7]; show ¬ (t.val - 1) % 32 = 31; omega)] at h
  obtain ⟨Z, -, hZ⟩ := h
  rw [Dat.toRRel_after_of_eq_true _ (w := (7 : Fin cfg0.W)) rfl] at hZ
  exact hZ

/-- What the body is called with at point `t`, the windows one by one. -/
def bodyPreM (c : Dev nD) (t : Fin cfg0.N) : sProp 𝕄G :=
  iprop((datM I c).Φ t.castSucc ∗ (datM I c).owesAt () t.castSucc
    ∗ (∃ d, owns (c : Thread nD τ) (st0_0 t) fullShare ((datM I c).before 0 t d))
    ∗ (∃ d, owns (c : Thread nD τ) (st0_1 t) fullShare ((datM I c).before 1 t d))
    ∗ (∃ d, owns (c : Thread nD τ) (st0_2 t) fullShare ((datM I c).before 2 t d))
    ∗ (∃ d, owns (c : Thread nD τ) (st0_3 t) fullShare ((datM I c).before 3 t d))
    ∗ (∃ d, owns (c : Thread nD τ) (st0_4 t) fullShare ((datM I c).before 4 t d))
    ∗ (∃ d, owns (c : Thread nD τ) (st0_5 t) fullShare ((datM I c).before 5 t d))
    ∗ (∃ d, owns (c : Thread nD τ) (st0_6 t) fullShare ((datM I c).before 6 t d))
    ∗ (∃ Y, ⌜((datM I c).toRRel fgtM (RlM I c)).Finds 7 t Y⌝ ∗ owns (c : Thread nD τ) (st0_7 t) fullShare Y))

/-- What it leaves. -/
def bodyPostM (c : Dev nD) (t : Fin cfg0.N) : sProp 𝕄G :=
  iprop((datM I c).Φ t.succ ∗ (datM I c).owesAt () t.succ
    ∗ (owns (c : Thread nD τ) (st0_0 t) fullShare ((datM I c).after 0 t))
    ∗ (owns (c : Thread nD τ) (st0_1 t) fullShare ((datM I c).after 1 t))
    ∗ (owns (c : Thread nD τ) (st0_2 t) fullShare ((datM I c).after 2 t))
    ∗ (owns (c : Thread nD τ) (st0_3 t) fullShare ((datM I c).after 3 t))
    ∗ (owns (c : Thread nD τ) (st0_4 t) fullShare ((datM I c).after 4 t))
    ∗ (owns (c : Thread nD τ) (st0_5 t) fullShare ((datM I c).after 5 t))
    ∗ (owns (c : Thread nD τ) (st0_6 t) fullShare ((datM I c).after 6 t))
    ∗ (∃ X, ⌜I.O c t.val X⌝ ∗ owns (c : Thread nD τ) (st0_7 t) fullShare X))

set_option maxHeartbeats 1600000 in
/-- The body at point `t`. -/
theorem sound_bodyM (c : Dev nD) (t : Fin cfg0.N) :
    bodyPreM I c t ⊢ wp frame (wpE (defs₀ (F := F)) Variants.none c none) Set.univ (bodyAt0 t) (fun _ => bodyPostM I c t) := by
  unfold bodyPreM bodyPostM bodyAt0
  simp only [beforeM_0, beforeM_1, beforeM_2, beforeM_3, beforeM_4, beforeM_5, beforeM_6]
  rw [show (datM I c).Φ t.castSucc = PhiM I c t.val from rfl, show (datM I c).Φ t.succ = PhiM I c (t.val + 1) from rfl,
    show (datM I c).owesAt () t.succ = (datM I c).owesAt () t.castSucc from rfl,
    afterM_0, afterM_1, afterM_2, afterM_3, afterM_4, afterM_5, afterM_6]
  unfold PhiM
  iintro ⟨⟨%d, %n, %x, %y, %hP, Hd, Hn, Hx, Hy, Hr⟩, Ho, ⟨%d0, H0⟩, ⟨%d1, H1⟩, ⟨%d2, H2⟩, ⟨%d3, H3⟩, ⟨%d4, H4⟩, ⟨%d5, H5⟩, ⟨%d6, H6⟩, ⟨%o, %ho, H7⟩⟩
  have hO := fun ht => findsM I c t o ho ht
  iapply (wp_wand_r Idealize.ShloMosaic.frame (wpE (defs₀ (F := F)) Variants.none (c : Thread nD τ) none) Set.univ)
  isplitl [H0 H1 H2 H3 H4 H5 H6 H7 Hd Hn Hx Hy]
  · iapply (body_owns c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d n x y o
      (fun o1 d1 n1 hA => I.check c t d n x y o hP hO o1 d1 n1 hA))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hd]; · iexact Hd
    isplitl [Hn]; · iexact Hn
    isplitl [Hx]; · iexact Hx
    iexact Hy
  iintro %_ ⟨%d', %n', %x', %y', %o', %hB, H0, H1, H2, H3, H4, H5, H6, H7, Hd, Hn, Hx, Hy⟩
  have hS := I.step c t d n x y o hP hO d' n' x' y' o' hB
  isplitl [Hd Hn Hx Hy Hr]
  · iexists d', n', x', y'
    isplitr; · ipureintro; exact hS.1
    isplitl [Hd]; · iexact Hd
    isplitl [Hn]; · iexact Hn
    isplitl [Hx]; · iexact Hx
    isplitl [Hy]; · iexact Hy
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists o'
  isplitr; · ipureintro; exact hS.2
  iexact H7

theorem defs₀_rowM (t : Fin cfg0.N) :
    defs₀ (F := F) .tc cfg0.body (cfg0.bodyArgs t (cfg0.slots t)) = bodyAt0 t := by
  unfold defs₀; rw [Defs.onTc_tc]

/-- The library's body obligation, at every point. -/
theorem body_obligationM (c : Dev nD) : BodyObligationRel (datM I c) (defs₀ (F := F)) Variants.none () Set.univ fgtM (RlM I c) := fun t => by
  rw [bigSep_W0, bigSep_W0, defs₀_rowM]
  exact triple_restated (sound_bodyM I c t) rfl .rfl fun _ => .rfl

/-- The relational data of the run. -/
abbrev rdatM (c : Dev nD) := (datM I c).toRRel fgtM (RlM I c)

/-- The scratch arrays as the region hands them over meet the invariant. -/
theorem hinM (c : Dev nD) : Pipeline.ΦA spec0 c ⊢ PhiM I c 0 := by
  unfold Pipeline.ΦA PhiM
  rw [scopedRest0_eq]
  iintro ⟨⟨⟨%f0, H0⟩, ⟨%f1, H1⟩, ⟨%f2, H2⟩, ⟨%f3, H3⟩⟩, Hr⟩
  iexists f0, f1, f2, f3
  isplitr; · ipureintro; exact I.start c _ _ _ _
  rw [owns_whole (c : Thread nD τ) cc0_scratch0, owns_whole (c : Thread nD τ) cc0_scratch1, owns_whole (c : Thread nD τ) cc0_scratch2, owns_whole (c : Thread nD τ) cc0_scratch3]
  isplitl [H0]; · iexact H0
  isplitl [H1]; · iexact H1
  isplitl [H2]; · iexact H2
  isplitl [H3]; · iexact H3
  iexact Hr

/-- They are handed back at whatever they hold. -/
theorem houtM (c : Dev nD) (k : ℕ) : PhiM I c k ⊢ Pipeline.ΦA spec0 c := by
  unfold Pipeline.ΦA PhiM
  rw [scopedRest0_eq]
  refine exists_elim fun d => exists_elim fun n => exists_elim fun x => exists_elim fun y => ?_
  rw [owns_whole (c : Thread nD τ) cc0_scratch0, owns_whole (c : Thread nD τ) cc0_scratch1, owns_whole (c : Thread nD τ) cc0_scratch2, owns_whole (c : Thread nD τ) cc0_scratch3]
  iintro ⟨%hP, H0, H1, H2, H3, Hr⟩
  isplitl [H0 H1 H2 H3]
  · isplitl [H0]; · iexists d; iexact H0
    isplitl [H1]; · iexists n; iexact H1
    isplitl [H2]; · iexists x; iexact H2
    iexists y; iexact H3
  iexact Hr

set_option backward.isDefEq.respectTransparency.types false in
set_option maxHeartbeats 800000 in
/-- The launch: every execution ends, with every array at what the relational data say, and every counter at zero. -/
theorem run_mainM : θ_run defs (onTc (τ := τ) (main (F := F))) (s₀ m ρ) (fun r => Pipeline.RDat.FramePost cfg0 (rdatM I) (V m) r ∧ r.2.sem = fun _ => 0) :=
  Pipeline.RDat.θ_run_frame_track (Q' := _) cfgs (0 : Fin 1) launch0 defs₀ Variants.none (rdatM I) m ρ main
    (hbody := fun c => (body_obligationM I c).toRRel) (hshare := fun c => (datM I c).share_full fun _ => rfl)
    (howed := fun _ _ => rfl) (V := V m) (hmain := hmain m Variants.none) (hA := A_eqM I) (hin := hinM I) (hout := fun c => houtM I c _)

include I in
/-- The frame: the argument arrays end unchanged and every counter ends at zero. -/
theorem frameM : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_mainM ρ I)

end Cert.KernelIdeal.Gen

end
-- ==== Proof.Moe.Count.lean ====
/-
  How many of a tile's rows are routed to each expert and at which position each stands, as the counting section leaves them.
-/
module

public import proofs.«01_k».proof.Proof.Moe.Run
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A natural as an ideal value. -/
def nat (n : ℕ) : EReal := ((n : ℝ) : EReal)

theorem nat_zero : nat 0 = 0 := by simp [nat]
theorem nat_one : nat 1 = 1 := by simp [nat]
theorem nat_add (a b : ℕ) : nat a + nat b = nat (a + b) := by simp [nat]
theorem nat_sum {ι : Type} (s : Finset ι) (f : ι → ℕ) : ∑ i ∈ s, nat (f i) = nat (∑ i ∈ s, f i) := by
  classical
  induction s using Finset.induction_on with
  | empty => simp [nat]
  | insert a s ha ih => rw [Finset.sum_insert ha, Finset.sum_insert ha, ih, nat_add]
theorem nat_inj {a b : ℕ} : nat a = nat b ↔ a = b := by simp [nat]
theorem nat_le {a b : ℕ} : nat a ≤ nat b ↔ a ≤ b := by simp [nat]
theorem nat_lt {a b : ℕ} : nat a < nat b ↔ a < b := by simp [nat]

theorem one_word : (FloatOps.ofBits .f32 0x3F800000#32 : Ideal .f32) = (1 : EReal) := by
  show Ideal.ofBits .f32 0x3F800000#32 = 1
  simp [Ideal.ofBits, Ideal.ieee, -EReal.coe_mul]; norm_num
theorem neg_one_word : (FloatOps.ofBits .f32 0xBF800000#32 : Ideal .f32) = (-1 : EReal) := by
  show Ideal.ofBits .f32 0xBF800000#32 = -1
  simp [Ideal.ofBits, Ideal.ieee, -EReal.coe_mul]; norm_num
theorem zero_word : (FloatOps.ofBits .f32 0x00000000#32 : Ideal .f32) = (0 : EReal) := by
  show Ideal.ofBits .f32 0x00000000#32 = 0
  simp [Ideal.ofBits, Ideal.ieee]

/-! ## The carried counts -/

/-- Rows `136·k …` of the gates. -/
def chunkOf (Y : Vec Ideal S1x1088x128 .f32) (k : ℕ) : Vec Ideal S1x136x128 .f32 :=
  fun i => Y (ix3 0 ⟨(136 * k + (i 1).val) % 1088, Nat.mod_lt _ (by decide)⟩ (i 2))

theorem ld_chunk (Y : Vec Ideal S1x1088x128 .f32) (o k : ℕ) (hk : k < 8) (ho : o = 136 * k) (h : ∀ a, ![0, o, 0] a + S1x136x128.size a ≤ S1x1088x128.size a) :
    View.ld Y (Rect.unit (s := S1x1088x128) ![0, o, 0] S1x136x128.size h) = chunkOf Y k := by
  subst ho
  funext i
  unfold View.ld chunkOf
  congr 1
  funext a
  apply Fin.ext
  match a with
  | ⟨0, _⟩ => show 0 + 1 * (i 0).val = 0; have : (i 0).val < 1 := (i 0).isLt; omega
  | ⟨1, _⟩ =>
    show 136 * k + 1 * (i 1).val = (136 * k + (i 1).val) % 1088
    have : (i 1).val < 136 := (i 1).isLt
    rw [Nat.mod_eq_of_lt (by omega)]; omega
  | ⟨2, _⟩ => show 0 + 1 * (i 2).val = (i 2).val; omega

/-- The counts after one more chunk. -/
def carry (c : FVec Ideal S1x128 .f32) (b : Vec Ideal S1x136x128 .f32) : FVec Ideal S1x128 .f32 :=
  addf c (shapeCast S1x128 (multiReduction .add [0] S128 (k0_pay5 b) 0x00000000#32 reduces_S136x128_S128 (.inl rfl) rfl) shapeCasts_S128_S1x128)

/-- The counts before chunk `k`. -/
def carried (Y : Vec Ideal S1x1088x128 .f32) : ℕ → FVec Ideal S1x128 .f32
  | 0 => k0_pay3
  | k + 1 => carry (carried Y k) (chunkOf Y k)

/-- A chunk's positions, from the counts before it. -/
def dst (c : FVec Ideal S1x128 .f32) (b : Vec Ideal S1x136x128 .f32) : FVec Ideal S136x128 .f32 :=
  shapeCast S136x128 (select (k0_pay4 b) (addf (matmul dot_S136x136_S136x128_S136x128_1_0_0_1_n_n none (k0_pay2 (F := Ideal)) (truncf .bf16 (k0_pay5 b) bitsLt_bf16_f32) (constant S136x128 .f32 0x00000000#32)) (broadcastTo S136x128 c broadcasts_S1x128_S136x128)) (broadcast S136x128 (Scalar.ofBits .f32 0xBF800000#32))) shapeCasts_S136x128_S136x128

/-- One for a routed row, zero for any other. -/
def ind (Y : Vec Ideal S1x1088x128 .f32) (l : Fin 128) (r : ℕ) : ℕ :=
  if 0 < Y (ix3 0 ⟨r % 1088, Nat.mod_lt _ (by decide)⟩ l) then 1 else 0

/-- How many of the first `n` rows are routed to expert `l`. -/
def routed (Y : Vec Ideal S1x1088x128 .f32) (l : Fin 128) (n : ℕ) : ℕ := ∑ r ∈ Finset.range n, ind Y l r

theorem ind_le (Y : Vec Ideal S1x1088x128 .f32) (l : Fin 128) (r : ℕ) : ind Y l r ≤ 1 := by
  unfold ind; split <;> omega

theorem routed_le (Y : Vec Ideal S1x1088x128 .f32) (l : Fin 128) (n : ℕ) : routed Y l n ≤ n := by
  unfold routed
  calc _ ≤ ∑ r ∈ Finset.range n, 1 := Finset.sum_le_sum fun r _ => ind_le Y l r
    _ = n := by simp

theorem ofBool_one (p : Prop) [Decidable p] : BitVec.ofBool (decide p) = 1#1 ↔ p := by
  by_cases h : p <;> simp [h]

theorem pay5_apply (Y : Vec Ideal S1x1088x128 .f32) (k : ℕ) (r : Fin 136) (l : Fin 128) :
    k0_pay5 (chunkOf Y k) (ix2 r l) = nat (ind Y l (136 * k + r.val)) := by
  pointwise [k0_pay5, k0_pay4, chunkOf, ind]
  split <;> simp [nat]

theorem carried_apply (Y : Vec Ideal S1x1088x128 .f32) (l : Fin 128) (k : ℕ) :
    carried Y k (ix2 0 l) = nat (routed Y l (136 * k)) := by
  induction k with
  | zero =>
    show FloatOps.ofBits .f32 0x00000000#32 = _
    rw [zero_word]; simp [routed, nat]
  | succ k ih =>
    have hc : carried Y (k + 1) (ix2 0 l) = carried Y k (ix2 0 l) + ∑ r : Fin 136, k0_pay5 (chunkOf Y k) (ix2 r l) := by
      show carry _ _ _ = _
      pointwise [carry]
    rw [hc, ih]
    simp only [pay5_apply]
    rw [nat_sum, nat_add]
    refine congrArg nat ?_
    unfold routed
    rw [show 136 * (k + 1) = 136 * k + 136 by omega, Finset.sum_range_add, Finset.sum_range (n := 136)]

theorem tri_sum (i : Fin 136) (f : ℕ → ℕ) :
    ∑ r : Fin 136, (if r.val < i.val then 1 else 0) * nat (f r.val) = nat (∑ r ∈ Finset.range i.val, f r) := by
  rw [← nat_sum]
  have h : ∀ r : Fin 136, (if r.val < i.val then (1 : EReal) else 0) * nat (f r.val) = (fun r : ℕ => if r < i.val then nat (f r) else 0) r.val := by
    intro r; dsimp only; split <;> simp
  simp only [h]
  rw [← Finset.sum_range (fun r : ℕ => if r < i.val then nat (f r) else 0), ← Finset.sum_filter]
  congr 1
  ext x; simp only [Finset.mem_filter, Finset.mem_range]; have := i.isLt; omega

/-- Position of row `136·k + i` among the rows routed to expert `l`, or −1. -/
theorem dst_apply (Y : Vec Ideal S1x1088x128 .f32) (k : ℕ) (i : Fin 136) (l : Fin 128) :
    dst (carried Y k) (chunkOf Y k) (ix2 i l)
      = if 0 < Y (ix3 0 ⟨(136 * k + i.val) % 1088, Nat.mod_lt _ (by decide)⟩ l) then nat (routed Y l (136 * k + i.val)) else -1 := by
  have h : dst (carried Y k) (chunkOf Y k) (ix2 i l)
      = if 0 < Y (ix3 0 ⟨(136 * k + i.val) % 1088, Nat.mod_lt _ (by decide)⟩ l) then (∑ r : Fin 136, (if r.val < i.val then 1 else 0) * k0_pay5 (chunkOf Y k) (ix2 r l)) + carried Y k (ix2 0 l) else -1 := by
    have hlt : ∀ a b : Fin 136, IntOp.cmpi CmpIPredicate.sgt (BitVec.ofNat 32 a.val) (BitVec.ofNat 32 b.val) = 1#1 ↔ b.val < a.val := by
      decide +kernel
    pointwise [dst, k0_pay4, k0_pay2, chunkOf]
    rw [show Ideal.ofBits .f32 3212836864#32 = (-1 : EReal) from neg_one_word]
    refine if_congr Iff.rfl (congrArg (· + _) (Finset.sum_congr rfl fun x _ => ?_)) rfl
    by_cases hx : x.val < i.val
    · rw [if_pos hx, one_mul]
      unfold Scalar.select
      exact if_pos ((hlt i x).2 hx)
    · rw [if_neg hx, zero_mul]
      unfold Scalar.select
      exact if_neg (fun hc => hx ((hlt i x).1 hc))
  rw [h, carried_apply]
  simp only [pay5_apply]
  rw [tri_sum i (fun r => ind Y l (136 * k + r)), nat_add]
  have hr : routed Y l (136 * k + i.val) = (∑ r ∈ Finset.range i.val, ind Y l (136 * k + r)) + routed Y l (136 * k) := by
    unfold routed; rw [Finset.sum_range_add, Nat.add_comm]
  rw [hr]

/-- The counting section's counts. -/
theorem RelA_cnt (i : grid0.Coords) (Y7 o d n o' d' n') (h : RelA (F := Ideal) i Y7 o d n o' d' n') (s : Fin 8) (l : Fin 128) :
    n' (ix2 s l) = nat (routed Y7 l 1088) := by
  obtain ⟨c, arg4, harg4, arg5, harg5, arg6, harg6, arg7, harg7, arg8, harg8, arg9, harg9, arg10, harg10, arg11, harg11, arg12, harg12, arg13, harg13, arg14, harg14, arg15, harg15, X7, f11, f12, f13, h7, h11, h12, h13, e11, e12, e13⟩ := h
  clear e11 e12
  unfold runA at e13
  dsimp only at e13
  rw [← e13]
  refine (View.read_writes_cons_rows (o := 0) (W := 8) (d := ![8, 128]) (size := ![8, 128]) _ _ _ _ _ _ rfl rfl rfl).trans ?_
  rw [dif_pos ⟨Nat.zero_le _, by have := s.isLt; simpa using this⟩]
  subst h7
  have hp : k0_pay77 (runA.sl.r_12 arg7 X7) (runA.sl.r_13 arg7 X7) k0_pay36 k0_pay37
      = shapeCast S8x128 (broadcastTo S8x128 (shapeCast S1x128 (carried (arg7.view.read (Elt Ideal) X7) 8) shapeCasts_S1x128_S1x128) broadcasts_S1x128_S8x128) shapeCasts_S8x128_S8x128 := by
    simp only [carried]
    rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0, ← ld_chunk _ 544 4 (by decide) rfl inb_S1x1088x128_S1x136x128_0_544_0, ← ld_chunk _ 680 5 (by decide) rfl inb_S1x1088x128_S1x136x128_0_680_0, ← ld_chunk _ 816 6 (by decide) rfl inb_S1x1088x128_S1x136x128_0_816_0, ← ld_chunk _ 952 7 (by decide) rfl inb_S1x1088x128_S1x136x128_0_952_0]
    rfl
  refine Eq.trans (b := carried (arg7.view.read (Elt Ideal) X7) 8 (ix2 0 l)) ?_ (carried_apply _ l 8)
  rw [hp]
  pointwise
  congr 1

/-- The counting section's positions. -/
theorem RelA_dest (i : grid0.Coords) (Y7 o d n o' d' n') (h : RelA (F := Ideal) i Y7 o d n o' d' n') (r : Fin 1088) (l : Fin 128) :
    d' (ix2 r l) = if 0 < Y7 (ix3 0 r l) then nat (routed Y7 l r.val) else -1 := by
  obtain ⟨c, arg4, harg4, arg5, harg5, arg6, harg6, arg7, harg7, arg8, harg8, arg9, harg9, arg10, harg10, arg11, harg11, arg12, harg12, arg13, harg13, arg14, harg14, arg15, harg15, X7, f11, f12, f13, h7, h11, h12, h13, e11, e12, e13⟩ := h
  clear e11 e13
  unfold runA at e12
  dsimp only at e12
  rw [← e12]
  subst h7
  refine (View.read_writes_cons_rows (o := 952) (W := 136) (d := ![1088, 128]) (size := ![136, 128]) _ _ _ _ _ _ rfl rfl rfl).trans ?_
  split
  next hin =>
    have hin0 : 952 ≤ r.val := hin.1
    have hin1 : r.val < 952 + 136 := hin.2
    refine (?_ : _ = dst (carried (arg7.view.read (Elt Ideal) X7) 7) (chunkOf (arg7.view.read (Elt Ideal) X7) 7) (ix2 ⟨r.val - 952, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0, ← ld_chunk _ 544 4 (by decide) rfl inb_S1x1088x128_S1x136x128_0_544_0, ← ld_chunk _ 680 5 (by decide) rfl inb_S1x1088x128_S1x136x128_0_680_0, ← ld_chunk _ 816 6 (by decide) rfl inb_S1x1088x128_S1x136x128_0_816_0, ← ld_chunk _ 952 7 (by decide) rfl inb_S1x1088x128_S1x136x128_0_952_0]
      refine congrArg _ (funext fun a => Fin.ext ?_)
      match a with
      | ⟨0, _⟩ => rfl
      | ⟨1, _⟩ => rfl
    · simp only [show 136 * 7 + (r.val - 952) = r.val by omega, Nat.mod_eq_of_lt r.isLt]
  next hout7 =>
  refine (View.read_writes_cons_rows (o := 816) (W := 136) (d := ![1088, 128]) (size := ![136, 128]) _ _ _ _ _ _ rfl rfl rfl).trans ?_
  split
  next hin =>
    have hin0 : 816 ≤ r.val := hin.1
    have hin1 : r.val < 816 + 136 := hin.2
    refine (?_ : _ = dst (carried (arg7.view.read (Elt Ideal) X7) 6) (chunkOf (arg7.view.read (Elt Ideal) X7) 6) (ix2 ⟨r.val - 816, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0, ← ld_chunk _ 544 4 (by decide) rfl inb_S1x1088x128_S1x136x128_0_544_0, ← ld_chunk _ 680 5 (by decide) rfl inb_S1x1088x128_S1x136x128_0_680_0, ← ld_chunk _ 816 6 (by decide) rfl inb_S1x1088x128_S1x136x128_0_816_0]
      refine congrArg _ (funext fun a => Fin.ext ?_)
      match a with
      | ⟨0, _⟩ => rfl
      | ⟨1, _⟩ => rfl
    · simp only [show 136 * 6 + (r.val - 816) = r.val by omega, Nat.mod_eq_of_lt r.isLt]
  next hout6 =>
  refine (View.read_writes_cons_rows (o := 680) (W := 136) (d := ![1088, 128]) (size := ![136, 128]) _ _ _ _ _ _ rfl rfl rfl).trans ?_
  split
  next hin =>
    have hin0 : 680 ≤ r.val := hin.1
    have hin1 : r.val < 680 + 136 := hin.2
    refine (?_ : _ = dst (carried (arg7.view.read (Elt Ideal) X7) 5) (chunkOf (arg7.view.read (Elt Ideal) X7) 5) (ix2 ⟨r.val - 680, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0, ← ld_chunk _ 544 4 (by decide) rfl inb_S1x1088x128_S1x136x128_0_544_0, ← ld_chunk _ 680 5 (by decide) rfl inb_S1x1088x128_S1x136x128_0_680_0]
      refine congrArg _ (funext fun a => Fin.ext ?_)
      match a with
      | ⟨0, _⟩ => rfl
      | ⟨1, _⟩ => rfl
    · simp only [show 136 * 5 + (r.val - 680) = r.val by omega, Nat.mod_eq_of_lt r.isLt]
  next hout5 =>
  refine (View.read_writes_cons_rows (o := 544) (W := 136) (d := ![1088, 128]) (size := ![136, 128]) _ _ _ _ _ _ rfl rfl rfl).trans ?_
  split
  next hin =>
    have hin0 : 544 ≤ r.val := hin.1
    have hin1 : r.val < 544 + 136 := hin.2
    refine (?_ : _ = dst (carried (arg7.view.read (Elt Ideal) X7) 4) (chunkOf (arg7.view.read (Elt Ideal) X7) 4) (ix2 ⟨r.val - 544, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0, ← ld_chunk _ 544 4 (by decide) rfl inb_S1x1088x128_S1x136x128_0_544_0]
      refine congrArg _ (funext fun a => Fin.ext ?_)
      match a with
      | ⟨0, _⟩ => rfl
      | ⟨1, _⟩ => rfl
    · simp only [show 136 * 4 + (r.val - 544) = r.val by omega, Nat.mod_eq_of_lt r.isLt]
  next hout4 =>
  refine (View.read_writes_cons_rows (o := 408) (W := 136) (d := ![1088, 128]) (size := ![136, 128]) _ _ _ _ _ _ rfl rfl rfl).trans ?_
  split
  next hin =>
    have hin0 : 408 ≤ r.val := hin.1
    have hin1 : r.val < 408 + 136 := hin.2
    refine (?_ : _ = dst (carried (arg7.view.read (Elt Ideal) X7) 3) (chunkOf (arg7.view.read (Elt Ideal) X7) 3) (ix2 ⟨r.val - 408, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0, ← ld_chunk _ 408 3 (by decide) rfl inb_S1x1088x128_S1x136x128_0_408_0]
      refine congrArg _ (funext fun a => Fin.ext ?_)
      match a with
      | ⟨0, _⟩ => rfl
      | ⟨1, _⟩ => rfl
    · simp only [show 136 * 3 + (r.val - 408) = r.val by omega, Nat.mod_eq_of_lt r.isLt]
  next hout3 =>
  refine (View.read_writes_cons_rows (o := 272) (W := 136) (d := ![1088, 128]) (size := ![136, 128]) _ _ _ _ _ _ rfl rfl rfl).trans ?_
  split
  next hin =>
    have hin0 : 272 ≤ r.val := hin.1
    have hin1 : r.val < 272 + 136 := hin.2
    refine (?_ : _ = dst (carried (arg7.view.read (Elt Ideal) X7) 2) (chunkOf (arg7.view.read (Elt Ideal) X7) 2) (ix2 ⟨r.val - 272, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0, ← ld_chunk _ 272 2 (by decide) rfl inb_S1x1088x128_S1x136x128_0_272_0]
      refine congrArg _ (funext fun a => Fin.ext ?_)
      match a with
      | ⟨0, _⟩ => rfl
      | ⟨1, _⟩ => rfl
    · simp only [show 136 * 2 + (r.val - 272) = r.val by omega, Nat.mod_eq_of_lt r.isLt]
  next hout2 =>
  refine (View.read_writes_cons_rows (o := 136) (W := 136) (d := ![1088, 128]) (size := ![136, 128]) _ _ _ _ _ _ rfl rfl rfl).trans ?_
  split
  next hin =>
    have hin0 : 136 ≤ r.val := hin.1
    have hin1 : r.val < 136 + 136 := hin.2
    refine (?_ : _ = dst (carried (arg7.view.read (Elt Ideal) X7) 1) (chunkOf (arg7.view.read (Elt Ideal) X7) 1) (ix2 ⟨r.val - 136, by omega⟩ l)).trans ((dst_apply _ _ _ _).trans ?_)
    · simp only [carried]
      rw [← ld_chunk _ 0 0 (by decide) rfl inb_S1x1088x128_S1x136x128_0_0_0, ← ld_chunk _ 136 1 (by decide) rfl inb_S1x1088x128_S1x136x128_0_136_0]
      refine congrArg _ (funext fun a => Fin.ext ?_)
      match a with
      | ⟨0, _⟩ => rfl
      | ⟨1, _⟩ => rfl
    · simp only [show 136 * 1 + (r.val - 136) = r.val by omega, Nat.mod_eq_of_lt r.isLt]
  next hout1 =>
  refine (View.read_writes_cons_rows (o := 0) (W := 136) (d := ![1088, 128]) (size := ![136, 128]) _ _ _ _ _ _ rfl rfl rfl).trans ?_
  split
  next hin =>
    have hin0 : 0 ≤ r.val := hin.1
    have hin1 : r.val < 0 + 136 := hin.2
    refine (?_ : _ = dst (carried (arg7.view.read (Elt Ideal) X7) 0) (chunkOf (arg7.view.read (Elt Ideal) X7) 0) (ix2 ⟨r.val - 0, by omega⟩ l)).trans ((dst_apply _ _ _ _).trans ?_)
    · unfold carried
      rw [← ld_chunk _ 0 0 (by decide) rfl inb_S1x1088x128_S1x136x128_0_0_0]
      refine congrArg _ (funext fun a => Fin.ext ?_)
      match a with
      | ⟨0, _⟩ => rfl
      | ⟨1, _⟩ => rfl
    · simp only [show 136 * 0 + (r.val - 0) = r.val by omega, Nat.mod_eq_of_lt r.isLt]
  next hout0 =>
  exfalso
  have hr := r.isLt
  have a0 : ¬ (0 ≤ r.val ∧ r.val < 0 + 136) := hout0
  have a1 : ¬ (136 ≤ r.val ∧ r.val < 136 + 136) := hout1
  have a2 : ¬ (272 ≤ r.val ∧ r.val < 272 + 136) := hout2
  have a3 : ¬ (408 ≤ r.val ∧ r.val < 408 + 136) := hout3
  have a4 : ¬ (544 ≤ r.val ∧ r.val < 544 + 136) := hout4
  have a5 : ¬ (680 ≤ r.val ∧ r.val < 680 + 136) := hout5
  have a6 : ¬ (816 ≤ r.val ∧ r.val < 816 + 136) := hout6
  have a7 : ¬ (952 ≤ r.val ∧ r.val < 952 + 136) := hout7
  omega

/-- The counting section clears the result. -/
theorem RelA_out (i : grid0.Coords) (Y7 o d n o' d' n') (h : RelA (F := Ideal) i Y7 o d n o' d' n') (j : S1x1088x1024.Idx) :
    o' j = 0 := by
  obtain ⟨c, arg4, harg4, arg5, harg5, arg6, harg6, arg7, harg7, arg8, harg8, arg9, harg9, arg10, harg10, arg11, harg11, arg12, harg12, arg13, harg13, arg14, harg14, arg15, harg15, X7, f11, f12, f13, h7, h11, h12, h13, e11, e12, e13⟩ := h
  clear e12 e13
  unfold runA at e11
  dsimp only at e11
  rw [← e11]
  refine (View.read_writes_cons_unit (s := S1x1088x1024) (off' := ![0, 0, 0]) _ _ _ _ _ _ rfl).trans ?_
  rw [dif_pos (fun a => by
    match a with
    | ⟨0, _⟩ => exact ⟨Nat.zero_le _, by have : (j 0).val < 1 := (j 0).isLt; show (j 0).val < 0 + 1; omega⟩
    | ⟨1, _⟩ => exact ⟨Nat.zero_le _, by have : (j 1).val < 1088 := (j 1).isLt; show (j 1).val < 0 + 1088; omega⟩
    | ⟨2, _⟩ => exact ⟨Nat.zero_le _, by have : (j 2).val < 1024 := (j 2).isLt; show (j 2).val < 0 + 1024; omega⟩)]
  exact zero_word

end Cert.KernelIdeal.Gen
-- ==== Proof.Moe.Tiles.lean ====
/-
  The tiles an expert's routed rows fill, and the body's in-range conditions.
-/
module

public import proofs.«01_k».proof.Proof.Moe.Count
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The tiles an expert's rows fill -/

/-- How many 128-row tiles `n` rows fill. -/
def tilesOf (n : ℕ) : ℕ := (n + 127) / 128

theorem tilesOf_le {n : ℕ} (h : n ≤ 1088) : tilesOf n ≤ 9 := by unfold tilesOf; omega

theorem fptosi_tiles (n : ℕ) (h : n ≤ 1088) :
    Scalar.fptosi 32 (Scalar.ceil (Scalar.mulf (F := Ideal) (φ := .f32) (nat n) (Scalar.ofBits .f32 0x3C000000#32))) = BitVec.ofNat 32 (tilesOf n) := by
  have hw : (Scalar.ofBits .f32 0x3C000000#32 : Ideal .f32) = ((1 / 128 : ℝ) : EReal) := by
    show Ideal.ofBits .f32 0x3C000000#32 = _
    simp [Ideal.ofBits, Ideal.ieee, -EReal.coe_mul]; norm_num
  rw [hw]
  have hm : Scalar.mulf (F := Ideal) (φ := .f32) (nat n) ((1 / 128 : ℝ) : EReal) = (((n : ℝ) / 128 : ℝ) : EReal) := by
    show (nat n) * ((1 / 128 : ℝ) : EReal) = _
    unfold nat
    rw [← EReal.coe_mul]; congr 1; ring
  rw [hm]
  have hq : n ≤ tilesOf n * 128 ∧ tilesOf n * 128 < n + 128 := by unfold tilesOf; omega
  have hc : ⌈(n : ℝ) / 128⌉ = (tilesOf n : ℤ) := by
    rw [Int.ceil_eq_iff]
    generalize tilesOf n = q at hq
    have h1 : (n : ℝ) ≤ q * 128 := by exact_mod_cast hq.1
    have h2 : (q : ℝ) * 128 < n + 128 := by exact_mod_cast hq.2
    push_cast
    constructor
    · rw [lt_div_iff₀ (by norm_num)]; linarith
    · rw [div_le_iff₀ (by norm_num)]; linarith
  rw [Ideal.scalar_fptosi_def]
  have hcc : ∀ z : EReal, Scalar.ceil (F := Idealize.ShloMosaic.Ideal) (φ := .f32) z = Ideal.liftRound Int.ceil z := fun z => rfl
  rw [hcc]
  have hl : Ideal.liftRound Int.ceil (((n : ℝ) / 128 : ℝ) : EReal) = (((tilesOf n : ℕ) : ℝ) : EReal) := by
    show (((⌈(n : ℝ) / 128⌉ : ℤ) : ℝ) : EReal) = _
    rw [hc]; simp
  rw [hl]
  have ht := tilesOf_le h
  show BitVec.ofInt 32 (max _ (min _ (if 0 ≤ ((tilesOf n : ℕ) : ℝ) then ⌊((tilesOf n : ℕ) : ℝ)⌋ else _))) = _
  rw [if_pos (Nat.cast_nonneg _), Int.floor_natCast]
  generalize tilesOf n = v at ht
  interval_cases v <;> rfl

/-- The rows routed to expert `i 2`, as the body reads them off the counts. -/
theorem pay79_apply (i : grid0.Coords) (n : Vec Ideal S8x128 .f32) (k : Fin 128 → ℕ) (hn : ∀ s l, n (ix2 s l) = nat (k l)) :
    k0_pay79 i (v8of n) = nat (k ⟨(i 2).val, lt_of_lt_of_le (i 2).isLt (by decide)⟩) := by
  have hv : ∀ l, v8of n (ix2 0 l) = nat (k l) := fun l => by
    refine Eq.trans ?_ (hn 0 l)
    unfold v8of View.ld
    refine congrArg n (funext fun a => Fin.ext ?_)
    match a with
    | ⟨0, _⟩ => rfl
    | ⟨1, _⟩ => show 0 + 1 * l.val = l.val; omega
  have he : ∀ (e : Fin 8) (l : Fin 128), IntOp.cmpi CmpIPredicate.eq (BitVec.ofNat 32 l.val) (BitVec.ofNat 32 e.val) = 1#1 ↔ l.val = e.val := by
    decide +kernel
  have h : k0_pay79 i (v8of n) = (∑ l : Fin 128, if l.val = (i 2).val then nat (k l) else (0 : EReal) : EReal) := by
    pointwise [k0_pay79]
    refine (Fintype.sum_eq_single 0 (fun b hb => absurd (Subsingleton.elim b 0) hb)).trans ?_
    refine Finset.sum_congr rfl fun l _ => ?_
    by_cases hl : l.val = (i 2).val
    · rw [if_pos hl, (he (i 2) l).2 hl, ← hv l]; rfl
    · rw [if_neg hl]
      rcases BitVec.eq_zero_or_eq_one (IntOp.cmpi CmpIPredicate.eq (BitVec.ofNat 32 l.val) (BitVec.ofNat 32 (i 2).val)) with h0 | h1
      · rw [h0]; rfl
      · exact absurd ((he (i 2) l).1 h1) hl
  rw [h, Finset.sum_eq_single ⟨(i 2).val, lt_of_lt_of_le (i 2).isLt (by decide)⟩]
  · exact if_pos rfl
  · intro l _ hl
    exact if_neg (fun hc => hl (Fin.ext hc))
  · intro hl; exact absurd (Finset.mem_univ _) hl

/-- The trips of the extra-tile loops: the tiles past the fourth, and none left over. -/
theorem trips_t1 : ∀ w : Fin 10, (k0_t1_loop (BitVec.ofNat 32 w.val)).trips = w.val - 4 := by decide +kernel
theorem trips_t2 : ∀ w : Fin 10, (k0_t2_loop (BitVec.ofNat 32 w.val)).trips = 0 := by decide +kernel
theorem trips_t3 : ∀ w : Fin 10, (k0_t3_loop (BitVec.ofNat 32 w.val)).trips = w.val - 4 := by decide +kernel
theorem trips_t4 : ∀ w : Fin 10, (k0_t4_loop (BitVec.ofNat 32 w.val)).trips = 0 := by decide +kernel
theorem trips_t5 : ∀ w : Fin 10, (k0_t5_loop (BitVec.ofNat 32 w.val)).trips = w.val - 4 := by decide +kernel
theorem trips_t6 : ∀ w : Fin 10, (k0_t6_loop (BitVec.ofNat 32 w.val)).trips = 0 := by decide +kernel
/-- Trip `k` of the extra-tile loops works on the rows from `512 + 128 k`. -/
theorem off1_eq : ∀ (w : Fin 10) (k : Fin (k0_t1_loop (BitVec.ofNat 32 w.val)).trips), k0_off1 (BitVec.ofNat 32 w.val) k 0 = 512 + 128 * k.val := by decide +kernel
theorem off3_eq : ∀ (w : Fin 10) (k : Fin (k0_t3_loop (BitVec.ofNat 32 w.val)).trips), k0_off3 (BitVec.ofNat 32 w.val) k 0 = 512 + 128 * k.val := by decide +kernel
theorem off5_eq : ∀ (w : Fin 10) (k : Fin (k0_t5_loop (BitVec.ofNat 32 w.val)).trips), k0_off5 (BitVec.ofNat 32 w.val) k 0 = 512 + 128 * k.val := by decide +kernel
/-- The conditions on the tiles. -/
theorem cond2_iff : ∀ (w : Fin 10) (f : Fin 4), (Scalar.cmpi .ne (Scalar.extui (Scalar.andi (Scalar.cmpi .sgt (BitVec.ofNat 32 w.val) 0#32) (Scalar.cmpi .eq (BitVec.ofNat 32 f.val) 0#32)) : BitVec 32) 0#32 = 1#1) ↔ (0 < w.val ∧ f.val = 0) := by decide +kernel
theorem cond3_iff : ∀ (w : Fin 10), k0_cond3 (BitVec.ofNat 32 w.val) = 1#1 ↔ 0 < w.val := by decide +kernel
theorem cond8_iff : ∀ (w : Fin 10) (f : Fin 4), (Scalar.cmpi .ne (Scalar.extui (Scalar.andi (Scalar.cmpi .sgt (BitVec.ofNat 32 w.val) 0#32) (Scalar.cmpi .eq (BitVec.ofNat 32 f.val) 3#32)) : BitVec 32) 0#32 = 1#1) ↔ (0 < w.val ∧ f.val = 3) := by decide +kernel

/-- The in-range conditions of the body hold when the tiles number at most nine. -/
theorem chk1_of (i : grid0.Coords) (v : ℕ) (hv : v ≤ 9) : k0_chk1 i (BitVec.ofNat 32 v) := by
  obtain ⟨w, rfl⟩ : ∃ w : Fin 10, w.val = v := ⟨⟨v, by omega⟩, rfl⟩
  clear hv
  unfold k0_chk1
  refine ⟨fun h0 => ?_, fun k h0 => ?_, fun k h0 => ?_, fun k h0 hin => ?_, fun h0 => ?_, fun k h0 => ?_, fun k h0 => ?_, fun k h0 hin => ?_,
    fun h0 => ?_, fun k h0 => ?_, fun k h0 => ?_, fun h0 => ?_, fun k h0 => ?_, fun k h0 => ?_,
    fun h0 => ?_, fun k h0 => ?_, fun k h0 => ?_, fun h0 => ?_, fun k h0 => ?_, fun k h0 => ?_⟩
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel
  · clear h0; revert w; decide +kernel

/-- The tiles of expert `i 2`, as the body computes them from the counts. -/
theorem v17_eq (i : grid0.Coords) (n : Vec Ideal S8x128 .f32) (k : Fin 128 → ℕ) (hn : ∀ s l, n (ix2 s l) = nat (k l)) (hk : ∀ l, k l ≤ 1088) :
    v17of i n = BitVec.ofNat 32 (tilesOf (k ⟨(i 2).val, lt_of_lt_of_le (i 2).isLt (by decide)⟩)) := by
  refine Eq.trans ?_ (fptosi_tiles _ (hk ⟨(i 2).val, lt_of_lt_of_le (i 2).isLt (by decide)⟩))
  rw [← pay79_apply i n k hn]
  rfl

end Cert.KernelIdeal.Gen
-- ==== Proof.Moe.SemC.lean ====
/-
  The expert section over the first rows, as a formula.
-/
module

public import proofs.«01_k».proof.Proof.Moe.Tiles
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One row of an expert's network over one chunk of its hidden units. -/
def ffn (X8 X9 : Vec Ideal S1x1024x896 .bf16) (X10 : Vec Ideal S1x896x1024 .bf16) (x : Fin 1024 → EReal) (c : Fin 1024) : EReal :=
  ∑ k : Fin 896, ((∑ d : Fin 1024, x d * X8 (ix3 0 d k)) * Ideal.logistic (∑ d : Fin 1024, x d * X8 (ix3 0 d k)) * (∑ d : Fin 1024, x d * X9 (ix3 0 d k))) * X10 (ix3 0 k c)

theorem ld_whole3 {A B : ℕ} {e : EltTy} (X : Vec Ideal ⟨3, ![1, A, B]⟩ e) (h) : View.ld X (Rect.unit (s := ⟨3, ![1, A, B]⟩) ![0, 0, 0] ![1, A, B] h) = X := by
  funext j
  unfold View.ld
  refine congrArg X (funext fun a => Fin.ext ?_)
  match a with
  | ⟨0, _⟩ => show 0 + 1 * _ = _; omega
  | ⟨1, _⟩ => show 0 + 1 * _ = _; omega
  | ⟨2, _⟩ => show 0 + 1 * _ = _; omega

theorem ld_rows {A B W o : ℕ} {e : EltTy} (X : Vec Ideal ⟨2, ![A, B]⟩ e) {off : Fin 2 → ℕ} (hoff : off = ![o, 0]) (h) (r : Fin W) (c : Fin B) (s : Fin A) (hs : s.val = o + r.val) :
    View.ld X (Rect.unit (s := ⟨2, ![A, B]⟩) off ![W, B] h) (ix2 r c) = X (ix2 s c) := by
  subst hoff
  unfold View.ld
  refine congrArg X (funext fun a => Fin.ext ?_)
  match a with
  | ⟨0, _⟩ => show o + 1 * r.val = s.val; omega
  | ⟨1, _⟩ => show 0 + 1 * c.val = c.val; omega

theorem pay87_apply (v58 : Vec Ideal S256x1024 .bf16) (v59 v62 : Vec Ideal S1x1024x896 .bf16) (v69 : Vec Ideal S256x1024 .f32) (v70 : Vec Ideal S1x896x1024 .bf16) (s : Fin 256) (c : Fin 1024) :
    k0_pay87 v58 v59 v62 v69 v70 (ix2 s c) = v69 (ix2 s c) + ffn v59 v62 v70 (fun d => v58 (ix2 s d)) c := by
  unfold ffn
  pointwise [k0_pay87]

/-- The expert's network over the first 256 rows: each takes its own row's share of this chunk. -/
theorem RelC1_sem {i : grid0.Coords} {Y8 Y9 Y10 Y14 y y'} (h : RelC1 (F := Ideal) i Y8 Y9 Y10 Y14 y y') (s : Fin 1152) (c : Fin 1024) :
    y' (ix2 s c) = if s.val < 256 then y (ix2 s c) + ffn Y8 Y9 Y10 (fun d => Y14 (ix2 s d)) c else y (ix2 s c) := by
  obtain ⟨c0, arg4, harg4, arg5, harg5, arg6, harg6, arg7, harg7, arg8, harg8, arg9, harg9, arg10, harg10, arg11, harg11, arg12, harg12, arg13, harg13, arg14, harg14, arg15, harg15, X8, X9, X10, X14, f15, h8, h9, h10, h14, h15, e⟩ := h
  unfold runC1 at e; dsimp only at e
  rw [← e]
  by_cases hs : s.val < 256
  · rw [if_pos hs]
    refine (View.read_writes_cons_rows_of_mem (d := ![1152, 1024]) (size := ![256, 1024]) (o := 0) _ _ _ _ _ (ix2 s c) (ix2 ⟨s.val, hs⟩ c) rfl (Nat.zero_add _).symm rfl).trans ?_
    refine (pay87_apply _ _ _ _ _ ⟨s.val, hs⟩ c).trans ?_
    simp only [View.readAt_eq_ld, h8, h9, h10, h14, h15]
    rw [ld_whole3 Y8, ld_whole3 Y9, ld_whole3 Y10, ld_rows y rfl _ ⟨s.val, hs⟩ c s (Nat.zero_add _).symm]
    exact congrArg (fun z => y (ix2 s c) + ffn Y8 Y9 Y10 z c) (funext fun d => ld_rows Y14 rfl _ ⟨s.val, hs⟩ d s (Nat.zero_add _).symm)
  · rw [if_neg hs]
    refine (View.read_writes_cons_rows_of_not_mem (d := ![1152, 1024]) (size := ![256, 1024]) (o := 0) (W := 256) _ _ _ _ _ (ix2 s c) rfl rfl (Or.inr ?_)).trans ?_
    · show 0 + 256 ≤ s.val; omega
    · rw [View.writes_nil, h15]

theorem pay88_apply (v58 : Vec Ideal S320x1024 .bf16) (v59 v62 : Vec Ideal S1x1024x896 .bf16) (v69 : Vec Ideal S320x1024 .f32) (v70 : Vec Ideal S1x896x1024 .bf16) (s : Fin 320) (c : Fin 1024) :
    k0_pay88 v58 v59 v62 v69 v70 (ix2 s c) = v69 (ix2 s c) + ffn v59 v62 v70 (fun d => v58 (ix2 s d)) c := by
  unfold ffn
  pointwise [k0_pay88]

/-- The expert's network over the first 320 rows: each takes its own row's share of this chunk. -/
theorem RelC2_sem {i : grid0.Coords} {Y8 Y9 Y10 Y14 y y'} (h : RelC2 (F := Ideal) i Y8 Y9 Y10 Y14 y y') (s : Fin 1152) (c : Fin 1024) :
    y' (ix2 s c) = if s.val < 320 then y (ix2 s c) + ffn Y8 Y9 Y10 (fun d => Y14 (ix2 s d)) c else y (ix2 s c) := by
  obtain ⟨c0, arg4, harg4, arg5, harg5, arg6, harg6, arg7, harg7, arg8, harg8, arg9, harg9, arg10, harg10, arg11, harg11, arg12, harg12, arg13, harg13, arg14, harg14, arg15, harg15, X8, X9, X10, X14, f15, h8, h9, h10, h14, h15, e⟩ := h
  unfold runC2 at e; dsimp only at e
  rw [← e]
  by_cases hs : s.val < 320
  · rw [if_pos hs]
    refine (View.read_writes_cons_rows_of_mem (d := ![1152, 1024]) (size := ![320, 1024]) (o := 0) _ _ _ _ _ (ix2 s c) (ix2 ⟨s.val, hs⟩ c) rfl (Nat.zero_add _).symm rfl).trans ?_
    refine (pay88_apply _ _ _ _ _ ⟨s.val, hs⟩ c).trans ?_
    simp only [View.readAt_eq_ld, h8, h9, h10, h14, h15]
    rw [ld_whole3 Y8, ld_whole3 Y9, ld_whole3 Y10, ld_rows y rfl _ ⟨s.val, hs⟩ c s (Nat.zero_add _).symm]
    exact congrArg (fun z => y (ix2 s c) + ffn Y8 Y9 Y10 z c) (funext fun d => ld_rows Y14 rfl _ ⟨s.val, hs⟩ d s (Nat.zero_add _).symm)
  · rw [if_neg hs]
    refine (View.read_writes_cons_rows_of_not_mem (d := ![1152, 1024]) (size := ![320, 1024]) (o := 0) (W := 320) _ _ _ _ _ (ix2 s c) rfl rfl (Or.inr ?_)).trans ?_
    · show 0 + 320 ≤ s.val; omega
    · rw [View.writes_nil, h15]

theorem pay89_apply (v58 : Vec Ideal S384x1024 .bf16) (v59 v62 : Vec Ideal S1x1024x896 .bf16) (v69 : Vec Ideal S384x1024 .f32) (v70 : Vec Ideal S1x896x1024 .bf16) (s : Fin 384) (c : Fin 1024) :
    k0_pay89 v58 v59 v62 v69 v70 (ix2 s c) = v69 (ix2 s c) + ffn v59 v62 v70 (fun d => v58 (ix2 s d)) c := by
  unfold ffn
  pointwise [k0_pay89]

/-- The expert's network over the first 384 rows: each takes its own row's share of this chunk. -/
theorem RelC3_sem {i : grid0.Coords} {Y8 Y9 Y10 Y14 y y'} (h : RelC3 (F := Ideal) i Y8 Y9 Y10 Y14 y y') (s : Fin 1152) (c : Fin 1024) :
    y' (ix2 s c) = if s.val < 384 then y (ix2 s c) + ffn Y8 Y9 Y10 (fun d => Y14 (ix2 s d)) c else y (ix2 s c) := by
  obtain ⟨c0, arg4, harg4, arg5, harg5, arg6, harg6, arg7, harg7, arg8, harg8, arg9, harg9, arg10, harg10, arg11, harg11, arg12, harg12, arg13, harg13, arg14, harg14, arg15, harg15, X8, X9, X10, X14, f15, h8, h9, h10, h14, h15, e⟩ := h
  unfold runC3 at e; dsimp only at e
  rw [← e]
  by_cases hs : s.val < 384
  · rw [if_pos hs]
    refine (View.read_writes_cons_rows_of_mem (d := ![1152, 1024]) (size := ![384, 1024]) (o := 0) _ _ _ _ _ (ix2 s c) (ix2 ⟨s.val, hs⟩ c) rfl (Nat.zero_add _).symm rfl).trans ?_
    refine (pay89_apply _ _ _ _ _ ⟨s.val, hs⟩ c).trans ?_
    simp only [View.readAt_eq_ld, h8, h9, h10, h14, h15]
    rw [ld_whole3 Y8, ld_whole3 Y9, ld_whole3 Y10, ld_rows y rfl _ ⟨s.val, hs⟩ c s (Nat.zero_add _).symm]
    exact congrArg (fun z => y (ix2 s c) + ffn Y8 Y9 Y10 z c) (funext fun d => ld_rows Y14 rfl _ ⟨s.val, hs⟩ d s (Nat.zero_add _).symm)
  · rw [if_neg hs]
    refine (View.read_writes_cons_rows_of_not_mem (d := ![1152, 1024]) (size := ![384, 1024]) (o := 0) (W := 384) _ _ _ _ _ (ix2 s c) rfl rfl (Or.inr ?_)).trans ?_
    · show 0 + 384 ≤ s.val; omega
    · rw [View.writes_nil, h15]

theorem pay90_apply (v58 : Vec Ideal S512x1024 .bf16) (v59 v62 : Vec Ideal S1x1024x896 .bf16) (v69 : Vec Ideal S512x1024 .f32) (v70 : Vec Ideal S1x896x1024 .bf16) (s : Fin 512) (c : Fin 1024) :
    k0_pay90 v58 v59 v62 v69 v70 (ix2 s c) = v69 (ix2 s c) + ffn v59 v62 v70 (fun d => v58 (ix2 s d)) c := by
  unfold ffn
  pointwise [k0_pay90]

/-- The expert's network over the first 512 rows: each takes its own row's share of this chunk. -/
theorem RelC4_sem {i : grid0.Coords} {Y8 Y9 Y10 Y14 y y'} (h : RelC4 (F := Ideal) i Y8 Y9 Y10 Y14 y y') (s : Fin 1152) (c : Fin 1024) :
    y' (ix2 s c) = if s.val < 512 then y (ix2 s c) + ffn Y8 Y9 Y10 (fun d => Y14 (ix2 s d)) c else y (ix2 s c) := by
  obtain ⟨c0, arg4, harg4, arg5, harg5, arg6, harg6, arg7, harg7, arg8, harg8, arg9, harg9, arg10, harg10, arg11, harg11, arg12, harg12, arg13, harg13, arg14, harg14, arg15, harg15, X8, X9, X10, X14, f15, h8, h9, h10, h14, h15, e⟩ := h
  unfold runC4 at e; dsimp only at e
  rw [← e]
  by_cases hs : s.val < 512
  · rw [if_pos hs]
    refine (View.read_writes_cons_rows_of_mem (d := ![1152, 1024]) (size := ![512, 1024]) (o := 0) _ _ _ _ _ (ix2 s c) (ix2 ⟨s.val, hs⟩ c) rfl (Nat.zero_add _).symm rfl).trans ?_
    refine (pay90_apply _ _ _ _ _ ⟨s.val, hs⟩ c).trans ?_
    simp only [View.readAt_eq_ld, h8, h9, h10, h14, h15]
    rw [ld_whole3 Y8, ld_whole3 Y9, ld_whole3 Y10, ld_rows y rfl _ ⟨s.val, hs⟩ c s (Nat.zero_add _).symm]
    exact congrArg (fun z => y (ix2 s c) + ffn Y8 Y9 Y10 z c) (funext fun d => ld_rows Y14 rfl _ ⟨s.val, hs⟩ d s (Nat.zero_add _).symm)
  · rw [if_neg hs]
    refine (View.read_writes_cons_rows_of_not_mem (d := ![1152, 1024]) (size := ![512, 1024]) (o := 0) (W := 512) _ _ _ _ _ (ix2 s c) rfl rfl (Or.inr ?_)).trans ?_
    · show 0 + 512 ≤ s.val; omega
    · rw [View.writes_nil, h15]

theorem pay91_apply (v58 : Vec Ideal S128x1024 .bf16) (v59 v62 : Vec Ideal S1x1024x896 .bf16) (v69 : Vec Ideal S128x1024 .f32) (v70 : Vec Ideal S1x896x1024 .bf16) (s : Fin 128) (c : Fin 1024) :
    k0_pay91 v58 v59 v62 v69 v70 (ix2 s c) = v69 (ix2 s c) + ffn v59 v62 v70 (fun d => v58 (ix2 s d)) c := by
  unfold ffn
  pointwise [k0_pay91]

/-- The expert's network over the tiles past the first 512 rows. -/
theorem RelC5_sem {i : grid0.Coords} {v17 hw h3} {Y8 Y9 Y10 Y14 y y'} (h : RelC5 (F := Ideal) i v17 hw h3 Y8 Y9 Y10 Y14 y y') (w : Fin 10) (hv : v17 = BitVec.ofNat 32 w.val)
    (s : Fin 1152) (c : Fin 1024) :
    y' (ix2 s c) = if 512 ≤ s.val ∧ s.val < 128 * w.val then y (ix2 s c) + ffn Y8 Y9 Y10 (fun d => Y14 (ix2 s d)) c else y (ix2 s c) := by
  obtain ⟨c0, arg4, harg4, arg5, harg5, arg6, harg6, arg7, harg7, arg8, harg8, arg9, harg9, arg10, harg10, arg11, harg11, arg12, harg12, arg13, harg13, arg14, harg14, arg15, harg15, X8, X9, X10, X14, f15, h8, h9, h10, h14, h15, e⟩ := h
  unfold runC5 at e; dsimp only at e
  rw [← e]
  subst hv
  have key : ∀ k : ℕ, k ≤ (k0_t3_loop (BitVec.ofNat 32 w.val)).trips → ∀ (s : Fin 1152) (c : Fin 1024),
      arg15.view.read (Elt Ideal) (arg15.view.writes (Elt Ideal) f15 (pb_k0_t3 (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 w.val) hw h3 X8 X9 X10 X14 f15 k)) (ix2 s c)
        = if 512 ≤ s.val ∧ s.val < 512 + 128 * k then y (ix2 s c) + ffn Y8 Y9 Y10 (fun d => Y14 (ix2 s d)) c else y (ix2 s c) := by
    intro k
    induction k with
    | zero =>
      intro _ s c
      rw [if_neg (by omega)]
      unfold pb_k0_t3
      rw [View.writes_nil, h15]
    | succ k ih =>
      intro hk s c
      have IH := ih (by omega)
      have ho := off3_eq w ⟨k, by omega⟩
      rw [pb_k0_t3_succ (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 w.val) hw h3 X8 X9 X10 X14 f15 ⟨k, by omega⟩]
      unfold tripL_k0_t3 trip_k0_t3
      dsimp only [List.cons_append, List.nil_append]
      have hoff : k0_off3 (BitVec.ofNat 32 w.val) ⟨k, by omega⟩ = ![512 + 128 * k, 0] := funext fun a => match a with | ⟨0, _⟩ => ho | ⟨1, _⟩ => rfl
      by_cases hin : 512 + 128 * k ≤ s.val ∧ s.val < 512 + 128 * k + 128
      · have hr : s.val - (512 + 128 * k) < 128 := by omega
        rw [if_pos (by omega)]
        refine (View.read_writes_cons_rows_of_mem (d := ![1152, 1024]) (size := ![128, 1024]) (o := 512 + 128 * k) _ _ _ _ _ (ix2 s c) (ix2 ⟨s.val - (512 + 128 * k), hr⟩ c) hoff ?_ rfl).trans ?_
        · show s.val = 512 + 128 * k + (s.val - (512 + 128 * k)); omega
        refine (pay91_apply _ _ _ _ _ ⟨s.val - (512 + 128 * k), hr⟩ c).trans ?_
        have hsr : s.val = 512 + 128 * k + (⟨s.val - (512 + 128 * k), hr⟩ : Fin 128).val := by show s.val = 512 + 128 * k + (s.val - (512 + 128 * k)); omega
        simp only [View.readAt_eq_ld, h8, h9, h10, h14]
        rw [ld_whole3 Y8, ld_whole3 Y9, ld_whole3 Y10, ld_rows _ hoff _ ⟨s.val - (512 + 128 * k), hr⟩ c s hsr, IH s c, if_neg (by omega)]
        exact congrArg (fun z => y (ix2 s c) + ffn Y8 Y9 Y10 z c) (funext fun d => ld_rows Y14 hoff _ ⟨s.val - (512 + 128 * k), hr⟩ d s hsr)
      · refine (View.read_writes_cons_rows_of_not_mem (d := ![1152, 1024]) (size := ![128, 1024]) (o := 512 + 128 * k) (W := 128) _ _ _ _ _ (ix2 s c) hoff rfl ?_).trans ?_
        · show s.val < 512 + 128 * k ∨ 512 + 128 * k + 128 ≤ s.val; omega
        rw [IH s c]
        by_cases h1 : 512 ≤ s.val ∧ s.val < 512 + 128 * k
        · rw [if_pos h1, if_pos (by omega)]
        · rw [if_neg h1, if_neg (by omega)]
  have t4 := trips_t4 w
  have t3 := trips_t3 w
  dsimp only [Scf.Loop.trips] at t4
  rw [t4, pb_k0_t4.eq_1, List.nil_append]
  refine (key _ le_rfl s c).trans ?_
  rw [t3]
  refine if_congr ?_ rfl rfl
  omega

end Cert.KernelIdeal.Gen
-- ==== Proof.Moe.SemCC.lean ====
/-
  The expert section over an expert's rows: exactly one of the four sizes runs over the first 512.
-/
module

public import proofs.«01_k».proof.Proof.Moe.SemC
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem flag_iff (b : BitVec 1) : Scalar.cmpi .ne (Scalar.extui b : BitVec 32) 0#32 = 1#1 ↔ b = 1#1 := by
  revert b; decide
theorem flags_iff (a b : BitVec 1) : Scalar.andi a b = 1#1 ↔ a = 1#1 ∧ b = 1#1 := by
  revert a b; decide
theorem w256 : (Scalar.ofBits .f32 0x43800000#32 : Ideal .f32) = nat 256 := by
  show Ideal.ofBits .f32 0x43800000#32 = _
  simp [nat, Ideal.ofBits, Ideal.ieee, -EReal.coe_mul]; norm_num
theorem w320 : (Scalar.ofBits .f32 0x43A00000#32 : Ideal .f32) = nat 320 := by
  show Ideal.ofBits .f32 0x43A00000#32 = _
  simp [nat, Ideal.ofBits, Ideal.ieee, -EReal.coe_mul]; norm_num
theorem w384 : (Scalar.ofBits .f32 0x43C00000#32 : Ideal .f32) = nat 384 := by
  show Ideal.ofBits .f32 0x43C00000#32 = _
  simp [nat, Ideal.ofBits, Ideal.ieee, -EReal.coe_mul]; norm_num
theorem ole_iff (a b : ℕ) : Scalar.cmpf (F := Ideal) (φ := .f32) .ole (nat a) (nat b) = 1#1 ↔ a ≤ b := by
  rw [Ideal.scalar_cmpf_def]
  show BitVec.ofBool (decide (nat a ≤ nat b)) = 1#1 ↔ _
  simp only [nat_le]
  by_cases h : a ≤ b <;> simp [h]
theorem ogt_iff (a b : ℕ) : Scalar.cmpf (F := Ideal) (φ := .f32) .ogt (nat a) (nat b) = 1#1 ↔ b < a := by
  rw [Ideal.scalar_cmpf_def]
  show BitVec.ofBool (decide (nat b < nat a)) = 1#1 ↔ _
  simp only [nat_lt]
  by_cases h : b < a <;> simp [h]

/-- The expert section: each routed row's partial sum takes the row's share of this chunk. -/
theorem RelC_sem {i : grid0.Coords} {v17 hw h3} {v8 : Vec Ideal S1x128 .f32} {Y8 Y9 Y10 Y14 y y'} (h : RelC (F := Ideal) i v17 hw h3 v8 Y8 Y9 Y10 Y14 y y')
    (n : ℕ) (hn : n ≤ 1088) (hp : k0_pay79 i v8 = nat n) (hv : v17 = BitVec.ofNat 32 (tilesOf n)) (s : Fin 1152) (hs : s.val < n) (c : Fin 1024) :
    y' (ix2 s c) = y (ix2 s c) + ffn Y8 Y9 Y10 (fun d => Y14 (ix2 s d)) c := by
  obtain ⟨y1, y2, y3, y4, h1, h2, h3, h4, h5⟩ := h
  unfold StepC1 at h1
  unfold StepC2 at h2
  unfold StepC3 at h3
  unfold StepC4 at h4
  simp only [exists_prop, flag_iff, flags_iff, hp, w256, w320, w384, ole_iff, ogt_iff] at h1 h2 h3 h4
  rw [RelC5_sem h5 ⟨tilesOf n, by have := tilesOf_le hn; omega⟩ hv s c]
  have ht : n ≤ tilesOf n * 128 := by unfold tilesOf; omega
  by_cases hS : 512 ≤ s.val
  · rw [if_pos ⟨hS, by show s.val < 128 * tilesOf n; omega⟩]
    have e4 : y4 (ix2 s c) = y3 (ix2 s c) := by
      rcases h4 with ⟨-, h⟩ | ⟨-, h⟩
      · rw [RelC4_sem h s c, if_neg (by omega)]
      · rw [h]
    have e3 : y3 = y2 := by rcases h3 with ⟨hh, h⟩ | ⟨-, h⟩; · omega
                            · exact h
    have e2 : y2 = y1 := by rcases h2 with ⟨hh, h⟩ | ⟨-, h⟩; · omega
                            · exact h
    have e1 : y1 = y := by rcases h1 with ⟨hh, h⟩ | ⟨-, h⟩; · omega
                           · exact h
    rw [e4, e3, e2, e1]
  · rw [if_neg (fun hc => hS hc.1)]
    rcases h1 with ⟨g1, h1⟩ | ⟨g1, h1⟩
    · rcases h2 with ⟨g2, h2⟩ | ⟨g2, h2⟩
      · omega
      rcases h3 with ⟨g3, h3⟩ | ⟨g3, h3⟩
      · omega
      rcases h4 with ⟨g4, h4⟩ | ⟨g4, h4⟩
      · omega
      rw [h4, h3, h2, RelC1_sem h1 s c, if_pos (by omega)]
    rcases h2 with ⟨g2, h2⟩ | ⟨g2, h2⟩
    · rcases h3 with ⟨g3, h3⟩ | ⟨g3, h3⟩
      · omega
      rcases h4 with ⟨g4, h4⟩ | ⟨g4, h4⟩
      · omega
      rw [h4, h3, RelC2_sem h2 s c, if_pos (by omega), h1]
    rcases h3 with ⟨g3, h3⟩ | ⟨g3, h3⟩
    · rcases h4 with ⟨g4, h4⟩ | ⟨g4, h4⟩
      · omega
      rw [h4, RelC3_sem h3 s c, if_pos (by omega), h2, h1]
    rcases h4 with ⟨g4, h4⟩ | ⟨g4, h4⟩
    · rw [RelC4_sem h4 s c, if_pos (by omega), h3, h2, h1]
    · omega

end Cert.KernelIdeal.Gen
-- ==== Proof.Moe.SemH.lean ====
/-
  The one-hot matrices of the gather and the scatter.
-/
module

public import proofs.«01_k».proof.Proof.Moe.SemCC
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Masking all lanes but lane `e` and adding up picks lane `e`. -/
theorem lane_pick (e : Fin 8) (f : Fin 128 → EReal) :
    (∑ l : Fin 128, Scalar.select (IntOp.cmpi CmpIPredicate.eq (BitVec.ofNat 32 l.val) (BitVec.ofNat 32 e.val)) (f l) 0) = f ⟨e.val, by omega⟩ := by
  have he : ∀ (e : Fin 8) (l : Fin 128), IntOp.cmpi CmpIPredicate.eq (BitVec.ofNat 32 l.val) (BitVec.ofNat 32 e.val) = 1#1 ↔ l.val = e.val := by
    decide +kernel
  rw [Finset.sum_eq_single ⟨e.val, by omega⟩]
  · rw [(he e ⟨e.val, by omega⟩).2 rfl]; rfl
  · intro l _ hl
    rcases BitVec.eq_zero_or_eq_one (IntOp.cmpi CmpIPredicate.eq (BitVec.ofNat 32 l.val) (BitVec.ofNat 32 e.val)) with h0 | h1
    · rw [h0]; rfl
    · exact absurd (Fin.ext ((he e l).1 h1)) hl
  · intro hl; exact absurd (Finset.mem_univ _) hl

theorem lane_num (l : ℕ) (h : l < 1152) : (FloatOps.sitofp .f32 (BitVec.ofNat 32 l) : Ideal .f32) = nat l := by
  show (((BitVec.ofNat 32 l).toInt : ℝ) : EReal) = _
  have : (BitVec.ofNat 32 l).toInt = l := by
    have hh : ∀ l : Fin 1152, (BitVec.ofNat 32 l.val).toInt = l.val := by decide +kernel
    exact hh ⟨l, h⟩
  rw [this]; simp [nat]
theorem i128 : Ideal.ofBits .f32 0x43000000#32 = nat 128 := by
  simp [nat, Ideal.ofBits, Ideal.ieee, -EReal.coe_mul]; norm_num
theorem i256 : Ideal.ofBits .f32 0x43800000#32 = nat 256 := w256
theorem i384 : Ideal.ofBits .f32 0x43C00000#32 = nat 384 := w384
theorem i0 : Ideal.ofBits .f32 0x00000000#32 = 0 := by
  simp [Ideal.ofBits, Ideal.ieee]
theorem i1 : Ideal.ofBits .f32 0x3F800000#32 = 1 := by
  simp [Ideal.ofBits, Ideal.ieee, -EReal.coe_mul]; norm_num

/-- One where the position is `s`, zero elsewhere. -/
def hot (x : EReal) (s : ℕ) : EReal := if x = nat s then 1 else 0

theorem sub_eq_nat (x : EReal) (a b : ℕ) : x - nat a = nat b ↔ x = nat (a + b) := by
  induction x using EReal.rec with
  | bot => rw [EReal.bot_sub]; exact ⟨fun h => absurd h (EReal.bot_ne_coe _), fun h => absurd h (EReal.bot_ne_coe _)⟩
  | top =>
    have : (⊤ : EReal) - nat a = ⊤ := EReal.top_sub_coe _
    rw [this]; exact ⟨fun h => absurd h (EReal.top_ne_coe _), fun h => absurd h (EReal.top_ne_coe _)⟩
  | coe x =>
    unfold nat
    rw [← EReal.coe_sub, EReal.coe_eq_coe_iff, EReal.coe_eq_coe_iff]
    push_cast
    constructor <;> intro h <;> linarith

theorem first1 : ∀ (w : Fin 10) (k : Fin (k0_t1_loop (BitVec.ofNat 32 w.val)).trips), (Scalar.addi (512#32) (Scalar.muli (Scf.iv 0#32 1#32 k.val) 128#32)).toInt = ((512 + 128 * k.val : ℕ) : ℤ) := by decide +kernel
theorem first5 : ∀ (w : Fin 10) (k : Fin (k0_t5_loop (BitVec.ofNat 32 w.val)).trips), (Scalar.addi (512#32) (Scalar.muli (Scf.iv 0#32 1#32 k.val) 128#32)).toInt = ((512 + 128 * k.val : ℕ) : ℤ) := by decide +kernel

section
variable (e : Fin 8) (v18 : IVec S544x128 32) (h18 : ∀ (r : Fin 544) (l : Fin 128), v18 (ix2 r l) = BitVec.ofNat 32 l.val)
variable (d d2 : Vec Ideal S544x128 .f32)
include h18

theorem four_hots (x : EReal) (l : Fin 512) :
    (if h : l.val < 128 then if x = (FloatOps.sitofp FTy.f32 (BitVec.ofNat 32 l.val) : Ideal .f32) then (1 : EReal) else 0
    else if h : l.val - 128 < 128 then if x = (FloatOps.sitofp FTy.f32 (BitVec.ofNat 32 (l.val - 128)) : Ideal .f32) + Ideal.ofBits FTy.f32 1124073472#32 then 1 else 0
    else if h : l.val - 128 - 128 < 128 then if x = (FloatOps.sitofp FTy.f32 (BitVec.ofNat 32 (l.val - 128 - 128)) : Ideal .f32) + Ideal.ofBits FTy.f32 1132462080#32 then 1 else 0
    else if x = (FloatOps.sitofp FTy.f32 (BitVec.ofNat 32 (l.val - 128 - 128 - 128)) : Ideal .f32) + Ideal.ofBits FTy.f32 1136656384#32 then 1 else 0) = hot x l.val := by
  unfold hot
  have := l.isLt
  by_cases h1 : l.val < 128
  · rw [dif_pos h1, lane_num _ (by omega)]
  rw [dif_neg h1]
  by_cases h2 : l.val - 128 < 128
  · rw [dif_pos h2, lane_num _ (by omega), i128, nat_add, show l.val - 128 + 128 = l.val by omega]
  rw [dif_neg h2]
  by_cases h3 : l.val - 128 - 128 < 128
  · rw [dif_pos h3, lane_num _ (by omega), i256, nat_add, show l.val - 128 - 128 + 256 = l.val by omega]
  rw [dif_neg h3, lane_num _ (by omega), i384, nat_add, show l.val - 128 - 128 - 128 + 384 = l.val by omega]

/-- The gathered rows of the first 512: each is the sum over the tile's rows of the row times whether it is the one. -/
theorem gather_first (h1 h2 : Vec Ideal S1x544x1024 .bf16) (s : Fin 512) (c : Fin 1024) :
    k0_pay81 (k0_pay45 (k0_pay44 (BitVec.ofNat 32 e.val) v18 d) h1) (k0_pay48 (BitVec.ofNat 32 e.val) v18 d2) (k0_pay49 (BitVec.ofNat 32 e.val) v18 d2)
        (k0_pay50 (BitVec.ofNat 32 e.val) v18 d2) (k0_pay51 (BitVec.ofNat 32 e.val) v18 d2) h2 (ix2 s c)
      = (∑ r : Fin 544, hot (d (ix2 r (⟨e.val, by omega⟩ : Fin 128))) s.val * h1 (ix3 0 r c)) + ∑ r : Fin 544, hot (d2 (ix2 r (⟨e.val, by omega⟩ : Fin 128))) s.val * h2 (ix3 0 r c) := by
  pointwise [k0_pay81, k0_pay45, k0_pay44, k0_pay48, k0_pay49, k0_pay50, k0_pay51, k0_pay47, k0_pay46]
  simp only [h18, lane_pick]
  refine congrArg₂ (· + ·) (Finset.sum_congr rfl fun r _ => congrArg (· * _) ?_) (Finset.sum_congr rfl fun r _ => congrArg (· * _) ?_)
  · exact four_hots v18 h18 _ s
  · exact four_hots v18 h18 _ s

/-- The gathered rows of a further tile. -/
theorem gather_more (w : Fin 10) (k : Fin (k0_t1_loop (BitVec.ofNat 32 w.val)).trips) (h1 h2 : Vec Ideal S1x544x1024 .bf16) (s : Fin 128) (c : Fin 1024) :
    k0_pay83 (k0_pay39 (BitVec.ofNat 32 e.val) (BitVec.ofNat 32 w.val) v18 0#32 1#32 k d h1) (k0_pay40 (BitVec.ofNat 32 e.val) (BitVec.ofNat 32 w.val) v18 0#32 1#32 k d2)
        (Scalar.ofBits .f32 0x3F800000#32) (Scalar.ofBits .f32 0x00000000#32) h2 (ix2 s c)
      = (∑ r : Fin 544, hot (d (ix2 r (⟨e.val, by omega⟩ : Fin 128))) (512 + 128 * k.val + s.val) * h1 (ix3 0 r c)) + ∑ r : Fin 544, hot (d2 (ix2 r (⟨e.val, by omega⟩ : Fin 128))) (512 + 128 * k.val + s.val) * h2 (ix3 0 r c) := by
  pointwise [k0_pay83, k0_pay39, k0_pay40, k0_pay38]
  simp only [h18, lane_pick, first1]
  have hf : (((512 + 128 * k.val : ℕ) : ℤ) : ℝ) = ((512 + 128 * k.val : ℕ) : ℝ) := by norm_cast
  have hl : (FloatOps.sitofp .f32 (BitVec.ofNat 32 s.val) : Ideal .f32) = nat s.val := lane_num _ (by omega)
  refine congrArg₂ (· + ·) (Finset.sum_congr rfl fun r _ => congrArg (· * _) ?_) (Finset.sum_congr rfl fun r _ => congrArg (· * _) ?_)
  · rw [hl, hf]
    exact if_congr (sub_eq_nat _ _ _) rfl rfl
  · rw [hl, hf]
    exact if_congr (sub_eq_nat _ _ _) rfl rfl

/-- The scatter of the first 512 rows into the first half of the tile. -/
theorem scatter_lo (y : Vec Ideal S512x1024 .f32) (o : Vec Ideal S1x544x1024 .f32) (g : Vec Ideal S1x544x128 .f32) (r : Fin 544) (c : Fin 1024) :
    k0_pay70 (BitVec.ofNat 32 e.val) v18 (k0_pay62 y) (k0_pay65 (BitVec.ofNat 32 e.val) v18 d) (k0_pay66 (BitVec.ofNat 32 e.val) v18 d)
        (k0_pay67 (BitVec.ofNat 32 e.val) v18 d) (k0_pay68 (BitVec.ofNat 32 e.val) v18 d) (Scalar.ofBits .f32 0x00000000#32) k0_pay69 o g (ix3 0 r c)
      = o (ix3 0 r c) + g (ix3 0 r (⟨e.val, by omega⟩ : Fin 128)) * ∑ s : Fin 512, hot (d (ix2 r (⟨e.val, by omega⟩ : Fin 128))) s.val * y (ix2 s c) := by
  pointwise [k0_pay70, k0_pay62, k0_pay65, k0_pay66, k0_pay67, k0_pay68, k0_pay69, k0_pay63, k0_pay64]
  simp only [h18, lane_pick]
  refine congrArg₂ (· + ·) rfl (congrArg₂ (· * ·) rfl (Finset.sum_congr rfl fun s _ => congrArg (· * _) ?_))
  exact four_hots v18 h18 _ s

/-- The scatter of the first 512 rows into the second half of the tile. -/
theorem scatter_hi (y : Vec Ideal S512x1024 .f32) (o : Vec Ideal S1x544x1024 .f32) (g : Vec Ideal S1x544x128 .f32) (r : Fin 544) (c : Fin 1024) :
    k0_pay93 (k0_pay74 (BitVec.ofNat 32 e.val) v18 (k0_pay62 y) (k0_pay71 (BitVec.ofNat 32 e.val) v18 d) (k0_pay72 v18) (k0_pay73 (BitVec.ofNat 32 e.val) v18 d) o g) (ix3 0 r c)
      = o (ix3 0 r c) + g (ix3 0 r (⟨e.val, by omega⟩ : Fin 128)) * ∑ s : Fin 512, hot (d (ix2 r (⟨e.val, by omega⟩ : Fin 128))) s.val * y (ix2 s c) := by
  pointwise [k0_pay93, k0_pay74, k0_pay62, k0_pay71, k0_pay72, k0_pay73]
  simp only [h18, lane_pick]
  refine congrArg₂ (· + ·) rfl (congrArg₂ (· * ·) rfl (Finset.sum_congr rfl fun s _ => congrArg (· * _) ?_))
  exact four_hots v18 h18 _ s

/-- The scatter of a further tile into the first half of the tile. -/
theorem scatter_more_lo (w : Fin 10) (k : Fin (k0_t5_loop (BitVec.ofNat 32 w.val)).trips) (y : Vec Ideal S128x1024 .f32) (o : Vec Ideal S1x544x1024 .f32) (g : Vec Ideal S1x544x128 .f32) (r : Fin 544) (c : Fin 1024) :
    k0_pay55 (k0_pay54 (BitVec.ofNat 32 e.val) (BitVec.ofNat 32 w.val) v18 0#32 1#32 k y d o g) (ix3 0 r c)
      = o (ix3 0 r c) + g (ix3 0 r (⟨e.val, by omega⟩ : Fin 128)) * ∑ s : Fin 128, hot (d (ix2 r (⟨e.val, by omega⟩ : Fin 128))) (512 + 128 * k.val + s.val) * y (ix2 s c) := by
  pointwise [k0_pay55, k0_pay54, k0_pay52, k0_pay53]
  simp only [h18, lane_pick, first5]
  have hf : (((512 + 128 * k.val : ℕ) : ℤ) : ℝ) = ((512 + 128 * k.val : ℕ) : ℝ) := by norm_cast
  refine congrArg₂ (· + ·) rfl (congrArg₂ (· * ·) rfl (Finset.sum_congr rfl fun s _ => congrArg (· * _) ?_))
  have hl : (FloatOps.sitofp .f32 (BitVec.ofNat 32 s.val) : Ideal .f32) = nat s.val := lane_num _ (by omega)
  rw [hl, hf]
  exact if_congr (sub_eq_nat _ _ _) rfl rfl

/-- The scatter of a further tile into the second half of the tile. -/
theorem scatter_more_hi (w : Fin 10) (k : Fin (k0_t5_loop (BitVec.ofNat 32 w.val)).trips) (y : Vec Ideal S128x1024 .f32) (o : Vec Ideal S1x544x1024 .f32) (g : Vec Ideal S1x544x128 .f32) (r : Fin 544) (c : Fin 1024) :
    k0_pay56 (BitVec.ofNat 32 e.val) v18 (k0_pay52 (BitVec.ofNat 32 w.val) 0#32 1#32 k) (k0_pay53 y) d o g (ix3 0 r c)
      = o (ix3 0 r c) + g (ix3 0 r (⟨e.val, by omega⟩ : Fin 128)) * ∑ s : Fin 128, hot (d (ix2 r (⟨e.val, by omega⟩ : Fin 128))) (512 + 128 * k.val + s.val) * y (ix2 s c) := by
  pointwise [k0_pay56, k0_pay52, k0_pay53]
  simp only [h18, lane_pick, first5]
  have hf : (((512 + 128 * k.val : ℕ) : ℤ) : ℝ) = ((512 + 128 * k.val : ℕ) : ℝ) := by norm_cast
  refine congrArg₂ (· + ·) rfl (congrArg₂ (· * ·) rfl (Finset.sum_congr rfl fun s _ => congrArg (· * _) ?_))
  have hl : (FloatOps.sitofp .f32 (BitVec.ofNat 32 s.val) : Ideal .f32) = nat s.val := lane_num _ (by omega)
  rw [hl, hf]
  exact if_congr (sub_eq_nat _ _ _) rfl rfl
end

end Cert.KernelIdeal.Gen
-- ==== Proof.Moe.SemB.lean ====
/-
  The gather section, as a formula.
-/
module

public import proofs.«01_k».proof.Proof.Moe.SemH
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem ld_half3 {A B W o : ℕ} {e : EltTy} (X : Vec Ideal ⟨3, ![1, A, B]⟩ e) {off : Fin 3 → ℕ} (hoff : off = ![0, o, 0]) (h) (r : Fin W) (c : Fin B) (s : Fin A) (hs : s.val = o + r.val) :
    View.ld X (Rect.unit (s := ⟨3, ![1, A, B]⟩) off ![1, W, B] h) (ix3 0 r c) = X (ix3 0 s c) := by
  subst hoff
  unfold View.ld
  refine congrArg X (funext fun a => Fin.ext ?_)
  match a with
  | ⟨0, _⟩ => show 0 + 1 * 0 = 0; omega
  | ⟨1, _⟩ => show o + 1 * r.val = s.val; omega
  | ⟨2, _⟩ => show 0 + 1 * c.val = c.val; omega

/-- The two halves of a tile's rows, added up. -/
theorem halves (f : Fin 1088 → EReal) : (∑ r : Fin 544, f ⟨r.val, by omega⟩) + (∑ r : Fin 544, f ⟨544 + r.val, by omega⟩) = ∑ r : Fin 1088, f r :=
  (Fin.sum_univ_add (a := 544) (b := 544) f).symm

/-- The lane of expert `i 2`. -/
def lane (i : grid0.Coords) : Fin 128 := ⟨(i 2).val, lt_of_lt_of_le (i 2).isLt (by decide)⟩

/-- The row of `h` at position `s` of expert `i 2`'s rows: the sum of the rows, each times whether it is the one. -/
def gath (i : grid0.Coords) (d : Vec Ideal S1088x128 .f32) (h : Vec Ideal S1x1088x1024 .bf16) (s : ℕ) (c : Fin 1024) : EReal :=
  ∑ r : Fin 1088, hot (d (ix2 r (lane i))) s * h (ix3 0 r c)

theorem v18_apply (r : Fin 544) (l : Fin 128) : runB.sl.v18 (ix2 r l) = BitVec.ofNat 32 l.val := by
  unfold runB.sl.v18
  pointwise []

/-- The gather section: every row of the tiles in use is gathered, and its accumulator cleared. -/
theorem RelB_sem {i : grid0.Coords} {v17 hw h2} {Y4 Y12 x y x' y'} (h : RelB (F := Ideal) i v17 hw h2 Y4 Y12 x y x' y') (w : Fin 10) (hv : v17 = BitVec.ofNat 32 w.val) :
    (∀ (s : Fin 1152) (c : Fin 1024), s.val < max 512 (128 * w.val) → x' (ix2 s c) = gath i Y12 Y4 s.val c)
    ∧ (∀ (s : Fin 1152) (c : Fin 1024), s.val < max 512 (128 * w.val) → y' (ix2 s c) = 0) := by
  obtain ⟨c0, arg4, harg4, arg5, harg5, arg6, harg6, arg7, harg7, arg8, harg8, arg9, harg9, arg10, harg10, arg11, harg11, arg12, harg12, arg13, harg13, arg14, harg14, arg15, harg15, X4, X12, f14, f15, h4, h12, h14, h15, e14, e15⟩ := h
  unfold runB at e14 e15; dsimp only at e14 e15
  subst hv
  unfold runB.sl.r_1 runB.sl.r_2 runB.sl.r_3 runB.sl.r_4 runB.sl.r_5 runB.sl.r at e14
  have t2 := trips_t2 w
  dsimp only [Scf.Loop.trips] at t2
  rw [t2, pb_k0_t2.eq_1] at e14 e15
  dsimp only [List.nil_append] at e14 e15
  have key : ∀ k : ℕ, k ≤ (k0_t1_loop (BitVec.ofNat 32 w.val)).trips → ∀ L M (s : Fin 1152) (c : Fin 1024),
      arg14.view.read (Elt Ideal) (arg14.view.writes (Elt Ideal) f14 (((pb_k0_t1 (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runB.sl.v18 h2 X4 X12 k)).1 ++ L)) (ix2 s c)
        = (if 512 ≤ s.val ∧ s.val < 512 + 128 * k then gath i Y12 Y4 s.val c else arg14.view.read (Elt Ideal) (arg14.view.writes (Elt Ideal) f14 L) (ix2 s c))
      ∧ arg15.view.read (Elt Ideal) (arg15.view.writes (Elt Ideal) f15 (((pb_k0_t1 (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runB.sl.v18 h2 X4 X12 k)).2 ++ M)) (ix2 s c)
        = (if 512 ≤ s.val ∧ s.val < 512 + 128 * k then 0 else arg15.view.read (Elt Ideal) (arg15.view.writes (Elt Ideal) f15 M) (ix2 s c)) := by
    intro k
    induction k with
    | zero =>
      intro _ L M s c
      rw [if_neg (by omega), if_neg (by omega)]
      unfold pb_k0_t1
      exact ⟨rfl, rfl⟩
    | succ k ih =>
      intro hk L M s c
      have IH := ih (by omega) L M s c
      have hoff : k0_off1 (BitVec.ofNat 32 w.val) ⟨k, by omega⟩ = ![512 + 128 * k, 0] := funext fun a => match a with | ⟨0, _⟩ => off1_eq w ⟨k, by omega⟩ | ⟨1, _⟩ => rfl
      rw [pb_k0_t1_succ (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runB.sl.v18 h2 X4 X12 ⟨k, by omega⟩]
      unfold tripL_k0_t1 trip_k0_t1
      dsimp only [List.cons_append, List.nil_append]
      unfold trip_k0_t1.sl.r trip_k0_t1.sl.r_1 trip_k0_t1.sl.cst_79 trip_k0_t1.sl.cst_80
      by_cases hin : 512 + 128 * k ≤ s.val ∧ s.val < 512 + 128 * k + 128
      · have hr : s.val - (512 + 128 * k) < 128 := by omega
        have hsr : s.val = 512 + 128 * k + (s.val - (512 + 128 * k)) := by omega
        rw [if_pos (by omega), if_pos (by omega)]
        constructor
        · refine (View.read_writes_cons_rows_of_mem (d := ![1152, 1024]) (size := ![128, 1024]) (o := 512 + 128 * k) _ _ _ _ _ (ix2 s c) (ix2 ⟨s.val - (512 + 128 * k), hr⟩ c) hoff hsr rfl).trans ?_
          refine (gather_more (i 2) _ v18_apply _ _ w ⟨k, by omega⟩ _ _ ⟨s.val - (512 + 128 * k), hr⟩ c).trans ?_
          unfold gath
          rw [← halves]
          simp only [View.readAt_eq_ld, h4, h12]
          refine congrArg₂ (· + ·) (Finset.sum_congr rfl fun r _ => ?_) (Finset.sum_congr rfl fun r _ => ?_)
          · refine congrArg₂ (· * ·) (congrArg₂ hot (ld_rows Y12 rfl _ r (lane i) ⟨r.val, by omega⟩ (Nat.zero_add _).symm) hsr.symm) (ld_half3 Y4 rfl _ r c ⟨r.val, by omega⟩ (Nat.zero_add _).symm)
          · refine congrArg₂ (· * ·) (congrArg₂ hot (ld_rows Y12 rfl _ r (lane i) ⟨544 + r.val, by omega⟩ rfl) hsr.symm) (ld_half3 Y4 rfl _ r c ⟨544 + r.val, by omega⟩ rfl)
        · refine (View.read_writes_cons_rows_of_mem (d := ![1152, 1024]) (size := ![128, 1024]) (o := 512 + 128 * k) _ _ _ _ _ (ix2 s c) (ix2 ⟨s.val - (512 + 128 * k), hr⟩ c) hoff hsr rfl).trans ?_
          pointwise [k0_pay84]
      · have ho : s.val < 512 + 128 * k ∨ 512 + 128 * k + 128 ≤ s.val := by omega
        have hc : (512 ≤ s.val ∧ s.val < 512 + 128 * (k + 1)) ↔ (512 ≤ s.val ∧ s.val < 512 + 128 * k) := by omega
        simp only [hc]
        constructor
        · exact (View.read_writes_cons_rows_of_not_mem (d := ![1152, 1024]) (size := ![128, 1024]) (o := 512 + 128 * k) (W := 128) _ _ _ _ _ (ix2 s c) hoff rfl ho).trans IH.1
        · exact (View.read_writes_cons_rows_of_not_mem (d := ![1152, 1024]) (size := ![128, 1024]) (o := 512 + 128 * k) (W := 128) _ _ _ _ _ (ix2 s c) hoff rfl ho).trans IH.2
  have t1 := trips_t1 w
  have hT : ∀ s : Fin 1152, s.val < max 512 (128 * w.val) → ¬ (512 ≤ s.val ∧ s.val < 512 + 128 * (k0_t1_loop (BitVec.ofNat 32 w.val)).trips) → s.val < 512 := by
    intro s hs hn; rw [t1] at hn; omega
  refine ⟨fun s c hs => ?_, fun s c hs => ?_⟩
  · rw [← e14]
    refine (key _ le_rfl _ [] s c).1.trans ?_
    split
    · rfl
    · next hn =>
      have hs5 := hT s hs hn
      refine (View.read_writes_cons_rows_of_mem (d := ![1152, 1024]) (size := ![512, 1024]) (o := 0) _ _ _ _ _ (ix2 s c) (ix2 ⟨s.val, hs5⟩ c) rfl (Nat.zero_add _).symm rfl).trans ?_
      refine (gather_first (i 2) _ v18_apply _ _ _ _ ⟨s.val, hs5⟩ c).trans ?_
      unfold gath
      rw [← halves]
      simp only [View.readAt_eq_ld, h4, h12]
      refine congrArg₂ (· + ·) (Finset.sum_congr rfl fun r _ => ?_) (Finset.sum_congr rfl fun r _ => ?_)
      · refine congrArg₂ (· * ·) (congrArg₂ hot (ld_rows Y12 rfl _ r (lane i) ⟨r.val, by omega⟩ (Nat.zero_add _).symm) rfl) (ld_half3 Y4 rfl _ r c ⟨r.val, by omega⟩ (Nat.zero_add _).symm)
      · refine congrArg₂ (· * ·) (congrArg₂ hot (ld_rows Y12 rfl _ r (lane i) ⟨544 + r.val, by omega⟩ rfl) rfl) (ld_half3 Y4 rfl _ r c ⟨544 + r.val, by omega⟩ rfl)
  · rw [← e15]
    refine (key _ le_rfl [] _ s c).2.trans ?_
    split
    · rfl
    · next hn =>
      have hs5 := hT s hs hn
      refine (View.read_writes_cons_rows_of_mem (d := ![1152, 1024]) (size := ![512, 1024]) (o := 0) _ _ _ _ _ (ix2 s c) (ix2 ⟨s.val, hs5⟩ c) rfl (Nat.zero_add _).symm rfl).trans ?_
      pointwise [k0_pay82]

end Cert.KernelIdeal.Gen
-- ==== Proof.Moe.SemD.lean ====
/-
  The scatter section, as a formula.
-/
module

public import proofs.«01_k».proof.Proof.Moe.SemB
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem v18D_apply (r : Fin 544) (l : Fin 128) : runD.sl.v18 (ix2 r l) = BitVec.ofNat 32 l.val := by
  unfold runD.sl.v18
  pointwise []

/-- A sum over `W` rows from `o` on, each times whether it is row `p`: row `p`, if it is among them. -/
theorem pick {W : ℕ} (o p : ℕ) (h Y : ℕ → EReal) (hh : ∀ s, s < o + W → h s = if s = p then 1 else 0) :
    (∑ s : Fin W, h (o + s.val) * Y (o + s.val)) = if o ≤ p ∧ p < o + W then Y p else 0 := by
  have e : ∀ s : Fin W, h (o + s.val) * Y (o + s.val) = if o + s.val = p then Y p else 0 := fun s => by
    rw [hh _ (by omega)]
    split
    · next hs => rw [one_mul, hs]
    · rw [zero_mul]
  rw [Finset.sum_congr rfl fun s _ => e s]
  by_cases hp : o ≤ p ∧ p < o + W
  · rw [if_pos hp, Finset.sum_eq_single (⟨p - o, by omega⟩ : Fin W)]
    · exact if_pos (show o + (p - o) = p by omega)
    · intro s _ hs
      exact if_neg fun h => hs (Fin.ext (show s.val = p - o by omega))
    · exact fun h => absurd (Finset.mem_univ _) h
  · rw [if_neg hp]
    exact Finset.sum_eq_zero fun s _ => if_neg (by omega)

/-- Row `s` of the accumulator, zero past its end. -/
def rowOf (y : Vec Ideal S1152x1024 .f32) (c : Fin 1024) (s : ℕ) : EReal := if h : s < 1152 then y (ix2 ⟨s, h⟩ c) else 0

theorem rowOf_lt (y : Vec Ideal S1152x1024 .f32) (c : Fin 1024) {s : ℕ} (h : s < 1152) : rowOf y c s = y (ix2 ⟨s, h⟩ c) := dif_pos h

/-- A term is added for the tile the row lies in, and nothing for any other. -/
theorem add_step (o g Y : EReal) (p n m : ℕ) (hnm : n ≤ m) :
    (if p < n then o + g * Y else o) + g * (if n ≤ p ∧ p < m then Y else 0) = if p < m then o + g * Y else o := by
  by_cases h1 : p < n
  · rw [if_pos h1, if_neg (by omega), if_pos (by omega), mul_zero, add_zero]
  · by_cases h2 : p < m
    · rw [if_neg h1, if_pos (by omega), if_pos h2]
    · rw [if_neg h1, if_neg (by omega), if_neg h2, mul_zero, add_zero]

/-- The scatter section: a row of the tile at position `p` receives its gate times row `p` of the accumulator. -/
theorem RelD_sem {i : grid0.Coords} {v17 hw h8} {Y7 Y12 Y15 o o'} (h : RelD (F := Ideal) i v17 hw h8 Y7 Y12 Y15 o o') (w : Fin 10) (hv : v17 = BitVec.ofNat 32 w.val)
    (p : Fin 1088 → ℕ) (hp : ∀ r s, s < 1152 → hot (Y12 (ix2 r (lane i))) s = if s = p r then 1 else 0) (r : Fin 1088) (c : Fin 1024) :
    o' (ix3 0 r c) = if p r < max 512 (128 * w.val) then o (ix3 0 r c) + Y7 (ix3 0 r (lane i)) * rowOf Y15 c (p r) else o (ix3 0 r c) := by
  obtain ⟨c0, arg4, harg4, arg5, harg5, arg6, harg6, arg7, harg7, arg8, harg8, arg9, harg9, arg10, harg10, arg11, harg11, arg12, harg12, arg13, harg13, arg14, harg14, arg15, harg15, X7, X12, X15, f11, h7, h12, h15, h11, e11⟩ := h
  unfold runD at e11; dsimp only at e11
  subst hv
  have t6 := trips_t6 w
  dsimp only [Scf.Loop.trips] at t6
  rw [t6, pb_k0_t6.eq_1] at e11
  dsimp only [List.nil_append] at e11
  have base : ∀ (r : Fin 1088) (c : Fin 1024), arg11.view.read (Elt Ideal) (arg11.view.writes (Elt Ideal) arg11.view.junk (runD.sl.H_arg11_2 i arg7 arg11 arg12 arg15 X7 X12 X15 f11)) (ix3 0 r c)
      = if p r < 512 then o (ix3 0 r c) + Y7 (ix3 0 r (lane i)) * rowOf Y15 c (p r) else o (ix3 0 r c) := by
    intro r c
    have hsum : ∀ r : Fin 1088, (∑ s : Fin 512, hot (Y12 (ix2 r (lane i))) s.val * Y15 (ix2 ⟨s.val, by omega⟩ c)) = if 0 ≤ p r ∧ p r < 512 then rowOf Y15 c (p r) else 0 := fun r => by
      refine Eq.trans (Finset.sum_congr rfl fun s _ => ?_) (pick (W := 512) 0 (p r) (hot (Y12 (ix2 r (lane i)))) (rowOf Y15 c) fun s hs => hp r s (by omega))
      rw [Nat.zero_add, rowOf_lt Y15 c (by omega)]
    have hadd : ∀ r : Fin 1088, o (ix3 0 r c) + Y7 (ix3 0 r (lane i)) * (if 0 ≤ p r ∧ p r < 512 then rowOf Y15 c (p r) else 0) = if p r < 512 then o (ix3 0 r c) + Y7 (ix3 0 r (lane i)) * rowOf Y15 c (p r) else o (ix3 0 r c) := fun r =>
      (congrArg (· + _) (if_neg (Nat.not_lt_zero (p r))).symm).trans (add_step (o (ix3 0 r c)) (Y7 (ix3 0 r (lane i))) (rowOf Y15 c (p r)) (p r) 0 512 (by omega))
    unfold runD.sl.H_arg11_2
    unfold runD.sl.r_7 runD.sl.r runD.sl.r_1 runD.sl.r_2 runD.sl.r_3 runD.sl.r_4 runD.sl.r_5 runD.sl.r_6 runD.sl.cst_31 runD.sl.v143
    rw [← hadd, ← hsum]
    by_cases hr : r.val < 544
    · refine (View.read_writes_cons_unit_of_not_mem (s := S1x1088x1024) (off' := ![0, 544, 0]) _ _ _ _ _ (ix3 0 r c) rfl (1 : Fin 3) (Or.inl (show r.val < 544 from hr))).trans ?_
      refine (View.read_writes_cons_unit_of_mem (s := S1x1088x1024) (off' := ![0, 0, 0]) _ _ _ _ _ (ix3 0 r c) (ix3 0 (⟨r.val, hr⟩ : Fin 544) c) rfl (fun a => match a with | ⟨0, _⟩ => rfl | ⟨1, _⟩ => (Nat.zero_add _).symm | ⟨2, _⟩ => (Nat.zero_add _).symm)).trans ?_
      refine (scatter_lo (i 2) _ v18D_apply _ _ _ _ ⟨r.val, hr⟩ c).trans ?_
      simp only [View.readAt_eq_ld, h7, h11, h12, h15]
      refine congrArg₂ (· + ·) (ld_half3 o rfl _ ⟨r.val, hr⟩ c r (Nat.zero_add _).symm) (congrArg₂ (· * ·) (ld_half3 Y7 rfl _ ⟨r.val, hr⟩ (lane i) r (Nat.zero_add _).symm) (Finset.sum_congr rfl fun s _ => ?_))
      exact congrArg₂ (· * ·) (congrArg (hot · s.val) (ld_rows Y12 rfl _ ⟨r.val, hr⟩ (lane i) r (Nat.zero_add _).symm)) (ld_rows Y15 rfl _ s c ⟨s.val, by omega⟩ (Nat.zero_add _).symm)
    · have hr2 : r.val - 544 < 544 := by omega
      have hrs : r.val = 544 + (r.val - 544) := by omega
      refine (View.read_writes_cons_unit_of_mem (s := S1x1088x1024) (off' := ![0, 544, 0]) _ _ _ _ _ (ix3 0 r c) (ix3 0 (⟨r.val - 544, hr2⟩ : Fin 544) c) rfl (fun a => match a with | ⟨0, _⟩ => rfl | ⟨1, _⟩ => hrs | ⟨2, _⟩ => (Nat.zero_add _).symm)).trans ?_
      refine (scatter_hi (i 2) _ v18D_apply _ _ _ _ ⟨r.val - 544, hr2⟩ c).trans ?_
      simp only [View.readAt_eq_ld, h7, h11, h12, h15]
      refine congrArg₂ (· + ·) (ld_half3 o rfl _ ⟨r.val - 544, hr2⟩ c r hrs) (congrArg₂ (· * ·) (ld_half3 Y7 rfl _ ⟨r.val - 544, hr2⟩ (lane i) r hrs) (Finset.sum_congr rfl fun s _ => ?_))
      exact congrArg₂ (· * ·) (congrArg (hot · s.val) (ld_rows Y12 rfl _ ⟨r.val - 544, hr2⟩ (lane i) r hrs)) (ld_rows Y15 rfl _ s c ⟨s.val, by omega⟩ (Nat.zero_add _).symm)
  rw [View.writes_append] at e11
  generalize arg11.view.writes (Elt Ideal) arg11.view.junk (runD.sl.H_arg11_2 i arg7 arg11 arg12 arg15 X7 X12 X15 f11) = G0 at base e11
  have key : ∀ k : ℕ, k ≤ (k0_t5_loop (BitVec.ofNat 32 w.val)).trips → ∀ (r : Fin 1088) (c : Fin 1024),
      arg11.view.read (Elt Ideal) (arg11.view.writes (Elt Ideal) G0 ((pb_k0_t5 (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runD.sl.v18 h8 X7 X12 X15 G0 k))) (ix3 0 r c)
        = if p r < 512 + 128 * k then o (ix3 0 r c) + Y7 (ix3 0 r (lane i)) * rowOf Y15 c (p r) else o (ix3 0 r c) := by
    intro k
    induction k with
    | zero =>
      intro _ r c
      rw [pb_k0_t5.eq_1, View.writes_nil, Nat.mul_zero, Nat.add_zero]
      exact base r c
    | succ k ih =>
      intro hk r c
      have IH := ih (by omega)
      have h1 : (k : ℕ) < (k0_t5_loop (BitVec.ofNat 32 w.val)).trips := hk
      have hsum : ∀ r : Fin 1088, (∑ s : Fin 128, hot (Y12 (ix2 r (lane i))) (512 + 128 * k + s.val) * rowOf Y15 c (512 + 128 * k + s.val)) = if 512 + 128 * k ≤ p r ∧ p r < 512 + 128 * k + 128 then rowOf Y15 c (p r) else 0 := fun r =>
        pick (W := 128) (512 + 128 * k) (p r) (hot (Y12 (ix2 r (lane i)))) (rowOf Y15 c) fun s hs => hp r s (by have := trips_t5 w; omega)
      have hadd := add_step (o (ix3 0 r c)) (Y7 (ix3 0 r (lane i))) (rowOf Y15 c (p r)) (p r) (512 + 128 * k) (512 + 128 * k + 128) (by omega)
      rw [← hsum, ← IH] at hadd
      refine Eq.trans ?_ hadd
      rw [pb_k0_t5_succ (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runD.sl.v18 h8 X7 X12 X15 G0 ⟨k, h1⟩, View.writes_append]
      generalize arg11.view.writes (Elt Ideal) G0 ((pb_k0_t5 (F := Ideal) Variants.none c0 none i arg4 harg4 arg5 harg5 arg6 harg6 arg7 harg7 arg8 harg8 arg9 harg9 arg10 harg10 arg11 harg11 arg12 harg12 arg13 harg13 arg14 harg14 arg15 harg15 (BitVec.ofNat 32 (i 2).val) (BitVec.ofNat 32 w.val) hw runD.sl.v18 h8 X7 X12 X15 G0 k)) = G
      unfold tripL_k0_t5 trip_k0_t5; dsimp only
      unfold trip_k0_t5.sl.r_3 trip_k0_t5.sl.r_2
      dsimp only
      unfold trip_k0_t5.sl.r trip_k0_t5.sl.r_1 trip_k0_t5.sl.v225
      have hT := trips_t5 w
      have hoff : k0_off5 (BitVec.ofNat 32 w.val) ⟨k, h1⟩ = ![512 + 128 * k, 0] := funext fun a => match a with | ⟨0, _⟩ => off5_eq w ⟨k, h1⟩ | ⟨1, _⟩ => rfl
      by_cases hr : r.val < 544
      · refine (View.read_writes_cons_unit_of_not_mem (s := S1x1088x1024) (off' := ![0, 544, 0]) _ _ _ _ _ (ix3 0 r c) rfl (1 : Fin 3) (Or.inl (show r.val < 544 from hr))).trans ?_
        refine (View.read_writes_cons_unit_of_mem (s := S1x1088x1024) (off' := ![0, 0, 0]) _ _ _ _ _ (ix3 0 r c) (ix3 0 (⟨r.val, hr⟩ : Fin 544) c) rfl (fun a => match a with | ⟨0, _⟩ => rfl | ⟨1, _⟩ => (Nat.zero_add _).symm | ⟨2, _⟩ => (Nat.zero_add _).symm)).trans ?_
        refine (scatter_more_lo (i 2) _ v18D_apply _ w ⟨k, h1⟩ _ _ _ ⟨r.val, hr⟩ c).trans ?_
        simp only [View.readAt_eq_ld, h7, h12, h15]
        refine congrArg₂ (· + ·) (ld_half3 _ rfl _ ⟨r.val, hr⟩ c r (Nat.zero_add _).symm) (congrArg₂ (· * ·) (ld_half3 Y7 rfl _ ⟨r.val, hr⟩ (lane i) r (Nat.zero_add _).symm) (Finset.sum_congr rfl fun s _ => ?_))
        refine congrArg₂ (· * ·) (congrArg (hot · _) (ld_rows Y12 rfl _ ⟨r.val, hr⟩ (lane i) r (Nat.zero_add _).symm)) ?_
        rw [rowOf_lt Y15 c (by omega)]
        exact ld_rows Y15 hoff _ s c ⟨512 + 128 * k + s.val, by omega⟩ rfl
      · have hr2 : r.val - 544 < 544 := by omega
        have hrs : r.val = 544 + (r.val - 544) := by omega
        refine (View.read_writes_cons_unit_of_mem (s := S1x1088x1024) (off' := ![0, 544, 0]) _ _ _ _ _ (ix3 0 r c) (ix3 0 (⟨r.val - 544, hr2⟩ : Fin 544) c) rfl (fun a => match a with | ⟨0, _⟩ => rfl | ⟨1, _⟩ => hrs | ⟨2, _⟩ => (Nat.zero_add _).symm)).trans ?_
        refine (scatter_more_hi (i 2) _ v18D_apply _ w ⟨k, h1⟩ _ _ _ ⟨r.val - 544, hr2⟩ c).trans ?_
        simp only [View.readAt_eq_ld, h7, h12, h15]
        refine congrArg₂ (· + ·) (ld_half3 _ rfl _ ⟨r.val - 544, hr2⟩ c r hrs) (congrArg₂ (· * ·) (ld_half3 Y7 rfl _ ⟨r.val - 544, hr2⟩ (lane i) r hrs) (Finset.sum_congr rfl fun s _ => ?_))
        refine congrArg₂ (· * ·) (congrArg (hot · _) (ld_rows Y12 rfl _ ⟨r.val - 544, hr2⟩ (lane i) r hrs)) ?_
        rw [rowOf_lt Y15 c (by omega)]
        exact ld_rows Y15 hoff _ s c ⟨512 + 128 * k + s.val, by omega⟩ rfl
  have hT := trips_t5 w
  rw [← e11]
  refine (key _ le_rfl r c).trans ?_
  rw [hT, show 512 + 128 * (w.val - 4) = max 512 (128 * w.val) by omega]

end Cert.KernelIdeal.Gen
-- ==== Proof.Moe.SemE.lean ====
/-
  The last section, as a formula.
-/
module

public import proofs.«01_k».proof.Proof.Moe.SemD
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem slt_256 : ∀ j : Fin 4, ∀ r : Fin 1088, IntOp.cmpi .slt (Scalar.addi (Scalar.muli (BitVec.ofNat 32 j.val) 1088#32) (BitVec.ofNat 32 r.val)) 256#32 = if j.val * 1088 + r.val < 256 then 1#1 else 0#1 := by
  decide +kernel

theorem pay1_apply (j : Fin 4) (x : Vec Ideal S1x1088x1024 .f32) (a b : Vec Ideal S1x1x1x1024 .f32) (o : Vec Ideal S1x1088x1024 .f32) (r : Fin 1088) (c : Fin 1024) :
    k0_pay1 (F := Ideal) (BitVec.ofNat 32 j.val) x a b o (ix3 0 r c)
      = x (ix3 0 r c) + (if j.val * 1088 + r.val < 256 then a (ix4 0 0 0 c) else b (ix4 0 0 0 c)) * o (ix3 0 r c) := by
  have h := slt_256 j r
  pointwise [k0_pay1]
  refine congrArg₂ (· + ·) rfl (congrArg (· * _) ?_)
  refine (congrArg (fun z => Scalar.select z (a (ix4 0 0 0 c)) (b (ix4 0 0 0 c))) h).trans ?_
  by_cases hc : j.val * 1088 + r.val < 256
  · rw [if_pos hc, if_pos hc]; rfl
  · rw [if_neg hc, if_neg hc]; rfl

/-- The last section: the tile's rows, gated by the modulation, are added to the tile of `x`. -/
theorem RelE_sem {i : grid0.Coords} {Y5 Y6 o o'} (h : RelE (F := Ideal) i Y5 Y6 o o') (r : Fin 1088) (c : Fin 1024) :
    o' (ix3 0 r c) = Y5 (ix3 0 r c) + (if (i 1).val * 1088 + r.val < 256 then Y6 (ix4 0 0 5 c) else Y6 (ix4 0 1 5 c)) * o (ix3 0 r c) := by
  obtain ⟨c0, arg4, harg4, arg5, harg5, arg6, harg6, arg7, harg7, arg8, harg8, arg9, harg9, arg10, harg10, arg11, harg11, arg12, harg12, arg13, harg13, arg14, harg14, arg15, harg15, X5, X6, f11, h5, h6, h11, e11⟩ := h
  unfold runE at e11; dsimp only at e11
  rw [← e11]
  refine (View.read_writes_cons_unit_of_mem (s := S1x1088x1024) (off' := ![0, 0, 0]) _ _ _ _ _ (ix3 0 r c) (ix3 0 r c) rfl (fun a => match a with | ⟨0, _⟩ => rfl | ⟨1, _⟩ => (Nat.zero_add _).symm | ⟨2, _⟩ => (Nat.zero_add _).symm)).trans ?_
  refine (pay1_apply (i 1) _ _ _ _ r c).trans ?_
  simp only [View.readAt_eq_ld, h5, h6, h11]
  rw [ld_whole3 Y5, ld_whole3 o]
  refine congrArg₂ (· + ·) rfl (congrArg (· * _) (if_congr Iff.rfl ?_ ?_))
  · refine congrArg Y6 (funext fun a => Fin.ext ?_)
    match a with
    | ⟨0, _⟩ => rfl
    | ⟨1, _⟩ => rfl
    | ⟨2, _⟩ => rfl
    | ⟨3, _⟩ => show 0 + 1 * c.val = c.val; omega
  · refine congrArg Y6 (funext fun a => Fin.ext ?_)
    match a with
    | ⟨0, _⟩ => rfl
    | ⟨1, _⟩ => rfl
    | ⟨2, _⟩ => rfl
    | ⟨3, _⟩ => show 0 + 1 * c.val = c.val; omega

end Cert.KernelIdeal.Gen
-- ==== Proof.Moe.Point.lean ====
/-
  One grid point of the mixture-of-experts call, as formulas.
-/
module

public import proofs.«01_k».proof.Proof.Moe.SemE
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Where row `r` goes among the rows of expert `l`: the number of routed rows before it, or -1 when it is not routed. -/
def place (g : Vec Ideal S1x1088x128 .f32) (r : Fin 1088) (l : Fin 128) : EReal := if 0 < g (ix3 0 r l) then nat (routed g l r.val) else -1

/-- The counts and the positions are the tile's. -/
def Good (g : Vec Ideal S1x1088x128 .f32) (d : Vec Ideal S1088x128 .f32) (n : Vec Ideal S8x128 .f32) : Prop :=
  (∀ s l, n (ix2 s l) = nat (routed g l 1088)) ∧ ∀ r l, d (ix2 r l) = place g r l

/-- Row `s` of expert `l`'s gathered rows. -/
def row (g : Vec Ideal S1x1088x128 .f32) (h : Vec Ideal S1x1088x1024 .bf16) (l : Fin 128) (s : ℕ) (c : Fin 1024) : EReal :=
  ∑ r : Fin 1088, hot (place g r l) s * h (ix3 0 r c)

theorem first_iff : ∀ (e : Fin 8) (f : Fin 4), (Scalar.cmpi .ne (Scalar.extui (Scalar.andi (Scalar.cmpi .eq (BitVec.ofNat 32 e.val) 0#32) (Scalar.cmpi .eq (BitVec.ofNat 32 f.val) 0#32)) : BitVec 32) 0#32 = 1#1) ↔ (e.val = 0 ∧ f.val = 0) := by decide +kernel
theorem last_iff : ∀ (e : Fin 8) (f : Fin 4), (Scalar.cmpi .ne (Scalar.extui (Scalar.andi (Scalar.cmpi .eq (BitVec.ofNat 32 e.val) 7#32) (Scalar.cmpi .eq (BitVec.ofNat 32 f.val) 3#32)) : BitVec 32) 0#32 = 1#1) ↔ (e.val = 7 ∧ f.val = 3) := by decide +kernel

/-- The counting section at a point. -/
theorem stepA_sem {i : grid0.Coords} {g o d n o1 d1 n1} (h : StepA (F := Ideal) i g o d n o1 d1 n1) (hG : ¬ ((i 2).val = 0 ∧ (i 3).val = 0) → Good g d n) :
    Good g d1 n1 ∧ ∀ r c, o1 (ix3 0 r c) = if (i 2).val = 0 ∧ (i 3).val = 0 then 0 else o (ix3 0 r c) := by
  rcases h with ⟨h0, h⟩ | ⟨h0, ho, hd, hn⟩
  · have h1 := (first_iff (i 2) (i 3)).1 h0
    refine ⟨⟨fun s l => RelA_cnt i g o d n o1 d1 n1 h s l, fun r l => RelA_dest i g o d n o1 d1 n1 h r l⟩, fun r c => ?_⟩
    rw [if_pos h1]
    exact RelA_out i g o d n o1 d1 n1 h _
  · have h1 : ¬ ((i 2).val = 0 ∧ (i 3).val = 0) := fun h => h0 ((first_iff (i 2) (i 3)).2 h)
    subst ho hd hn
    exact ⟨hG h1, fun r c => (if_neg h1).symm⟩

theorem check_of {i : grid0.Coords} {g d n} (h : Good g d n) : k0_chk1 i (v17of i n) := by
  rw [v17_eq i n (fun l => routed g l 1088) h.1 fun l => routed_le g l 1088]
  exact chk1_of i _ (tilesOf_le (routed_le g _ _))

theorem ind_of (g : Vec Ideal S1x1088x128 .f32) (l : Fin 128) (r : Fin 1088) : ind g l r.val = if 0 < g (ix3 0 r l) then 1 else 0 := by
  unfold ind
  have h : (⟨r.val % 1088, Nat.mod_lt _ (by decide)⟩ : Fin 1088) = r := Fin.ext (Nat.mod_eq_of_lt r.isLt)
  rw [h]

theorem routed_succ (g : Vec Ideal S1x1088x128 .f32) (l : Fin 128) (r : Fin 1088) (h : 0 < g (ix3 0 r l)) : routed g l (r.val + 1) = routed g l r.val + 1 := by
  unfold routed
  rw [Finset.sum_range_succ, ind_of, if_pos h]

theorem routed_mono (g : Vec Ideal S1x1088x128 .f32) (l : Fin 128) {a b : ℕ} (h : a ≤ b) : routed g l a ≤ routed g l b :=
  Finset.sum_le_sum_of_subset (Finset.range_mono h)

theorem routed_lt (g : Vec Ideal S1x1088x128 .f32) (l : Fin 128) (r : Fin 1088) (h : 0 < g (ix3 0 r l)) {b : ℕ} (hb : r.val < b) : routed g l r.val < routed g l b := by
  have h1 := routed_succ g l r h
  have h2 := routed_mono g l (show r.val + 1 ≤ b from hb)
  omega

/-- Two routed rows do not go to one place. -/
theorem routed_inj (g : Vec Ideal S1x1088x128 .f32) (l : Fin 128) (r r' : Fin 1088) (h : 0 < g (ix3 0 r l)) (h' : 0 < g (ix3 0 r' l)) (e : routed g l r.val = routed g l r'.val) : r = r' := by
  rcases lt_trichotomy r.val r'.val with hl | hl | hl
  · exact absurd e (routed_lt g l r h hl).ne
  · exact Fin.ext hl
  · exact absurd e (routed_lt g l r' h' hl).ne'

/-- The place of a row, as a number past every row when the row is not routed. -/
def placeN (g : Vec Ideal S1x1088x128 .f32) (l : Fin 128) (r : Fin 1088) : ℕ := if 0 < g (ix3 0 r l) then routed g l r.val else 2000

theorem neg_one_ne (s : ℕ) : (-1 : EReal) ≠ nat s := fun h => by
  have h1 : (0 : EReal) ≤ nat s := by rw [← nat_zero]; exact nat_le.2 (Nat.zero_le s)
  rw [← h] at h1
  exact absurd h1 (by norm_num)

theorem hot_place (g : Vec Ideal S1x1088x128 .f32) (l : Fin 128) (r : Fin 1088) (s : ℕ) (hs : s < 1152) : hot (place g r l) s = if s = placeN g l r then 1 else 0 := by
  unfold hot place placeN
  by_cases h : 0 < g (ix3 0 r l)
  · rw [if_pos h, if_pos h]
    exact if_congr (nat_inj.trans eq_comm) rfl rfl
  · rw [if_neg h, if_neg h, if_neg (neg_one_ne s), if_neg (by omega)]

/-- The gathered row at a routed row's place is that row. -/
theorem row_place (g : Vec Ideal S1x1088x128 .f32) (h : Vec Ideal S1x1088x1024 .bf16) (l : Fin 128) (r : Fin 1088) (hr : 0 < g (ix3 0 r l)) (c : Fin 1024) :
    row g h l (routed g l r.val) c = h (ix3 0 r c) := by
  have hle := routed_le g l r.val
  unfold row
  rw [Finset.sum_eq_single r]
  · rw [hot_place g l r _ (by omega)]
    unfold placeN
    rw [if_pos hr, if_pos rfl, one_mul]
  · intro r' _ hne
    rw [hot_place g l r' _ (by omega)]
    unfold placeN
    by_cases h' : 0 < g (ix3 0 r' l)
    · rw [if_pos h', if_neg fun e => hne (routed_inj g l r r' hr h' e).symm, zero_mul]
    · rw [if_neg h', if_neg (by omega), zero_mul]
  · exact fun h => absurd (Finset.mem_univ _) h

/-- A grid point, as formulas. -/
theorem point_sem {i : grid0.Coords} {h x5 m6 g w8 w9 w10 d n x y o d' n' x' y' o'}
    (H : BodyRel (F := Ideal) i h x5 m6 g w8 w9 w10 d n x y o d' n' x' y' o') (hG : ¬ ((i 2).val = 0 ∧ (i 3).val = 0) → Good g d n) :
    Good g d' n'
    ∧ (∀ (s : Fin 1152) (c : Fin 1024), s.val < routed g (lane i) 1088 → x' (ix2 s c) = if (i 3).val = 0 then row g h (lane i) s.val c else x (ix2 s c))
    ∧ (∀ (s : Fin 1152) (c : Fin 1024), s.val < routed g (lane i) 1088 → y' (ix2 s c) = (if (i 3).val = 0 then 0 else y (ix2 s c)) + ffn w8 w9 w10 (fun d => x' (ix2 s d)) c)
    ∧ ∃ o1 o2 : Vec Ideal S1x1088x1024 .f32,
      (∀ r c, o1 (ix3 0 r c) = if (i 2).val = 0 ∧ (i 3).val = 0 then 0 else o (ix3 0 r c))
      ∧ (∀ r c, o2 (ix3 0 r c) = if (i 3).val = 3 ∧ 0 < g (ix3 0 r (lane i)) then o1 (ix3 0 r c) + g (ix3 0 r (lane i)) * rowOf y' c (routed g (lane i) r.val) else o1 (ix3 0 r c))
      ∧ (∀ r c, o' (ix3 0 r c) = if (i 2).val = 7 ∧ (i 3).val = 3
          then x5 (ix3 0 r c) + (if (i 1).val * 1088 + r.val < 256 then m6 (ix4 0 0 5 c) else m6 (ix4 0 1 5 c)) * o2 (ix3 0 r c) else o2 (ix3 0 r c)) := by
  obtain ⟨o1, o2, hA, hw, y1, hB, hC, hD, hE⟩ := H
  obtain ⟨hGd, ho1⟩ := stepA_sem hA hG
  have hle := routed_le g (lane i) 1088
  have hv : v17of i n' = BitVec.ofNat 32 (tilesOf (routed g (lane i) 1088)) := v17_eq i n' (fun l => routed g l 1088) hGd.1 fun l => routed_le g l 1088
  have hp : k0_pay79 i (v8of n') = nat (routed g (lane i) 1088) := pay79_apply i n' (fun l => routed g l 1088) hGd.1
  have hT := tilesOf_le hle
  obtain ⟨w, hw0⟩ : ∃ w : Fin 10, w.val = tilesOf (routed g (lane i) 1088) := ⟨⟨_, by omega⟩, rfl⟩
  have hwT : w.val = (routed g (lane i) 1088 + 127) / 128 := hw0
  rw [← hw0] at hv
  have hgath : ∀ s c, gath i d' h s c = row g h (lane i) s c := fun s c => Finset.sum_congr rfl fun r _ => by rw [hGd.2]
  have B : ∀ (s : Fin 1152) (c : Fin 1024), s.val < routed g (lane i) 1088 → x' (ix2 s c) = (if (i 3).val = 0 then row g h (lane i) s.val c else x (ix2 s c)) ∧ y1 (ix2 s c) = if (i 3).val = 0 then 0 else y (ix2 s c) := by
    intro s c hs
    rcases hB with ⟨h2, hB⟩ | ⟨h2, hx, hy⟩
    · have h2' : (0 < w.val ∧ (i 3).val = 0) := by
        refine (cond2_iff w (i 3)).1 ?_
        rw [← hv]
        exact h2
      have S := RelB_sem hB w hv
      rw [if_pos h2'.2, if_pos h2'.2, ← hgath]
      exact ⟨S.1 s c (by omega), S.2 s c (by omega)⟩
    · have h2' : ¬ (i 3).val = 0 := fun hf => h2 (by
        have := (cond2_iff w (i 3)).2 ⟨by omega, hf⟩
        rw [← hv] at this
        exact this)
      rw [if_neg h2', if_neg h2', hx, hy]
      exact ⟨rfl, rfl⟩
  have C : ∀ (s : Fin 1152) (c : Fin 1024), s.val < routed g (lane i) 1088 → y' (ix2 s c) = (if (i 3).val = 0 then 0 else y (ix2 s c)) + ffn w8 w9 w10 (fun d => x' (ix2 s d)) c := by
    intro s c hs
    rcases hC with ⟨h3, hC⟩ | ⟨h3, hy⟩
    · rw [← (B s c hs).2]
      exact RelC_sem hC _ hle hp (by rw [hv, hw0]) s hs c
    · exact absurd ((cond3_iff w).2 (by omega)) (by rw [← hv]; exact h3)
  refine ⟨hGd, fun s c hs => (B s c hs).1, C, o1, o2, ho1, fun r c => ?_, fun r c => ?_⟩
  · rcases hD with ⟨h8, hD⟩ | ⟨h8, ho⟩
    · have h8' : (0 < w.val ∧ (i 3).val = 3) := by
        refine (cond8_iff w (i 3)).1 ?_
        rw [← hv]
        exact h8
      refine (RelD_sem hD w hv (placeN g (lane i)) (fun r s hs => by rw [hGd.2]; exact hot_place g (lane i) r s hs) r c).trans ?_
      unfold placeN
      by_cases hr : 0 < g (ix3 0 r (lane i))
      · have hlt := routed_lt g (lane i) r hr r.isLt
        rw [if_pos hr, if_pos (by omega), if_pos ⟨h8'.2, hr⟩]
      · rw [if_neg hr, if_neg (by omega), if_neg fun h => hr h.2]
    · rw [if_neg, ho]
      rintro ⟨hf, hr⟩
      have hlt := routed_lt g (lane i) r hr r.isLt
      refine h8 ?_
      have := (cond8_iff w (i 3)).2 ⟨by omega, hf⟩
      rw [← hv] at this
      exact this
  · rcases hE with ⟨hc, hE⟩ | ⟨hc, ho⟩
    · rw [if_pos ((last_iff (i 2) (i 3)).1 hc)]
      exact RelE_sem hE r c
    · rw [if_neg fun h => hc ((last_iff (i 2) (i 3)).2 h), ho]

end Cert.KernelIdeal.Gen
-- ==== Proof.Moe.Inv.lean ====
/-
  The invariant of the mixture-of-experts call: what its scratch arrays and its result's buffer hold after each grid point.
-/
module

public import proofs.«01_k».proof.Proof.Moe.Point
public import proofs.«01_k».proof.Proof.Moe.Run
public import Idealize.ShloMosaic.Lib.WritesUnit
public import Idealize.ShloMosaic.Lib.Pipeline.Value
public import Idealize.ShloMosaic.Lib.Pointwise

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-! ## The blocks at a point -/

/-- Each window's block index at point `t`: batch row `t / 128`, row block `t / 32 % 4`, expert `t / 4 % 8`, part `t % 4` of its hidden units. -/
theorem index_all : ∀ t : Fin cfg0.N,
    (win0_0.index t = ![t.val / 32 / 4, t.val / 32 % 4, 0] ∧ win0_1.index t = ![t.val / 32 / 4, t.val / 32 % 4, 0] ∧ win0_2.index t = ![t.val / 32 / 4, 0, 0, 0] ∧ win0_3.index t = ![t.val / 32 / 4, t.val / 32 % 4, 0])
    ∧ (win0_4.index t = ![t.val / 4 % 8, 0, t.val % 4] ∧ win0_5.index t = ![t.val / 4 % 8, 0, t.val % 4] ∧ win0_6.index t = ![t.val / 4 % 8, t.val % 4, 0] ∧ win0_7.index t = ![t.val / 32 / 4, t.val / 32 % 4, 0]) :=
  (by decide +kernel : ∀ t : Fin grid0.N, _)

theorem coords_all : ∀ t : Fin cfg0.N,
    (grid0.coords t 1).val = t.val / 32 % 4 ∧ (grid0.coords t 2).val = t.val / 4 % 8 ∧ (grid0.coords t 3).val = t.val % 4 :=
  (by decide +kernel : ∀ t : Fin grid0.N, _)

theorem lt_N (t : Fin cfg0.N) : t.val < 1024 := by have := t.isLt; have h : cfg0.N = 1024 := N_0; omega

/-- Batch row of tile `T`. -/
def bat (T : ℕ) : Fin 8 := ⟨T / 4 % 8, Nat.mod_lt _ (by decide)⟩
/-- Array row of row `r` of tile `T`. -/
def rowT (T : ℕ) (r : Fin 1088) : Fin 4352 := ⟨T % 4 * 1088 + r.val, by have := r.isLt; have := Nat.mod_lt T (show 4 > 0 by decide); omega⟩
/-- Expert `e`. -/
def exq (e : ℕ) : Fin 8 := ⟨e % 8, Nat.mod_lt _ (by decide)⟩
/-- Its lane. -/
def ln (e : ℕ) : Fin 128 := ⟨e % 8, by have := Nat.mod_lt e (show 8 > 0 by decide); omega⟩
/-- Hidden unit `k` of part `f`. -/
def hid (f : ℕ) (k : Fin 896) : Fin 3584 := ⟨f % 4 * 896 + k.val, by have := k.isLt; have := Nat.mod_lt f (show 4 > 0 by decide); omega⟩

/-- The tile of the experts' input. -/
def hT (T : ℕ) : Vec Ideal S1x1088x1024 .bf16 := fun j => V m c main_v2 (ix3 (bat T) (rowT T (j 1)) (j 2))
/-- The tile of the residual rows. -/
def xT (T : ℕ) : Vec Ideal S1x1088x1024 .f32 := fun j => V m c main_v0 (ix3 (bat T) (rowT T (j 1)) (j 2))
/-- The tile's modulation rows. -/
def mT (T : ℕ) : Vec Ideal S1x2x8x1024 .f32 := fun j => V m c main_v10 (ix4 (bat T) (j 1) (j 2) (j 3))
/-- The tile's gates. -/
def gT (T : ℕ) : Vec Ideal S1x1088x128 .f32 := fun j => V m c main_v4 (ix3 (bat T) (rowT T (j 1)) (j 2))
/-- Part `f` of expert `e`'s gate projection. -/
def wgT (e f : ℕ) : Vec Ideal S1x1024x896 .bf16 := fun j => V m c main_v11 (ix3 (exq e) (j 1) (hid f (j 2)))
/-- Part `f` of expert `e`'s up projection. -/
def wuT (e f : ℕ) : Vec Ideal S1x1024x896 .bf16 := fun j => V m c main_v12 (ix3 (exq e) (j 1) (hid f (j 2)))
/-- Part `f` of expert `e`'s down projection. -/
def wdT (e f : ℕ) : Vec Ideal S1x896x1024 .bf16 := fun j => V m c main_v13 (ix3 (exq e) (hid f (j 1)) (j 2))

theorem iblk0_eq (t : Fin cfg0.N) : iblk m c 0 t = hT m c (t.val / 32) := by
  have h := (index_all t).1.1
  have hN := lt_N t
  funext j
  show V m c main_v2 _ = V m c main_v2 _
  congr 1
  funext a
  apply Fin.ext
  match a with
  | ⟨0, _⟩ => show win0_0.index t 0 * 1 + 1 * (j 0).val = t.val / 32 / 4 % 8; have hj : (j 0).val < 1 := (j 0).isLt; rw [h]; simp; try omega
  | ⟨1, _⟩ => show win0_0.index t 1 * 1088 + 1 * (j 1).val = t.val / 32 % 4 * 1088 + (j 1).val; have hj : (j 1).val < 1088 := (j 1).isLt; rw [h]; simp; try omega
  | ⟨2, _⟩ => show win0_0.index t 2 * 1024 + 1 * (j 2).val = (j 2).val; have hj : (j 2).val < 1024 := (j 2).isLt; rw [h]; simp; try omega

theorem iblk1_eq (t : Fin cfg0.N) : iblk m c 1 t = xT m c (t.val / 32) := by
  have h := (index_all t).1.2.1
  have hN := lt_N t
  funext j
  show V m c main_v0 _ = V m c main_v0 _
  congr 1
  funext a
  apply Fin.ext
  match a with
  | ⟨0, _⟩ => show win0_1.index t 0 * 1 + 1 * (j 0).val = t.val / 32 / 4 % 8; have hj : (j 0).val < 1 := (j 0).isLt; rw [h]; simp; try omega
  | ⟨1, _⟩ => show win0_1.index t 1 * 1088 + 1 * (j 1).val = t.val / 32 % 4 * 1088 + (j 1).val; have hj : (j 1).val < 1088 := (j 1).isLt; rw [h]; simp; try omega
  | ⟨2, _⟩ => show win0_1.index t 2 * 1024 + 1 * (j 2).val = (j 2).val; have hj : (j 2).val < 1024 := (j 2).isLt; rw [h]; simp; try omega

theorem iblk2_eq (t : Fin cfg0.N) : iblk m c 2 t = mT m c (t.val / 32) := by
  have h := (index_all t).1.2.2.1
  have hN := lt_N t
  funext j
  show V m c main_v10 _ = V m c main_v10 _
  congr 1
  funext a
  apply Fin.ext
  match a with
  | ⟨0, _⟩ => show win0_2.index t 0 * 1 + 1 * (j 0).val = t.val / 32 / 4 % 8; have hj : (j 0).val < 1 := (j 0).isLt; rw [h]; simp; try omega
  | ⟨1, _⟩ => show win0_2.index t 1 * 2 + 1 * (j 1).val = (j 1).val; have hj : (j 1).val < 2 := (j 1).isLt; rw [h]; simp; try omega
  | ⟨2, _⟩ => show win0_2.index t 2 * 8 + 1 * (j 2).val = (j 2).val; have hj : (j 2).val < 8 := (j 2).isLt; rw [h]; simp; try omega
  | ⟨3, _⟩ => show win0_2.index t 3 * 1024 + 1 * (j 3).val = (j 3).val; have hj : (j 3).val < 1024 := (j 3).isLt; rw [h]; simp; try omega

theorem iblk3_eq (t : Fin cfg0.N) : iblk m c 3 t = gT m c (t.val / 32) := by
  have h := (index_all t).1.2.2.2
  have hN := lt_N t
  funext j
  show V m c main_v4 _ = V m c main_v4 _
  congr 1
  funext a
  apply Fin.ext
  match a with
  | ⟨0, _⟩ => show win0_3.index t 0 * 1 + 1 * (j 0).val = t.val / 32 / 4 % 8; have hj : (j 0).val < 1 := (j 0).isLt; rw [h]; simp; try omega
  | ⟨1, _⟩ => show win0_3.index t 1 * 1088 + 1 * (j 1).val = t.val / 32 % 4 * 1088 + (j 1).val; have hj : (j 1).val < 1088 := (j 1).isLt; rw [h]; simp; try omega
  | ⟨2, _⟩ => show win0_3.index t 2 * 128 + 1 * (j 2).val = (j 2).val; have hj : (j 2).val < 128 := (j 2).isLt; rw [h]; simp; try omega

theorem iblk4_eq (t : Fin cfg0.N) : iblk m c 4 t = wgT m c (t.val / 4 % 8) (t.val % 4) := by
  have h := (index_all t).2.1
  have hN := lt_N t
  funext j
  show V m c main_v11 _ = V m c main_v11 _
  congr 1
  funext a
  apply Fin.ext
  match a with
  | ⟨0, _⟩ => show win0_4.index t 0 * 1 + 1 * (j 0).val = t.val / 4 % 8 % 8; have hj : (j 0).val < 1 := (j 0).isLt; rw [h]; simp; try omega
  | ⟨1, _⟩ => show win0_4.index t 1 * 1024 + 1 * (j 1).val = (j 1).val; have hj : (j 1).val < 1024 := (j 1).isLt; rw [h]; simp; try omega
  | ⟨2, _⟩ => show win0_4.index t 2 * 896 + 1 * (j 2).val = t.val % 4 % 4 * 896 + (j 2).val; have hj : (j 2).val < 896 := (j 2).isLt; rw [h]; simp; try omega

theorem iblk5_eq (t : Fin cfg0.N) : iblk m c 5 t = wuT m c (t.val / 4 % 8) (t.val % 4) := by
  have h := (index_all t).2.2.1
  have hN := lt_N t
  funext j
  show V m c main_v12 _ = V m c main_v12 _
  congr 1
  funext a
  apply Fin.ext
  match a with
  | ⟨0, _⟩ => show win0_5.index t 0 * 1 + 1 * (j 0).val = t.val / 4 % 8 % 8; have hj : (j 0).val < 1 := (j 0).isLt; rw [h]; simp; try omega
  | ⟨1, _⟩ => show win0_5.index t 1 * 1024 + 1 * (j 1).val = (j 1).val; have hj : (j 1).val < 1024 := (j 1).isLt; rw [h]; simp; try omega
  | ⟨2, _⟩ => show win0_5.index t 2 * 896 + 1 * (j 2).val = t.val % 4 % 4 * 896 + (j 2).val; have hj : (j 2).val < 896 := (j 2).isLt; rw [h]; simp; try omega

theorem iblk6_eq (t : Fin cfg0.N) : iblk m c 6 t = wdT m c (t.val / 4 % 8) (t.val % 4) := by
  have h := (index_all t).2.2.2.1
  have hN := lt_N t
  funext j
  show V m c main_v13 _ = V m c main_v13 _
  congr 1
  funext a
  apply Fin.ext
  match a with
  | ⟨0, _⟩ => show win0_6.index t 0 * 1 + 1 * (j 0).val = t.val / 4 % 8 % 8; have hj : (j 0).val < 1 := (j 0).isLt; rw [h]; simp; try omega
  | ⟨1, _⟩ => show win0_6.index t 1 * 896 + 1 * (j 1).val = t.val % 4 % 4 * 896 + (j 1).val; have hj : (j 1).val < 896 := (j 1).isLt; rw [h]; simp; try omega
  | ⟨2, _⟩ => show win0_6.index t 2 * 1024 + 1 * (j 2).val = (j 2).val; have hj : (j 2).val < 1024 := (j 2).isLt; rw [h]; simp; try omega

/-! ## What the points of a tile leave -/

/-- A row through the first `f` parts of expert `e`'s hidden units. -/
def acc (e f : ℕ) (x : Fin 1024 → EReal) (d : Fin 1024) : EReal :=
  ∑ f' ∈ Finset.range f, ffn (wgT m c e f') (wuT m c e f') (wdT m c e f') x d

/-- What expert `e` adds to row `r` of tile `T`: the gate times the row through the expert, when it is routed to it. -/
def term (T e : ℕ) (r : Fin 1088) (d : Fin 1024) : EReal :=
  if 0 < gT m c T (ix3 0 r (ln e)) then gT m c T (ix3 0 r (ln e)) * acc m c e 4 (fun k => hT m c T (ix3 0 r k)) d else 0

/-- The first `n` experts' sum. -/
def part (T n : ℕ) (r : Fin 1088) (d : Fin 1024) : EReal := ∑ e ∈ Finset.range n, term m c T e r d

/-- A tile of the result. -/
def outT (T : ℕ) (r : Fin 1088) (d : Fin 1024) : EReal :=
  xT m c T (ix3 0 r d) + (if T % 4 * 1088 + r.val < 256 then mT m c T (ix4 0 0 5 d) else mT m c T (ix4 0 1 5 d)) * part m c T 8 r d

/-- The scratch arrays after point `t` of tile `t / 32`. -/
def Scr (t : ℕ) (d : Vec Ideal S1088x128 .f32) (n : Vec Ideal S8x128 .f32) (x : Vec Ideal S1152x1024 .bf16) (y : Vec Ideal S1152x1024 .f32) : Prop :=
  Good (gT m c (t / 32)) d n ∧ ∀ (s : Fin 1152) (k : Fin 1024), s.val < routed (gT m c (t / 32)) (ln (t / 4 % 8)) 1088 →
    x (ix2 s k) = row (gT m c (t / 32)) (hT m c (t / 32)) (ln (t / 4 % 8)) s.val k
    ∧ y (ix2 s k) = acc m c (t / 4 % 8) (t % 4 + 1) (row (gT m c (t / 32)) (hT m c (t / 32)) (ln (t / 4 % 8)) s.val) k

/-- The result's buffer after point `t`. -/
def Out (t : ℕ) (o : Vec Ideal S1x1088x1024 .f32) : Prop :=
  ∀ r d, o (ix3 0 r d) = if t % 32 = 31 then outT m c (t / 32) r d else part m c (t / 32) (if t % 4 = 3 then t / 4 % 8 + 1 else t / 4 % 8) r d

theorem good_of {t : Fin cfg0.N} {d n x y} (hP : t.val % 32 ≠ 0 → Scr m c (t.val - 1) d n x y) (h : ¬ ((grid0.coords t 2).val = 0 ∧ (grid0.coords t 3).val = 0)) :
    Good (gT m c (t.val / 32)) d n := by
  have hc := coords_all t
  have h32 : t.val % 32 ≠ 0 := by omega
  have h1 := (hP h32).1
  rwa [show (t.val - 1) / 32 = t.val / 32 by omega] at h1

theorem step_all (t : Fin cfg0.N) {d n x y o d' n' x' y' o'} (hP : t.val % 32 ≠ 0 → Scr m c (t.val - 1) d n x y) (hO : t.val % 32 ≠ 0 → Out m c (t.val - 1) o)
    (H : BodyRel (F := Ideal) (grid0.coords t) (iblk m c 0 t) (iblk m c 1 t) (iblk m c 2 t) (iblk m c 3 t) (iblk m c 4 t) (iblk m c 5 t) (iblk m c 6 t) d n x y o d' n' x' y' o') :
    Scr m c t.val d' n' x' y' ∧ Out m c t.val o' := by
  have H' : BodyRel (F := Ideal) (grid0.coords t) (hT m c (t.val / 32)) (xT m c (t.val / 32)) (mT m c (t.val / 32)) (gT m c (t.val / 32))
      (wgT m c (t.val / 4 % 8) (t.val % 4)) (wuT m c (t.val / 4 % 8) (t.val % 4)) (wdT m c (t.val / 4 % 8) (t.val % 4)) d n x y o d' n' x' y' o' := by
    rw [← iblk0_eq, ← iblk1_eq, ← iblk2_eq, ← iblk3_eq, ← iblk4_eq, ← iblk5_eq, ← iblk6_eq]
    exact H
  clear H
  obtain ⟨c1, c2, c3⟩ := coords_all t
  obtain ⟨hg, hx, hy, o1, o2, h1, h2, h3⟩ := point_sem H' (good_of m c hP)
  have hl : lane (grid0.coords t) = ln (t.val / 4 % 8) := Fin.ext (by show (grid0.coords t 2).val = t.val / 4 % 8 % 8; omega)
  rw [hl] at hx hy h2
  rw [c3] at hx hy h1 h2 h3
  rw [c2] at h1 h3
  rw [c1] at h3
  have hX : ∀ (s : Fin 1152) (k : Fin 1024), s.val < routed (gT m c (t.val / 32)) (ln (t.val / 4 % 8)) 1088 →
      x' (ix2 s k) = row (gT m c (t.val / 32)) (hT m c (t.val / 32)) (ln (t.val / 4 % 8)) s.val k
      ∧ y' (ix2 s k) = acc m c (t.val / 4 % 8) (t.val % 4 + 1) (row (gT m c (t.val / 32)) (hT m c (t.val / 32)) (ln (t.val / 4 % 8)) s.val) k := by
    intro s k hs
    have hx' : ∀ k, x' (ix2 s k) = row (gT m c (t.val / 32)) (hT m c (t.val / 32)) (ln (t.val / 4 % 8)) s.val k := fun k => by
      rw [hx s k hs]
      by_cases hf : t.val % 4 = 0
      · rw [if_pos hf]
      · rw [if_neg hf]
        have hp := ((hP (by omega)).2 s k (by rw [show (t.val - 1) / 32 = t.val / 32 by omega, show (t.val - 1) / 4 % 8 = t.val / 4 % 8 by omega]; exact hs)).1
        rwa [show (t.val - 1) / 32 = t.val / 32 by omega, show (t.val - 1) / 4 % 8 = t.val / 4 % 8 by omega] at hp
    refine ⟨hx' k, ?_⟩
    rw [hy s k hs, funext hx']
    unfold acc
    rw [Finset.sum_range_succ]
    refine congrArg (· + _) ?_
    by_cases hf : t.val % 4 = 0
    · rw [if_pos hf, hf, Finset.range_zero, Finset.sum_empty]
    · rw [if_neg hf]
      have hp := ((hP (by omega)).2 s k (by rw [show (t.val - 1) / 32 = t.val / 32 by omega, show (t.val - 1) / 4 % 8 = t.val / 4 % 8 by omega]; exact hs)).2
      rwa [show (t.val - 1) / 32 = t.val / 32 by omega, show (t.val - 1) / 4 % 8 = t.val / 4 % 8 by omega, show (t.val - 1) % 4 + 1 = t.val % 4 by omega] at hp
  have h1' : ∀ r k, o1 (ix3 0 r k) = part m c (t.val / 32) (t.val / 4 % 8) r k := by
    intro r k
    rw [h1]
    by_cases hf : t.val / 4 % 8 = 0 ∧ t.val % 4 = 0
    · rw [if_pos hf, hf.1]
      unfold part
      rw [Finset.range_zero, Finset.sum_empty]
    · rw [if_neg hf, hO (by omega) r k, if_neg (by omega), show (t.val - 1) / 32 = t.val / 32 by omega]
      by_cases h4 : (t.val - 1) % 4 = 3
      · rw [if_pos h4, show (t.val - 1) / 4 % 8 + 1 = t.val / 4 % 8 by omega]
      · rw [if_neg h4, show (t.val - 1) / 4 % 8 = t.val / 4 % 8 by omega]
  have h2' : ∀ r k, o2 (ix3 0 r k) = part m c (t.val / 32) (if t.val % 4 = 3 then t.val / 4 % 8 + 1 else t.val / 4 % 8) r k := by
    intro r k
    rw [h2, h1']
    by_cases hf : t.val % 4 = 3
    · rw [if_pos hf]
      unfold part
      rw [Finset.sum_range_succ]
      unfold term
      by_cases hr : 0 < gT m c (t.val / 32) (ix3 0 r (ln (t.val / 4 % 8)))
      · have hlt := routed_lt _ _ r hr r.isLt
        have hle := routed_le (gT m c (t.val / 32)) (ln (t.val / 4 % 8)) 1088
        have hs : routed (gT m c (t.val / 32)) (ln (t.val / 4 % 8)) r.val < 1152 := by omega
        have hz := (hX ⟨routed (gT m c (t.val / 32)) (ln (t.val / 4 % 8)) r.val, hs⟩ k hlt).2
        rw [if_pos ⟨hf, hr⟩, if_pos hr, rowOf_lt y' k hs, hz, hf]
        refine congrArg (fun z => _ + _ * acc m c (t.val / 4 % 8) 4 z k) (funext fun q => ?_)
        exact row_place _ _ _ r hr q
      · rw [if_neg fun h => hr h.2, if_neg hr, add_zero]
    · rw [if_neg fun h => hf h.1, if_neg hf]
  refine ⟨⟨hg, hX⟩, fun r k => ?_⟩
  rw [h3, h2']
  by_cases hf : t.val / 4 % 8 = 7 ∧ t.val % 4 = 3
  · rw [if_pos hf, if_pos (show t.val % 32 = 31 by omega), if_pos hf.2, hf.1]
    rfl
  · rw [if_neg hf, if_neg (show ¬ t.val % 32 = 31 by omega)]

/-- The invariant of the run. -/
def inv : Inv (F := Ideal) m where
  P c k d n x y := k % 32 ≠ 0 → Scr m c (k - 1) d n x y
  O c t o := Out m c t o
  start c d n x y := fun h => absurd rfl h
  check c t d n x y o hP hO o1 d1 n1 hA := by
    rw [iblk3_eq] at hA
    exact check_of (stepA_sem hA (good_of m c hP)).1
  step c t d n x y o hP hO d' n' x' y' o' H := by
    have h := step_all m c t hP hO H
    exact ⟨fun _ => h.1, h.2⟩

end Cert.KernelIdeal.Gen
-- ==== Proof.Moe.Formula.lean ====
/-
  The mixture of experts as one formula of its arguments: what the kernel and the reference are both shown to leave.
-/
module

public import proofs.«01_k».proof.Defs
public import proofs.«01_k».proof.Proof.Gen.KernelIdeal
public import Idealize.ShloMosaic.Lib.Pointwise

@[expose] public section

set_option maxRecDepth 16384

noncomputable section

namespace Cert.Moe

open Idealize.ShloMosaic Idealize.ShloMosaic.TcCoe Idealize.SL.Sem
open Cert.KernelIdeal Cert.KernelIdeal.Gen

/-- One row `h` through expert `e`'s gated unit, read at column `d`. -/
def swi (h : Fin 1024 → EReal) (wg wu : S8x1024x3584.Idx → EReal) (wd : S8x3584x1024.Idx → EReal) (e : Fin 8) (d : Fin 1024) : EReal :=
  ∑ f : Fin 3584, ((∑ k : Fin 1024, h k * wg (ix3 e k f)) * (Ideal.logistic (∑ k : Fin 1024, h k * wg (ix3 e k f)))
    * ∑ k : Fin 1024, h k * wu (ix3 e k f)) * wd (ix3 e f d)

/-- One row `h` through all eight experts, each weighted by its gate. -/
def mix (g : Fin 8 → EReal) (h : Fin 1024 → EReal) (wg wu : S8x1024x3584.Idx → EReal) (wd : S8x3584x1024.Idx → EReal) (d : Fin 1024) : EReal :=
  ∑ e : Fin 8, g e * swi h wg wu wd e d

/-- The context's rows and then the sequence's, read at an index. -/
def two (a : S8x256x1024.Idx → EReal) (b : S8x4096x1024.Idx → EReal) (n : Fin 8) (s : Fin 4352) (d : Fin 1024) : EReal :=
  if h : s.val < 256 then a (ix3 n ⟨s.val, h⟩ d) else b (ix3 n ⟨s.val - 256, by omega⟩ d)

/-- The context's gates and then the sequence's, read at an index. -/
def twoG (a : S8x256x8.Idx → EReal) (b : S8x4096x8.Idx → EReal) (n : Fin 8) (s : Fin 4352) (e : Fin 8) : EReal :=
  if h : s.val < 256 then a (ix3 n ⟨s.val, h⟩ e) else b (ix3 n ⟨s.val - 256, by omega⟩ e)

theorem concat_apply (a : S8x256x1024.Idx → EReal) (b : S8x4096x1024.Idx → EReal) (n : Fin 8) (s : Fin 4352) (d : Fin 1024) :
    concatenate S8x4352x1024 1 [⟨S8x256x1024, a⟩, ⟨S8x4096x1024, b⟩] concatenates_S8x256x1024_S8x4096x1024_S8x4352x1024_d1 (ix3 n s d)
      = two a b n s d := by
  pointwise [two]

theorem concatG_apply (a : S8x256x8.Idx → EReal) (b : S8x4096x8.Idx → EReal) (n : Fin 8) (s : Fin 4352) (e : Fin 8) :
    concatenate S8x4352x8 1 [⟨S8x256x8, a⟩, ⟨S8x4096x8, b⟩] concatenates_S8x256x8_S8x4096x8_S8x4352x8_d1 (ix3 n s e)
      = twoG a b n s e := by
  pointwise [twoG]

/-- The result at batch row `n`, row `s`, column `d`, from the eleven arguments: the residual entry, plus the modulation's sixth row (the context's or
    the sequence's) times the gated sum of the experts. -/
def G (hc : S8x256x1024.Idx → EReal) (hl : S8x4096x1024.Idx → EReal) (gc : S8x256x8.Idx → EReal) (gl : S8x4096x8.Idx → EReal)
    (xc : S8x256x1024.Idx → EReal) (xl : S8x4096x1024.Idx → EReal) (mc : S6x1024.Idx → EReal) (ml : S8x6x1024.Idx → EReal)
    (wg wu : S8x1024x3584.Idx → EReal) (wd : S8x3584x1024.Idx → EReal) (n : Fin 8) (s : Fin 4352) (d : Fin 1024) : EReal :=
  two xc xl n s d + (if s.val < 256 then mc (ix2 5 d) else ml (ix3 n 5 d)) * mix (twoG gc gl n s) (two hc hl n s) wg wu wd d

end Cert.Moe

end
-- ==== Proof.Moe.Host.lean ====
/-
  The arrays that the mixture-of-experts call finds, read off the arguments of the program.
-/
module

public import proofs.«01_k».proof.Proof.Moe.Formula
public import proofs.«01_k».proof.Proof.Gen.KernelIdeal.Frame
public import Idealize.ShloMosaic.Lib.Pointwise

@[expose] public section

set_option maxRecDepth 16384

noncomputable section

namespace Cert.Moe

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The residual rows. -/
theorem V_x (n : Fin 8) (s : Fin 4352) (d : Fin 1024) :
    V m c main_v0 (ix3 n s d) = two (m ((c : Thread nD τ).loc main_arg4)) (m ((c : Thread nD τ).loc main_arg5)) n s d := by
  rw [← concat_apply]
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp

/-- The experts' input rows. -/
theorem V_h (n : Fin 8) (s : Fin 4352) (d : Fin 1024) :
    V m c main_v2 (ix3 n s d) = two (m ((c : Thread nD τ).loc main_arg0)) (m ((c : Thread nD τ).loc main_arg1)) n s d := by
  rw [← concat_apply]
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The gate projections' weights. -/
theorem V_g : V m c main_v11 = (m ((c : Thread nD τ).loc main_arg8) : S8x1024x3584.Idx → EReal) := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The up projections' weights. -/
theorem V_u : V m c main_v12 = (m ((c : Thread nD τ).loc main_arg9) : S8x1024x3584.Idx → EReal) := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The down projections' weights. -/
theorem V_d : V m c main_v13 = (m ((c : Thread nD τ).loc main_arg10) : S8x3584x1024.Idx → EReal) := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The gates, padded to 128 lanes, as the host lines build them. -/
theorem V_gates : V m c main_v4 = pad S8x4352x128 ![0, 0, 0] ![0, 0, 120] ![0, 0, 0]
    (concatenate S8x4352x8 1 [⟨S8x256x8, (m ((c : Thread nD τ).loc main_arg2) : S8x256x8.Idx → EReal)⟩,
      ⟨S8x4096x8, (m ((c : Thread nD τ).loc main_arg3) : S8x4096x8.Idx → EReal)⟩] concatenates_S8x256x8_S8x4096x8_S8x4352x8_d1)
    ((sitofp .f32 (constantI S_ 32 0#32) : FVec Ideal S_ .f32) : S_.Idx → EReal) pads_S8x4352x8_S8x4352x128_000_000_01200 h_S_ := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- Expert `e`'s gate of a row stands in lane `e`. -/
theorem V_gate (n : Fin 8) (s : Fin 4352) (e : Fin 8) (l : Fin 128) (hl : l.val = e.val) :
    V m c main_v4 (ix3 n s l) = twoG (m ((c : Thread nD τ).loc main_arg2)) (m ((c : Thread nD τ).loc main_arg3)) n s e := by
  rw [V_gates, ← concatG_apply]
  have h8 : l.val < 8 := by have := e.isLt; omega
  have he : e = ⟨l.val, h8⟩ := Fin.ext hl.symm
  subst he
  pointwise
  simp [h8]

/-- The packed modulation table, as the host lines build it. -/
theorem V_mods : V m c main_v10 = pad S8x2x8x1024 ![0, 0, 0, 0] ![0, 0, 2, 0] ![0, 0, 0, 0]
    (concatenate S8x2x6x1024 1 [⟨S8x1x6x1024, broadcastInDim S8x1x6x1024 ![0, 2, 3] bcast_S8x6x1024_S8x1x6x1024_0_2_3 (broadcastInDim S8x6x1024 ![0, 1, 2] bcast_S1x6x1024_S8x6x1024_0_1_2 (broadcastInDim S1x6x1024 ![1, 2] bcast_S6x1024_S1x6x1024_1_2 (m ((c : Thread nD τ).loc main_arg6))))⟩,
      ⟨S8x1x6x1024, broadcastInDim S8x1x6x1024 ![0, 2, 3] bcast_S8x6x1024_S8x1x6x1024_0_2_3 (m ((c : Thread nD τ).loc main_arg7))⟩] concatenates_S8x1x6x1024_S8x1x6x1024_S8x2x6x1024_d1)
    ((sitofp .f32 (constantI S_ 32 0#32) : FVec Ideal S_ .f32) : S_.Idx → EReal) pads_S8x2x6x1024_S8x2x8x1024_000_000_020_000 h_S_ := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The context's sixth row of the modulation table. -/
theorem V_mods_ctx (n : Fin 8) (d : Fin 1024) :
    V m c main_v10 (ix4 n 0 5 d) = (m ((c : Thread nD τ).loc main_arg6) : S6x1024.Idx → EReal) (ix2 5 d) := by
  rw [V_mods]
  pointwise

/-- The sequence's sixth row of the modulation table. -/
theorem V_mods_seq (n : Fin 8) (d : Fin 1024) :
    V m c main_v10 (ix4 n 1 5 d) = (m ((c : Thread nD τ).loc main_arg7) : S8x6x1024.Idx → EReal) (ix3 n 5 d) := by
  rw [V_mods]
  pointwise

end Cert.Moe

end
-- ==== Proof.Moe.Final.lean ====
/-
  The mixture-of-experts call's result array after the run, as the formula of the arguments, when no gate is negative.
-/
module

public import proofs.«01_k».proof.Proof.Moe.Inv
public import proofs.«01_k».proof.Proof.Moe.Host
public import Idealize.ShloMosaic.Lib.Pipeline.ArrRel

@[expose] public section

set_option maxRecDepth 16384
set_option maxHeartbeats 400000

noncomputable section

namespace Cert.Moe

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result array, as a function of the memory at launch. -/
def GV : S8x4352x1024.Idx → EReal := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (j 0) (j 1) (j 2)

/-- No gate is negative. -/
def Nonneg : Prop :=
  (∀ j, (0 : EReal) ≤ (m ((c : Thread nD τ).loc main_arg2) : S8x256x8.Idx → EReal) j)
    ∧ ∀ j, (0 : EReal) ≤ (m ((c : Thread nD τ).loc main_arg3) : S8x4096x8.Idx → EReal) j

/-! ## One tile's entries, from the arguments -/

/-- A sum over the 3584 hidden units is the sum of its four parts. -/
theorem sum_parts (F : Fin 3584 → EReal) : ∑ f ∈ Finset.range 4, ∑ k : Fin 896, F (hid f k) = ∑ k : Fin 3584, F k := by
  rw [Finset.sum_range, ← Fintype.sum_prod_type']
  refine Fintype.sum_equiv (finProdFinEquiv (m := 4) (n := 896)) _ _ fun p => ?_
  congr 1
  apply Fin.ext
  show p.1.val % 4 * 896 + p.2.val = p.2.val + 896 * p.1.val
  have := p.1.isLt
  omega

theorem wgT_apply (e f : ℕ) (d : Fin 1024) (k : Fin 896) :
    wgT m c e f (ix3 0 d k) = (m ((c : Thread nD τ).loc main_arg8) : S8x1024x3584.Idx → EReal) (ix3 (exq e) d (hid f k)) := by
  show V m c main_v11 _ = _
  rw [V_g]
  rfl

theorem wuT_apply (e f : ℕ) (d : Fin 1024) (k : Fin 896) :
    wuT m c e f (ix3 0 d k) = (m ((c : Thread nD τ).loc main_arg9) : S8x1024x3584.Idx → EReal) (ix3 (exq e) d (hid f k)) := by
  show V m c main_v12 _ = _
  rw [V_u]
  rfl

theorem wdT_apply (e f : ℕ) (k : Fin 896) (d : Fin 1024) :
    wdT m c e f (ix3 0 k d) = (m ((c : Thread nD τ).loc main_arg10) : S8x3584x1024.Idx → EReal) (ix3 (exq e) (hid f k) d) := by
  show V m c main_v13 _ = _
  rw [V_d]
  rfl

/-- The four parts of an expert's hidden units, summed, are the expert. -/
theorem acc_eq (e : ℕ) (x : Fin 1024 → EReal) (d : Fin 1024) :
    acc m c e 4 x d = swi x (m ((c : Thread nD τ).loc main_arg8)) (m ((c : Thread nD τ).loc main_arg9)) (m ((c : Thread nD τ).loc main_arg10)) (exq e) d := by
  unfold acc ffn swi
  simp only [wgT_apply, wuT_apply, wdT_apply]
  exact sum_parts fun f => ((∑ k : Fin 1024, x k * (m ((c : Thread nD τ).loc main_arg8) : S8x1024x3584.Idx → EReal) (ix3 (exq e) k f))
    * (Ideal.logistic (∑ k : Fin 1024, x k * (m ((c : Thread nD τ).loc main_arg8) : S8x1024x3584.Idx → EReal) (ix3 (exq e) k f)))
    * ∑ k : Fin 1024, x k * (m ((c : Thread nD τ).loc main_arg9) : S8x1024x3584.Idx → EReal) (ix3 (exq e) k f))
    * (m ((c : Thread nD τ).loc main_arg10) : S8x3584x1024.Idx → EReal) (ix3 (exq e) f d)

theorem gT_apply (T e : ℕ) (r : Fin 1088) :
    gT m c T (ix3 0 r (ln e)) = twoG (m ((c : Thread nD τ).loc main_arg2)) (m ((c : Thread nD τ).loc main_arg3)) (bat T) (rowT T r) (exq e) :=
  V_gate m c (bat T) (rowT T r) (exq e) (ln e) rfl

theorem hT_row (T : ℕ) (r : Fin 1088) :
    (fun k => hT m c T (ix3 0 r k)) = two (m ((c : Thread nD τ).loc main_arg0)) (m ((c : Thread nD τ).loc main_arg1)) (bat T) (rowT T r) :=
  funext fun k => V_h m c (bat T) (rowT T r) k

variable {m c} in
theorem twoG_nonneg (h : Nonneg m c) (n : Fin 8) (s : Fin 4352) (e : Fin 8) :
    0 ≤ twoG (m ((c : Thread nD τ).loc main_arg2)) (m ((c : Thread nD τ).loc main_arg3)) n s e := by
  unfold twoG
  split
  · exact h.1 _
  · exact h.2 _

variable {m c} in
/-- An expert's contribution to a row: its gate times its unit; where the gate is zero both sides are. -/
theorem term_eq (h : Nonneg m c) (T e : ℕ) (r : Fin 1088) (d : Fin 1024) :
    term m c T e r d = twoG (m ((c : Thread nD τ).loc main_arg2)) (m ((c : Thread nD τ).loc main_arg3)) (bat T) (rowT T r) (exq e)
      * swi (two (m ((c : Thread nD τ).loc main_arg0)) (m ((c : Thread nD τ).loc main_arg1)) (bat T) (rowT T r))
        (m ((c : Thread nD τ).loc main_arg8)) (m ((c : Thread nD τ).loc main_arg9)) (m ((c : Thread nD τ).loc main_arg10)) (exq e) d := by
  unfold term
  rw [gT_apply, hT_row, acc_eq]
  split
  · rfl
  · rename_i hg
    have h0 := le_antisymm (not_lt.mp hg) (twoG_nonneg h (bat T) (rowT T r) (exq e))
    rw [h0, zero_mul]

variable {m c} in
/-- What a tile's last point leaves at row `r` and column `d` is the result array's entry there. -/
theorem outT_eq (h : Nonneg m c) (T : ℕ) (r : Fin 1088) (d : Fin 1024) : outT m c T r d = GV m c (ix3 (bat T) (rowT T r) d) := by
  have e1 : xT m c T (ix3 0 r d) = _ := V_x m c (bat T) (rowT T r) d
  have e2 : mT m c T (ix4 0 0 5 d) = _ := V_mods_ctx m c (bat T) d
  have e3 : mT m c T (ix4 0 1 5 d) = _ := V_mods_seq m c (bat T) d
  have e4 : part m c T 8 r d = mix (twoG (m ((c : Thread nD τ).loc main_arg2)) (m ((c : Thread nD τ).loc main_arg3)) (bat T) (rowT T r))
      (two (m ((c : Thread nD τ).loc main_arg0)) (m ((c : Thread nD τ).loc main_arg1)) (bat T) (rowT T r))
      (m ((c : Thread nD τ).loc main_arg8)) (m ((c : Thread nD τ).loc main_arg9)) (m ((c : Thread nD τ).loc main_arg10)) d := by
    unfold part mix
    rw [Finset.sum_range]
    refine Finset.sum_congr rfl fun e _ => ?_
    have he : exq e.val = e := Fin.ext (Nat.mod_eq_of_lt e.isLt)
    rw [term_eq h, he]
  unfold outT
  rw [e1, e2, e3, e4]
  rfl

/-! ## The result array -/

/-- An index of the result array is in point `t`'s block exactly when batch row and row block are `t`'s. -/
theorem mem_blk (t : Fin cfg0.N) (i : S8x4352x1024.Idx) (h0 : (i 0 : Nat) = t.val / 32 / 4)
    (h1 : t.val / 32 % 4 * 1088 ≤ (i 1 : Nat)) (h1' : (i 1 : Nat) < t.val / 32 % 4 * 1088 + 1088) :
    i ∈ ((cfg0.win 7).blk t).view.set := by
  show i ∈ ((View.whole main_v14).slice (win0_7.rect t)).set
  rw [View.set_slice_whole, Rect.mem_set_unit]
  have h := (index_all t).2.2.2.2
  have h2 : (i 2 : Nat) < 1024 := (i 2).isLt
  intro a
  match a with
  | ⟨0, _⟩ => show win0_7.index t 0 * 1 ≤ (i 0 : Nat) ∧ (i 0 : Nat) < win0_7.index t 0 * 1 + 1
              rw [h]; show t.val / 32 / 4 * 1 ≤ _ ∧ _ < t.val / 32 / 4 * 1 + 1; omega
  | ⟨1, _⟩ => show win0_7.index t 1 * 1088 ≤ (i 1 : Nat) ∧ (i 1 : Nat) < win0_7.index t 1 * 1088 + 1088
              rw [h]; exact ⟨h1, h1'⟩
  | ⟨2, _⟩ => show win0_7.index t 2 * 1024 ≤ (i 2 : Nat) ∧ (i 2 : Nat) < win0_7.index t 2 * 1024 + 1024
              rw [h]; show 0 * 1024 ≤ _ ∧ _ < 0 * 1024 + 1024; omega

/-- The blocks written back cover the result array. -/
theorem cover (i : S8x4352x1024.Idx) : ∃ t : Fin cfg0.N, (cfg0.win 7).flush t = true ∧ i ∈ ((cfg0.win 7).blk t).view.set := by
  have h0 : (i 0 : Nat) < 8 := (i 0).isLt
  have h1 : (i 1 : Nat) < 4352 := (i 1).isLt
  have hN : cfg0.N = 1024 := N_0
  refine ⟨⟨((i 0 : Nat) * 4 + (i 1 : Nat) / 1088) * 32 + 31, by omega⟩, (flush0_7 _).mpr ?_, mem_blk _ i ?_ ?_ ?_⟩ <;> dsimp only <;> omega

variable {m c} in
/-- A block that meets the invariant at a tile's last point is its block of the result array. -/
theorem cut_eq (h : Nonneg m c) (t : Fin cfg0.N) (ht : t.val % 32 = 31) (o : Vec Ideal S1x1088x1024 .f32) (ho : Out m c t.val o) :
    (cfg0.win 7).cut (grid0.coords t) o = (win0_7.blk t).view.read (Elt Ideal) (GV m c) := by
  have hi := (index_all t).2.2.2.2
  have hN := lt_N t
  funext j
  have e0 : (j 0).val < 1 := (j 0).isLt
  have e1 : (j 1).val < 1088 := (j 1).isLt
  have e2 : (j 2).val < 1024 := (j 2).isLt
  have ej : (fun a => j a) = (ix3 (n1 := 1088) (n2 := 1024) (0 : Fin 1) ⟨(j 1).val, e1⟩ ⟨(j 2).val, e2⟩ : S1x1088x1024.Idx) := by
    funext a
    apply Fin.ext
    match a with
    | ⟨0, _⟩ => show (j 0).val = 0; omega
    | ⟨1, _⟩ => rfl
    | ⟨2, _⟩ => rfl
  have key := ho ⟨(j 1).val, e1⟩ ⟨(j 2).val, e2⟩
  rw [if_pos ht, outT_eq h, ← ej] at key
  refine Eq.trans (?_ : _ = o (fun a => j a)) (key.trans ?_)
  · rfl
  · refine congrArg (GV m c) ?_
    funext a
    apply Fin.ext
    match a with
    | ⟨0, _⟩ => show t.val / 32 / 4 % 8 = win0_7.index t 0 * 1 + 1 * (j 0).val; rw [hi]; show _ = t.val / 32 / 4 * 1 + _; omega
    | ⟨1, _⟩ => show t.val / 32 % 4 * 1088 + (j 1).val = win0_7.index t 1 * 1088 + 1 * (j 1).val; rw [hi]; simp
    | ⟨2, _⟩ => show (j 2).val = win0_7.index t 2 * 1024 + 1 * (j 2).val; rw [hi]; simp

/-- The kernel's run over the extended reals: when no gate is negative its result array ends at the formula of the arguments, and the arguments end
    unchanged. -/
theorem run (ρ : Dev nD → PrngReg) (h : ∀ c, Nonneg m c) :
    θ_run defs (onTc (τ := τ) (main (F := Ideal))) ⟨m, fun _ => 0, ρ⟩ fun r => ∀ c : Dev nD,
      r.2.mem ((c.tc : Thread nD τ).loc main_v14) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r hr c => ⟨?_, ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c),
      ((hr.1 c).2 main_arg6 (Pipeline.mem_restRefs_of main_arg6 (by decide) (by decide))).trans (V_main_arg6 m c),
      ((hr.1 c).2 main_arg7 (Pipeline.mem_restRefs_of main_arg7 (by decide) (by decide))).trans (V_main_arg7 m c),
      ((hr.1 c).2 main_arg8 (Pipeline.mem_restRefs_of main_arg8 (by decide) (by decide))).trans (V_main_arg8 m c),
      ((hr.1 c).2 main_arg9 (Pipeline.mem_restRefs_of main_arg9 (by decide) (by decide))).trans (V_main_arg9 m c),
      ((hr.1 c).2 main_arg10 (Pipeline.mem_restRefs_of main_arg10 (by decide) (by decide))).trans (V_main_arg10 m c)⟩) (run_mainM ρ (inv m))
  obtain ⟨after, hL, hA⟩ := hr.1.exists_exact c
  refine (hA 7).trans ?_
  refine ((rdatM (inv m) c).withAfter after).arrAt_eq_of_cover 7 (GV m c) (fun t hf => ?_) cover
  have ht := (flush0_7 t).mp hf
  have ho : Out m c t.val (after 7 t) := Pipeline.Dat.toRRel_leaves (datM (inv m) c) (fgt := fgtM) rfl (hL 7 t hf)
  exact cut_eq (h c) t ht _ ho

end Cert.Moe

end
-- ==== Proof.Moe.Gates.lean ====
/-
  What the precondition says: no gate is negative.
-/
module

public import proofs.«01_k».proof.Proof.Moe.Final
public import proofs.«01_k».proof.Proof.Gen.Pre_gates_nonneg
public import Idealize.ShloMosaic.Lib.ReduceAll

@[expose] public section

set_option maxRecDepth 16384

noncomputable section

namespace Cert.Moe

open Idealize.ShloMosaic Idealize.ShloMosaic.TcCoe Idealize.SL.Sem

instance : Subsingleton Cert.Pre_gates_nonneg.S_.Idx := ⟨fun a b => funext fun i => i.elim0⟩

/-- Two bits whose conjunction is one are both one. -/
theorem of_andi {a b : BitVec 1} (h : IntOp.andi a b = 1#1) : a = 1#1 ∧ b = 1#1 := by
  revert h
  revert a b
  decide

variable (m : (ℓ : Loc Cert.KernelIdeal.nD Cert.KernelIdeal.τ Cert.KernelIdeal.sig) → Buf (Elt Ideal) ℓ)

/-- The precondition holds only where no gate is negative. -/
theorem nonneg_of_pre (h : Cert.Pre_KernelIdeal_gates_nonneg m) (c : Dev Cert.KernelIdeal.nD) : Nonneg m c := by
  have hc := h c
  unfold Cert.Pre_gates_nonneg.fn at hc
  dsimp only at hc
  have hj := congrFun hc (fun i => i.elim0)
  obtain ⟨h1, h2⟩ := of_andi hj
  constructor
  · intro j
    refine le_of_eq_of_le ?_ ((Ideal.cmp_oge_eq_one _ _).mp (Host.reduce_andi_all _ _ _ _ _ h1 j))
    pointwise
  · intro j
    refine le_of_eq_of_le ?_ ((Ideal.cmp_oge_eq_one _ _).mp (Host.reduce_andi_all _ _ _ _ _ h2 j))
    pointwise

end Cert.Moe

end
-- ==== Proof.Attn.Pre.lean ====
/- What the precondition says: queries, keys and sinks are finite. -/
module

public import proofs.«01_k».proof.Defs
public import proofs.«01_k».proof.Proof.Gen.Pre_finite_scores
public import proofs.«01_k».proof.Proof.Moe.Gates
public import proofs.«01_k».proof.Proof.Attn.Goal

@[expose] public section

set_option maxRecDepth 16384
set_option maxHeartbeats 1000000

noncomputable section

namespace Cert.Attn

open Idealize.ShloMosaic Idealize.ShloMosaic.TcCoe Idealize.SL.Sem

instance : Subsingleton Cert.Pre_finite_scores.S_.Idx := ⟨fun a b => funext fun i => i.elim0⟩

theorem pos_inf : Ideal.ofBits .f32 0x7F800000#32 = ⊤ := by
  simp [Ideal.ofBits, Ideal.ieee]

/-- A number whose size is below plus infinity is real. -/
theorem real_of_lt (x : EReal) (h : max x (-x) < ⊤) : IsReal x := by
  induction x with
  | bot => exact absurd h (by simp)
  | top => exact absurd h (by simp)
  | coe r => exact ⟨r, rfl⟩

variable (m : (ℓ : Loc Cert.Kernel3Ideal.nD Cert.Kernel3Ideal.τ Cert.Kernel3Ideal.sig) → Buf (Elt Ideal) ℓ)

/-- The precondition holds only where queries, keys and sinks are finite. -/
theorem finite_of_pre (h : Cert.Pre_Kernel3Ideal_finite_scores m) (c : Dev Cert.Kernel3Ideal.nD) :
    (∀ j, IsReal ((m ((c : Thread Cert.Kernel3Ideal.nD Cert.Kernel3Ideal.τ).loc Cert.Kernel3Ideal.main_arg0) : Cert.Kernel3Ideal.S8x256x1024.Idx → EReal) j))
    ∧ (∀ j, IsReal ((m ((c : Thread Cert.Kernel3Ideal.nD Cert.Kernel3Ideal.τ).loc Cert.Kernel3Ideal.main_arg1) : Cert.Kernel3Ideal.S8x256x256.Idx → EReal) j))
    ∧ (∀ j, IsReal ((m ((c : Thread Cert.Kernel3Ideal.nD Cert.Kernel3Ideal.τ).loc Cert.Kernel3Ideal.main_arg3) : Cert.Kernel3Ideal.S8x4096x1024.Idx → EReal) j))
    ∧ (∀ j, IsReal ((m ((c : Thread Cert.Kernel3Ideal.nD Cert.Kernel3Ideal.τ).loc Cert.Kernel3Ideal.main_arg4) : Cert.Kernel3Ideal.S8x4096x256.Idx → EReal) j))
    ∧ (∀ j, IsReal ((m ((c : Thread Cert.Kernel3Ideal.nD Cert.Kernel3Ideal.τ).loc Cert.Kernel3Ideal.main_arg6) : Cert.Kernel3Ideal.S16.Idx → EReal) j)) := by
  have hc := h c
  unfold Cert.Pre_finite_scores.fn Cert.Pre_finite_scores.fn_part1 at hc
  dsimp only at hc
  have hj := congrFun hc (fun i => i.elim0)
  obtain ⟨hj, g4⟩ := Cert.Moe.of_andi hj
  obtain ⟨hj, g3⟩ := Cert.Moe.of_andi hj
  obtain ⟨hj, g1⟩ := Cert.Moe.of_andi hj
  obtain ⟨g6, g0⟩ := Cert.Moe.of_andi hj
  refine ⟨fun j => ?_, fun j => ?_, fun j => ?_, fun j => ?_, fun j => ?_⟩
  · exact real_of_lt _ (lt_of_lt_of_eq ((Ideal.cmp_olt_eq_one _ _).mp (Host.reduce_andi_all _ _ _ _ _ g0 j)) (by pointwise [pos_inf]))
  · exact real_of_lt _ (lt_of_lt_of_eq ((Ideal.cmp_olt_eq_one _ _).mp (Host.reduce_andi_all _ _ _ _ _ g1 j)) (by pointwise [pos_inf]))
  · exact real_of_lt _ (lt_of_lt_of_eq ((Ideal.cmp_olt_eq_one _ _).mp (Host.reduce_andi_all _ _ _ _ _ g3 j)) (by pointwise [pos_inf]))
  · exact real_of_lt _ (lt_of_lt_of_eq ((Ideal.cmp_olt_eq_one _ _).mp (Host.reduce_andi_all _ _ _ _ _ g4 j)) (by pointwise [pos_inf]))
  · exact real_of_lt _ (lt_of_lt_of_eq ((Ideal.cmp_olt_eq_one _ _).mp (Host.reduce_andi_all _ _ _ _ _ g6 j)) (by pointwise [pos_inf]))

end Cert.Attn

end
-- ==== Proof.FfnValue.lean ====
/- The dense gated unit (SwiGLU): what the pipelined kernel's body leaves at each index of its block, the blocks read off
   the argument arrays, and so the result array after the run as one formula of the arguments. -/
module

public import proofs.«01_k».proof.Defs
public import proofs.«01_k».proof.Proof.Gen.Kernel2Ideal.Value
public import Idealize.ShloMosaic.Lib.Pipeline.Value
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

/-- One row `h` through the gated unit, read at column `d`. -/
def swi (h : Fin 1024 → EReal) (wg wu : S1024x2816.Idx → EReal) (wd : S2816x1024.Idx → EReal) (d : Fin 1024) : EReal :=
  ∑ f : Fin 2816, ((∑ k : Fin 1024, h k * wg (ix2 k f)) * (Ideal.logistic (∑ k : Fin 1024, h k * wg (ix2 k f)))
    * ∑ k : Fin 1024, h k * wu (ix2 k f)) * wd (ix2 f d)

/-- The body's test "row `n·544 + r` lies in the context part", as a statement about numbers. -/
theorem is_ctx_iff (n r : Nat) (hn : n < 8) (hr : r < 544) :
    IntOp.cmpi CmpIPredicate.slt (IntOp.addi (Scalar.muli (BitVec.ofNat 32 n) 544#32) (BitVec.ofNat 32 r)) 256#32 = 1#1
      ↔ n * 544 + r < 256 := by
  have e : IntOp.addi (Scalar.muli (BitVec.ofNat 32 n) 544#32) (BitVec.ofNat 32 r) = BitVec.ofNat 32 (n * 544 + r) := by
    show BitVec.ofNat 32 n * 544#32 + BitVec.ofNat 32 r = _
    rw [BitVec.ofNat_add, BitVec.ofNat_mul]
  rw [e]
  show BitVec.ofBool ((BitVec.ofNat 32 (n * 544 + r)).slt 256#32) = 1#1 ↔ _
  have h1 : (BitVec.ofNat 32 (n * 544 + r)).toInt = ((n * 544 + r : Nat) : Int) := by
    rw [BitVec.toInt_ofNat']
    apply Int.bmod_eq_of_le <;> omega
  have h2 : (256#32 : BitVec 32).toInt = 256 := by decide
  have h3 : (BitVec.ofNat 32 (n * 544 + r)).slt 256#32 = decide (n * 544 + r < 256) := by
    unfold BitVec.slt
    rw [h1, h2]
    congr 1
    apply propext
    omega
  rw [h3]
  by_cases h : n * 544 + r < 256 <;> simp [h]

/-- What the body leaves at row `r`, column `d` of its block: the residual entry plus the gate's entry (the context's or
    the sequence's) times the gated unit of the row. -/
theorem pay_apply (i : grid0.Coords) (x1 : Vec Ideal S1x544x1024 .f32) (x0 : Vec Ideal S1x544x1024 .bf16) (wg wu : Vec Ideal S1024x2816 .bf16)
    (wd : Vec Ideal S2816x1024 .bf16) (a b : Vec Ideal S1x1x1x1024 .f32) (r : Fin 544) (d : Fin 1024) :
    k0_pay1 (k0_pay2 x1) (k0_pay3 i x0 wg wu wd a b) (ix3 0 r d)
      = x1 (ix3 0 r d) + (if (i 1).val * 544 + r.val < 256 then a (ix4 0 0 0 d) else b (ix4 0 0 0 d)) * swi (fun k => x0 (ix3 0 r k)) wg wu wd d := by
  pointwise [k0_pay1, k0_pay2, k0_pay3, swi]
  congr 2
  exact if_congr (is_ctx_iff _ _ (i 1).isLt r.isLt) rfl rfl

/-! ## The windows' arrays before the region, from the arguments -/

variable (m : (ℓ : Loc nD τ sig) → Buf (Elt Ideal) ℓ) (c : Dev nD)

/-- A two-piece array along axis 1, read at an index. -/
def two (a : S8x256x1024.Idx → EReal) (b : S8x4096x1024.Idx → EReal) (n : Fin 8) (s : Fin 4352) (d : Fin 1024) : EReal :=
  if h : s.val < 256 then a (ix3 n ⟨s.val, h⟩ d) else b (ix3 n ⟨s.val - 256, by omega⟩ d)

theorem concat_apply (a : S8x256x1024.Idx → EReal) (b : S8x4096x1024.Idx → EReal) (n : Fin 8) (s : Fin 4352) (d : Fin 1024) :
    concatenate S8x4352x1024 1 [⟨S8x256x1024, a⟩, ⟨S8x4096x1024, b⟩] concatenates_S8x256x1024_S8x4096x1024_S8x4352x1024_d1 (ix3 n s d)
      = two a b n s d := by
  pointwise [two]

/-- The residual rows as the kernel finds them: the context's and then the sequence's. -/
theorem V_x (n : Fin 8) (s : Fin 4352) (d : Fin 1024) :
    V m c main_v0 (ix3 n s d) = two (m ((c : Thread nD τ).loc main_arg2)) (m ((c : Thread nD τ).loc main_arg3)) n s d := by
  rw [← concat_apply]
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp

/-- The unit's input rows as the kernel finds them. -/
theorem V_h (n : Fin 8) (s : Fin 4352) (d : Fin 1024) :
    V m c main_v2 (ix3 n s d) = two (m ((c : Thread nD τ).loc main_arg0)) (m ((c : Thread nD τ).loc main_arg1)) n s d := by
  rw [← concat_apply]
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The gate projection's weights as the kernel finds them. -/
theorem V_g : V m c main_v9 = (m ((c : Thread nD τ).loc main_arg6) : S1024x2816.Idx → EReal) := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The up projection's weights as the kernel finds them. -/
theorem V_u : V m c main_v10 = (m ((c : Thread nD τ).loc main_arg7) : S1024x2816.Idx → EReal) := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The down projection's weights as the kernel finds them. -/
theorem V_d : V m c main_v11 = (m ((c : Thread nD τ).loc main_arg8) : S2816x1024.Idx → EReal) := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The packed modulation table, as the host lines build it. -/
theorem V_mods : V m c main_v8 = pad S8x2x8x1024 ![0, 0, 0, 0] ![0, 0, 2, 0] ![0, 0, 0, 0]
    (concatenate S8x2x6x1024 1 [⟨S8x1x6x1024, broadcastInDim S8x1x6x1024 ![0, 2, 3] bcast_S8x6x1024_S8x1x6x1024_0_2_3 (broadcastInDim S8x6x1024 ![0, 1, 2] bcast_S1x6x1024_S8x6x1024_0_1_2 (broadcastInDim S1x6x1024 ![1, 2] bcast_S6x1024_S1x6x1024_1_2 (m ((c : Thread nD τ).loc main_arg4))))⟩,
      ⟨S8x1x6x1024, broadcastInDim S8x1x6x1024 ![0, 2, 3] bcast_S8x6x1024_S8x1x6x1024_0_2_3 (m ((c : Thread nD τ).loc main_arg5))⟩] concatenates_S8x1x6x1024_S8x1x6x1024_S8x2x6x1024_d1)
    ((sitofp .f32 (constantI S_ 32 0#32) : FVec Ideal S_ .f32) : S_.Idx → EReal) pads_S8x2x6x1024_S8x2x8x1024_000_000_020_000 h_S_ := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The context's gate row of the modulation table. -/
theorem V_mods_ctx (n : Fin 8) (d : Fin 1024) :
    V m c main_v8 (ix4 n 0 5 d) = (m ((c : Thread nD τ).loc main_arg4) : S6x1024.Idx → EReal) (ix2 5 d) := by
  rw [V_mods]
  pointwise

/-- The sequence's gate row of the modulation table. -/
theorem V_mods_seq (n : Fin 8) (d : Fin 1024) :
    V m c main_v8 (ix4 n 1 5 d) = (m ((c : Thread nD τ).loc main_arg5) : S8x6x1024.Idx → EReal) (ix3 n 5 d) := by
  rw [V_mods]
  pointwise

/-! ## The windows' blocks at a point -/

/-- Each window's block index at point `t`: batch row `t / 8`, row block `t % 8`; the weights are whole. -/
theorem index_all : ∀ t : Fin cfg0.N,
    (win0_0.index t = ![t.val / 8, t.val % 8, 0] ∧ win0_1.index t = ![t.val / 8, t.val % 8, 0] ∧ win0_2.index t = ![t.val / 8, 0, 0, 0])
    ∧ (win0_3.index t = ![0, 0] ∧ win0_4.index t = ![0, 0] ∧ win0_5.index t = ![0, 0] ∧ win0_6.index t = ![t.val / 8, t.val % 8, 0])
    ∧ (grid0.coords t 1).val = t.val % 8 :=
  (by decide +kernel : ∀ t : Fin grid0.N, _)

theorem lt_N (t : Fin cfg0.N) : t.val < 64 := by have := t.isLt; have h : cfg0.N = 64 := N_0; omega

/-- Batch row of point `t`. -/
def bat (t : Fin cfg0.N) : Fin 8 := ⟨t.val / 8, by have := lt_N t; omega⟩
/-- Array row of row `r` of point `t`'s block. -/
def row (t : Fin cfg0.N) (r : Fin 544) : Fin 4352 := ⟨t.val % 8 * 544 + r.val, by have := r.isLt; omega⟩

theorem iblk0_apply (t : Fin cfg0.N) (r : Fin 544) (k : Fin 1024) :
    iblk m c 0 t (ix3 0 r k) = V m c main_v2 (ix3 (bat t) (row t r) k) := by
  have h := (index_all t).1.1
  show V m c main_v2 _ = _
  congr 1
  funext a
  apply Fin.ext
  match a with
  | ⟨0, _⟩ => show win0_0.index t 0 * 1 + 1 * 0 = t.val / 8; rw [h]; simp
  | ⟨1, _⟩ => show win0_0.index t 1 * 544 + 1 * r.val = t.val % 8 * 544 + r.val; rw [h]; simp
  | ⟨2, _⟩ => show win0_0.index t 2 * 1024 + 1 * k.val = k.val; rw [h]; simp

theorem iblk1_apply (t : Fin cfg0.N) (r : Fin 544) (k : Fin 1024) :
    iblk m c 1 t (ix3 0 r k) = V m c main_v0 (ix3 (bat t) (row t r) k) := by
  have h := (index_all t).1.2.1
  show V m c main_v0 _ = _
  congr 1
  funext a
  apply Fin.ext
  match a with
  | ⟨0, _⟩ => show win0_1.index t 0 * 1 + 1 * 0 = t.val / 8; rw [h]; simp
  | ⟨1, _⟩ => show win0_1.index t 1 * 544 + 1 * r.val = t.val % 8 * 544 + r.val; rw [h]; simp
  | ⟨2, _⟩ => show win0_1.index t 2 * 1024 + 1 * k.val = k.val; rw [h]; simp

theorem iblk2_apply (t : Fin cfg0.N) (p : Fin 2) (q : Fin 8) (k : Fin 1024) :
    iblk m c 2 t (ix4 0 p q k) = V m c main_v8 (ix4 (bat t) p q k) := by
  have h := (index_all t).1.2.2
  show V m c main_v8 _ = _
  congr 1
  funext a
  apply Fin.ext
  match a with
  | ⟨0, _⟩ => show win0_2.index t 0 * 1 + 1 * 0 = t.val / 8; rw [h]; simp
  | ⟨1, _⟩ => show win0_2.index t 1 * 2 + 1 * p.val = p.val; rw [h]; simp
  | ⟨2, _⟩ => show win0_2.index t 2 * 8 + 1 * q.val = q.val; rw [h]; simp
  | ⟨3, _⟩ => show win0_2.index t 3 * 1024 + 1 * k.val = k.val; rw [h]; simp

theorem iblk3_eq (t : Fin cfg0.N) : iblk m c 3 t = V m c main_v9 := by
  have h := (index_all t).2.1.1
  funext j
  show V m c main_v9 _ = _
  congr 1
  funext a
  apply Fin.ext
  match a with
  | ⟨0, _⟩ => show win0_3.index t 0 * 1024 + 1 * (j 0).val = (j 0).val; rw [h]; simp
  | ⟨1, _⟩ => show win0_3.index t 1 * 2816 + 1 * (j 1).val = (j 1).val; rw [h]; simp

theorem iblk4_eq (t : Fin cfg0.N) : iblk m c 4 t = V m c main_v10 := by
  have h := (index_all t).2.1.2.1
  funext j
  show V m c main_v10 _ = _
  congr 1
  funext a
  apply Fin.ext
  match a with
  | ⟨0, _⟩ => show win0_4.index t 0 * 1024 + 1 * (j 0).val = (j 0).val; rw [h]; simp
  | ⟨1, _⟩ => show win0_4.index t 1 * 2816 + 1 * (j 1).val = (j 1).val; rw [h]; simp

theorem iblk5_eq (t : Fin cfg0.N) : iblk m c 5 t = V m c main_v11 := by
  have h := (index_all t).2.1.2.2.1
  funext j
  show V m c main_v11 _ = _
  congr 1
  funext a
  apply Fin.ext
  match a with
  | ⟨0, _⟩ => show win0_5.index t 0 * 2816 + 1 * (j 0).val = (j 0).val; rw [h]; simp
  | ⟨1, _⟩ => show win0_5.index t 1 * 1024 + 1 * (j 1).val = (j 1).val; rw [h]; simp

/-! ## The result -/

/-- The result at batch row `n`, row `s`, column `d`, from the nine arguments. -/
def G (hc : S8x256x1024.Idx → EReal) (hl : S8x4096x1024.Idx → EReal) (xc : S8x256x1024.Idx → EReal) (xl : S8x4096x1024.Idx → EReal)
    (mc : S6x1024.Idx → EReal) (ml : S8x6x1024.Idx → EReal) (wg wu : S1024x2816.Idx → EReal) (wd : S2816x1024.Idx → EReal)
    (n : Fin 8) (s : Fin 4352) (d : Fin 1024) : EReal :=
  two xc xl n s d + (if s.val < 256 then mc (ix2 5 d) else ml (ix3 n 5 d)) * swi (fun k => two hc hl n s k) wg wu wd d

/-- The result array, as a function of the memory at launch. -/
def GV : S8x4352x1024.Idx → EReal := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (j 0) (j 1) (j 2)

theorem hz3 : (![0, 0, 0] : Fin 3 → Nat) = fun _ => 0 := funext fun a => by fin_cases a <;> rfl
theorem hz2 : (![0, 0] : Fin 2 → Nat) = fun _ => 0 := funext fun a => by fin_cases a <;> rfl

theorem ld_ctx (x : Vec Ideal S1x2x8x1024 .f32) (d : Fin 1024) : View.ld x r0_3 (ix4 0 0 0 d) = x (ix4 0 0 5 d) := by
  show x _ = x _
  congr 1
  funext a
  apply Fin.ext
  match a with
  | ⟨0, _⟩ => rfl
  | ⟨1, _⟩ => rfl
  | ⟨2, _⟩ => rfl
  | ⟨3, _⟩ => show 0 + 1 * d.val = d.val; omega

theorem ld_seq (x : Vec Ideal S1x2x8x1024 .f32) (d : Fin 1024) : View.ld x r0_4 (ix4 0 0 0 d) = x (ix4 0 1 5 d) := by
  show x _ = x _
  congr 1
  funext a
  apply Fin.ext
  match a with
  | ⟨0, _⟩ => rfl
  | ⟨1, _⟩ => rfl
  | ⟨2, _⟩ => rfl
  | ⟨3, _⟩ => show 0 + 1 * d.val = d.val; omega

/-- What point `t` writes back, read at row `r` and column `d`: the result array's entry there. -/
theorem out_apply (t : Fin cfg0.N) (r : Fin 544) (d : Fin 1024) :
    out0_6 (grid0.coords t) (iblk m c 0 t) (iblk m c 1 t) (iblk m c 2 t) (iblk m c 3 t) (iblk m c 4 t) (iblk m c 5 t) (ix3 0 r d)
      = GV m c (ix3 (bat t) (row t r) d) := by
  unfold out0_6
  rw [View.canon_unit_zero hz3, View.ld_unit_zero hz3, View.ld_unit_zero hz3, View.ld_unit_zero hz2, View.ld_unit_zero hz2, View.ld_unit_zero hz2]
  refine (pay_apply (grid0.coords t) (iblk m c 1 t) (iblk m c 0 t) (iblk m c 3 t) (iblk m c 4 t) (iblk m c 5 t) _ _ r d).trans ?_
  rw [ld_ctx, ld_seq]
  have e1 := (iblk1_apply m c t r d).trans (V_x m c _ _ d)
  have e2 := (iblk2_apply m c t 0 5 d).trans (V_mods_ctx m c _ d)
  have e3 := (iblk2_apply m c t 1 5 d).trans (V_mods_seq m c _ d)
  have e4 := (iblk3_eq m c t).trans (V_g m c)
  have e5 := (iblk4_eq m c t).trans (V_u m c)
  have e6 := (iblk5_eq m c t).trans (V_d m c)
  have e7 : (fun k => iblk m c 0 t (ix3 0 r k)) = _ := funext fun k => (iblk0_apply m c t r k).trans (V_h m c _ _ k)
  rw [e1, e2, e3, e4, e5, e6, e7, (index_all t).2.2]
  rfl

/-- What point `t` writes back is its block of the result array. -/
theorem flushed_eq (t : Fin cfg0.N) : (dats m 0 c).flushed 6 t = (win0_6.blk t).view.read (Elt Ideal) (GV m c) := by
  rw [Cert.Kernel2Ideal.Value.flushed6]
  have h := (index_all t).2.1.2.2.2
  funext j
  have e0 : (j 0).val < 1 := (j 0).isLt
  have e1 : (j 1).val < 544 := (j 1).isLt
  have e2 : (j 2).val < 1024 := (j 2).isLt
  have ej : (fun a => j a) = (ix3 (n1 := 544) (n2 := 1024) (0 : Fin 1) ⟨(j 1).val, e1⟩ ⟨(j 2).val, e2⟩ : S1x544x1024.Idx) := by
    funext a
    apply Fin.ext
    match a with
    | ⟨0, _⟩ => show (j 0).val = 0; omega
    | ⟨1, _⟩ => rfl
    | ⟨2, _⟩ => rfl
  have key := out_apply m c t ⟨(j 1).val, e1⟩ ⟨(j 2).val, e2⟩
  rw [← ej] at key
  refine Eq.trans (?_ : _ = out0_6 (grid0.coords t) (iblk m c 0 t) (iblk m c 1 t) (iblk m c 2 t) (iblk m c 3 t) (iblk m c 4 t) (iblk m c 5 t) (fun a => j a)) (key.trans ?_)
  · rfl
  · refine congrArg (GV m c) ?_
    funext a
    apply Fin.ext
    match a with
    | ⟨0, _⟩ => show t.val / 8 = win0_6.index t 0 * 1 + 1 * (j 0).val; rw [h]; show _ = t.val / 8 * 1 + _; omega
    | ⟨1, _⟩ => show t.val % 8 * 544 + (j 1).val = win0_6.index t 1 * 544 + 1 * (j 1).val; rw [h]; simp
    | ⟨2, _⟩ => show (j 2).val = win0_6.index t 2 * 1024 + 1 * (j 2).val; rw [h]; simp

/-- An index of the result array is in point `t`'s block exactly when batch row and row block are `t`'s. -/
theorem mem_blk (t : Fin cfg0.N) (i : S8x4352x1024.Idx) (h0 : (i 0 : Nat) = t.val / 8)
    (h1 : t.val % 8 * 544 ≤ (i 1 : Nat)) (h1' : (i 1 : Nat) < t.val % 8 * 544 + 544) :
    i ∈ ((cfg0.win 6).blk t).view.set := by
  show i ∈ ((View.whole main_v12).slice (win0_6.rect t)).set
  rw [View.set_slice_whole, Rect.mem_set_unit]
  have h := (index_all t).2.1.2.2.2
  have h2 : (i 2 : Nat) < 1024 := (i 2).isLt
  intro a
  match a with
  | ⟨0, _⟩ => show win0_6.index t 0 * 1 ≤ (i 0 : Nat) ∧ (i 0 : Nat) < win0_6.index t 0 * 1 + 1
              rw [h]; show t.val / 8 * 1 ≤ _ ∧ _ < t.val / 8 * 1 + 1; omega
  | ⟨1, _⟩ => show win0_6.index t 1 * 544 ≤ (i 1 : Nat) ∧ (i 1 : Nat) < win0_6.index t 1 * 544 + 544
              rw [h]; exact ⟨h1, h1'⟩
  | ⟨2, _⟩ => show win0_6.index t 2 * 1024 ≤ (i 2 : Nat) ∧ (i 2 : Nat) < win0_6.index t 2 * 1024 + 1024
              rw [h]; show 0 * 1024 ≤ _ ∧ _ < 0 * 1024 + 1024; omega

/-- The blocks cover the result array. -/
theorem cover (i : S8x4352x1024.Idx) : ∃ t : Fin cfg0.N, (cfg0.win 6).flush t = true ∧ i ∈ ((cfg0.win 6).blk t).view.set := by
  have h0 : (i 0 : Nat) < 8 := (i 0).isLt
  have h1 : (i 1 : Nat) < 4352 := (i 1).isLt
  have hN : cfg0.N = 64 := N_0
  refine ⟨⟨(i 0 : Nat) * 8 + (i 1 : Nat) / 544, by omega⟩, flush0_6 _, mem_blk _ i ?_ ?_ ?_⟩ <;> dsimp only <;> omega

/-- The kernel's result array after the run. -/
theorem final : (dats m 0 c).arrAt 6 cfg0.N = GV m c :=
  (dats m 0 c).arrAt_eq_of_cover 6 (GV m c) (fun t _ => flushed_eq m c t) cover

end Cert.Ffn

end
-- ==== Proof.FfnRef.lean ====
/- The dense gated unit's reference: its result array is the formula of `FfnValue`. -/
module

public import proofs.«01_k».proof.Proof.FfnValue
public import proofs.«01_k».proof.Proof.Gen.Reference2Ideal.Run

@[expose] public section

set_option maxRecDepth 16384

noncomputable section

namespace Cert.Ffn.Ref

open Idealize.ShloMosaic Idealize.ShloMosaic.TcCoe Idealize.SL.Sem
open Cert.Reference2Ideal Cert.Reference2Ideal.Gen

variable (m : (ℓ : Loc nD τ sig) → Buf (Elt Ideal) ℓ) (ρ : Dev nD → PrngReg)

/-- The reference's result array, as a function of the memory at launch. -/
def GR (c : Dev nD) : S8x4352x1024.Idx → EReal := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (j 0) (j 1) (j 2)

/-- The reference's run: its result array is the one the kernel is shown to leave, and its arguments end unchanged. -/
theorem run : θ_run defs (onTc (τ := τ) (main (F := Ideal))) ⟨m, fun _ => 0, ρ⟩ fun r => ∀ c : Dev nD,
      r.2.mem ((c.tc : Thread nD τ).loc main_v22) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Cert.Reference2Ideal.Value.run (F := Ideal) m ρ)
  funext j
  rw [show j = ix3 (j 0) (j 1) (j 2) from by funext a; match a with | ⟨0, _⟩ => rfl | ⟨1, _⟩ => rfl | ⟨2, _⟩ => rfl]
  refine (concat_apply _ _ (j 0) (j 1) (j 2)).trans ?_
  unfold GR G two swi Ideal.logistic
  split
  · rename_i hs
    pointwise
    simp only [hs, dite_true, ite_true]
  · rename_i hs
    pointwise
    simp only [hs, dite_false, ite_false]

end Cert.Ffn.Ref

end
-- ==== Proof.NormValue.lean ====
/- The final norm: what the pipelined kernel's body leaves at each index of its block, the blocks read off the argument
   arrays, and so the result array after the run as one formula of the arguments. -/
module

public import proofs.«01_k».proof.Defs
public import proofs.«01_k».proof.Proof.Gen.Kernel4Ideal.Value
public import Idealize.ShloMosaic.Lib.Pipeline.Value
public import Idealize.ShloMosaic.Lib.Pointwise

@[expose] public section

set_option maxRecDepth 16384

noncomputable section

namespace Cert.Norm

open Idealize.ShloMosaic Idealize.ShloMosaic.TcCoe Idealize.SL.Sem
open Cert.Kernel4Ideal Cert.Kernel4Ideal.Gen

/-- One row `x` divided by the root of its mean square plus a small constant, read at column `d` and scaled by the weight `g` there. -/
def nrm (x : Fin 1024 → EReal) (g : EReal) (d : Fin 1024) : EReal :=
  x d * Ideal.rsqrt (Ideal.div (∑ k : Fin 1024, x k * x k) (Ideal.ofBits .f32 0x44800000#32) + Ideal.ofBits .f32 0x358637BD#32) * g

/-- What the body leaves at row `r`, column `d` of its block: the normalised row's entry. -/
theorem pay_apply (x : Vec Ideal S1x256x1024 .f32) (g : Vec Ideal S1x1024 .f32) (r : Fin 256) (d : Fin 1024) :
    k0_pay1 x g (ix3 0 r d) = nrm (fun k => x (ix3 0 r k)) (g (ix2 0 d)) d := by
  pointwise [k0_pay1, nrm]

/-! ## The windows' arrays before the region, from the arguments -/

variable (m : (ℓ : Loc nD τ sig) → Buf (Elt Ideal) ℓ) (c : Dev nD)

theorem concat_apply (a : S8x256x1024.Idx → EReal) (b : S8x4096x1024.Idx → EReal) (n : Fin 8) (s : Fin 4096) (d : Fin 1024) :
    concatenate S8x4352x1024 1 [⟨S8x256x1024, a⟩, ⟨S8x4096x1024, b⟩] concatenates_S8x256x1024_S8x4096x1024_S8x4352x1024_d1
      (ix3 n (⟨s.val + 256, by omega⟩ : Fin 4352) d) = b (ix3 n s d) := by
  pointwise
  rw [dif_neg (by omega)]
  congr

/-- Past the context's rows the kernel finds the sequence's. -/
theorem V_x (n : Fin 8) (s : Fin 4096) (d : Fin 1024) :
    V m c main_v0 (ix3 n (⟨s.val + 256, by omega⟩ : Fin 4352) d) = (m ((c : Thread nD τ).loc main_arg1) : S8x4096x1024.Idx → EReal) (ix3 n s d) := by
  refine Eq.trans ?_ (concat_apply (m ((c : Thread nD τ).loc main_arg0)) (m ((c : Thread nD τ).loc main_arg1)) n s d)
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp

/-- The weights as the kernel finds them. -/
theorem V_g (d : Fin 1024) :
    V m c main_v1 (ix2 0 d) = (m ((c : Thread nD τ).loc main_arg2) : S1024.Idx → EReal) (ix1 d) := by
  refine Eq.trans (b := shapeCast S1x1024 (m ((c : Thread nD τ).loc main_arg2) : S1024.Idx → EReal) shapeCasts_S1024_S1x1024 (ix2 0 d)) ?_ (by pointwise)
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-! ## The windows' blocks at a point -/

/-- Each window's block index at point `t`: batch row `t / 16`, row block `t % 16` of the result, one further on in the stream. -/
theorem index_all : ∀ t : Fin cfg0.N,
    win0_0.index t = ![t.val / 16, t.val % 16 + 1, 0] ∧ win0_1.index t = ![0, 0] ∧ win0_2.index t = ![t.val / 16, t.val % 16, 0] :=
  (by decide +kernel : ∀ t : Fin grid0.N, _)

theorem lt_N (t : Fin cfg0.N) : t.val < 128 := by have := t.isLt; have h : cfg0.N = 128 := N_0; omega

/-- Batch row of point `t`. -/
def bat (t : Fin cfg0.N) : Fin 8 := ⟨t.val / 16, by have := lt_N t; omega⟩
/-- Result row of row `r` of point `t`'s block. -/
def row (t : Fin cfg0.N) (r : Fin 256) : Fin 4096 := ⟨t.val % 16 * 256 + r.val, by have := r.isLt; omega⟩

theorem iblk0_apply (t : Fin cfg0.N) (r : Fin 256) (k : Fin 1024) :
    iblk m c 0 t (ix3 0 r k) = V m c main_v0 (ix3 (bat t) (⟨(row t r).val + 256, by omega⟩ : Fin 4352) k) := by
  have h := (index_all t).1
  show V m c main_v0 _ = _
  congr 1
  funext a
  apply Fin.ext
  match a with
  | ⟨0, _⟩ => show win0_0.index t 0 * 1 + 1 * 0 = t.val / 16; rw [h]; simp
  | ⟨1, _⟩ => show win0_0.index t 1 * 256 + 1 * r.val = t.val % 16 * 256 + r.val + 256; rw [h]; show (t.val % 16 + 1) * 256 + 1 * r.val = _; omega
  | ⟨2, _⟩ => show win0_0.index t 2 * 1024 + 1 * k.val = k.val; rw [h]; simp

theorem iblk1_eq (t : Fin cfg0.N) : iblk m c 1 t = V m c main_v1 := by
  have h := (index_all t).2.1
  funext j
  show V m c main_v1 _ = _
  congr 1
  funext a
  apply Fin.ext
  match a with
  | ⟨0, _⟩ => show win0_1.index t 0 * 1 + 1 * (j 0).val = (j 0).val; rw [h]; simp
  | ⟨1, _⟩ => show win0_1.index t 1 * 1024 + 1 * (j 1).val = (j 1).val; rw [h]; simp

/-! ## The result -/

/-- The result at batch row `n`, row `s`, column `d`, from the stream and the weights. -/
def G (x : S8x4096x1024.Idx → EReal) (g : S1024.Idx → EReal) (n : Fin 8) (s : Fin 4096) (d : Fin 1024) : EReal :=
  nrm (fun k => x (ix3 n s k)) (g (ix1 d)) d

/-- The result array, as a function of the memory at launch. -/
def GV : S8x4096x1024.Idx → EReal := fun j =>
  G (m ((c : Thread nD τ).loc main_arg1)) (m ((c : Thread nD τ).loc main_arg2)) (j 0) (j 1) (j 2)

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back, read at row `r` and column `d`: the result array's entry there. -/
theorem out_apply (t : Fin cfg0.N) (r : Fin 256) (d : Fin 1024) :
    out0_2 (iblk m c 0 t) (iblk m c 1 t) (ix3 0 r d) = GV m c (ix3 (bat t) (row t r) d) := by
  unfold out0_2
  rw [View.canon_unit_zero hz3, View.ld_unit_zero hz3, View.ld_unit_zero hz2]
  refine (pay_apply (iblk m c 0 t) (iblk m c 1 t) r d).trans ?_
  have e1 : (fun k => iblk m c 0 t (ix3 0 r k)) = _ := funext fun k => (iblk0_apply m c t r k).trans (V_x m c _ _ k)
  have e2 : iblk m c 1 t (ix2 0 d) = _ := (congrFun (iblk1_eq m c t) _).trans (V_g m c d)
  rw [e1, e2]
  rfl

/-- What point `t` writes back is its block of the result array. -/
theorem flushed_eq (t : Fin cfg0.N) : (dats m 0 c).flushed 2 t = (win0_2.blk t).view.read (Elt Ideal) (GV m c) := by
  rw [Cert.Kernel4Ideal.Value.flushed2]
  have h := (index_all t).2.2
  funext j
  have e0 : (j 0).val < 1 := (j 0).isLt
  have e1 : (j 1).val < 256 := (j 1).isLt
  have e2 : (j 2).val < 1024 := (j 2).isLt
  have ej : (fun a => j a) = (ix3 (n1 := 256) (n2 := 1024) (0 : Fin 1) ⟨(j 1).val, e1⟩ ⟨(j 2).val, e2⟩ : S1x256x1024.Idx) := by
    funext a
    apply Fin.ext
    match a with
    | ⟨0, _⟩ => show (j 0).val = 0; omega
    | ⟨1, _⟩ => rfl
    | ⟨2, _⟩ => rfl
  have key := out_apply m c t ⟨(j 1).val, e1⟩ ⟨(j 2).val, e2⟩
  rw [← ej] at key
  refine Eq.trans (?_ : _ = out0_2 (iblk m c 0 t) (iblk m c 1 t) (fun a => j a)) (key.trans ?_)
  · rfl
  · refine congrArg (GV m c) ?_
    funext a
    apply Fin.ext
    match a with
    | ⟨0, _⟩ => show t.val / 16 = win0_2.index t 0 * 1 + 1 * (j 0).val; rw [h]; show _ = t.val / 16 * 1 + _; omega
    | ⟨1, _⟩ => show t.val % 16 * 256 + (j 1).val = win0_2.index t 1 * 256 + 1 * (j 1).val; rw [h]; simp
    | ⟨2, _⟩ => show (j 2).val = win0_2.index t 2 * 1024 + 1 * (j 2).val; rw [h]; simp

/-- An index of the result array is in point `t`'s block exactly when batch row and row block are `t`'s. -/
theorem mem_blk (t : Fin cfg0.N) (i : S8x4096x1024.Idx) (h0 : (i 0 : Nat) = t.val / 16)
    (h1 : t.val % 16 * 256 ≤ (i 1 : Nat)) (h1' : (i 1 : Nat) < t.val % 16 * 256 + 256) :
    i ∈ ((cfg0.win 2).blk t).view.set := by
  show i ∈ ((View.whole main_v2).slice (win0_2.rect t)).set
  rw [View.set_slice_whole, Rect.mem_set_unit]
  have h := (index_all t).2.2
  have h2 : (i 2 : Nat) < 1024 := (i 2).isLt
  intro a
  match a with
  | ⟨0, _⟩ => show win0_2.index t 0 * 1 ≤ (i 0 : Nat) ∧ (i 0 : Nat) < win0_2.index t 0 * 1 + 1
              rw [h]; show t.val / 16 * 1 ≤ _ ∧ _ < t.val / 16 * 1 + 1; omega
  | ⟨1, _⟩ => show win0_2.index t 1 * 256 ≤ (i 1 : Nat) ∧ (i 1 : Nat) < win0_2.index t 1 * 256 + 256
              rw [h]; exact ⟨h1, h1'⟩
  | ⟨2, _⟩ => show win0_2.index t 2 * 1024 ≤ (i 2 : Nat) ∧ (i 2 : Nat) < win0_2.index t 2 * 1024 + 1024
              rw [h]; show 0 * 1024 ≤ _ ∧ _ < 0 * 1024 + 1024; omega

/-- The blocks cover the result array. -/
theorem cover (i : S8x4096x1024.Idx) : ∃ t : Fin cfg0.N, (cfg0.win 2).flush t = true ∧ i ∈ ((cfg0.win 2).blk t).view.set := by
  have h0 : (i 0 : Nat) < 8 := (i 0).isLt
  have h1 : (i 1 : Nat) < 4096 := (i 1).isLt
  have hN : cfg0.N = 128 := N_0
  refine ⟨⟨(i 0 : Nat) * 16 + (i 1 : Nat) / 256, by omega⟩, flush0_2 _, mem_blk _ i ?_ ?_ ?_⟩ <;> dsimp only <;> omega

/-- The kernel's result array after the run. -/
theorem final : (dats m 0 c).arrAt 2 cfg0.N = GV m c :=
  (dats m 0 c).arrAt_eq_of_cover 2 (GV m c) (fun t _ => flushed_eq m c t) cover

end Cert.Norm

end
-- ==== Proof.NormRef.lean ====
/- The final norm's reference: its result array is the formula of `NormValue`. -/
module

public import proofs.«01_k».proof.Proof.NormValue
public import proofs.«01_k».proof.Proof.Gen.Reference4Ideal.Run

@[expose] public section

set_option maxRecDepth 16384

noncomputable section

namespace Cert.Norm.Ref

open Idealize.ShloMosaic Idealize.ShloMosaic.TcCoe Idealize.SL.Sem
open Cert.Reference4Ideal Cert.Reference4Ideal.Gen

variable (m : (ℓ : Loc nD τ sig) → Buf (Elt Ideal) ℓ) (ρ : Dev nD → PrngReg)

/-- The reference's result array, as a function of the memory at launch. -/
def GR (c : Dev nD) : S8x4096x1024.Idx → EReal := fun j =>
  G (m ((c : Thread nD τ).loc main_arg1)) (m ((c : Thread nD τ).loc main_arg2)) (j 0) (j 1) (j 2)

/-- The reference's run: its result array is the one the kernel is shown to leave, and its arguments end unchanged. -/
theorem run : θ_run defs (onTc (τ := τ) (main (F := Ideal))) ⟨m, fun _ => 0, ρ⟩ fun r => ∀ c : Dev nD,
      r.2.mem ((c.tc : Thread nD τ).loc main_v12) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.Reference4Ideal.Value.run (F := Ideal) m ρ)
  funext j
  rw [show j = ix3 (j 0) (j 1) (j 2) from by funext a; match a with | ⟨0, _⟩ => rfl | ⟨1, _⟩ => rfl | ⟨2, _⟩ => rfl]
  unfold GR G nrm
  pointwise

end Cert.Norm.Ref

end
-- ==== Proof.Moe.RefValue.lean ====
/-
  The experts' reference: its result array is the formula of `Formula`.
-/
module

public import proofs.«01_k».proof.Proof.Moe.Formula
public import proofs.«01_k».proof.Proof.Gen.ReferenceIdeal.Run

@[expose] public section

set_option maxRecDepth 16384
set_option maxHeartbeats 1600000

noncomputable section

namespace Cert.Moe.Ref

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's result array, as a function of the memory at launch. -/
def GR (c : Dev nD) : S8x4352x1024.Idx → EReal := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (j 0) (j 1) (j 2)

/-- The reference's run: its result array is the one the kernel is shown to leave, and its arguments end unchanged. -/
theorem run : θ_run defs (onTc (τ := τ) (main (F := Ideal))) ⟨m, fun _ => 0, ρ⟩ fun r => ∀ c : Dev nD,
      r.2.mem ((c.tc : Thread nD τ).loc main_v254) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2⟩) (Cert.ReferenceIdeal.Value.run (F := Ideal) m ρ)
  funext j
  rw [show j = ix3 (j 0) (j 1) (j 2) from by funext a; match a with | ⟨0, _⟩ => rfl | ⟨1, _⟩ => rfl | ⟨2, _⟩ => rfl]
  refine (concat_apply _ _ (j 0) (j 1) (j 2)).trans ?_
  unfold GR G two twoG mix swi Ideal.logistic
  simp only [Fin.sum_univ_eight]
  split
  · rename_i hs
    pointwise [Cert.ReferenceIdeal.Value.res_main_v137, Cert.ReferenceIdeal.Value.res_main_v152, Cert.ReferenceIdeal.Value.res_main_v167, Cert.ReferenceIdeal.Value.res_main_v182, Cert.ReferenceIdeal.Value.res_main_v197, Cert.ReferenceIdeal.Value.res_main_v204, Cert.ReferenceIdeal.Value.res_main_v212, Cert.ReferenceIdeal.Value.res_main_v227, Cert.ReferenceIdeal.Value.res_main_v242]
    simp only [hs, dite_true, ite_true]
  · rename_i hs
    pointwise [Cert.ReferenceIdeal.Value.res_main_v11, Cert.ReferenceIdeal.Value.res_main_v26, Cert.ReferenceIdeal.Value.res_main_v41, Cert.ReferenceIdeal.Value.res_main_v56, Cert.ReferenceIdeal.Value.res_main_v63, Cert.ReferenceIdeal.Value.res_main_v71, Cert.ReferenceIdeal.Value.res_main_v86, Cert.ReferenceIdeal.Value.res_main_v101, Cert.ReferenceIdeal.Value.res_main_v116, Cert.ReferenceIdeal.Value.res_main_v125]
    simp only [hs, dite_false, ite_false]

end Cert.Moe.Ref

end
-- ==== Proof.lean ====
/- The claims' assembly: the programs' stated facts, the frames, the ledger, and the equality over the extended reals. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Pre_gates_nonneg
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Pre_finite_scores
public import proofs.«01_k».proof.Proof.Attn.Value
public import proofs.«01_k».proof.Proof.Attn.RefRun
public import proofs.«01_k».proof.Proof.Attn.Pre
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.FfnValue
public import proofs.«01_k».proof.Proof.FfnRef
public import proofs.«01_k».proof.Proof.NormValue
public import proofs.«01_k».proof.Proof.NormRef
public import proofs.«01_k».proof.Proof.Moe.Final
public import proofs.«01_k».proof.Proof.Moe.Gates
public import proofs.«01_k».proof.Proof.Moe.RefValue
public import Idealize.ShloMosaic.Adequacy
public import Idealize.ShloMosaic.Init

@[expose] public section

noncomputable section

namespace Cert.Proof

open Idealize.ShloMosaic Idealize.SL.Sem

/-- The mixture-of-experts call over the extended reals runs to completion for any arguments, leaving them alone. -/
theorem frame_k : Cert.quiescent_KernelIdeal := fun m ρ _ => Cert.KernelIdeal.Gen.frameM ρ (Cert.KernelIdeal.Gen.inv m)
/-- In particular where no gate is negative. -/
theorem frame_k_pre : Cert.quiescent_KernelIdeal_pre_gates_nonneg := fun m ρ _ => frame_k m ρ trivial
/-- The experts' reference over the extended reals leaves its arguments alone; it has no semaphore. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- In particular where no gate is negative. -/
theorem frame_r_pre : Cert.quiescent_ReferenceIdeal_pre_gates_nonneg := fun m ρ _ => frame_r m ρ trivial

/-- Over the extended reals, where no gate is negative, the mixture-of-experts call and its reference leave the same array. -/
theorem algebraic : Cert.algebraic_KernelIdeal_ReferenceIdeal_pre_gates_nonneg := by
  intro m ρ m' ρ' hpre hag
  refine ⟨fun c => Cert.Moe.GV m c, Cert.Moe.run m ρ (Cert.Moe.nonneg_of_pre m hpre), ?_⟩
  refine (θ_run Cert.ReferenceIdeal.defs _ _).mono (fun _ h c => ⟨(h c).1.trans ?_, (h c).2⟩) (Cert.Moe.Ref.run m' ρ')
  obtain ⟨h0, h1, h2, h3, h4, h5, h6, h7, h8, h9, h10⟩ := hag c
  unfold Cert.Moe.Ref.GR Cert.Moe.GV
  rw [h0, h1, h2, h3, h4, h5, h6, h7, h8, h9, h10]

/-- The dense gated unit runs to completion on words, leaving its arguments alone. -/
theorem frame_k2 : Cert.quiescent_Kernel2 := fun m ρ _ => Cert.Kernel2.Gen.frame m ρ
/-- The same over the extended reals. -/
theorem frame_k2i : Cert.quiescent_Kernel2Ideal := fun m ρ _ => Cert.Kernel2Ideal.Gen.frame m ρ
/-- The reference's run over the extended reals leaves its arguments alone; it has no semaphore. -/
theorem frame_r2i : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Over the extended reals the kernel and the reference leave the same array. -/
theorem algebraic2 : Cert.algebraic_Kernel2Ideal_Reference2Ideal := by
  intro m ρ m' ρ' _ hag
  refine ⟨fun c => Cert.Ffn.GV m c, ?_, ?_⟩
  · exact (θ_run Cert.Kernel2Ideal.defs _ _).mono (fun _ h c => ⟨(h c).1.trans (Cert.Ffn.final m c), (h c).2⟩)
      (Cert.Kernel2Ideal.Value.run_blocks (F := Ideal) m ρ)
  · refine (θ_run Cert.Reference2Ideal.defs _ _).mono (fun _ h c => ⟨(h c).1.trans ?_, (h c).2⟩) (Cert.Ffn.Ref.run m' ρ')
    obtain ⟨h0, h1, h2, h3, h4, h5, h6, h7, h8⟩ := hag c
    unfold Cert.Ffn.Ref.GR Cert.Ffn.GV
    rw [h0, h1, h2, h3, h4, h5, h6, h7, h8]

/-- The attention call runs to completion on words, leaving its arguments alone. -/
theorem frame_k3 : Cert.quiescent_Kernel3 := fun m ρ _ => Cert.Kernel3.Gen.frame m ρ
/-- The same over the extended reals, with the mask's constant at minus infinity. -/
theorem frame_k3i : Cert.quiescent_Kernel3Ideal := fun m ρ _ => Cert.Kernel3Ideal.Gen.frame m ρ
/-- The same where queries, keys and sinks are finite. -/
theorem frame_k3i_pre : Cert.quiescent_Kernel3Ideal_pre_finite_scores := fun m ρ _ => frame_k3i m ρ trivial
/-- The attention's reference over the extended reals leaves its arguments alone; it has no semaphore. -/
theorem frame_r3i : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
/-- The same where queries, keys and sinks are finite. -/
theorem frame_r3i_pre : Cert.quiescent_Reference3Ideal_pre_finite_scores := fun m ρ _ => frame_r3i m ρ trivial
/-- The mask's named constant is what the idealized program prints for it. -/
theorem preserves3 : Cert.preserves_Kernel3_Kernel3Ideal := IdealRules.named_const.statement Cert.Kernel3Ideal.κ "mask" .f32 0xF149F2CA#32 ⊥ rfl

/-- Over the extended reals, where queries, keys and sinks are finite, the attention and its reference leave the same array. -/
theorem algebraic3 : Cert.algebraic_Kernel3Ideal_Reference3Ideal_pre_finite_scores := by
  intro m ρ m' ρ' hpre hag
  refine ⟨fun c => Cert.Attn.GV m c, ?_, ?_⟩
  · exact (θ_run Cert.Kernel3Ideal.defs _ _).mono (fun _ h c => ⟨(h c).1.trans (Cert.Attn.final m c), (h c).2⟩)
      (Cert.Kernel3Ideal.Value.run_blocks (F := Ideal) m ρ)
  · refine (θ_run Cert.Reference3Ideal.defs _ _).mono (fun _ h c => ⟨(h c).1.trans ?_, (h c).2⟩) (Cert.Reference3Ideal.Value.run (F := Ideal) m' ρ')
    obtain ⟨f0, f1, f3, f4, f6⟩ := Cert.Attn.finite_of_pre m hpre c
    obtain ⟨h0, h1, h2, h3, h4, h5, h6⟩ := hag c
    refine (Cert.Attn.Ref.res_G m' c (fun j => ?_) (fun j => ?_) (fun j => ?_) (fun j => ?_) (fun j => ?_)).trans ?_
    · rw [h0]; exact f0 j
    · rw [h1]; exact f1 j
    · rw [h3]; exact f3 j
    · rw [h4]; exact f4 j
    · rw [h6]; exact f6 j
    · unfold Cert.Attn.Ref.GR Cert.Attn.GV Cert.Attn.GM
      rw [h0, h1, h2, h3, h4, h5, h6]

/-- The final norm runs to completion on words, leaving its arguments alone. -/
theorem frame_k4 : Cert.quiescent_Kernel4 := fun m ρ _ => Cert.Kernel4.Gen.frame m ρ
/-- The same over the extended reals. -/
theorem frame_k4i : Cert.quiescent_Kernel4Ideal := fun m ρ _ => Cert.Kernel4Ideal.Gen.frame m ρ
/-- The norm's reference over the extended reals leaves its arguments alone; it has no semaphore. -/
theorem frame_r4i : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Over the extended reals the final norm and its reference leave the same array. -/
theorem algebraic4 : Cert.algebraic_Kernel4Ideal_Reference4Ideal := by
  intro m ρ m' ρ' _ hag
  refine ⟨fun c => Cert.Norm.GV m c, ?_, ?_⟩
  · exact (θ_run Cert.Kernel4Ideal.defs _ _).mono (fun _ h c => ⟨(h c).1.trans (Cert.Norm.final m c), (h c).2⟩)
      (Cert.Kernel4Ideal.Value.run_blocks (F := Ideal) m ρ)
  · refine (θ_run Cert.Reference4Ideal.defs _ _).mono (fun _ h c => ⟨(h c).1.trans ?_, (h c).2⟩) (Cert.Norm.Ref.run m' ρ')
    obtain ⟨h0, h1, h2⟩ := hag c
    unfold Cert.Norm.Ref.GR Cert.Norm.GV
    rw [h1, h2]

theorem claim : Cert.Claim := ⟨Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_gates_nonneg.Gen.facts, Cert.Pre_finite_scores.Gen.facts,
  frame_k, frame_k_pre, frame_r, frame_r_pre, frame_k2, frame_k2i, frame_r2i, frame_k3, frame_k3i, frame_k3i_pre, frame_r3i, frame_r3i_pre,
  frame_k4, frame_k4i, frame_r4i, algebraic, trivial, algebraic2, preserves3, algebraic3, trivial, algebraic4⟩

end Cert.Proof

end
